-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)) (v2 : (c : Dev Cert.KernelIdeal.nD) → Buf (Elt Ideal) ((c.tc : Thread Cert.KernelIdeal.nD Cert.KernelIdeal.τ).loc Cert.KernelIdeal.main_v54_2)) (v3 : (c : Dev Cert.KernelIdeal.nD) → Buf (Elt Ideal) ((c.tc : Thread Cert.KernelIdeal.nD Cert.KernelIdeal.τ).loc Cert.KernelIdeal.main_v54_3)) (v4 : (c : Dev Cert.KernelIdeal.nD) → Buf (Elt Ideal) ((c.tc : Thread Cert.KernelIdeal.nD Cert.KernelIdeal.τ).loc Cert.KernelIdeal.main_v54_4)) (v5 : (c : Dev Cert.KernelIdeal.nD) → Buf (Elt Ideal) ((c.tc : Thread Cert.KernelIdeal.nD Cert.KernelIdeal.τ).loc Cert.KernelIdeal.main_v54_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_v54_2) = v2 c
          ∧ r.2.mem ((c.tc : Thread Cert.KernelIdeal.nD Cert.KernelIdeal.τ).loc Cert.KernelIdeal.main_v54_3) = v3 c
          ∧ r.2.mem ((c.tc : Thread Cert.KernelIdeal.nD Cert.KernelIdeal.τ).loc Cert.KernelIdeal.main_v54_4) = v4 c
          ∧ r.2.mem ((c.tc : Thread Cert.KernelIdeal.nD Cert.KernelIdeal.τ).loc Cert.KernelIdeal.main_v54_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v139) = v1 c
          ∧ r.2.mem ((c.tc : Thread Cert.ReferenceIdeal.nD Cert.ReferenceIdeal.τ).loc Cert.ReferenceIdeal.main_v137) = v2 c
          ∧ r.2.mem ((c.tc : Thread Cert.ReferenceIdeal.nD Cert.ReferenceIdeal.τ).loc Cert.ReferenceIdeal.main_v89) = v3 c
          ∧ r.2.mem ((c.tc : Thread Cert.ReferenceIdeal.nD Cert.ReferenceIdeal.τ).loc Cert.ReferenceIdeal.main_v143) = v4 c
          ∧ r.2.mem ((c.tc : Thread Cert.ReferenceIdeal.nD Cert.ReferenceIdeal.τ).loc Cert.ReferenceIdeal.main_v144) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)) (v2 : (c : Dev Cert.Kernel6Ideal.nD) → Buf (Elt Ideal) ((c.tc : Thread Cert.Kernel6Ideal.nD Cert.Kernel6Ideal.τ).loc Cert.Kernel6Ideal.main_v7_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_v7_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_v9) = v1 c
          ∧ r.2.mem ((c.tc : Thread Cert.Reference6Ideal.nD Cert.Reference6Ideal.τ).loc Cert.Reference6Ideal.main_v12) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v5)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v34) = v0 c
          ∧ r.2.mem ((c.tc : Thread Cert.Reference15Ideal.nD Cert.Reference15Ideal.τ).loc Cert.Reference15Ideal.main_v35) = v1 c
          ∧ r.2.mem ((c.tc : Thread Cert.Reference15Ideal.nD Cert.Reference15Ideal.τ).loc Cert.Reference15Ideal.main_v17) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S4224x6144 : Shape := ⟨2, ![4224, 6144]⟩
abbrev S8x4224 : Shape := ⟨2, ![8, 4224]⟩
abbrev S1x1024 : Shape := ⟨2, ![1, 1024]⟩
abbrev S4224x1024 : Shape := ⟨2, ![4224, 1024]⟩
abbrev S_ : Shape := ⟨0, ![]⟩

class Facts : Prop where
  bitsLt_bf16_f32 : FTy.bits .bf16 < FTy.bits .f32
  bcast_S_S4224x6144 : S_.BroadcastsInDim S4224x6144 (![] : Fin 0 → Fin S4224x6144.rank)
  reducesTo_S4224x6144_S_d0_1 : S4224x6144.ReducesTo [0, 1] S_
  h_S_ : 0 < S_.numel
  bcast_S_S8x4224 : S_.BroadcastsInDim S8x4224 (![] : Fin 0 → Fin S8x4224.rank)
  reducesTo_S8x4224_S_d0_1 : S8x4224.ReducesTo [0, 1] S_
  bcast_S_S1x1024 : S_.BroadcastsInDim S1x1024 (![] : Fin 0 → Fin S1x1024.rank)
  reducesTo_S1x1024_S_d0_1 : S1x1024.ReducesTo [0, 1] S_
  bcast_S_S4224x1024 : S_.BroadcastsInDim S4224x1024 (![] : Fin 0 → Fin S4224x1024.rank)
  reducesTo_S4224x1024_S_d0_1 : S4224x1024.ReducesTo [0, 1] S_

variable [Facts]

def fn_part1 {F : FTy → Type} [FloatOps F] (main_v14 : IVec S_ 1) (main_v15 : FVec F S4224x1024 .f32) (main_v16 : FVec F S4224x1024 .f32) : IVec S_ 1 :=
  let main_v17 : IVec S4224x1024 1 := cmpf .olt main_v15 main_v16
  let main_c_5 : IVec S_ 1 := constantI S_ 1 1#1
  let main_v18 : IVec S_ 1 := (fun x v => Host.reduce IntOp.andi x v reducesTo_S4224x1024_S_d0_1 h_S_) main_v17 main_c_5
  let main_v19 : IVec S_ 1 := andi main_v14 main_v18
  main_v19

def fn {F : FTy → Type} [FloatOps F] (main_arg0 : FVec F S4224x6144 .bf16) (main_arg1 : FVec F S8x4224 .f32) (main_arg2 : FVec F S1x1024 .f32) (main_arg3 : FVec F S4224x1024 .f32) : IVec S_ 1 :=
  let main_v0 : FVec F S4224x6144 .f32 := (extf .f32 · bitsLt_bf16_f32) main_arg0
  let main_v1 : FVec F S4224x6144 .f32 := Host.absf main_v0
  let main_cst : FVec F S_ .f32 := constant S_ .f32 0x7F800000#32
  let main_v2 : FVec F S4224x6144 .f32 := broadcastInDim S4224x6144 ![] bcast_S_S4224x6144 main_cst
  let main_v3 : IVec S4224x6144 1 := cmpf .olt main_v1 main_v2
  let main_c : IVec S_ 1 := constantI S_ 1 1#1
  let main_v4 : IVec S_ 1 := (fun x v => Host.reduce IntOp.andi x v reducesTo_S4224x6144_S_d0_1 h_S_) main_v3 main_c
  let main_v5 : FVec F S8x4224 .f32 := Host.absf main_arg1
  let main_cst_0 : FVec F S_ .f32 := constant S_ .f32 0x7F800000#32
  let main_v6 : FVec F S8x4224 .f32 := broadcastInDim S8x4224 ![] bcast_S_S8x4224 main_cst_0
  let main_v7 : IVec S8x4224 1 := cmpf .olt main_v5 main_v6
  let main_c_1 : IVec S_ 1 := constantI S_ 1 1#1
  let main_v8 : IVec S_ 1 := (fun x v => Host.reduce IntOp.andi x v reducesTo_S8x4224_S_d0_1 h_S_) main_v7 main_c_1
  let main_v9 : IVec S_ 1 := andi main_v4 main_v8
  let main_v10 : FVec F S1x1024 .f32 := Host.absf main_arg2
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v9 main_v13
  let main_v15 : FVec F S4224x1024 .f32 := Host.absf main_arg3
  let main_cst_4 : FVec F S_ .f32 := constant S_ .f32 0x7F800000#32
  let main_v16 : FVec F S4224x1024 .f32 := broadcastInDim S4224x1024 ![] bcast_S_S4224x1024 main_cst_4
  fn_part1 (F := F) main_v14 main_v15 main_v16
-- ==== Pre_finite2.lean ====
abbrev S4224x2048 : Shape := ⟨2, ![4224, 2048]⟩
abbrev S5632x2048 : Shape := ⟨2, ![5632, 2048]⟩
abbrev S4224x5632 : Shape := ⟨2, ![4224, 5632]⟩
abbrev S_ : Shape := ⟨0, ![]⟩

class Facts : Prop where
  bcast_S_S4224x2048 : S_.BroadcastsInDim S4224x2048 (![] : Fin 0 → Fin S4224x2048.rank)
  reducesTo_S4224x2048_S_d0_1 : S4224x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S4224x5632 : S_.BroadcastsInDim S4224x5632 (![] : Fin 0 → Fin S4224x5632.rank)
  reducesTo_S4224x5632_S_d0_1 : S4224x5632.ReducesTo [0, 1] S_

variable [Facts]

def fn_part1 {F : FTy → Type} [FloatOps F] (main_v13 : IVec S_ 1) (main_v16 : IVec S4224x5632 1) : IVec S_ 1 :=
  let main_c_5 : IVec S_ 1 := constantI S_ 1 1#1
  let main_v17 : IVec S_ 1 := (fun x v => Host.reduce IntOp.andi x v reducesTo_S4224x5632_S_d0_1 h_S_) main_v16 main_c_5
  let main_v18 : IVec S_ 1 := andi main_v13 main_v17
  main_v18

def fn {F : FTy → Type} [FloatOps F] (main_arg0 : FVec F S4224x2048 .f32) (main_arg1 : FVec F S5632x2048 .f32) (main_arg2 : FVec F S4224x5632 .f32) (main_arg3 : FVec F S4224x5632 .f32) : IVec S_ 1 :=
  let main_v0 : FVec F S4224x2048 .f32 := Host.absf main_arg0
  let main_cst : FVec F S_ .f32 := constant S_ .f32 0x7F800000#32
  let main_v1 : FVec F S4224x2048 .f32 := broadcastInDim S4224x2048 ![] bcast_S_S4224x2048 main_cst
  let main_v2 : IVec S4224x2048 1 := cmpf .olt main_v0 main_v1
  let main_c : IVec S_ 1 := constantI S_ 1 1#1
  let main_v3 : IVec S_ 1 := (fun x v => Host.reduce IntOp.andi x v reducesTo_S4224x2048_S_d0_1 h_S_) main_v2 main_c
  let main_v4 : FVec F S5632x2048 .f32 := Host.absf main_arg1
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S4224x5632 .f32 := Host.absf main_arg2
  let main_cst_2 : FVec F S_ .f32 := constant S_ .f32 0x7F800000#32
  let main_v10 : FVec F S4224x5632 .f32 := broadcastInDim S4224x5632 ![] bcast_S_S4224x5632 main_cst_2
  let main_v11 : IVec S4224x5632 1 := cmpf .olt main_v9 main_v10
  let main_c_3 : IVec S_ 1 := constantI S_ 1 1#1
  let main_v12 : IVec S_ 1 := (fun x v => Host.reduce IntOp.andi x v reducesTo_S4224x5632_S_d0_1 h_S_) main_v11 main_c_3
  let main_v13 : IVec S_ 1 := andi main_v8 main_v12
  let main_v14 : FVec F S4224x5632 .f32 := Host.absf main_arg3
  let main_cst_4 : FVec F S_ .f32 := constant S_ .f32 0x7F800000#32
  let main_v15 : FVec F S4224x5632 .f32 := broadcastInDim S4224x5632 ![] bcast_S_S4224x5632 main_cst_4
  let main_v16 : IVec S4224x5632 1 := cmpf .olt main_v14 main_v15
  fn_part1 (F := F) main_v13 main_v16
-- ==== Kernel.lean ====
abbrev S4224x6144 : Shape := ⟨2, ![4224, 6144]⟩
abbrev S8x4224 : Shape := ⟨2, ![8, 4224]⟩
abbrev S1x1024 : Shape := ⟨2, ![1, 1024]⟩
abbrev S4224x1024 : Shape := ⟨2, ![4224, 1024]⟩
abbrev S4224x8x128 : Shape := ⟨3, ![4224, 8, 128]⟩
abbrev S8x4224x128 : Shape := ⟨3, ![8, 4224, 128]⟩
abbrev S4224 : Shape := ⟨1, ![4224]⟩
abbrev S8x4224x4224 : Shape := ⟨3, ![8, 4224, 4224]⟩
abbrev S_ : Shape := ⟨0, ![]⟩
abbrev S8x4224x1 : Shape := ⟨3, ![8, 4224, 1]⟩
abbrev S8x1x4224 : Shape := ⟨3, ![8, 1, 4224]⟩
abbrev S1x4224 : Shape := ⟨2, ![1, 4224]⟩
abbrev S4224x1 : Shape := ⟨2, ![4224, 1]⟩
abbrev S4224x4224 : Shape := ⟨2, ![4224, 4224]⟩
abbrev S8x11x1x384 : Shape := ⟨4, ![8, 11, 1, 384]⟩
abbrev S384x128 : Shape := ⟨2, ![384, 128]⟩
abbrev S4224x128 : Shape := ⟨2, ![4224, 128]⟩
abbrev S1x128 : Shape := ⟨2, ![1, 128]⟩
abbrev S1x384x1 : Shape := ⟨3, ![1, 384, 1]⟩
abbrev S1x11x1x384 : Shape := ⟨4, ![1, 11, 1, 384]⟩
abbrev S11x1x384 : Shape := ⟨3, ![11, 1, 384]⟩
abbrev S384 : Shape := ⟨1, ![384]⟩
abbrev S384x1 : Shape := ⟨2, ![384, 1]⟩
abbrev S128 : Shape := ⟨1, ![128]⟩
abbrev S384x384 : Shape := ⟨2, ![384, 384]⟩
abbrev S1x1x1x384 : Shape := ⟨4, ![1, 1, 1, 384]⟩
abbrev S1x384 : Shape := ⟨2, ![1, 384]⟩

abbrev nBuf : Space → Nat
  | .hbm => 77
  | .vmem => 30
  | .smem => 0
  | _ => 0

abbrev bufTy : (tb : Table) → Fin (tcTables nBuf tb) → BufTy
  | .hbm, ⟨0, _⟩ => ⟨S4224x6144, .bf16⟩
  | .hbm, ⟨1, _⟩ => ⟨S8x4224, .f32⟩
  | .hbm, ⟨2, _⟩ => ⟨S1x1024, .f32⟩
  | .hbm, ⟨3, _⟩ => ⟨S4224x1024, .f32⟩
  | .hbm, ⟨4, _⟩ => ⟨S4224x1024, .bf16⟩
  | .hbm, ⟨5, _⟩ => ⟨S4224x1024, .f32⟩
  | .hbm, ⟨6, _⟩ => ⟨S4224x1024, .bf16⟩
  | .hbm, ⟨7, _⟩ => ⟨S4224x1024, .f32⟩
  | .hbm, ⟨8, _⟩ => ⟨S4224x1024, .bf16⟩
  | .hbm, ⟨9, _⟩ => ⟨S4224x1024, .f32⟩
  | .hbm, ⟨10, _⟩ => ⟨S4224x8x128, .f32⟩
  | .hbm, ⟨11, _⟩ => ⟨S8x4224x128, .f32⟩
  | .hbm, ⟨12, _⟩ => ⟨S4224x8x128, .f32⟩
  | .hbm, ⟨13, _⟩ => ⟨S8x4224x128, .f32⟩
  | .hbm, ⟨14, _⟩ => ⟨S4224x8x128, .f32⟩
  | .hbm, ⟨15, _⟩ => ⟨S8x4224x128, .f32⟩
  | .hbm, ⟨16, _⟩ => ⟨S4224, .i32⟩
  | .hbm, ⟨17, _⟩ => ⟨S8x4224x4224, .f32⟩
  | .hbm, ⟨18, _⟩ => ⟨S_, .f32⟩
  | .hbm, ⟨19, _⟩ => ⟨S8x4224x4224, .f32⟩
  | .hbm, ⟨20, _⟩ => ⟨S8x4224x4224, .f32⟩
  | .hbm, ⟨21, _⟩ => ⟨S8x4224x1, .f32⟩
  | .hbm, ⟨22, _⟩ => ⟨S8x4224x4224, .f32⟩
  | .hbm, ⟨23, _⟩ => ⟨S8x4224x4224, .f32⟩
  | .hbm, ⟨24, _⟩ => ⟨S8x1x4224, .f32⟩
  | .hbm, ⟨25, _⟩ => ⟨S8x4224x4224, .f32⟩
  | .hbm, ⟨26, _⟩ => ⟨S8x4224x4224, .f32⟩
  | .hbm, ⟨27, _⟩ => ⟨S1x4224, .i32⟩
  | .hbm, ⟨28, _⟩ => ⟨S4224x1, .i32⟩
  | .hbm, ⟨29, _⟩ => ⟨S4224x4224, .i32⟩
  | .hbm, ⟨30, _⟩ => ⟨S4224x4224, .i32⟩
  | .hbm, ⟨31, _⟩ => ⟨S4224x4224, .i1⟩
  | .hbm, ⟨32, _⟩ => ⟨S1x4224, .i32⟩
  | .hbm, ⟨33, _⟩ => ⟨S_, .i32⟩
  | .hbm, ⟨34, _⟩ => ⟨S1x4224, .i32⟩
  | .hbm, ⟨35, _⟩ => ⟨S1x4224, .i1⟩
  | .hbm, ⟨36, _⟩ => ⟨S4224x4224, .i1⟩
  | .hbm, ⟨37, _⟩ => ⟨S4224x4224, .i1⟩
  | .hbm, ⟨38, _⟩ => ⟨S_, .f32⟩
  | .hbm, ⟨39, _⟩ => ⟨S_, .f32⟩
  | .hbm, ⟨40, _⟩ => ⟨S8x4224x4224, .i1⟩
  | .hbm, ⟨41, _⟩ => ⟨S8x4224x4224, .f32⟩
  | .hbm, ⟨42, _⟩ => ⟨S8x4224x4224, .f32⟩
  | .hbm, ⟨43, _⟩ => ⟨S_, .f32⟩
  | .hbm, ⟨44, _⟩ => ⟨S8x4224, .f32⟩
  | .hbm, ⟨45, _⟩ => ⟨S_, .i32⟩
  | .hbm, ⟨46, _⟩ => ⟨S4224, .i32⟩
  | .hbm, ⟨47, _⟩ => ⟨S4224, .i1⟩
  | .hbm, ⟨48, _⟩ => ⟨S8x4224x1, .f32⟩
  | .hbm, ⟨49, _⟩ => ⟨S8x4224x4224, .f32⟩
  | .hbm, ⟨50, _⟩ => ⟨S8x4224x4224, .f32⟩
  | .hbm, ⟨51, _⟩ => ⟨S8x4224x4224, .f32⟩
  | .hbm, ⟨52, _⟩ => ⟨S_, .f32⟩
  | .hbm, ⟨53, _⟩ => ⟨S8x4224, .f32⟩
  | .hbm, ⟨54, _⟩ => ⟨S8x4224, .f32⟩
  | .hbm, ⟨55, _⟩ => ⟨S8x4224, .f32⟩
  | .hbm, ⟨56, _⟩ => ⟨S_, .f32⟩
  | .hbm, ⟨57, _⟩ => ⟨S_, .f32⟩
  | .hbm, ⟨58, _⟩ => ⟨S8x4224, .i1⟩
  | .hbm, ⟨59, _⟩ => ⟨S8x4224, .f32⟩
  | .hbm, ⟨60, _⟩ => ⟨S8x4224, .f32⟩
  | .hbm, ⟨61, _⟩ => ⟨S8x4224x1, .f32⟩
  | .hbm, ⟨62, _⟩ => ⟨S8x4224x4224, .f32⟩
  | .hbm, ⟨63, _⟩ => ⟨S8x4224x4224, .f32⟩
  | .hbm, ⟨64, _⟩ => ⟨S8x4224x4224, .f32⟩
  | .hbm, ⟨65, _⟩ => ⟨S8x4224x128, .f32⟩
  | .hbm, ⟨66, _⟩ => ⟨S4224x8x128, .f32⟩
  | .hbm, ⟨67, _⟩ => ⟨S4224x1024, .f32⟩
  | .hbm, ⟨68, _⟩ => ⟨S8x4224x1, .f32⟩
  | .hbm, ⟨69, _⟩ => ⟨S8x4224x1, .f32⟩
  | .hbm, ⟨70, _⟩ => ⟨S8x11x1x384, .f32⟩
  | .hbm, ⟨71, _⟩ => ⟨S4224x1024, .bf16⟩
  | .hbm, ⟨72, _⟩ => ⟨S4224x1024, .f32⟩
  | .hbm, ⟨73, _⟩ => ⟨S4224x1024, .f32⟩
  | .hbm, ⟨74, _⟩ => ⟨S1x1024, .f32⟩
  | .hbm, ⟨75, _⟩ => ⟨S8x4224x1, .f32⟩
  | .hbm, ⟨76, _⟩ => ⟨S8x11x1x384, .f32⟩
  | .local _ .vmem, ⟨0, _⟩ => ⟨S384x128, .bf16⟩
  | .local _ .vmem, ⟨1, _⟩ => ⟨S384x128, .bf16⟩
  | .local _ .vmem, ⟨2, _⟩ => ⟨S4224x128, .bf16⟩
  | .local _ .vmem, ⟨3, _⟩ => ⟨S4224x128, .bf16⟩
  | .local _ .vmem, ⟨4, _⟩ => ⟨S4224x128, .bf16⟩
  | .local _ .vmem, ⟨5, _⟩ => ⟨S4224x128, .bf16⟩
  | .local _ .vmem, ⟨6, _⟩ => ⟨S384x128, .f32⟩
  | .local _ .vmem, ⟨7, _⟩ => ⟨S384x128, .f32⟩
  | .local _ .vmem, ⟨8, _⟩ => ⟨S384x128, .f32⟩
  | .local _ .vmem, ⟨9, _⟩ => ⟨S384x128, .f32⟩
  | .local _ .vmem, ⟨10, _⟩ => ⟨S1x128, .f32⟩
  | .local _ .vmem, ⟨11, _⟩ => ⟨S1x128, .f32⟩
  | .local _ .vmem, ⟨12, _⟩ => ⟨S1x384x1, .f32⟩
  | .local _ .vmem, ⟨13, _⟩ => ⟨S1x384x1, .f32⟩
  | .local _ .vmem, ⟨14, _⟩ => ⟨S1x384x1, .f32⟩
  | .local _ .vmem, ⟨15, _⟩ => ⟨S1x384x1, .f32⟩
  | .local _ .vmem, ⟨16, _⟩ => ⟨S1x11x1x384, .f32⟩
  | .local _ .vmem, ⟨17, _⟩ => ⟨S1x11x1x384, .f32⟩
  | .local _ .vmem, ⟨18, _⟩ => ⟨S384x128, .bf16⟩
  | .local _ .vmem, ⟨19, _⟩ => ⟨S384x128, .bf16⟩
  | .local _ .vmem, ⟨20, _⟩ => ⟨S4224x128, .f32⟩
  | .local _ .vmem, ⟨21, _⟩ => ⟨S4224x128, .f32⟩
  | .local _ .vmem, ⟨22, _⟩ => ⟨S4224x128, .f32⟩
  | .local _ .vmem, ⟨23, _⟩ => ⟨S4224x128, .f32⟩
  | .local _ .vmem, ⟨24, _⟩ => ⟨S1x128, .f32⟩
  | .local _ .vmem, ⟨25, _⟩ => ⟨S1x128, .f32⟩
  | .local _ .vmem, ⟨26, _⟩ => ⟨S1x384x1, .f32⟩
  | .local _ .vmem, ⟨27, _⟩ => ⟨S1x384x1, .f32⟩
  | .local _ .vmem, ⟨28, _⟩ => ⟨S1x11x1x384, .f32⟩
  | .local _ .vmem, ⟨29, _⟩ => ⟨S1x11x1x384, .f32⟩
  | _, _ => ⟨S4224x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_c : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_0 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v32 : Ref sig .tc := ⟨.hbm, 42, rfl⟩
abbrev main_cst_1 : Ref sig .tc := ⟨.hbm, 43, rfl⟩
abbrev main_v33 : Ref sig .tc := ⟨.hbm, 44, rfl⟩
abbrev main_c_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54_0 : Ref sig .tc := ⟨.hbm, 71, rfl⟩
abbrev main_v54_1 : Ref sig .tc := ⟨.hbm, 72, rfl⟩
abbrev main_v54_2 : Ref sig .tc := ⟨.hbm, 73, rfl⟩
abbrev main_v54_3 : Ref sig .tc := ⟨.hbm, 74, rfl⟩
abbrev main_v54_4 : Ref sig .tc := ⟨.hbm, 75, rfl⟩
abbrev main_v54_5 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![8, 11], ![false, false]⟩

def k0_mult1 : BitVec 32 :=
  let c0_i32_26 : BitVec 32 := 0#32
  c0_i32_26
def k0_mult2 : BitVec 32 :=
  let c0_i32_28 : BitVec 32 := 0#32
  c0_i32_28
def k0_mult3 : BitVec 32 :=
  let c0_i32_30 : BitVec 32 := 0#32
  c0_i32_30
@[reducible] def k0_t1_loop (i : grid0.Coords) : Scf.Loop 32 :=
  let c0_i32_65 : BitVec 32 := 0#32
  let arg1 : BitVec 32 := BitVec.ofNat 32 (i 1).val
  let c1_i32 : BitVec 32 := 1#32
  let v119 : BitVec 32 := Scalar.subi arg1 c1_i32
  let c0_i32_58 : BitVec 32 := 0#32
  let v120 : BitVec 32 := Scalar.maxsi v119 c0_i32_58
  let c0_i32_59 : BitVec 32 := 0#32
  let v122 : BitVec 1 := Scalar.cmpi .sgt v120 c0_i32_59
  let v123 : BitVec 32 := Scalar.extui v122
  let c0_i32_60 : BitVec 32 := 0#32
  let v124 : BitVec 1 := Scalar.cmpi .slt v120 c0_i32_60
  let v125 : BitVec 32 := Scalar.extui v124
  let v126 : BitVec 32 := Scalar.subi v123 v125
  let c2_i32 : BitVec 32 := 2#32
  let c0_i32_61 : BitVec 32 := 0#32
  let v127 : BitVec 1 := Scalar.cmpi .sgt c2_i32 c0_i32_61
  let v128 : BitVec 32 := Scalar.extui v127
  let c0_i32_62 : BitVec 32 := 0#32
  let v129 : BitVec 1 := Scalar.cmpi .slt c2_i32 c0_i32_62
  let v130 : BitVec 32 := Scalar.extui v129
  let v131 : BitVec 32 := Scalar.subi v128 v130
  let v132 : BitVec 1 := Scalar.cmpi .ne v126 v131
  let v133 : BitVec 32 := Scalar.remsi v120 c2_i32
  let c0_i32_63 : BitVec 32 := 0#32
  let v134 : BitVec 1 := Scalar.cmpi .ne v133 c0_i32_63
  let v135 : BitVec 1 := Scalar.andi v132 v134
  let v121 : BitVec 32 := Scalar.divsi v120 c2_i32
  let c1_i32_64 : BitVec 32 := 1#32
  let v136 : BitVec 32 := Scalar.subi v121 c1_i32_64
  let v137 : BitVec 32 := Scalar.select v135 v136 v121
  let v138 : BitVec 32 := Scalar.subi v137 c0_i32_65
  let c1_i32_66 : BitVec 32 := 1#32
  let v140 : BitVec 32 := Scalar.divsi v138 c1_i32_66
  let v141 : BitVec 32 := Scalar.muli v140 c1_i32_66
  let v142 : BitVec 32 := Scalar.addi c0_i32_65 v141
  let c1_i32_67 : BitVec 32 := 1#32
  ⟨c0_i32_65, v142, c1_i32_67⟩
def k0_mult4 (i : grid0.Coords) (k0_t1 : Fin (k0_t1_loop i).trips) : BitVec 32 :=
  let c2_i32_92 : BitVec 32 := 2#32
  let c0_i32_65 : BitVec 32 := 0#32
  let c1_i32_67 : BitVec 32 := 1#32
  let arg17 : BitVec 32 := Scf.iv c0_i32_65 c1_i32_67 k0_t1
  let v179 : BitVec 32 := Scalar.muli c2_i32_92 arg17
  let c1_i32_93 : BitVec 32 := 1#32
  let v180 : BitVec 32 := Scalar.addi v179 c1_i32_93
  let c384_i32_94 : BitVec 32 := 384#32
  let v181 : BitVec 32 := Scalar.muli v180 c384_i32_94
  v181
def k0_off1 (i : grid0.Coords) (k0_t1 : Fin (k0_t1_loop i).trips) (c1_i32_93 : BitVec 32) : Fin 2 → Nat :=
  let c2_i32_92 : BitVec 32 := 2#32
  let c0_i32_65 : BitVec 32 := 0#32
  let c1_i32_67 : BitVec 32 := 1#32
  let arg17 : BitVec 32 := Scf.iv c0_i32_65 c1_i32_67 k0_t1
  let v179 : BitVec 32 := Scalar.muli c2_i32_92 arg17
  let v180 : BitVec 32 := Scalar.addi v179 c1_i32_93
  let c384_i32_94 : BitVec 32 := 384#32
  let v181 : BitVec 32 := Scalar.muli v180 c384_i32_94
  let v182 : BitVec 32 := v181
  let v183 : Index := Scalar.indexCast v182
  let c0_95 : Index := 0#32
  ![v183.toNat, 0]
def k0_mult5 (i : grid0.Coords) (k0_t1 : Fin (k0_t1_loop i).trips) : BitVec 32 :=
  let c2_i32_92 : BitVec 32 := 2#32
  let c0_i32_65 : BitVec 32 := 0#32
  let c1_i32_67 : BitVec 32 := 1#32
  let arg17 : BitVec 32 := Scf.iv c0_i32_65 c1_i32_67 k0_t1
  let v179 : BitVec 32 := Scalar.muli c2_i32_92 arg17
  let c1_i32_93 : BitVec 32 := 1#32
  let v180 : BitVec 32 := Scalar.addi v179 c1_i32_93
  let c384_i32_96 : BitVec 32 := 384#32
  let v185 : BitVec 32 := Scalar.muli v180 c384_i32_96
  v185
def k0_mult6 (i : grid0.Coords) (k0_t1 : Fin (k0_t1_loop i).trips) : BitVec 32 :=
  let c2_i32_92 : BitVec 32 := 2#32
  let c0_i32_65 : BitVec 32 := 0#32
  let c1_i32_67 : BitVec 32 := 1#32
  let arg17 : BitVec 32 := Scf.iv c0_i32_65 c1_i32_67 k0_t1
  let v179 : BitVec 32 := Scalar.muli c2_i32_92 arg17
  let c1_i32_93 : BitVec 32 := 1#32
  let v180 : BitVec 32 := Scalar.addi v179 c1_i32_93
  let c384_i32_98 : BitVec 32 := 384#32
  let v189 : BitVec 32 := Scalar.muli v180 c384_i32_98
  v189
def k0_off2 (i : grid0.Coords) (k0_t1 : Fin (k0_t1_loop i).trips) (c1_i32_93 : BitVec 32) : Fin 4 → Nat :=
  let c0_101 : Index := 0#32
  let c2_i32_92 : BitVec 32 := 2#32
  let c0_i32_65 : BitVec 32 := 0#32
  let c1_i32_67 : BitVec 32 := 1#32
  let arg17 : BitVec 32 := Scf.iv c0_i32_65 c1_i32_67 k0_t1
  let v179 : BitVec 32 := Scalar.muli c2_i32_92 arg17
  let v180 : BitVec 32 := Scalar.addi v179 c1_i32_93
  let v196 : Index := Scalar.indexCast v180
  let c0_102 : Index := 0#32
  let c0_103 : Index := 0#32
  ![0, v196.toNat, 0, 0]
def k0_mult7 (i : grid0.Coords) (k0_t1 : Fin (k0_t1_loop i).trips) : BitVec 32 :=
  let c2_i32_90 : BitVec 32 := 2#32
  let c0_i32_65 : BitVec 32 := 0#32
  let c1_i32_67 : BitVec 32 := 1#32
  let arg17 : BitVec 32 := Scf.iv c0_i32_65 c1_i32_67 k0_t1
  let v177 : BitVec 32 := Scalar.muli c2_i32_90 arg17
  let c2_i32_91 : BitVec 32 := 2#32
  let v178 : BitVec 32 := Scalar.addi v177 c2_i32_91
  let c384_i32_121 : BitVec 32 := 384#32
  let v241 : BitVec 32 := Scalar.muli v178 c384_i32_121
  v241
def k0_mult8 (i : grid0.Coords) (k0_t1 : Fin (k0_t1_loop i).trips) : BitVec 32 :=
  let c2_i32_90 : BitVec 32 := 2#32
  let c0_i32_65 : BitVec 32 := 0#32
  let c1_i32_67 : BitVec 32 := 1#32
  let arg17 : BitVec 32 := Scf.iv c0_i32_65 c1_i32_67 k0_t1
  let v177 : BitVec 32 := Scalar.muli c2_i32_90 arg17
  let c2_i32_91 : BitVec 32 := 2#32
  let v178 : BitVec 32 := Scalar.addi v177 c2_i32_91
  let c384_i32_123 : BitVec 32 := 384#32
  let v245 : BitVec 32 := Scalar.muli v178 c384_i32_123
  v245
def k0_mult9 (i : grid0.Coords) (k0_t1 : Fin (k0_t1_loop i).trips) : BitVec 32 :=
  let c2_i32_90 : BitVec 32 := 2#32
  let c0_i32_65 : BitVec 32 := 0#32
  let c1_i32_67 : BitVec 32 := 1#32
  let arg17 : BitVec 32 := Scf.iv c0_i32_65 c1_i32_67 k0_t1
  let v177 : BitVec 32 := Scalar.muli c2_i32_90 arg17
  let c2_i32_91 : BitVec 32 := 2#32
  let v178 : BitVec 32 := Scalar.addi v177 c2_i32_91
  let c384_i32_125 : BitVec 32 := 384#32
  let v249 : BitVec 32 := Scalar.muli v178 c384_i32_125
  v249
@[reducible] def k0_t2_loop (i : grid0.Coords) : Scf.Loop 32 :=
  let c0_i32_65 : BitVec 32 := 0#32
  let arg1 : BitVec 32 := BitVec.ofNat 32 (i 1).val
  let c1_i32 : BitVec 32 := 1#32
  let v119 : BitVec 32 := Scalar.subi arg1 c1_i32
  let c0_i32_58 : BitVec 32 := 0#32
  let v120 : BitVec 32 := Scalar.maxsi v119 c0_i32_58
  let c0_i32_59 : BitVec 32 := 0#32
  let v122 : BitVec 1 := Scalar.cmpi .sgt v120 c0_i32_59
  let v123 : BitVec 32 := Scalar.extui v122
  let c0_i32_60 : BitVec 32 := 0#32
  let v124 : BitVec 1 := Scalar.cmpi .slt v120 c0_i32_60
  let v125 : BitVec 32 := Scalar.extui v124
  let v126 : BitVec 32 := Scalar.subi v123 v125
  let c2_i32 : BitVec 32 := 2#32
  let c0_i32_61 : BitVec 32 := 0#32
  let v127 : BitVec 1 := Scalar.cmpi .sgt c2_i32 c0_i32_61
  let v128 : BitVec 32 := Scalar.extui v127
  let c0_i32_62 : BitVec 32 := 0#32
  let v129 : BitVec 1 := Scalar.cmpi .slt c2_i32 c0_i32_62
  let v130 : BitVec 32 := Scalar.extui v129
  let v131 : BitVec 32 := Scalar.subi v128 v130
  let v132 : BitVec 1 := Scalar.cmpi .ne v126 v131
  let v133 : BitVec 32 := Scalar.remsi v120 c2_i32
  let c0_i32_63 : BitVec 32 := 0#32
  let v134 : BitVec 1 := Scalar.cmpi .ne v133 c0_i32_63
  let v135 : BitVec 1 := Scalar.andi v132 v134
  let v121 : BitVec 32 := Scalar.divsi v120 c2_i32
  let c1_i32_64 : BitVec 32 := 1#32
  let v136 : BitVec 32 := Scalar.subi v121 c1_i32_64
  let v137 : BitVec 32 := Scalar.select v135 v136 v121
  let v138 : BitVec 32 := Scalar.subi v137 c0_i32_65
  let c1_i32_66 : BitVec 32 := 1#32
  let v140 : BitVec 32 := Scalar.divsi v138 c1_i32_66
  let v141 : BitVec 32 := Scalar.muli v140 c1_i32_66
  let v142 : BitVec 32 := Scalar.addi c0_i32_65 v141
  let v139 : BitVec 32 := Scalar.addi c0_i32_65 v138
  let c1_i32_68 : BitVec 32 := 1#32
  ⟨v142, v139, c1_i32_68⟩
def k0_mult10 (i : grid0.Coords) (k0_t2 : Fin (k0_t2_loop i).trips) : BitVec 32 :=
  let c2_i32_92 : BitVec 32 := 2#32
  let c0_i32_65 : BitVec 32 := 0#32
  let arg1 : BitVec 32 := BitVec.ofNat 32 (i 1).val
  let c1_i32 : BitVec 32 := 1#32
  let v119 : BitVec 32 := Scalar.subi arg1 c1_i32
  let c0_i32_58 : BitVec 32 := 0#32
  let v120 : BitVec 32 := Scalar.maxsi v119 c0_i32_58
  let c0_i32_59 : BitVec 32 := 0#32
  let v122 : BitVec 1 := Scalar.cmpi .sgt v120 c0_i32_59
  let v123 : BitVec 32 := Scalar.extui v122
  let c0_i32_60 : BitVec 32 := 0#32
  let v124 : BitVec 1 := Scalar.cmpi .slt v120 c0_i32_60
  let v125 : BitVec 32 := Scalar.extui v124
  let v126 : BitVec 32 := Scalar.subi v123 v125
  let c2_i32 : BitVec 32 := 2#32
  let c0_i32_61 : BitVec 32 := 0#32
  let v127 : BitVec 1 := Scalar.cmpi .sgt c2_i32 c0_i32_61
  let v128 : BitVec 32 := Scalar.extui v127
  let c0_i32_62 : BitVec 32 := 0#32
  let v129 : BitVec 1 := Scalar.cmpi .slt c2_i32 c0_i32_62
  let v130 : BitVec 32 := Scalar.extui v129
  let v131 : BitVec 32 := Scalar.subi v128 v130
  let v132 : BitVec 1 := Scalar.cmpi .ne v126 v131
  let v133 : BitVec 32 := Scalar.remsi v120 c2_i32
  let c0_i32_63 : BitVec 32 := 0#32
  let v134 : BitVec 1 := Scalar.cmpi .ne v133 c0_i32_63
  let v135 : BitVec 1 := Scalar.andi v132 v134
  let v121 : BitVec 32 := Scalar.divsi v120 c2_i32
  let c1_i32_64 : BitVec 32 := 1#32
  let v136 : BitVec 32 := Scalar.subi v121 c1_i32_64
  let v137 : BitVec 32 := Scalar.select v135 v136 v121
  let v138 : BitVec 32 := Scalar.subi v137 c0_i32_65
  let c1_i32_66 : BitVec 32 := 1#32
  let v140 : BitVec 32 := Scalar.divsi v138 c1_i32_66
  let v141 : BitVec 32 := Scalar.muli v140 c1_i32_66
  let v142 : BitVec 32 := Scalar.addi c0_i32_65 v141
  let c1_i32_68 : BitVec 32 := 1#32
  let arg17 : BitVec 32 := Scf.iv v142 c1_i32_68 k0_t2
  let v179 : BitVec 32 := Scalar.muli c2_i32_92 arg17
  let c1_i32_93 : BitVec 32 := 1#32
  let v180 : BitVec 32 := Scalar.addi v179 c1_i32_93
  let c384_i32_94 : BitVec 32 := 384#32
  let v181 : BitVec 32 := Scalar.muli v180 c384_i32_94
  v181
def k0_off3 (i : grid0.Coords) (k0_t2 : Fin (k0_t2_loop i).trips) (c1_i32_93 : BitVec 32) : Fin 2 → Nat :=
  let c2_i32_92 : BitVec 32 := 2#32
  let c0_i32_65 : BitVec 32 := 0#32
  let arg1 : BitVec 32 := BitVec.ofNat 32 (i 1).val
  let c1_i32 : BitVec 32 := 1#32
  let v119 : BitVec 32 := Scalar.subi arg1 c1_i32
  let c0_i32_58 : BitVec 32 := 0#32
  let v120 : BitVec 32 := Scalar.maxsi v119 c0_i32_58
  let c0_i32_59 : BitVec 32 := 0#32
  let v122 : BitVec 1 := Scalar.cmpi .sgt v120 c0_i32_59
  let v123 : BitVec 32 := Scalar.extui v122
  let c0_i32_60 : BitVec 32 := 0#32
  let v124 : BitVec 1 := Scalar.cmpi .slt v120 c0_i32_60
  let v125 : BitVec 32 := Scalar.extui v124
  let v126 : BitVec 32 := Scalar.subi v123 v125
  let c2_i32 : BitVec 32 := 2#32
  let c0_i32_61 : BitVec 32 := 0#32
  let v127 : BitVec 1 := Scalar.cmpi .sgt c2_i32 c0_i32_61
  let v128 : BitVec 32 := Scalar.extui v127
  let c0_i32_62 : BitVec 32 := 0#32
  let v129 : BitVec 1 := Scalar.cmpi .slt c2_i32 c0_i32_62
  let v130 : BitVec 32 := Scalar.extui v129
  let v131 : BitVec 32 := Scalar.subi v128 v130
  let v132 : BitVec 1 := Scalar.cmpi .ne v126 v131
  let v133 : BitVec 32 := Scalar.remsi v120 c2_i32
  let c0_i32_63 : BitVec 32 := 0#32
  let v134 : BitVec 1 := Scalar.cmpi .ne v133 c0_i32_63
  let v135 : BitVec 1 := Scalar.andi v132 v134
  let v121 : BitVec 32 := Scalar.divsi v120 c2_i32
  let c1_i32_64 : BitVec 32 := 1#32
  let v136 : BitVec 32 := Scalar.subi v121 c1_i32_64
  let v137 : BitVec 32 := Scalar.select v135 v136 v121
  let v138 : BitVec 32 := Scalar.subi v137 c0_i32_65
  let c1_i32_66 : BitVec 32 := 1#32
  let v140 : BitVec 32 := Scalar.divsi v138 c1_i32_66
  let v141 : BitVec 32 := Scalar.muli v140 c1_i32_66
  let v142 : BitVec 32 := Scalar.addi c0_i32_65 v141
  let c1_i32_68 : BitVec 32 := 1#32
  let arg17 : BitVec 32 := Scf.iv v142 c1_i32_68 k0_t2
  let v179 : BitVec 32 := Scalar.muli c2_i32_92 arg17
  let v180 : BitVec 32 := Scalar.addi v179 c1_i32_93
  let c384_i32_94 : BitVec 32 := 384#32
  let v181 : BitVec 32 := Scalar.muli v180 c384_i32_94
  let v182 : BitVec 32 := v181
  let v183 : Index := Scalar.indexCast v182
  let c0_95 : Index := 0#32
  ![v183.toNat, 0]
def k0_mult11 (i : grid0.Coords) (k0_t2 : Fin (k0_t2_loop i).trips) : BitVec 32 :=
  let c2_i32_92 : BitVec 32 := 2#32
  let c0_i32_65 : BitVec 32 := 0#32
  let arg1 : BitVec 32 := BitVec.ofNat 32 (i 1).val
  let c1_i32 : BitVec 32 := 1#32
  let v119 : BitVec 32 := Scalar.subi arg1 c1_i32
  let c0_i32_58 : BitVec 32 := 0#32
  let v120 : BitVec 32 := Scalar.maxsi v119 c0_i32_58
  let c0_i32_59 : BitVec 32 := 0#32
  let v122 : BitVec 1 := Scalar.cmpi .sgt v120 c0_i32_59
  let v123 : BitVec 32 := Scalar.extui v122
  let c0_i32_60 : BitVec 32 := 0#32
  let v124 : BitVec 1 := Scalar.cmpi .slt v120 c0_i32_60
  let v125 : BitVec 32 := Scalar.extui v124
  let v126 : BitVec 32 := Scalar.subi v123 v125
  let c2_i32 : BitVec 32 := 2#32
  let c0_i32_61 : BitVec 32 := 0#32
  let v127 : BitVec 1 := Scalar.cmpi .sgt c2_i32 c0_i32_61
  let v128 : BitVec 32 := Scalar.extui v127
  let c0_i32_62 : BitVec 32 := 0#32
  let v129 : BitVec 1 := Scalar.cmpi .slt c2_i32 c0_i32_62
  let v130 : BitVec 32 := Scalar.extui v129
  let v131 : BitVec 32 := Scalar.subi v128 v130
  let v132 : BitVec 1 := Scalar.cmpi .ne v126 v131
  let v133 : BitVec 32 := Scalar.remsi v120 c2_i32
  let c0_i32_63 : BitVec 32 := 0#32
  let v134 : BitVec 1 := Scalar.cmpi .ne v133 c0_i32_63
  let v135 : BitVec 1 := Scalar.andi v132 v134
  let v121 : BitVec 32 := Scalar.divsi v120 c2_i32
  let c1_i32_64 : BitVec 32 := 1#32
  let v136 : BitVec 32 := Scalar.subi v121 c1_i32_64
  let v137 : BitVec 32 := Scalar.select v135 v136 v121
  let v138 : BitVec 32 := Scalar.subi v137 c0_i32_65
  let c1_i32_66 : BitVec 32 := 1#32
  let v140 : BitVec 32 := Scalar.divsi v138 c1_i32_66
  let v141 : BitVec 32 := Scalar.muli v140 c1_i32_66
  let v142 : BitVec 32 := Scalar.addi c0_i32_65 v141
  let c1_i32_68 : BitVec 32 := 1#32
  let arg17 : BitVec 32 := Scf.iv v142 c1_i32_68 k0_t2
  let v179 : BitVec 32 := Scalar.muli c2_i32_92 arg17
  let c1_i32_93 : BitVec 32 := 1#32
  let v180 : BitVec 32 := Scalar.addi v179 c1_i32_93
  let c384_i32_96 : BitVec 32 := 384#32
  let v185 : BitVec 32 := Scalar.muli v180 c384_i32_96
  v185
def k0_mult12 (i : grid0.Coords) (k0_t2 : Fin (k0_t2_loop i).trips) : BitVec 32 :=
  let c2_i32_92 : BitVec 32 := 2#32
  let c0_i32_65 : BitVec 32 := 0#32
  let arg1 : BitVec 32 := BitVec.ofNat 32 (i 1).val
  let c1_i32 : BitVec 32 := 1#32
  let v119 : BitVec 32 := Scalar.subi arg1 c1_i32
  let c0_i32_58 : BitVec 32 := 0#32
  let v120 : BitVec 32 := Scalar.maxsi v119 c0_i32_58
  let c0_i32_59 : BitVec 32 := 0#32
  let v122 : BitVec 1 := Scalar.cmpi .sgt v120 c0_i32_59
  let v123 : BitVec 32 := Scalar.extui v122
  let c0_i32_60 : BitVec 32 := 0#32
  let v124 : BitVec 1 := Scalar.cmpi .slt v120 c0_i32_60
  let v125 : BitVec 32 := Scalar.extui v124
  let v126 : BitVec 32 := Scalar.subi v123 v125
  let c2_i32 : BitVec 32 := 2#32
  let c0_i32_61 : BitVec 32 := 0#32
  let v127 : BitVec 1 := Scalar.cmpi .sgt c2_i32 c0_i32_61
  let v128 : BitVec 32 := Scalar.extui v127
  let c0_i32_62 : BitVec 32 := 0#32
  let v129 : BitVec 1 := Scalar.cmpi .slt c2_i32 c0_i32_62
  let v130 : BitVec 32 := Scalar.extui v129
  let v131 : BitVec 32 := Scalar.subi v128 v130
  let v132 : BitVec 1 := Scalar.cmpi .ne v126 v131
  let v133 : BitVec 32 := Scalar.remsi v120 c2_i32
  let c0_i32_63 : BitVec 32 := 0#32
  let v134 : BitVec 1 := Scalar.cmpi .ne v133 c0_i32_63
  let v135 : BitVec 1 := Scalar.andi v132 v134
  let v121 : BitVec 32 := Scalar.divsi v120 c2_i32
  let c1_i32_64 : BitVec 32 := 1#32
  let v136 : BitVec 32 := Scalar.subi v121 c1_i32_64
  let v137 : BitVec 32 := Scalar.select v135 v136 v121
  let v138 : BitVec 32 := Scalar.subi v137 c0_i32_65
  let c1_i32_66 : BitVec 32 := 1#32
  let v140 : BitVec 32 := Scalar.divsi v138 c1_i32_66
  let v141 : BitVec 32 := Scalar.muli v140 c1_i32_66
  let v142 : BitVec 32 := Scalar.addi c0_i32_65 v141
  let c1_i32_68 : BitVec 32 := 1#32
  let arg17 : BitVec 32 := Scf.iv v142 c1_i32_68 k0_t2
  let v179 : BitVec 32 := Scalar.muli c2_i32_92 arg17
  let c1_i32_93 : BitVec 32 := 1#32
  let v180 : BitVec 32 := Scalar.addi v179 c1_i32_93
  let c384_i32_98 : BitVec 32 := 384#32
  let v189 : BitVec 32 := Scalar.muli v180 c384_i32_98
  v189
def k0_off4 (i : grid0.Coords) (k0_t2 : Fin (k0_t2_loop i).trips) (c1_i32_93 : BitVec 32) : Fin 4 → Nat :=
  let c0_101 : Index := 0#32
  let c2_i32_92 : BitVec 32 := 2#32
  let c0_i32_65 : BitVec 32 := 0#32
  let arg1 : BitVec 32 := BitVec.ofNat 32 (i 1).val
  let c1_i32 : BitVec 32 := 1#32
  let v119 : BitVec 32 := Scalar.subi arg1 c1_i32
  let c0_i32_58 : BitVec 32 := 0#32
  let v120 : BitVec 32 := Scalar.maxsi v119 c0_i32_58
  let c0_i32_59 : BitVec 32 := 0#32
  let v122 : BitVec 1 := Scalar.cmpi .sgt v120 c0_i32_59
  let v123 : BitVec 32 := Scalar.extui v122
  let c0_i32_60 : BitVec 32 := 0#32
  let v124 : BitVec 1 := Scalar.cmpi .slt v120 c0_i32_60
  let v125 : BitVec 32 := Scalar.extui v124
  let v126 : BitVec 32 := Scalar.subi v123 v125
  let c2_i32 : BitVec 32 := 2#32
  let c0_i32_61 : BitVec 32 := 0#32
  let v127 : BitVec 1 := Scalar.cmpi .sgt c2_i32 c0_i32_61
  let v128 : BitVec 32 := Scalar.extui v127
  let c0_i32_62 : BitVec 32 := 0#32
  let v129 : BitVec 1 := Scalar.cmpi .slt c2_i32 c0_i32_62
  let v130 : BitVec 32 := Scalar.extui v129
  let v131 : BitVec 32 := Scalar.subi v128 v130
  let v132 : BitVec 1 := Scalar.cmpi .ne v126 v131
  let v133 : BitVec 32 := Scalar.remsi v120 c2_i32
  let c0_i32_63 : BitVec 32 := 0#32
  let v134 : BitVec 1 := Scalar.cmpi .ne v133 c0_i32_63
  let v135 : BitVec 1 := Scalar.andi v132 v134
  let v121 : BitVec 32 := Scalar.divsi v120 c2_i32
  let c1_i32_64 : BitVec 32 := 1#32
  let v136 : BitVec 32 := Scalar.subi v121 c1_i32_64
  let v137 : BitVec 32 := Scalar.select v135 v136 v121
  let v138 : BitVec 32 := Scalar.subi v137 c0_i32_65
  let c1_i32_66 : BitVec 32 := 1#32
  let v140 : BitVec 32 := Scalar.divsi v138 c1_i32_66
  let v141 : BitVec 32 := Scalar.muli v140 c1_i32_66
  let v142 : BitVec 32 := Scalar.addi c0_i32_65 v141
  let c1_i32_68 : BitVec 32 := 1#32
  let arg17 : BitVec 32 := Scf.iv v142 c1_i32_68 k0_t2
  let v179 : BitVec 32 := Scalar.muli c2_i32_92 arg17
  let v180 : BitVec 32 := Scalar.addi v179 c1_i32_93
  let v196 : Index := Scalar.indexCast v180
  let c0_102 : Index := 0#32
  let c0_103 : Index := 0#32
  ![0, v196.toNat, 0, 0]
def k0_mult13 (i : grid0.Coords) (k0_t2 : Fin (k0_t2_loop i).trips) : BitVec 32 :=
  let c2_i32_90 : BitVec 32 := 2#32
  let c0_i32_65 : BitVec 32 := 0#32
  let arg1 : BitVec 32 := BitVec.ofNat 32 (i 1).val
  let c1_i32 : BitVec 32 := 1#32
  let v119 : BitVec 32 := Scalar.subi arg1 c1_i32
  let c0_i32_58 : BitVec 32 := 0#32
  let v120 : BitVec 32 := Scalar.maxsi v119 c0_i32_58
  let c0_i32_59 : BitVec 32 := 0#32
  let v122 : BitVec 1 := Scalar.cmpi .sgt v120 c0_i32_59
  let v123 : BitVec 32 := Scalar.extui v122
  let c0_i32_60 : BitVec 32 := 0#32
  let v124 : BitVec 1 := Scalar.cmpi .slt v120 c0_i32_60
  let v125 : BitVec 32 := Scalar.extui v124
  let v126 : BitVec 32 := Scalar.subi v123 v125
  let c2_i32 : BitVec 32 := 2#32
  let c0_i32_61 : BitVec 32 := 0#32
  let v127 : BitVec 1 := Scalar.cmpi .sgt c2_i32 c0_i32_61
  let v128 : BitVec 32 := Scalar.extui v127
  let c0_i32_62 : BitVec 32 := 0#32
  let v129 : BitVec 1 := Scalar.cmpi .slt c2_i32 c0_i32_62
  let v130 : BitVec 32 := Scalar.extui v129
  let v131 : BitVec 32 := Scalar.subi v128 v130
  let v132 : BitVec 1 := Scalar.cmpi .ne v126 v131
  let v133 : BitVec 32 := Scalar.remsi v120 c2_i32
  let c0_i32_63 : BitVec 32 := 0#32
  let v134 : BitVec 1 := Scalar.cmpi .ne v133 c0_i32_63
  let v135 : BitVec 1 := Scalar.andi v132 v134
  let v121 : BitVec 32 := Scalar.divsi v120 c2_i32
  let c1_i32_64 : BitVec 32 := 1#32
  let v136 : BitVec 32 := Scalar.subi v121 c1_i32_64
  let v137 : BitVec 32 := Scalar.select v135 v136 v121
  let v138 : BitVec 32 := Scalar.subi v137 c0_i32_65
  let c1_i32_66 : BitVec 32 := 1#32
  let v140 : BitVec 32 := Scalar.divsi v138 c1_i32_66
  let v141 : BitVec 32 := Scalar.muli v140 c1_i32_66
  let v142 : BitVec 32 := Scalar.addi c0_i32_65 v141
  let c1_i32_68 : BitVec 32 := 1#32
  let arg17 : BitVec 32 := Scf.iv v142 c1_i32_68 k0_t2
  let v177 : BitVec 32 := Scalar.muli c2_i32_90 arg17
  let c2_i32_91 : BitVec 32 := 2#32
  let v178 : BitVec 32 := Scalar.addi v177 c2_i32_91
  let c384_i32_121 : BitVec 32 := 384#32
  let v241 : BitVec 32 := Scalar.muli v178 c384_i32_121
  v241
def k0_mult14 (i : grid0.Coords) (k0_t2 : Fin (k0_t2_loop i).trips) : BitVec 32 :=
  let c2_i32_90 : BitVec 32 := 2#32
  let c0_i32_65 : BitVec 32 := 0#32
  let arg1 : BitVec 32 := BitVec.ofNat 32 (i 1).val
  let c1_i32 : BitVec 32 := 1#32
  let v119 : BitVec 32 := Scalar.subi arg1 c1_i32
  let c0_i32_58 : BitVec 32 := 0#32
  let v120 : BitVec 32 := Scalar.maxsi v119 c0_i32_58
  let c0_i32_59 : BitVec 32 := 0#32
  let v122 : BitVec 1 := Scalar.cmpi .sgt v120 c0_i32_59
  let v123 : BitVec 32 := Scalar.extui v122
  let c0_i32_60 : BitVec 32 := 0#32
  let v124 : BitVec 1 := Scalar.cmpi .slt v120 c0_i32_60
  let v125 : BitVec 32 := Scalar.extui v124
  let v126 : BitVec 32 := Scalar.subi v123 v125
  let c2_i32 : BitVec 32 := 2#32
  let c0_i32_61 : BitVec 32 := 0#32
  let v127 : BitVec 1 := Scalar.cmpi .sgt c2_i32 c0_i32_61
  let v128 : BitVec 32 := Scalar.extui v127
  let c0_i32_62 : BitVec 32 := 0#32
  let v129 : BitVec 1 := Scalar.cmpi .slt c2_i32 c0_i32_62
  let v130 : BitVec 32 := Scalar.extui v129
  let v131 : BitVec 32 := Scalar.subi v128 v130
  let v132 : BitVec 1 := Scalar.cmpi .ne v126 v131
  let v133 : BitVec 32 := Scalar.remsi v120 c2_i32
  let c0_i32_63 : BitVec 32 := 0#32
  let v134 : BitVec 1 := Scalar.cmpi .ne v133 c0_i32_63
  let v135 : BitVec 1 := Scalar.andi v132 v134
  let v121 : BitVec 32 := Scalar.divsi v120 c2_i32
  let c1_i32_64 : BitVec 32 := 1#32
  let v136 : BitVec 32 := Scalar.subi v121 c1_i32_64
  let v137 : BitVec 32 := Scalar.select v135 v136 v121
  let v138 : BitVec 32 := Scalar.subi v137 c0_i32_65
  let c1_i32_66 : BitVec 32 := 1#32
  let v140 : BitVec 32 := Scalar.divsi v138 c1_i32_66
  let v141 : BitVec 32 := Scalar.muli v140 c1_i32_66
  let v142 : BitVec 32 := Scalar.addi c0_i32_65 v141
  let c1_i32_68 : BitVec 32 := 1#32
  let arg17 : BitVec 32 := Scf.iv v142 c1_i32_68 k0_t2
  let v177 : BitVec 32 := Scalar.muli c2_i32_90 arg17
  let c2_i32_91 : BitVec 32 := 2#32
  let v178 : BitVec 32 := Scalar.addi v177 c2_i32_91
  let c384_i32_123 : BitVec 32 := 384#32
  let v245 : BitVec 32 := Scalar.muli v178 c384_i32_123
  v245
def k0_mult15 (i : grid0.Coords) (k0_t2 : Fin (k0_t2_loop i).trips) : BitVec 32 :=
  let c2_i32_90 : BitVec 32 := 2#32
  let c0_i32_65 : BitVec 32 := 0#32
  let arg1 : BitVec 32 := BitVec.ofNat 32 (i 1).val
  let c1_i32 : BitVec 32 := 1#32
  let v119 : BitVec 32 := Scalar.subi arg1 c1_i32
  let c0_i32_58 : BitVec 32 := 0#32
  let v120 : BitVec 32 := Scalar.maxsi v119 c0_i32_58
  let c0_i32_59 : BitVec 32 := 0#32
  let v122 : BitVec 1 := Scalar.cmpi .sgt v120 c0_i32_59
  let v123 : BitVec 32 := Scalar.extui v122
  let c0_i32_60 : BitVec 32 := 0#32
  let v124 : BitVec 1 := Scalar.cmpi .slt v120 c0_i32_60
  let v125 : BitVec 32 := Scalar.extui v124
  let v126 : BitVec 32 := Scalar.subi v123 v125
  let c2_i32 : BitVec 32 := 2#32
  let c0_i32_61 : BitVec 32 := 0#32
  let v127 : BitVec 1 := Scalar.cmpi .sgt c2_i32 c0_i32_61
  let v128 : BitVec 32 := Scalar.extui v127
  let c0_i32_62 : BitVec 32 := 0#32
  let v129 : BitVec 1 := Scalar.cmpi .slt c2_i32 c0_i32_62
  let v130 : BitVec 32 := Scalar.extui v129
  let v131 : BitVec 32 := Scalar.subi v128 v130
  let v132 : BitVec 1 := Scalar.cmpi .ne v126 v131
  let v133 : BitVec 32 := Scalar.remsi v120 c2_i32
  let c0_i32_63 : BitVec 32 := 0#32
  let v134 : BitVec 1 := Scalar.cmpi .ne v133 c0_i32_63
  let v135 : BitVec 1 := Scalar.andi v132 v134
  let v121 : BitVec 32 := Scalar.divsi v120 c2_i32
  let c1_i32_64 : BitVec 32 := 1#32
  let v136 : BitVec 32 := Scalar.subi v121 c1_i32_64
  let v137 : BitVec 32 := Scalar.select v135 v136 v121
  let v138 : BitVec 32 := Scalar.subi v137 c0_i32_65
  let c1_i32_66 : BitVec 32 := 1#32
  let v140 : BitVec 32 := Scalar.divsi v138 c1_i32_66
  let v141 : BitVec 32 := Scalar.muli v140 c1_i32_66
  let v142 : BitVec 32 := Scalar.addi c0_i32_65 v141
  let c1_i32_68 : BitVec 32 := 1#32
  let arg17 : BitVec 32 := Scf.iv v142 c1_i32_68 k0_t2
  let v177 : BitVec 32 := Scalar.muli c2_i32_90 arg17
  let c2_i32_91 : BitVec 32 := 2#32
  let v178 : BitVec 32 := Scalar.addi v177 c2_i32_91
  let c384_i32_125 : BitVec 32 := 384#32
  let v249 : BitVec 32 := Scalar.muli v178 c384_i32_125
  v249
@[reducible] def k0_t3_loop (i : grid0.Coords) : Scf.Loop 32 :=
  let c0_i32_75 : BitVec 32 := 0#32
  let arg1 : BitVec 32 := BitVec.ofNat 32 (i 1).val
  let c1_i32 : BitVec 32 := 1#32
  let v119 : BitVec 32 := Scalar.subi arg1 c1_i32
  let c0_i32_58 : BitVec 32 := 0#32
  let v120 : BitVec 32 := Scalar.maxsi v119 c0_i32_58
  let c2_i32_69 : BitVec 32 := 2#32
  let c0_i32_70 : BitVec 32 := 0#32
  let v145 : BitVec 1 := Scalar.cmpi .eq c2_i32_69 c0_i32_70
  let c1_i32_71 : BitVec 32 := 1#32
  let v146 : BitVec 32 := Scalar.select v145 c1_i32_71 c2_i32_69
  let v147 : BitVec 32 := Scalar.remsi v120 v146
  let c0_i32_73 : BitVec 32 := 0#32
  let v149 : BitVec 1 := Scalar.cmpi .slt v147 c0_i32_73
  let c0_i32_74 : BitVec 32 := 0#32
  let v150 : BitVec 1 := Scalar.cmpi .slt v146 c0_i32_74
  let v151 : BitVec 1 := Scalar.xori v149 v150
  let c0_i32_72 : BitVec 32 := 0#32
  let v148 : BitVec 1 := Scalar.cmpi .ne v147 c0_i32_72
  let v152 : BitVec 1 := Scalar.andi v151 v148
  let v153 : BitVec 32 := Scalar.addi v147 v146
  let v154 : BitVec 32 := Scalar.select v152 v153 v147
  let v155 : BitVec 32 := Scalar.subi v154 c0_i32_75
  let c1_i32_76 : BitVec 32 := 1#32
  let v157 : BitVec 32 := Scalar.divsi v155 c1_i32_76
  let v158 : BitVec 32 := Scalar.muli v157 c1_i32_76
  let v159 : BitVec 32 := Scalar.addi c0_i32_75 v158
  let c1_i32_77 : BitVec 32 := 1#32
  ⟨c0_i32_75, v159, c1_i32_77⟩
def k0_mult16 (i : grid0.Coords) : BitVec 32 :=
  let arg1 : BitVec 32 := BitVec.ofNat 32 (i 1).val
  let c1_i32_90 : BitVec 32 := 1#32
  let v177 : BitVec 32 := Scalar.subi arg1 c1_i32_90
  let c384_i32_91 : BitVec 32 := 384#32
  let v178 : BitVec 32 := Scalar.muli v177 c384_i32_91
  v178
def k0_off5 (i : grid0.Coords) : Fin 2 → Nat :=
  let arg1 : BitVec 32 := BitVec.ofNat 32 (i 1).val
  let c1_i32_90 : BitVec 32 := 1#32
  let v177 : BitVec 32 := Scalar.subi arg1 c1_i32_90
  let c384_i32_91 : BitVec 32 := 384#32
  let v178 : BitVec 32 := Scalar.muli v177 c384_i32_91
  let v179 : BitVec 32 := v178
  let v180 : Index := Scalar.indexCast v179
  let c0_92 : Index := 0#32
  ![v180.toNat, 0]
def k0_mult17 (i : grid0.Coords) : BitVec 32 :=
  let arg1 : BitVec 32 := BitVec.ofNat 32 (i 1).val
  let c1_i32_90 : BitVec 32 := 1#32
  let v177 : BitVec 32 := Scalar.subi arg1 c1_i32_90
  let c384_i32_93 : BitVec 32 := 384#32
  let v182 : BitVec 32 := Scalar.muli v177 c384_i32_93
  v182
def k0_mult18 (i : grid0.Coords) : BitVec 32 :=
  let arg1 : BitVec 32 := BitVec.ofNat 32 (i 1).val
  let c1_i32_90 : BitVec 32 := 1#32
  let v177 : BitVec 32 := Scalar.subi arg1 c1_i32_90
  let c384_i32_95 : BitVec 32 := 384#32
  let v186 : BitVec 32 := Scalar.muli v177 c384_i32_95
  v186
def k0_off6 (i : grid0.Coords) : Fin 4 → Nat :=
  let c0_98 : Index := 0#32
  let arg1 : BitVec 32 := BitVec.ofNat 32 (i 1).val
  let c1_i32_90 : BitVec 32 := 1#32
  let v177 : BitVec 32 := Scalar.subi arg1 c1_i32_90
  let v193 : Index := Scalar.indexCast v177
  let c0_99 : Index := 0#32
  let c0_100 : Index := 0#32
  ![0, v193.toNat, 0, 0]
@[reducible] def k0_t4_loop (i : grid0.Coords) : Scf.Loop 32 :=
  let c0_i32_75 : BitVec 32 := 0#32
  let arg1 : BitVec 32 := BitVec.ofNat 32 (i 1).val
  let c1_i32 : BitVec 32 := 1#32
  let v119 : BitVec 32 := Scalar.subi arg1 c1_i32
  let c0_i32_58 : BitVec 32 := 0#32
  let v120 : BitVec 32 := Scalar.maxsi v119 c0_i32_58
  let c2_i32_69 : BitVec 32 := 2#32
  let c0_i32_70 : BitVec 32 := 0#32
  let v145 : BitVec 1 := Scalar.cmpi .eq c2_i32_69 c0_i32_70
  let c1_i32_71 : BitVec 32 := 1#32
  let v146 : BitVec 32 := Scalar.select v145 c1_i32_71 c2_i32_69
  let v147 : BitVec 32 := Scalar.remsi v120 v146
  let c0_i32_73 : BitVec 32 := 0#32
  let v149 : BitVec 1 := Scalar.cmpi .slt v147 c0_i32_73
  let c0_i32_74 : BitVec 32 := 0#32
  let v150 : BitVec 1 := Scalar.cmpi .slt v146 c0_i32_74
  let v151 : BitVec 1 := Scalar.xori v149 v150
  let c0_i32_72 : BitVec 32 := 0#32
  let v148 : BitVec 1 := Scalar.cmpi .ne v147 c0_i32_72
  let v152 : BitVec 1 := Scalar.andi v151 v148
  let v153 : BitVec 32 := Scalar.addi v147 v146
  let v154 : BitVec 32 := Scalar.select v152 v153 v147
  let v155 : BitVec 32 := Scalar.subi v154 c0_i32_75
  let c1_i32_76 : BitVec 32 := 1#32
  let v157 : BitVec 32 := Scalar.divsi v155 c1_i32_76
  let v158 : BitVec 32 := Scalar.muli v157 c1_i32_76
  let v159 : BitVec 32 := Scalar.addi c0_i32_75 v158
  let v156 : BitVec 32 := Scalar.addi c0_i32_75 v155
  let c1_i32_78 : BitVec 32 := 1#32
  ⟨v159, v156, c1_i32_78⟩
def k0_mult19 (i : grid0.Coords) : BitVec 32 :=
  let arg1 : BitVec 32 := BitVec.ofNat 32 (i 1).val
  let c1_i32_90 : BitVec 32 := 1#32
  let v177 : BitVec 32 := Scalar.subi arg1 c1_i32_90
  let c384_i32_91 : BitVec 32 := 384#32
  let v178 : BitVec 32 := Scalar.muli v177 c384_i32_91
  v178
def k0_off7 (i : grid0.Coords) : Fin 2 → Nat :=
  let arg1 : BitVec 32 := BitVec.ofNat 32 (i 1).val
  let c1_i32_90 : BitVec 32 := 1#32
  let v177 : BitVec 32 := Scalar.subi arg1 c1_i32_90
  let c384_i32_91 : BitVec 32 := 384#32
  let v178 : BitVec 32 := Scalar.muli v177 c384_i32_91
  let v179 : BitVec 32 := v178
  let v180 : Index := Scalar.indexCast v179
  let c0_92 : Index := 0#32
  ![v180.toNat, 0]
def k0_mult20 (i : grid0.Coords) : BitVec 32 :=
  let arg1 : BitVec 32 := BitVec.ofNat 32 (i 1).val
  let c1_i32_90 : BitVec 32 := 1#32
  let v177 : BitVec 32 := Scalar.subi arg1 c1_i32_90
  let c384_i32_93 : BitVec 32 := 384#32
  let v182 : BitVec 32 := Scalar.muli v177 c384_i32_93
  v182
def k0_mult21 (i : grid0.Coords) : BitVec 32 :=
  let arg1 : BitVec 32 := BitVec.ofNat 32 (i 1).val
  let c1_i32_90 : BitVec 32 := 1#32
  let v177 : BitVec 32 := Scalar.subi arg1 c1_i32_90
  let c384_i32_95 : BitVec 32 := 384#32
  let v186 : BitVec 32 := Scalar.muli v177 c384_i32_95
  v186
def k0_off8 (i : grid0.Coords) : Fin 4 → Nat :=
  let c0_98 : Index := 0#32
  let arg1 : BitVec 32 := BitVec.ofNat 32 (i 1).val
  let c1_i32_90 : BitVec 32 := 1#32
  let v177 : BitVec 32 := Scalar.subi arg1 c1_i32_90
  let v193 : Index := Scalar.indexCast v177
  let c0_99 : Index := 0#32
  let c0_100 : Index := 0#32
  ![0, v193.toNat, 0, 0]
@[reducible] def k0_t5_loop (i : grid0.Coords) : Scf.Loop 32 :=
  let c0_i32_80 : BitVec 32 := 0#32
  let arg1 : BitVec 32 := BitVec.ofNat 32 (i 1).val
  let c1_i32_79 : BitVec 32 := 1#32
  let v162 : BitVec 32 := Scalar.minsi arg1 c1_i32_79
  let v163 : BitVec 32 := Scalar.subi v162 c0_i32_80
  let c1_i32_81 : BitVec 32 := 1#32
  let v165 : BitVec 32 := Scalar.divsi v163 c1_i32_81
  let v166 : BitVec 32 := Scalar.muli v165 c1_i32_81
  let v167 : BitVec 32 := Scalar.addi c0_i32_80 v166
  let c1_i32_82 : BitVec 32 := 1#32
  ⟨c0_i32_80, v167, c1_i32_82⟩
def k0_mult22 (i : grid0.Coords) : BitVec 32 :=
  let arg1 : BitVec 32 := BitVec.ofNat 32 (i 1).val
  let c384_i32_90 : BitVec 32 := 384#32
  let v177 : BitVec 32 := Scalar.muli arg1 c384_i32_90
  v177
def k0_off9 (i : grid0.Coords) : Fin 2 → Nat :=
  let arg1 : BitVec 32 := BitVec.ofNat 32 (i 1).val
  let c384_i32_90 : BitVec 32 := 384#32
  let v177 : BitVec 32 := Scalar.muli arg1 c384_i32_90
  let v178 : BitVec 32 := v177
  let v179 : Index := Scalar.indexCast v178
  let c0_91 : Index := 0#32
  ![v179.toNat, 0]
def k0_mult23 (i : grid0.Coords) : BitVec 32 :=
  let arg1 : BitVec 32 := BitVec.ofNat 32 (i 1).val
  let c384_i32_92 : BitVec 32 := 384#32
  let v181 : BitVec 32 := Scalar.muli arg1 c384_i32_92
  v181
def k0_mult24 (i : grid0.Coords) : BitVec 32 :=
  let arg1 : BitVec 32 := BitVec.ofNat 32 (i 1).val
  let c384_i32_94 : BitVec 32 := 384#32
  let v185 : BitVec 32 := Scalar.muli arg1 c384_i32_94
  v185
def k0_off10 (i : grid0.Coords) : Fin 4 → Nat :=
  let c0_97 : Index := 0#32
  let arg1 : BitVec 32 := BitVec.ofNat 32 (i 1).val
  let v192 : Index := Scalar.indexCast arg1
  let c0_98 : Index := 0#32
  let c0_99 : Index := 0#32
  ![0, v192.toNat, 0, 0]
@[reducible] def k0_t6_loop (i : grid0.Coords) : Scf.Loop 32 :=
  let c0_i32_80 : BitVec 32 := 0#32
  let arg1 : BitVec 32 := BitVec.ofNat 32 (i 1).val
  let c1_i32_79 : BitVec 32 := 1#32
  let v162 : BitVec 32 := Scalar.minsi arg1 c1_i32_79
  let v163 : BitVec 32 := Scalar.subi v162 c0_i32_80
  let c1_i32_81 : BitVec 32 := 1#32
  let v165 : BitVec 32 := Scalar.divsi v163 c1_i32_81
  let v166 : BitVec 32 := Scalar.muli v165 c1_i32_81
  let v167 : BitVec 32 := Scalar.addi c0_i32_80 v166
  let v164 : BitVec 32 := Scalar.addi c0_i32_80 v163
  let c1_i32_83 : BitVec 32 := 1#32
  ⟨v167, v164, c1_i32_83⟩
def k0_mult25 (i : grid0.Coords) : BitVec 32 :=
  let arg1 : BitVec 32 := BitVec.ofNat 32 (i 1).val
  let c384_i32_90 : BitVec 32 := 384#32
  let v177 : BitVec 32 := Scalar.muli arg1 c384_i32_90
  v177
def k0_off11 (i : grid0.Coords) : Fin 2 → Nat :=
  let arg1 : BitVec 32 := BitVec.ofNat 32 (i 1).val
  let c384_i32_90 : BitVec 32 := 384#32
  let v177 : BitVec 32 := Scalar.muli arg1 c384_i32_90
  let v178 : BitVec 32 := v177
  let v179 : Index := Scalar.indexCast v178
  let c0_91 : Index := 0#32
  ![v179.toNat, 0]
def k0_mult26 (i : grid0.Coords) : BitVec 32 :=
  let arg1 : BitVec 32 := BitVec.ofNat 32 (i 1).val
  let c384_i32_92 : BitVec 32 := 384#32
  let v181 : BitVec 32 := Scalar.muli arg1 c384_i32_92
  v181
def k0_mult27 (i : grid0.Coords) : BitVec 32 :=
  let arg1 : BitVec 32 := BitVec.ofNat 32 (i 1).val
  let c384_i32_94 : BitVec 32 := 384#32
  let v185 : BitVec 32 := Scalar.muli arg1 c384_i32_94
  v185
def k0_off12 (i : grid0.Coords) : Fin 4 → Nat :=
  let c0_97 : Index := 0#32
  let arg1 : BitVec 32 := BitVec.ofNat 32 (i 1).val
  let v192 : Index := Scalar.indexCast arg1
  let c0_98 : Index := 0#32
  let c0_99 : Index := 0#32
  ![0, v192.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4224x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4224x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x384x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x384x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x11x1x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S384x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4224x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S4224x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x384x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x11x1x384 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S4224x6144 : Shape := ⟨2, ![4224, 6144]⟩
abbrev S8x4224 : Shape := ⟨2, ![8, 4224]⟩
abbrev S1x1024 : Shape := ⟨2, ![1, 1024]⟩
abbrev S4224x1024 : Shape := ⟨2, ![4224, 1024]⟩
abbrev S4224x8x128 : Shape := ⟨3, ![4224, 8, 128]⟩
abbrev S8x4224x128 : Shape := ⟨3, ![8, 4224, 128]⟩
abbrev S4224 : Shape := ⟨1, ![4224]⟩
abbrev S8x4224x4224 : Shape := ⟨3, ![8, 4224, 4224]⟩
abbrev S_ : Shape := ⟨0, ![]⟩
abbrev S8x4224x1 : Shape := ⟨3, ![8, 4224, 1]⟩
abbrev S8x1x4224 : Shape := ⟨3, ![8, 1, 4224]⟩
abbrev S1x4224 : Shape := ⟨2, ![1, 4224]⟩
abbrev S4224x1 : Shape := ⟨2, ![4224, 1]⟩
abbrev S4224x4224 : Shape := ⟨2, ![4224, 4224]⟩
abbrev S8x4112x128 : Shape := ⟨3, ![8, 4112, 128]⟩
abbrev S8x4112 : Shape := ⟨2, ![8, 4112]⟩
abbrev S8x4112x1 : Shape := ⟨3, ![8, 4112, 1]⟩
abbrev S4112x8x128 : Shape := ⟨3, ![4112, 8, 128]⟩
abbrev S4112x1024 : Shape := ⟨2, ![4112, 1024]⟩
abbrev S1024 : Shape := ⟨1, ![1024]⟩
abbrev S8x128x4224 : Shape := ⟨3, ![8, 128, 4224]⟩
abbrev S8x11x1x384 : Shape := ⟨4, ![8, 11, 1, 384]⟩

abbrev nBuf : Space → Nat
  | .hbm => 185
  | .vmem => 0
  | .smem => 0
  | _ => 0

abbrev hbmTy0_0 (i : Nat) : BufTy := match i % 128 with
  | 0 => ⟨S4224x6144, .bf16⟩
  | 1 => ⟨S8x4224, .f32⟩
  | 2 => ⟨S1x1024, .f32⟩
  | 3 => ⟨S4224x1024, .f32⟩
  | 4 => ⟨S4224x1024, .bf16⟩
  | 5 => ⟨S4224x1024, .f32⟩
  | 6 => ⟨S4224x1024, .bf16⟩
  | 7 => ⟨S4224x1024, .f32⟩
  | 8 => ⟨S4224x1024, .bf16⟩
  | 9 => ⟨S4224x1024, .f32⟩
  | 10 => ⟨S4224x8x128, .f32⟩
  | 11 => ⟨S8x4224x128, .f32⟩
  | 12 => ⟨S4224x8x128, .f32⟩
  | 13 => ⟨S8x4224x128, .f32⟩
  | 14 => ⟨S4224x8x128, .f32⟩
  | 15 => ⟨S8x4224x128, .f32⟩
  | 16 => ⟨S4224, .i32⟩
  | 17 => ⟨S8x4224x4224, .f32⟩
  | 18 => ⟨S_, .f32⟩
  | 19 => ⟨S8x4224x4224, .f32⟩
  | 20 => ⟨S8x4224x4224, .f32⟩
  | 21 => ⟨S8x4224x1, .f32⟩
  | 22 => ⟨S8x4224x4224, .f32⟩
  | 23 => ⟨S8x4224x4224, .f32⟩
  | 24 => ⟨S8x1x4224, .f32⟩
  | 25 => ⟨S8x4224x4224, .f32⟩
  | 26 => ⟨S8x4224x4224, .f32⟩
  | 27 => ⟨S1x4224, .i32⟩
  | 28 => ⟨S4224x1, .i32⟩
  | 29 => ⟨S4224x4224, .i32⟩
  | 30 => ⟨S4224x4224, .i32⟩
  | 31 => ⟨S4224x4224, .i1⟩
  | 32 => ⟨S1x4224, .i32⟩
  | 33 => ⟨S_, .i32⟩
  | 34 => ⟨S1x4224, .i32⟩
  | 35 => ⟨S1x4224, .i1⟩
  | 36 => ⟨S1x4224, .i32⟩
  | 37 => ⟨S4224x1, .i32⟩
  | 38 => ⟨S4224x4224, .i32⟩
  | 39 => ⟨S4224x4224, .i32⟩
  | 40 => ⟨S4224x4224, .i1⟩
  | 41 => ⟨S4224x4224, .i1⟩
  | 42 => ⟨S4224x4224, .i1⟩
  | 43 => ⟨S4224x4224, .i1⟩
  | 44 => ⟨S_, .f32⟩
  | 45 => ⟨S_, .f32⟩
  | 46 => ⟨S8x4224x4224, .i1⟩
  | 47 => ⟨S8x4224x4224, .f32⟩
  | 48 => ⟨S8x4224x4224, .f32⟩
  | 49 => ⟨S_, .f32⟩
  | 50 => ⟨S8x4224x4224, .f32⟩
  | 51 => ⟨S_, .f32⟩
  | 52 => ⟨S8x4224, .f32⟩
  | 53 => ⟨S8x4224x1, .f32⟩
  | 54 => ⟨S8x4224x4224, .f32⟩
  | 55 => ⟨S8x4224x4224, .i1⟩
  | 56 => ⟨S8x4224x4224, .f32⟩
  | 57 => ⟨S_, .f32⟩
  | 58 => ⟨S8x4224, .f32⟩
  | 59 => ⟨S_, .f32⟩
  | 60 => ⟨S8x4224, .f32⟩
  | 61 => ⟨S8x4224, .f32⟩
  | 62 => ⟨S_, .f32⟩
  | 63 => ⟨S8x4224, .f32⟩
  | 64 => ⟨S8x4224, .i1⟩
  | 65 => ⟨S_, .f32⟩
  | 66 => ⟨S8x4224, .f32⟩
  | 67 => ⟨S8x4224, .i1⟩
  | 68 => ⟨S_, .f32⟩
  | 69 => ⟨S8x4224, .f32⟩
  | 70 => ⟨S_, .f32⟩
  | 71 => ⟨S8x4224, .f32⟩
  | 72 => ⟨S_, .f32⟩
  | 73 => ⟨S8x4224, .f32⟩
  | 74 => ⟨S8x4224, .f32⟩
  | 75 => ⟨S8x4224, .f32⟩
  | 76 => ⟨S8x4224x1, .f32⟩
  | 77 => ⟨S8x4224x4224, .f32⟩
  | 78 => ⟨S8x4224x4224, .f32⟩
  | 79 => ⟨S8x4224x4224, .f32⟩
  | 80 => ⟨S_, .f32⟩
  | 81 => ⟨S8x4224, .f32⟩
  | 82 => ⟨S8x4224x1, .f32⟩
  | 83 => ⟨S8x4224x4224, .f32⟩
  | 84 => ⟨S8x4224x4224, .f32⟩
  | 85 => ⟨S8x4224x1, .f32⟩
  | 86 => ⟨S_, .f32⟩
  | 87 => ⟨S8x4224x1, .f32⟩
  | 88 => ⟨S8x4224x1, .f32⟩
  | 89 => ⟨S8x4224x128, .f32⟩
  | 90 => ⟨S8x4112x128, .f32⟩
  | 91 => ⟨S8x4112x128, .f32⟩
  | 92 => ⟨S_, .f32⟩
  | 93 => ⟨S8x4112, .f32⟩
  | 94 => ⟨S8x4112x1, .f32⟩
  | 95 => ⟨S_, .f32⟩
  | 96 => ⟨S8x4112x1, .f32⟩
  | 97 => ⟨S8x4112x1, .f32⟩
  | 98 => ⟨S_, .f32⟩
  | 99 => ⟨S8x4112x1, .f32⟩
  | 100 => ⟨S8x4112x1, .f32⟩
  | 101 => ⟨S8x4112x1, .f32⟩
  | 102 => ⟨S8x4112x1, .f32⟩
  | 103 => ⟨S_, .f32⟩
  | 104 => ⟨S8x4112x1, .f32⟩
  | 105 => ⟨S8x4112x1, .f32⟩
  | 106 => ⟨S8x4112x128, .f32⟩
  | 107 => ⟨S8x4112x128, .f32⟩
  | 108 => ⟨S4112x8x128, .f32⟩
  | 109 => ⟨S4112x1024, .f32⟩
  | 110 => ⟨S4112x1024, .f32⟩
  | 111 => ⟨S4112x1024, .f32⟩
  | 112 => ⟨S4112x1024, .f32⟩
  | 113 => ⟨S4112x1024, .f32⟩
  | 114 => ⟨S_, .f32⟩
  | 115 => ⟨S1024, .f32⟩
  | 116 => ⟨S1x1024, .f32⟩
  | 117 => ⟨S4112x1024, .f32⟩
  | 118 => ⟨S4112x1024, .f32⟩
  | 119 => ⟨S4112x8x128, .f32⟩
  | 120 => ⟨S8x4112x128, .f32⟩
  | 121 => ⟨S8x4112x128, .f32⟩
  | 122 => ⟨S_, .f32⟩
  | 123 => ⟨S8x4112, .f32⟩
  | 124 => ⟨S8x4112x1, .f32⟩
  | 125 => ⟨S8x4112x128, .f32⟩
  | 126 => ⟨S8x4112x128, .f32⟩
  | 127 => ⟨S8x4112x1, .f32⟩
  | _ => ⟨S4224x6144, .bf16⟩

abbrev hbmTy0_1 (i : Nat) : BufTy := match i % 128 with
  | 0 => ⟨S_, .f32⟩
  | 1 => ⟨S8x4112x1, .f32⟩
  | 2 => ⟨S8x4112x1, .f32⟩
  | 3 => ⟨S_, .f32⟩
  | 4 => ⟨S8x4112, .f32⟩
  | 5 => ⟨S8x4112x128, .f32⟩
  | 6 => ⟨S8x4112x128, .f32⟩
  | 7 => ⟨S8x4112x128, .f32⟩
  | 8 => ⟨S8x4112x128, .f32⟩
  | 9 => ⟨S8x4112x128, .f32⟩
  | 10 => ⟨S_, .f32⟩
  | 11 => ⟨S8x4224x128, .f32⟩
  | 12 => ⟨S8x128x4224, .f32⟩
  | 13 => ⟨S8x4224x128, .f32⟩
  | 14 => ⟨S8x4224x4224, .f32⟩
  | 15 => ⟨S8x4224x4224, .f32⟩
  | 16 => ⟨S8x4224x4224, .f32⟩
  | 17 => ⟨S8x4224x4224, .f32⟩
  | 18 => ⟨S_, .f32⟩
  | 19 => ⟨S8x4224, .f32⟩
  | 20 => ⟨S8x4224x1, .f32⟩
  | 21 => ⟨S8x4224x1, .f32⟩
  | 22 => ⟨S8x4224x4224, .f32⟩
  | 23 => ⟨S8x4224x4224, .f32⟩
  | 24 => ⟨S_, .f32⟩
  | 25 => ⟨S8x4224, .f32⟩
  | 26 => ⟨S8x4224x4224, .f32⟩
  | 27 => ⟨S8x4224x4224, .f32⟩
  | 28 => ⟨S8x4224x4224, .f32⟩
  | 29 => ⟨S_, .f32⟩
  | 30 => ⟨S8x4224x4224, .f32⟩
  | 31 => ⟨S8x4224x4224, .f32⟩
  | 32 => ⟨S8x4224x4224, .f32⟩
  | 33 => ⟨S_, .f32⟩
  | 34 => ⟨S8x4224, .f32⟩
  | 35 => ⟨S8x1x4224, .f32⟩
  | 36 => ⟨S_, .f32⟩
  | 37 => ⟨S8x4224, .f32⟩
  | 38 => ⟨S_, .f32⟩
  | 39 => ⟨S8x4224, .f32⟩
  | 40 => ⟨S8x4224x1, .f32⟩
  | 41 => ⟨S_, .f32⟩
  | 42 => ⟨S8x4224, .f32⟩
  | 43 => ⟨S_, .f32⟩
  | 44 => ⟨S8x4224x4224, .f32⟩
  | 45 => ⟨S8x4224x4224, .f32⟩
  | 46 => ⟨S8x4224x128, .f32⟩
  | 47 => ⟨S8x4224x128, .f32⟩
  | 48 => ⟨S4224x8x128, .f32⟩
  | 49 => ⟨S4224x1024, .f32⟩
  | 50 => ⟨S4224x8x128, .f32⟩
  | 51 => ⟨S4224x1024, .f32⟩
  | 52 => ⟨S4224x8x128, .f32⟩
  | 53 => ⟨S4224x1024, .f32⟩
  | 54 => ⟨S4224x1024, .bf16⟩
  | 55 => ⟨S8x4224x1, .f32⟩
  | 56 => ⟨S8x11x1x384, .f32⟩
  | _ => ⟨S4224x6144, .bf16⟩

abbrev hbmTy (i : Nat) : BufTy := match i / 128 with
  | 0 => hbmTy0_0 i
  | 1 => hbmTy0_1 i
  | _ => ⟨S4224x6144, .bf16⟩

abbrev bufTy : (tb : Table) → Fin (tcTables nBuf tb) → BufTy
  | .hbm, ⟨i, _⟩ => hbmTy i
  | _, _ => ⟨S4224x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_c : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_0 : Ref sig .tc := ⟨.hbm, 44, rfl⟩
abbrev main_call0_v0 : Ref sig .tc := ⟨.hbm, 45, rfl⟩
abbrev main_v38_1 : Ref sig .tc := ⟨.hbm, 46, rfl⟩
abbrev main_call0_v2 : Ref sig .tc := ⟨.hbm, 47, rfl⟩
abbrev main_v38_0 : Ref sig .tc := ⟨.hbm, 48, rfl⟩
abbrev main_call0_cst : Ref sig .tc := ⟨.hbm, 49, rfl⟩
abbrev main_v38_2 : Ref sig .tc := ⟨.hbm, 50, rfl⟩
abbrev main_cst_1 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_2 : Ref sig .tc := ⟨.hbm, 57, rfl⟩
abbrev main_v44 : Ref sig .tc := ⟨.hbm, 58, rfl⟩
abbrev main_cst_3 : Ref sig .tc := ⟨.hbm, 59, rfl⟩
abbrev main_v45 : Ref sig .tc := ⟨.hbm, 60, rfl⟩
abbrev main_v46 : Ref sig .tc := ⟨.hbm, 61, rfl⟩
abbrev main_cst_4 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_cst_6 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_10 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_11 : Ref sig .tc := ⟨.hbm, 92, rfl⟩
abbrev main_v70 : Ref sig .tc := ⟨.hbm, 93, rfl⟩
abbrev main_v71 : Ref sig .tc := ⟨.hbm, 94, rfl⟩
abbrev main_cst_12 : Ref sig .tc := ⟨.hbm, 95, rfl⟩
abbrev main_v72 : Ref sig .tc := ⟨.hbm, 96, rfl⟩
abbrev main_v73 : Ref sig .tc := ⟨.hbm, 97, rfl⟩
abbrev main_cst_13 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_15 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_16 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_17 : Ref sig .tc := ⟨.hbm, 128, rfl⟩
abbrev main_v100 : Ref sig .tc := ⟨.hbm, 129, rfl⟩
abbrev main_v101 : Ref sig .tc := ⟨.hbm, 130, rfl⟩
abbrev main_cst_18 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_19 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_cst_20 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_21 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_call1_cst : Ref sig .tc := ⟨.hbm, 157, rfl⟩
abbrev main_call1_v0 : Ref sig .tc := ⟨.hbm, 158, rfl⟩
abbrev main_v124 : Ref sig .tc := ⟨.hbm, 159, rfl⟩
abbrev main_v125 : Ref sig .tc := ⟨.hbm, 160, rfl⟩
abbrev main_cst_22 : Ref sig .tc := ⟨.hbm, 161, rfl⟩
abbrev main_v126 : Ref sig .tc := ⟨.hbm, 162, rfl⟩
abbrev main_v127 : Ref sig .tc := ⟨.hbm, 163, rfl⟩
abbrev main_cst_23 : Ref sig .tc := ⟨.hbm, 164, rfl⟩
abbrev main_v128 : Ref sig .tc := ⟨.hbm, 165, rfl⟩
abbrev main_cst_24 : Ref sig .tc := ⟨.hbm, 166, rfl⟩
abbrev main_v129 : Ref sig .tc := ⟨.hbm, 167, rfl⟩
abbrev main_v130 : Ref sig .tc := ⟨.hbm, 168, rfl⟩
abbrev main_cst_25 : Ref sig .tc := ⟨.hbm, 169, rfl⟩
abbrev main_v131 : Ref sig .tc := ⟨.hbm, 170, rfl⟩
abbrev main_cst_26 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩

abbrev nD : Nat := 1
abbrev τ : Topo := Topo.v7x

variable {F : FTy → Type} [FloatOps F]
-- ==== Kernel2.lean ====
abbrev S4224x2048 : Shape := ⟨2, ![4224, 2048]⟩
abbrev S5632x2048 : Shape := ⟨2, ![5632, 2048]⟩
abbrev S4224x5632 : Shape := ⟨2, ![4224, 5632]⟩
abbrev S8x704x2048 : Shape := ⟨3, ![8, 704, 2048]⟩
abbrev S4224x8x704 : Shape := ⟨3, ![4224, 8, 704]⟩
abbrev S8x4224x704 : Shape := ⟨3, ![8, 4224, 704]⟩
abbrev S1056x2048 : Shape := ⟨2, ![1056, 2048]⟩
abbrev S1x704x2048 : Shape := ⟨3, ![1, 704, 2048]⟩
abbrev S1x1056x704 : Shape := ⟨3, ![1, 1056, 704]⟩
abbrev S704x2048 : Shape := ⟨2, ![704, 2048]⟩
abbrev S1056x704 : Shape := ⟨2, ![1056, 704]⟩

abbrev nBuf : Space → Nat
  | .hbm => 15
  | .vmem => 12
  | .smem => 0
  | _ => 0

abbrev bufTy : (tb : Table) → Fin (tcTables nBuf tb) → BufTy
  | .hbm, ⟨0, _⟩ => ⟨S4224x2048, .f32⟩
  | .hbm, ⟨1, _⟩ => ⟨S5632x2048, .f32⟩
  | .hbm, ⟨2, _⟩ => ⟨S4224x5632, .f32⟩
  | .hbm, ⟨3, _⟩ => ⟨S4224x5632, .f32⟩
  | .hbm, ⟨4, _⟩ => ⟨S4224x2048, .bf16⟩
  | .hbm, ⟨5, _⟩ => ⟨S5632x2048, .bf16⟩
  | .hbm, ⟨6, _⟩ => ⟨S8x704x2048, .bf16⟩
  | .hbm, ⟨7, _⟩ => ⟨S4224x5632, .bf16⟩
  | .hbm, ⟨8, _⟩ => ⟨S4224x8x704, .bf16⟩
  | .hbm, ⟨9, _⟩ => ⟨S8x4224x704, .bf16⟩
  | .hbm, ⟨10, _⟩ => ⟨S4224x5632, .bf16⟩
  | .hbm, ⟨11, _⟩ => ⟨S4224x8x704, .bf16⟩
  | .hbm, ⟨12, _⟩ => ⟨S8x4224x704, .bf16⟩
  | .hbm, ⟨13, _⟩ => ⟨S8x4224x704, .bf16⟩
  | .hbm, ⟨14, _⟩ => ⟨S8x4224x704, .bf16⟩
  | .local _ .vmem, ⟨0, _⟩ => ⟨S1056x2048, .bf16⟩
  | .local _ .vmem, ⟨1, _⟩ => ⟨S1056x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x1056x704, .bf16⟩
  | .local _ .vmem, ⟨5, _⟩ => ⟨S1x1056x704, .bf16⟩
  | .local _ .vmem, ⟨6, _⟩ => ⟨S1x1056x704, .bf16⟩
  | .local _ .vmem, ⟨7, _⟩ => ⟨S1x1056x704, .bf16⟩
  | .local _ .vmem, ⟨8, _⟩ => ⟨S1x1056x704, .bf16⟩
  | .local _ .vmem, ⟨9, _⟩ => ⟨S1x1056x704, .bf16⟩
  | .local _ .vmem, ⟨10, _⟩ => ⟨S1x1056x704, .bf16⟩
  | .local _ .vmem, ⟨11, _⟩ => ⟨S1x1056x704, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1056x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1056x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1056x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1056x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4224x2048 : Shape := ⟨2, ![4224, 2048]⟩
abbrev S5632x2048 : Shape := ⟨2, ![5632, 2048]⟩
abbrev S4224x5632 : Shape := ⟨2, ![4224, 5632]⟩
abbrev S_ : Shape := ⟨0, ![]⟩
abbrev S4224x8x704 : Shape := ⟨3, ![4224, 8, 704]⟩
abbrev S8x4224x704 : Shape := ⟨3, ![8, 4224, 704]⟩

abbrev nBuf : Space → Nat
  | .hbm => 38
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S5632x2048, .f32⟩
  | .hbm, ⟨2, _⟩ => ⟨S4224x5632, .f32⟩
  | .hbm, ⟨3, _⟩ => ⟨S4224x5632, .f32⟩
  | .hbm, ⟨4, _⟩ => ⟨S4224x5632, .f32⟩
  | .hbm, ⟨5, _⟩ => ⟨S4224x5632, .f32⟩
  | .hbm, ⟨6, _⟩ => ⟨S_, .f32⟩
  | .hbm, ⟨7, _⟩ => ⟨S4224x5632, .f32⟩
  | .hbm, ⟨8, _⟩ => ⟨S4224x5632, .f32⟩
  | .hbm, ⟨9, _⟩ => ⟨S_, .f32⟩
  | .hbm, ⟨10, _⟩ => ⟨S4224x5632, .f32⟩
  | .hbm, ⟨11, _⟩ => ⟨S4224x5632, .f32⟩
  | .hbm, ⟨12, _⟩ => ⟨S_, .f32⟩
  | .hbm, ⟨13, _⟩ => ⟨S4224x5632, .f32⟩
  | .hbm, ⟨14, _⟩ => ⟨S4224x5632, .f32⟩
  | .hbm, ⟨15, _⟩ => ⟨S4224x5632, .f32⟩
  | .hbm, ⟨16, _⟩ => ⟨S4224x5632, .f32⟩
  | .hbm, ⟨17, _⟩ => ⟨S4224x5632, .f32⟩
  | .hbm, ⟨18, _⟩ => ⟨S4224x2048, .f32⟩
  | .hbm, ⟨19, _⟩ => ⟨S_, .f32⟩
  | .hbm, ⟨20, _⟩ => ⟨S4224x2048, .f32⟩
  | .hbm, ⟨21, _⟩ => ⟨S4224x2048, .f32⟩
  | .hbm, ⟨22, _⟩ => ⟨S_, .f32⟩
  | .hbm, ⟨23, _⟩ => ⟨S4224x2048, .f32⟩
  | .hbm, ⟨24, _⟩ => ⟨S4224x2048, .f32⟩
  | .hbm, ⟨25, _⟩ => ⟨S4224x5632, .f32⟩
  | .hbm, ⟨26, _⟩ => ⟨S4224x5632, .f32⟩
  | .hbm, ⟨27, _⟩ => ⟨S4224x5632, .f32⟩
  | .hbm, ⟨28, _⟩ => ⟨S4224x5632, .f32⟩
  | .hbm, ⟨29, _⟩ => ⟨S4224x5632, .f32⟩
  | .hbm, ⟨30, _⟩ => ⟨S4224x5632, .f32⟩
  | .hbm, ⟨31, _⟩ => ⟨S4224x5632, .f32⟩
  | .hbm, ⟨32, _⟩ => ⟨S4224x5632, .bf16⟩
  | .hbm, ⟨33, _⟩ => ⟨S4224x8x704, .bf16⟩
  | .hbm, ⟨34, _⟩ => ⟨S8x4224x704, .bf16⟩
  | .hbm, ⟨35, _⟩ => ⟨S4224x5632, .bf16⟩
  | .hbm, ⟨36, _⟩ => ⟨S4224x8x704, .bf16⟩
  | .hbm, ⟨37, _⟩ => ⟨S8x4224x704, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== Kernel3.lean ====
abbrev S4224x5632 : Shape := ⟨2, ![4224, 5632]⟩
abbrev S2048x5632 : Shape := ⟨2, ![2048, 5632]⟩
abbrev S4224x8x704 : Shape := ⟨3, ![4224, 8, 704]⟩
abbrev S8x4224x704 : Shape := ⟨3, ![8, 4224, 704]⟩
abbrev S5632x2048 : Shape := ⟨2, ![5632, 2048]⟩
abbrev S8x704x2048 : Shape := ⟨3, ![8, 704, 2048]⟩
abbrev S4224x2048 : Shape := ⟨2, ![4224, 2048]⟩
abbrev S2x1056x704 : Shape := ⟨3, ![2, 1056, 704]⟩
abbrev S2x704x1024 : Shape := ⟨3, ![2, 704, 1024]⟩
abbrev S1056x1024 : Shape := ⟨2, ![1056, 1024]⟩
abbrev S1x1056x704 : Shape := ⟨3, ![1, 1056, 704]⟩
abbrev S1056x704 : Shape := ⟨2, ![1056, 704]⟩
abbrev S1x704x1024 : Shape := ⟨3, ![1, 704, 1024]⟩
abbrev S704x1024 : Shape := ⟨2, ![704, 1024]⟩

abbrev nBuf : Space → Nat
  | .hbm => 17
  | .vmem => 11
  | .smem => 0
  | _ => 0

abbrev bufTy : (tb : Table) → Fin (tcTables nBuf tb) → BufTy
  | .hbm, ⟨0, _⟩ => ⟨S4224x5632, .f32⟩
  | .hbm, ⟨1, _⟩ => ⟨S4224x5632, .f32⟩
  | .hbm, ⟨2, _⟩ => ⟨S2048x5632, .f32⟩
  | .hbm, ⟨3, _⟩ => ⟨S2048x5632, .f32⟩
  | .hbm, ⟨4, _⟩ => ⟨S4224x5632, .bf16⟩
  | .hbm, ⟨5, _⟩ => ⟨S4224x8x704, .bf16⟩
  | .hbm, ⟨6, _⟩ => ⟨S8x4224x704, .bf16⟩
  | .hbm, ⟨7, _⟩ => ⟨S5632x2048, .f32⟩
  | .hbm, ⟨8, _⟩ => ⟨S5632x2048, .bf16⟩
  | .hbm, ⟨9, _⟩ => ⟨S8x704x2048, .bf16⟩
  | .hbm, ⟨10, _⟩ => ⟨S4224x5632, .bf16⟩
  | .hbm, ⟨11, _⟩ => ⟨S4224x8x704, .bf16⟩
  | .hbm, ⟨12, _⟩ => ⟨S8x4224x704, .bf16⟩
  | .hbm, ⟨13, _⟩ => ⟨S5632x2048, .f32⟩
  | .hbm, ⟨14, _⟩ => ⟨S5632x2048, .bf16⟩
  | .hbm, ⟨15, _⟩ => ⟨S8x704x2048, .bf16⟩
  | .hbm, ⟨16, _⟩ => ⟨S4224x2048, .f32⟩
  | .local _ .vmem, ⟨0, _⟩ => ⟨S2x1056x704, .bf16⟩
  | .local _ .vmem, ⟨1, _⟩ => ⟨S2x1056x704, .bf16⟩
  | .local _ .vmem, ⟨2, _⟩ => ⟨S2x704x1024, .bf16⟩
  | .local _ .vmem, ⟨3, _⟩ => ⟨S2x704x1024, .bf16⟩
  | .local _ .vmem, ⟨4, _⟩ => ⟨S2x1056x704, .bf16⟩
  | .local _ .vmem, ⟨5, _⟩ => ⟨S2x1056x704, .bf16⟩
  | .local _ .vmem, ⟨6, _⟩ => ⟨S2x704x1024, .bf16⟩
  | .local _ .vmem, ⟨7, _⟩ => ⟨S2x704x1024, .bf16⟩
  | .local _ .vmem, ⟨8, _⟩ => ⟨S1056x1024, .f32⟩
  | .local _ .vmem, ⟨9, _⟩ => ⟨S1056x1024, .f32⟩
  | .local _ .vmem, ⟨10, _⟩ => ⟨S1056x1024, .f32⟩
  | _, _ => ⟨S4224x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v29 : BitVec 1 := Scalar.cmpi .eq arg2 c3_i32
  let v30 : BitVec 32 := Scalar.extui v29
  let c0_i32_28 : BitVec 32 := 0#32
  let v31 : BitVec 1 := Scalar.cmpi .ne v30 c0_i32_28
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2x1056x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1056x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1056x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S4224x5632 : Shape := ⟨2, ![4224, 5632]⟩
abbrev S2048x5632 : Shape := ⟨2, ![2048, 5632]⟩
abbrev S_ : Shape := ⟨0, ![]⟩
abbrev S4224x2048 : Shape := ⟨2, ![4224, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4224x5632, .f32⟩
  | .hbm, ⟨1, _⟩ => ⟨S4224x5632, .f32⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S4224x2048, .f32⟩
  | .hbm, ⟨6, _⟩ => ⟨S4224x5632, .f32⟩
  | .hbm, ⟨7, _⟩ => ⟨S4224x5632, .f32⟩
  | .hbm, ⟨8, _⟩ => ⟨S4224x2048, .f32⟩
  | .hbm, ⟨9, _⟩ => ⟨S4224x2048, .f32⟩
  | .hbm, ⟨10, _⟩ => ⟨S4224x2048, .f32⟩
  | _, _ => ⟨S4224x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel4.lean ====
abbrev S4224x5632 : Shape := ⟨2, ![4224, 5632]⟩
abbrev S4224x2048 : Shape := ⟨2, ![4224, 2048]⟩
abbrev S4224x8x704 : Shape := ⟨3, ![4224, 8, 704]⟩
abbrev S8x4224x704 : Shape := ⟨3, ![8, 4224, 704]⟩
abbrev S8x704x2048 : Shape := ⟨3, ![8, 704, 2048]⟩
abbrev S1x2112x704 : Shape := ⟨3, ![1, 2112, 704]⟩
abbrev S2112x2048 : Shape := ⟨2, ![2112, 2048]⟩
abbrev S1x704x2048 : Shape := ⟨3, ![1, 704, 2048]⟩
abbrev S704x2048 : Shape := ⟨2, ![704, 2048]⟩
abbrev S2112x704 : Shape := ⟨2, ![2112, 704]⟩

abbrev nBuf : Space → Nat
  | .hbm => 7
  | .vmem => 7
  | .smem => 0
  | _ => 0

abbrev bufTy : (tb : Table) → Fin (tcTables nBuf tb) → BufTy
  | .hbm, ⟨0, _⟩ => ⟨S4224x5632, .f32⟩
  | .hbm, ⟨1, _⟩ => ⟨S4224x2048, .f32⟩
  | .hbm, ⟨2, _⟩ => ⟨S4224x5632, .bf16⟩
  | .hbm, ⟨3, _⟩ => ⟨S4224x8x704, .bf16⟩
  | .hbm, ⟨4, _⟩ => ⟨S8x4224x704, .bf16⟩
  | .hbm, ⟨5, _⟩ => ⟨S4224x2048, .bf16⟩
  | .hbm, ⟨6, _⟩ => ⟨S8x704x2048, .bf16⟩
  | .local _ .vmem, ⟨0, _⟩ => ⟨S1x2112x704, .bf16⟩
  | .local _ .vmem, ⟨1, _⟩ => ⟨S1x2112x704, .bf16⟩
  | .local _ .vmem, ⟨2, _⟩ => ⟨S2112x2048, .bf16⟩
  | .local _ .vmem, ⟨3, _⟩ => ⟨S2112x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S704x2048, .f32⟩
  | _, _ => ⟨S4224x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2112x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2112x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4224x5632 : Shape := ⟨2, ![4224, 5632]⟩
abbrev S4224x2048 : Shape := ⟨2, ![4224, 2048]⟩
abbrev S_ : Shape := ⟨0, ![]⟩
abbrev S2048x5632 : Shape := ⟨2, ![2048, 5632]⟩
abbrev S5632x2048 : Shape := ⟨2, ![5632, 2048]⟩
abbrev S8x704x2048 : Shape := ⟨3, ![8, 704, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4224x5632, .f32⟩
  | .hbm, ⟨1, _⟩ => ⟨S4224x2048, .f32⟩
  | .hbm, ⟨2, _⟩ => ⟨S_, .f32⟩
  | .hbm, ⟨3, _⟩ => ⟨S2048x5632, .f32⟩
  | .hbm, ⟨4, _⟩ => ⟨S4224x5632, .f32⟩
  | .hbm, ⟨5, _⟩ => ⟨S5632x2048, .f32⟩
  | .hbm, ⟨6, _⟩ => ⟨S2048x5632, .f32⟩
  | .hbm, ⟨7, _⟩ => ⟨S5632x2048, .f32⟩
  | .hbm, ⟨8, _⟩ => ⟨S8x704x2048, .f32⟩
  | .hbm, ⟨9, _⟩ => ⟨S8x704x2048, .bf16⟩
  | _, _ => ⟨S4224x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4224x5632 : Shape := ⟨2, ![4224, 5632]⟩
abbrev S4224x2048 : Shape := ⟨2, ![4224, 2048]⟩
abbrev S4224x8x704 : Shape := ⟨3, ![4224, 8, 704]⟩
abbrev S8x4224x704 : Shape := ⟨3, ![8, 4224, 704]⟩
abbrev S8x704x2048 : Shape := ⟨3, ![8, 704, 2048]⟩
abbrev S1x2112x704 : Shape := ⟨3, ![1, 2112, 704]⟩
abbrev S2112x2048 : Shape := ⟨2, ![2112, 2048]⟩
abbrev S1x704x2048 : Shape := ⟨3, ![1, 704, 2048]⟩
abbrev S704x2048 : Shape := ⟨2, ![704, 2048]⟩
abbrev S2112x704 : Shape := ⟨2, ![2112, 704]⟩

abbrev nBuf : Space → Nat
  | .hbm => 7
  | .vmem => 7
  | .smem => 0
  | _ => 0

abbrev bufTy : (tb : Table) → Fin (tcTables nBuf tb) → BufTy
  | .hbm, ⟨0, _⟩ => ⟨S4224x5632, .f32⟩
  | .hbm, ⟨1, _⟩ => ⟨S4224x2048, .f32⟩
  | .hbm, ⟨2, _⟩ => ⟨S4224x5632, .bf16⟩
  | .hbm, ⟨3, _⟩ => ⟨S4224x8x704, .bf16⟩
  | .hbm, ⟨4, _⟩ => ⟨S8x4224x704, .bf16⟩
  | .hbm, ⟨5, _⟩ => ⟨S4224x2048, .bf16⟩
  | .hbm, ⟨6, _⟩ => ⟨S8x704x2048, .bf16⟩
  | .local _ .vmem, ⟨0, _⟩ => ⟨S1x2112x704, .bf16⟩
  | .local _ .vmem, ⟨1, _⟩ => ⟨S1x2112x704, .bf16⟩
  | .local _ .vmem, ⟨2, _⟩ => ⟨S2112x2048, .bf16⟩
  | .local _ .vmem, ⟨3, _⟩ => ⟨S2112x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S704x2048, .f32⟩
  | _, _ => ⟨S4224x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2112x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2112x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4224x5632 : Shape := ⟨2, ![4224, 5632]⟩
abbrev S4224x2048 : Shape := ⟨2, ![4224, 2048]⟩
abbrev S_ : Shape := ⟨0, ![]⟩
abbrev S5632x2048 : Shape := ⟨2, ![5632, 2048]⟩
abbrev S2048x5632 : Shape := ⟨2, ![2048, 5632]⟩
abbrev S8x704x2048 : Shape := ⟨3, ![8, 704, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4224x5632, .f32⟩
  | .hbm, ⟨1, _⟩ => ⟨S4224x2048, .f32⟩
  | .hbm, ⟨2, _⟩ => ⟨S_, .f32⟩
  | .hbm, ⟨3, _⟩ => ⟨S5632x2048, .f32⟩
  | .hbm, ⟨4, _⟩ => ⟨S4224x2048, .f32⟩
  | .hbm, ⟨5, _⟩ => ⟨S_, .f32⟩
  | .hbm, ⟨6, _⟩ => ⟨S4224x2048, .f32⟩
  | .hbm, ⟨7, _⟩ => ⟨S4224x2048, .f32⟩
  | .hbm, ⟨8, _⟩ => ⟨S_, .f32⟩
  | .hbm, ⟨9, _⟩ => ⟨S4224x2048, .f32⟩
  | .hbm, ⟨10, _⟩ => ⟨S4224x2048, .f32⟩
  | .hbm, ⟨11, _⟩ => ⟨S2048x5632, .f32⟩
  | .hbm, ⟨12, _⟩ => ⟨S5632x2048, .f32⟩
  | .hbm, ⟨13, _⟩ => ⟨S8x704x2048, .f32⟩
  | .hbm, ⟨14, _⟩ => ⟨S8x704x2048, .bf16⟩
  | _, _ => ⟨S4224x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel6.lean ====
abbrev S4224x2048 : Shape := ⟨2, ![4224, 2048]⟩
abbrev S2048x5632 : Shape := ⟨2, ![2048, 5632]⟩
abbrev S5632x2048 : Shape := ⟨2, ![5632, 2048]⟩
abbrev S8x704x2048 : Shape := ⟨3, ![8, 704, 2048]⟩
abbrev S8x4224x704 : Shape := ⟨3, ![8, 4224, 704]⟩
abbrev S1056x2048 : Shape := ⟨2, ![1056, 2048]⟩
abbrev S1x704x2048 : Shape := ⟨3, ![1, 704, 2048]⟩
abbrev S1x1056x704 : Shape := ⟨3, ![1, 1056, 704]⟩
abbrev S704x2048 : Shape := ⟨2, ![704, 2048]⟩
abbrev S1056x704 : Shape := ⟨2, ![1056, 704]⟩

abbrev nBuf : Space → Nat
  | .hbm => 13
  | .vmem => 12
  | .smem => 0
  | _ => 0

abbrev bufTy : (tb : Table) → Fin (tcTables nBuf tb) → BufTy
  | .hbm, ⟨0, _⟩ => ⟨S4224x2048, .f32⟩
  | .hbm, ⟨1, _⟩ => ⟨S2048x5632, .f32⟩
  | .hbm, ⟨2, _⟩ => ⟨S2048x5632, .f32⟩
  | .hbm, ⟨3, _⟩ => ⟨S4224x2048, .bf16⟩
  | .hbm, ⟨4, _⟩ => ⟨S5632x2048, .f32⟩
  | .hbm, ⟨5, _⟩ => ⟨S5632x2048, .bf16⟩
  | .hbm, ⟨6, _⟩ => ⟨S8x704x2048, .bf16⟩
  | .hbm, ⟨7, _⟩ => ⟨S5632x2048, .f32⟩
  | .hbm, ⟨8, _⟩ => ⟨S5632x2048, .bf16⟩
  | .hbm, ⟨9, _⟩ => ⟨S8x704x2048, .bf16⟩
  | .hbm, ⟨10, _⟩ => ⟨S8x4224x704, .bf16⟩
  | .hbm, ⟨11, _⟩ => ⟨S8x4224x704, .bf16⟩
  | .hbm, ⟨12, _⟩ => ⟨S8x4224x704, .bf16⟩
  | .local _ .vmem, ⟨0, _⟩ => ⟨S1056x2048, .bf16⟩
  | .local _ .vmem, ⟨1, _⟩ => ⟨S1056x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x1056x704, .bf16⟩
  | .local _ .vmem, ⟨7, _⟩ => ⟨S1x1056x704, .bf16⟩
  | .local _ .vmem, ⟨8, _⟩ => ⟨S1x1056x704, .bf16⟩
  | .local _ .vmem, ⟨9, _⟩ => ⟨S1x1056x704, .bf16⟩
  | .local _ .vmem, ⟨10, _⟩ => ⟨S1x1056x704, .bf16⟩
  | .local _ .vmem, ⟨11, _⟩ => ⟨S1x1056x704, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1056x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1056x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1056x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S4224x2048 : Shape := ⟨2, ![4224, 2048]⟩
abbrev S2048x5632 : Shape := ⟨2, ![2048, 5632]⟩
abbrev S4224x5632 : Shape := ⟨2, ![4224, 5632]⟩
abbrev S_ : Shape := ⟨0, ![]⟩
abbrev S4224x8x704 : Shape := ⟨3, ![4224, 8, 704]⟩
abbrev S8x4224x704 : Shape := ⟨3, ![8, 4224, 704]⟩

abbrev nBuf : Space → Nat
  | .hbm => 24
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x5632, .f32⟩
  | .hbm, ⟨2, _⟩ => ⟨S2048x5632, .f32⟩
  | .hbm, ⟨3, _⟩ => ⟨S4224x5632, .f32⟩
  | .hbm, ⟨4, _⟩ => ⟨S4224x5632, .f32⟩
  | .hbm, ⟨5, _⟩ => ⟨S4224x5632, .f32⟩
  | .hbm, ⟨6, _⟩ => ⟨S4224x5632, .f32⟩
  | .hbm, ⟨7, _⟩ => ⟨S_, .f32⟩
  | .hbm, ⟨8, _⟩ => ⟨S4224x5632, .f32⟩
  | .hbm, ⟨9, _⟩ => ⟨S4224x5632, .f32⟩
  | .hbm, ⟨10, _⟩ => ⟨S_, .f32⟩
  | .hbm, ⟨11, _⟩ => ⟨S4224x5632, .f32⟩
  | .hbm, ⟨12, _⟩ => ⟨S4224x5632, .f32⟩
  | .hbm, ⟨13, _⟩ => ⟨S4224x5632, .f32⟩
  | .hbm, ⟨14, _⟩ => ⟨S4224x5632, .f32⟩
  | .hbm, ⟨15, _⟩ => ⟨S4224x5632, .bf16⟩
  | .hbm, ⟨16, _⟩ => ⟨S4224x8x704, .bf16⟩
  | .hbm, ⟨17, _⟩ => ⟨S8x4224x704, .bf16⟩
  | .hbm, ⟨18, _⟩ => ⟨S4224x5632, .bf16⟩
  | .hbm, ⟨19, _⟩ => ⟨S4224x8x704, .bf16⟩
  | .hbm, ⟨20, _⟩ => ⟨S8x4224x704, .bf16⟩
  | .hbm, ⟨21, _⟩ => ⟨S4224x5632, .bf16⟩
  | .hbm, ⟨22, _⟩ => ⟨S4224x8x704, .bf16⟩
  | .hbm, ⟨23, _⟩ => ⟨S8x4224x704, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Kernel7.lean ====
abbrev S4224x2048 : Shape := ⟨2, ![4224, 2048]⟩
abbrev S4224x5632 : Shape := ⟨2, ![4224, 5632]⟩
abbrev S5632x2048 : Shape := ⟨2, ![5632, 2048]⟩
abbrev S4224x8x704 : Shape := ⟨3, ![4224, 8, 704]⟩
abbrev S8x4224x704 : Shape := ⟨3, ![8, 4224, 704]⟩
abbrev S8x704x2048 : Shape := ⟨3, ![8, 704, 2048]⟩
abbrev S2x1056x704 : Shape := ⟨3, ![2, 1056, 704]⟩
abbrev S2x704x1024 : Shape := ⟨3, ![2, 704, 1024]⟩
abbrev S1056x1024 : Shape := ⟨2, ![1056, 1024]⟩
abbrev S1x1056x704 : Shape := ⟨3, ![1, 1056, 704]⟩
abbrev S1056x704 : Shape := ⟨2, ![1056, 704]⟩
abbrev S1x704x1024 : Shape := ⟨3, ![1, 704, 1024]⟩
abbrev S704x1024 : Shape := ⟨2, ![704, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4224x2048, .f32⟩
  | .hbm, ⟨1, _⟩ => ⟨S4224x5632, .f32⟩
  | .hbm, ⟨2, _⟩ => ⟨S5632x2048, .f32⟩
  | .hbm, ⟨3, _⟩ => ⟨S4224x5632, .bf16⟩
  | .hbm, ⟨4, _⟩ => ⟨S4224x8x704, .bf16⟩
  | .hbm, ⟨5, _⟩ => ⟨S8x4224x704, .bf16⟩
  | .hbm, ⟨6, _⟩ => ⟨S5632x2048, .bf16⟩
  | .hbm, ⟨7, _⟩ => ⟨S8x704x2048, .bf16⟩
  | .hbm, ⟨8, _⟩ => ⟨S4224x2048, .f32⟩
  | .local _ .vmem, ⟨0, _⟩ => ⟨S2x1056x704, .bf16⟩
  | .local _ .vmem, ⟨1, _⟩ => ⟨S2x1056x704, .bf16⟩
  | .local _ .vmem, ⟨2, _⟩ => ⟨S2x704x1024, .bf16⟩
  | .local _ .vmem, ⟨3, _⟩ => ⟨S2x704x1024, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | .local _ .vmem, ⟨7, _⟩ => ⟨S1056x1024, .f32⟩
  | .local _ .vmem, ⟨8, _⟩ => ⟨S1056x1024, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_14 : BitVec 32 := 0#32
  let v19 : BitVec 1 := Scalar.cmpi .ne v18 c0_i32_14
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2x1056x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1056x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4224x2048 : Shape := ⟨2, ![4224, 2048]⟩
abbrev S4224x5632 : Shape := ⟨2, ![4224, 5632]⟩
abbrev S5632x2048 : Shape := ⟨2, ![5632, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x5632, .f32⟩
  | .hbm, ⟨2, _⟩ => ⟨S5632x2048, .f32⟩
  | .hbm, ⟨3, _⟩ => ⟨S4224x2048, .f32⟩
  | .hbm, ⟨4, _⟩ => ⟨S_, .f32⟩
  | .hbm, ⟨5, _⟩ => ⟨S4224x2048, .f32⟩
  | .hbm, ⟨6, _⟩ => ⟨S4224x2048, .f32⟩
  | .hbm, ⟨7, _⟩ => ⟨S4224x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel8.lean ====
abbrev S4224x6152 : Shape := ⟨2, ![4224, 6152]⟩
abbrev S4224x2048 : Shape := ⟨2, ![4224, 2048]⟩
abbrev S_ : Shape := ⟨0, ![]⟩
abbrev S4224x6272 : Shape := ⟨2, ![4224, 6272]⟩
abbrev S6272x2048 : Shape := ⟨2, ![6272, 2048]⟩
abbrev S2112x896 : Shape := ⟨2, ![2112, 896]⟩
abbrev S2112x1024 : Shape := ⟨2, ![2112, 1024]⟩
abbrev S896x1024 : Shape := ⟨2, ![896, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4224x6152, .f32⟩
  | .hbm, ⟨1, _⟩ => ⟨S4224x2048, .f32⟩
  | .hbm, ⟨2, _⟩ => ⟨S4224x6152, .bf16⟩
  | .hbm, ⟨3, _⟩ => ⟨S_, .i32⟩
  | .hbm, ⟨4, _⟩ => ⟨S_, .bf16⟩
  | .hbm, ⟨5, _⟩ => ⟨S4224x6272, .bf16⟩
  | .hbm, ⟨6, _⟩ => ⟨S4224x2048, .bf16⟩
  | .hbm, ⟨7, _⟩ => ⟨S6272x2048, .bf16⟩
  | .local _ .vmem, ⟨0, _⟩ => ⟨S2112x896, .bf16⟩
  | .local _ .vmem, ⟨1, _⟩ => ⟨S2112x896, .bf16⟩
  | .local _ .vmem, ⟨2, _⟩ => ⟨S2112x1024, .bf16⟩
  | .local _ .vmem, ⟨3, _⟩ => ⟨S2112x1024, .bf16⟩
  | .local _ .vmem, ⟨4, _⟩ => ⟨S896x1024, .bf16⟩
  | .local _ .vmem, ⟨5, _⟩ => ⟨S896x1024, .bf16⟩
  | .local _ .vmem, ⟨6, _⟩ => ⟨S896x1024, .f32⟩
  | _, _ => ⟨S4224x6152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4224x6152 : Shape := ⟨2, ![4224, 6152]⟩
abbrev S4224x2048 : Shape := ⟨2, ![4224, 2048]⟩
abbrev S_ : Shape := ⟨0, ![]⟩
abbrev S2048x6152 : Shape := ⟨2, ![2048, 6152]⟩
abbrev S6152x2048 : Shape := ⟨2, ![6152, 2048]⟩
abbrev S6272x2048 : Shape := ⟨2, ![6272, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4224x6152, .f32⟩
  | .hbm, ⟨1, _⟩ => ⟨S4224x2048, .f32⟩
  | .hbm, ⟨2, _⟩ => ⟨S_, .f32⟩
  | .hbm, ⟨3, _⟩ => ⟨S2048x6152, .f32⟩
  | .hbm, ⟨4, _⟩ => ⟨S4224x6152, .f32⟩
  | .hbm, ⟨5, _⟩ => ⟨S6152x2048, .f32⟩
  | .hbm, ⟨6, _⟩ => ⟨S2048x6152, .f32⟩
  | .hbm, ⟨7, _⟩ => ⟨S6152x2048, .f32⟩
  | .hbm, ⟨8, _⟩ => ⟨S6152x2048, .bf16⟩
  | .hbm, ⟨9, _⟩ => ⟨S_, .i32⟩
  | .hbm, ⟨10, _⟩ => ⟨S_, .bf16⟩
  | .hbm, ⟨11, _⟩ => ⟨S6272x2048, .bf16⟩
  | _, _ => ⟨S4224x6152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel9.lean ====
abbrev S4224x6152 : Shape := ⟨2, ![4224, 6152]⟩
abbrev S2048x6152 : Shape := ⟨2, ![2048, 6152]⟩
abbrev S_ : Shape := ⟨0, ![]⟩
abbrev S4224x6272 : Shape := ⟨2, ![4224, 6272]⟩
abbrev S6152x2048 : Shape := ⟨2, ![6152, 2048]⟩
abbrev S6272x2048 : Shape := ⟨2, ![6272, 2048]⟩
abbrev S4224x2048 : Shape := ⟨2, ![4224, 2048]⟩
abbrev S528x6272 : Shape := ⟨2, ![528, 6272]⟩
abbrev S6272x512 : Shape := ⟨2, ![6272, 512]⟩
abbrev S528x512 : Shape := ⟨2, ![528, 512]⟩

abbrev nBuf : Space → Nat
  | .hbm => 12
  | .vmem => 6
  | .smem => 0
  | _ => 0

abbrev bufTy : (tb : Table) → Fin (tcTables nBuf tb) → BufTy
  | .hbm, ⟨0, _⟩ => ⟨S4224x6152, .f32⟩
  | .hbm, ⟨1, _⟩ => ⟨S2048x6152, .f32⟩
  | .hbm, ⟨2, _⟩ => ⟨S4224x6152, .bf16⟩
  | .hbm, ⟨3, _⟩ => ⟨S_, .i32⟩
  | .hbm, ⟨4, _⟩ => ⟨S_, .bf16⟩
  | .hbm, ⟨5, _⟩ => ⟨S4224x6272, .bf16⟩
  | .hbm, ⟨6, _⟩ => ⟨S6152x2048, .f32⟩
  | .hbm, ⟨7, _⟩ => ⟨S6152x2048, .bf16⟩
  | .hbm, ⟨8, _⟩ => ⟨S_, .i32⟩
  | .hbm, ⟨9, _⟩ => ⟨S_, .bf16⟩
  | .hbm, ⟨10, _⟩ => ⟨S6272x2048, .bf16⟩
  | .hbm, ⟨11, _⟩ => ⟨S4224x2048, .f32⟩
  | .local _ .vmem, ⟨0, _⟩ => ⟨S528x6272, .bf16⟩
  | .local _ .vmem, ⟨1, _⟩ => ⟨S528x6272, .bf16⟩
  | .local _ .vmem, ⟨2, _⟩ => ⟨S6272x512, .bf16⟩
  | .local _ .vmem, ⟨3, _⟩ => ⟨S6272x512, .bf16⟩
  | .local _ .vmem, ⟨4, _⟩ => ⟨S528x512, .f32⟩
  | .local _ .vmem, ⟨5, _⟩ => ⟨S528x512, .f32⟩
  | _, _ => ⟨S4224x6152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S528x6272 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S6272x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S528x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4224x6152 : Shape := ⟨2, ![4224, 6152]⟩
abbrev S2048x6152 : Shape := ⟨2, ![2048, 6152]⟩
abbrev S_ : Shape := ⟨0, ![]⟩
abbrev S4224x2048 : Shape := ⟨2, ![4224, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4224x6152, .f32⟩
  | .hbm, ⟨1, _⟩ => ⟨S2048x6152, .f32⟩
  | .hbm, ⟨2, _⟩ => ⟨S_, .f32⟩
  | .hbm, ⟨3, _⟩ => ⟨S4224x2048, .f32⟩
  | .hbm, ⟨4, _⟩ => ⟨S4224x6152, .f32⟩
  | .hbm, ⟨5, _⟩ => ⟨S4224x2048, .f32⟩
  | _, _ => ⟨S4224x6152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S4224x2048 : Shape := ⟨2, ![4224, 2048]⟩
abbrev S1024x2048 : Shape := ⟨2, ![1024, 2048]⟩
abbrev S4224x1024 : Shape := ⟨2, ![4224, 1024]⟩
abbrev S1056x2048 : Shape := ⟨2, ![1056, 2048]⟩
abbrev S1056x1024 : Shape := ⟨2, ![1056, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4224x2048, .f32⟩
  | .hbm, ⟨1, _⟩ => ⟨S1024x2048, .f32⟩
  | .hbm, ⟨2, _⟩ => ⟨S4224x2048, .bf16⟩
  | .hbm, ⟨3, _⟩ => ⟨S1024x2048, .bf16⟩
  | .hbm, ⟨4, _⟩ => ⟨S4224x1024, .f32⟩
  | .local _ .vmem, ⟨0, _⟩ => ⟨S1056x2048, .bf16⟩
  | .local _ .vmem, ⟨1, _⟩ => ⟨S1056x2048, .bf16⟩
  | .local _ .vmem, ⟨2, _⟩ => ⟨S1024x2048, .bf16⟩
  | .local _ .vmem, ⟨3, _⟩ => ⟨S1056x1024, .f32⟩
  | .local _ .vmem, ⟨4, _⟩ => ⟨S1056x1024, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4224x2048 : Shape := ⟨2, ![4224, 2048]⟩
abbrev S1024x2048 : Shape := ⟨2, ![1024, 2048]⟩
abbrev S_ : Shape := ⟨0, ![]⟩
abbrev S4224x1024 : Shape := ⟨2, ![4224, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S1024x2048, .f32⟩
  | .hbm, ⟨2, _⟩ => ⟨S_, .f32⟩
  | .hbm, ⟨3, _⟩ => ⟨S4224x1024, .f32⟩
  | .hbm, ⟨4, _⟩ => ⟨S4224x2048, .f32⟩
  | .hbm, ⟨5, _⟩ => ⟨S4224x1024, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S4224x1024 : Shape := ⟨2, ![4224, 1024]⟩
abbrev S4224x2048 : Shape := ⟨2, ![4224, 2048]⟩
abbrev S1024x2048 : Shape := ⟨2, ![1024, 2048]⟩
abbrev S2112x1024 : Shape := ⟨2, ![2112, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S4224x2048, .f32⟩
  | .hbm, ⟨2, _⟩ => ⟨S4224x1024, .bf16⟩
  | .hbm, ⟨3, _⟩ => ⟨S4224x2048, .bf16⟩
  | .hbm, ⟨4, _⟩ => ⟨S1024x2048, .bf16⟩
  | .local _ .vmem, ⟨0, _⟩ => ⟨S2112x1024, .bf16⟩
  | .local _ .vmem, ⟨1, _⟩ => ⟨S2112x1024, .bf16⟩
  | .local _ .vmem, ⟨2, _⟩ => ⟨S2112x1024, .bf16⟩
  | .local _ .vmem, ⟨3, _⟩ => ⟨S2112x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4224x1024 : Shape := ⟨2, ![4224, 1024]⟩
abbrev S4224x2048 : Shape := ⟨2, ![4224, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x2048, .f32⟩
  | .hbm, ⟨2, _⟩ => ⟨S_, .f32⟩
  | .hbm, ⟨3, _⟩ => ⟨S1024x2048, .f32⟩
  | .hbm, ⟨4, _⟩ => ⟨S4224x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4224x2048 : Shape := ⟨2, ![4224, 2048]⟩
abbrev S2048x6152 : Shape := ⟨2, ![2048, 6152]⟩
abbrev S6152x2048 : Shape := ⟨2, ![6152, 2048]⟩
abbrev S_ : Shape := ⟨0, ![]⟩
abbrev S6272x2048 : Shape := ⟨2, ![6272, 2048]⟩
abbrev S6144x2048 : Shape := ⟨2, ![6144, 2048]⟩
abbrev S4224x6144 : Shape := ⟨2, ![4224, 6144]⟩
abbrev S1056x2048 : Shape := ⟨2, ![1056, 2048]⟩
abbrev S1024x2048 : Shape := ⟨2, ![1024, 2048]⟩
abbrev S1056x1024 : Shape := ⟨2, ![1056, 1024]⟩

abbrev nBuf : Space → Nat
  | .hbm => 10
  | .vmem => 6
  | .smem => 0
  | _ => 0

abbrev bufTy : (tb : Table) → Fin (tcTables nBuf tb) → BufTy
  | .hbm, ⟨0, _⟩ => ⟨S4224x2048, .f32⟩
  | .hbm, ⟨1, _⟩ => ⟨S2048x6152, .f32⟩
  | .hbm, ⟨2, _⟩ => ⟨S4224x2048, .bf16⟩
  | .hbm, ⟨3, _⟩ => ⟨S6152x2048, .f32⟩
  | .hbm, ⟨4, _⟩ => ⟨S6152x2048, .bf16⟩
  | .hbm, ⟨5, _⟩ => ⟨S_, .i32⟩
  | .hbm, ⟨6, _⟩ => ⟨S_, .bf16⟩
  | .hbm, ⟨7, _⟩ => ⟨S6272x2048, .bf16⟩
  | .hbm, ⟨8, _⟩ => ⟨S6144x2048, .bf16⟩
  | .hbm, ⟨9, _⟩ => ⟨S4224x6144, .bf16⟩
  | .local _ .vmem, ⟨0, _⟩ => ⟨S1056x2048, .bf16⟩
  | .local _ .vmem, ⟨1, _⟩ => ⟨S1056x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1056x1024, .bf16⟩
  | .local _ .vmem, ⟨5, _⟩ => ⟨S1056x1024, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4224x2048 : Shape := ⟨2, ![4224, 2048]⟩
abbrev S2048x6152 : Shape := ⟨2, ![2048, 6152]⟩
abbrev S4224x6152 : Shape := ⟨2, ![4224, 6152]⟩
abbrev S4224x6144 : Shape := ⟨2, ![4224, 6144]⟩

abbrev nBuf : Space → Nat
  | .hbm => 5
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x6152, .f32⟩
  | .hbm, ⟨2, _⟩ => ⟨S4224x6152, .f32⟩
  | .hbm, ⟨3, _⟩ => ⟨S4224x6144, .f32⟩
  | .hbm, ⟨4, _⟩ => ⟨S4224x6144, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S4224x2048 : Shape := ⟨2, ![4224, 2048]⟩
abbrev S4224x1024 : Shape := ⟨2, ![4224, 1024]⟩
abbrev S2048x2048 : Shape := ⟨2, ![2048, 2048]⟩
abbrev S1024x2048 : Shape := ⟨2, ![1024, 2048]⟩
abbrev S1056x1024 : Shape := ⟨2, ![1056, 1024]⟩
abbrev S1024x1024 : Shape := ⟨2, ![1024, 1024]⟩

abbrev nBuf : Space → Nat
  | .hbm => 10
  | .vmem => 12
  | .smem => 0
  | _ => 0

abbrev bufTy : (tb : Table) → Fin (tcTables nBuf tb) → BufTy
  | .hbm, ⟨0, _⟩ => ⟨S4224x2048, .f32⟩
  | .hbm, ⟨1, _⟩ => ⟨S4224x1024, .f32⟩
  | .hbm, ⟨2, _⟩ => ⟨S4224x1024, .f32⟩
  | .hbm, ⟨3, _⟩ => ⟨S2048x2048, .f32⟩
  | .hbm, ⟨4, _⟩ => ⟨S2048x2048, .bf16⟩
  | .hbm, ⟨5, _⟩ => ⟨S4224x1024, .bf16⟩
  | .hbm, ⟨6, _⟩ => ⟨S1024x2048, .bf16⟩
  | .hbm, ⟨7, _⟩ => ⟨S4224x1024, .bf16⟩
  | .hbm, ⟨8, _⟩ => ⟨S1024x2048, .bf16⟩
  | .hbm, ⟨9, _⟩ => ⟨S4224x2048, .f32⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1056x1024, .bf16⟩
  | .local _ .vmem, ⟨5, _⟩ => ⟨S1056x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1056x1024, .f32⟩
  | .local _ .vmem, ⟨9, _⟩ => ⟨S1056x1024, .f32⟩
  | .local _ .vmem, ⟨10, _⟩ => ⟨S1056x1024, .f32⟩
  | .local _ .vmem, ⟨11, _⟩ => ⟨S1056x1024, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1056x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1056x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference13Ideal.lean ====
abbrev S4224x2048 : Shape := ⟨2, ![4224, 2048]⟩
abbrev S4224x1024 : Shape := ⟨2, ![4224, 1024]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x1024, .f32⟩
  | .hbm, ⟨2, _⟩ => ⟨S4224x1024, .f32⟩
  | .hbm, ⟨3, _⟩ => ⟨S2048x2048, .f32⟩
  | .hbm, ⟨4, _⟩ => ⟨S4224x2048, .f32⟩
  | .hbm, ⟨5, _⟩ => ⟨S4224x2048, .f32⟩
  | .hbm, ⟨6, _⟩ => ⟨S4224x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel14.lean ====
abbrev S4224x2048 : Shape := ⟨2, ![4224, 2048]⟩
abbrev S2048x6152 : Shape := ⟨2, ![2048, 6152]⟩
abbrev S6152x2048 : Shape := ⟨2, ![6152, 2048]⟩
abbrev S_ : Shape := ⟨0, ![]⟩
abbrev S6272x2048 : Shape := ⟨2, ![6272, 2048]⟩
abbrev S128x2048 : Shape := ⟨2, ![128, 2048]⟩
abbrev S4224x128 : Shape := ⟨2, ![4224, 128]⟩
abbrev S1056x2048 : Shape := ⟨2, ![1056, 2048]⟩
abbrev S1056x128 : Shape := ⟨2, ![1056, 128]⟩

abbrev nBuf : Space → Nat
  | .hbm => 10
  | .vmem => 5
  | .smem => 0
  | _ => 0

abbrev bufTy : (tb : Table) → Fin (tcTables nBuf tb) → BufTy
  | .hbm, ⟨0, _⟩ => ⟨S4224x2048, .f32⟩
  | .hbm, ⟨1, _⟩ => ⟨S2048x6152, .f32⟩
  | .hbm, ⟨2, _⟩ => ⟨S4224x2048, .bf16⟩
  | .hbm, ⟨3, _⟩ => ⟨S6152x2048, .f32⟩
  | .hbm, ⟨4, _⟩ => ⟨S6152x2048, .bf16⟩
  | .hbm, ⟨5, _⟩ => ⟨S_, .i32⟩
  | .hbm, ⟨6, _⟩ => ⟨S_, .bf16⟩
  | .hbm, ⟨7, _⟩ => ⟨S6272x2048, .bf16⟩
  | .hbm, ⟨8, _⟩ => ⟨S128x2048, .bf16⟩
  | .hbm, ⟨9, _⟩ => ⟨S4224x128, .f32⟩
  | .local _ .vmem, ⟨0, _⟩ => ⟨S1056x2048, .bf16⟩
  | .local _ .vmem, ⟨1, _⟩ => ⟨S1056x2048, .bf16⟩
  | .local _ .vmem, ⟨2, _⟩ => ⟨S128x2048, .bf16⟩
  | .local _ .vmem, ⟨3, _⟩ => ⟨S1056x128, .f32⟩
  | .local _ .vmem, ⟨4, _⟩ => ⟨S1056x128, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4224x2048 : Shape := ⟨2, ![4224, 2048]⟩
abbrev S2048x6152 : Shape := ⟨2, ![2048, 6152]⟩
abbrev S4224x6152 : Shape := ⟨2, ![4224, 6152]⟩
abbrev S4224x8 : Shape := ⟨2, ![4224, 8]⟩
abbrev S_ : Shape := ⟨0, ![]⟩
abbrev S4224x128 : Shape := ⟨2, ![4224, 128]⟩

abbrev nBuf : Space → Nat
  | .hbm => 7
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x6152, .f32⟩
  | .hbm, ⟨2, _⟩ => ⟨S4224x6152, .f32⟩
  | .hbm, ⟨3, _⟩ => ⟨S4224x8, .f32⟩
  | .hbm, ⟨4, _⟩ => ⟨S_, .i32⟩
  | .hbm, ⟨5, _⟩ => ⟨S_, .f32⟩
  | .hbm, ⟨6, _⟩ => ⟨S4224x128, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel15.lean ====
abbrev S4224x2048 : Shape := ⟨2, ![4224, 2048]⟩
abbrev S1x2048 : Shape := ⟨2, ![1, 2048]⟩
abbrev S192x2048 : Shape := ⟨2, ![192, 2048]⟩
abbrev S192 : Shape := ⟨1, ![192]⟩
abbrev S192x1 : Shape := ⟨2, ![192, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S1x2048, .f32⟩
  | .hbm, ⟨3, _⟩ => ⟨S4224x2048, .f32⟩
  | .hbm, ⟨4, _⟩ => ⟨S4224x2048, .f32⟩
  | .hbm, ⟨5, _⟩ => ⟨S4224x2048, .bf16⟩
  | .hbm, ⟨6, _⟩ => ⟨S1x2048, .f32⟩
  | .local _ .vmem, ⟨0, _⟩ => ⟨S192x2048, .f32⟩
  | .local _ .vmem, ⟨1, _⟩ => ⟨S192x2048, .f32⟩
  | .local _ .vmem, ⟨2, _⟩ => ⟨S192x2048, .f32⟩
  | .local _ .vmem, ⟨3, _⟩ => ⟨S192x2048, .f32⟩
  | .local _ .vmem, ⟨4, _⟩ => ⟨S1x2048, .f32⟩
  | .local _ .vmem, ⟨5, _⟩ => ⟨S192x2048, .f32⟩
  | .local _ .vmem, ⟨6, _⟩ => ⟨S192x2048, .f32⟩
  | .local _ .vmem, ⟨7, _⟩ => ⟨S192x2048, .f32⟩
  | .local _ .vmem, ⟨8, _⟩ => ⟨S192x2048, .f32⟩
  | .local _ .vmem, ⟨9, _⟩ => ⟨S192x2048, .bf16⟩
  | .local _ .vmem, ⟨10, _⟩ => ⟨S192x2048, .bf16⟩
  | .local _ .vmem, ⟨11, _⟩ => ⟨S1x2048, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S192x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S192x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference15Ideal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S1x2048, .f32⟩
  | .hbm, ⟨3, _⟩ => ⟨S4224x2048, .f32⟩
  | .hbm, ⟨4, _⟩ => ⟨S4224x2048, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x2048, .f32⟩
  | .hbm, ⟨20, _⟩ => ⟨S4224x2048, .f32⟩
  | .hbm, ⟨21, _⟩ => ⟨S4224x2048, .f32⟩
  | .hbm, ⟨22, _⟩ => ⟨S4224x2048, .f32⟩
  | .hbm, ⟨23, _⟩ => ⟨S4224x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4224x2048, .f32⟩
  | .hbm, ⟨28, _⟩ => ⟨S4224x2048, .f32⟩
  | .hbm, ⟨29, _⟩ => ⟨S4224x2048, .f32⟩
  | .hbm, ⟨30, _⟩ => ⟨S_, .f32⟩
  | .hbm, ⟨31, _⟩ => ⟨S4224, .f32⟩
  | .hbm, ⟨32, _⟩ => ⟨S4224x1, .f32⟩
  | .hbm, ⟨33, _⟩ => ⟨S4224x2048, .f32⟩
  | .hbm, ⟨34, _⟩ => ⟨S4224x2048, .f32⟩
  | .hbm, ⟨35, _⟩ => ⟨S4224x2048, .f32⟩
  | .hbm, ⟨36, _⟩ => ⟨S4224x1, .f32⟩
  | .hbm, ⟨37, _⟩ => ⟨S_, .f32⟩
  | .hbm, ⟨38, _⟩ => ⟨S4224x1, .f32⟩
  | .hbm, ⟨39, _⟩ => ⟨S4224x1, .f32⟩
  | .hbm, ⟨40, _⟩ => ⟨S_, .f32⟩
  | .hbm, ⟨41, _⟩ => ⟨S4224, .f32⟩
  | .hbm, ⟨42, _⟩ => ⟨S4224x2048, .f32⟩
  | .hbm, ⟨43, _⟩ => ⟨S4224x2048, .f32⟩
  | .hbm, ⟨44, _⟩ => ⟨S4224x2048, .f32⟩
  | .hbm, ⟨45, _⟩ => ⟨S4224x2048, .f32⟩
  | .hbm, ⟨46, _⟩ => ⟨S4224x2048, .f32⟩
  | .hbm, ⟨47, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel16.lean ====
abbrev S4224x2048 : Shape := ⟨2, ![4224, 2048]⟩
abbrev S1x2048 : Shape := ⟨2, ![1, 2048]⟩
abbrev S528x2048 : Shape := ⟨2, ![528, 2048]⟩
abbrev S528 : Shape := ⟨1, ![528]⟩
abbrev S528x1 : Shape := ⟨2, ![528, 1]⟩

abbrev nBuf : Space → Nat
  | .hbm => 3
  | .vmem => 5
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .bf16⟩
  | .local _ .vmem, ⟨0, _⟩ => ⟨S528x2048, .f32⟩
  | .local _ .vmem, ⟨1, _⟩ => ⟨S528x2048, .f32⟩
  | .local _ .vmem, ⟨2, _⟩ => ⟨S1x2048, .f32⟩
  | .local _ .vmem, ⟨3, _⟩ => ⟨S528x2048, .bf16⟩
  | .local _ .vmem, ⟨4, _⟩ => ⟨S528x2048, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S528x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S528x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩

abbrev nBuf : Space → Nat
  | .hbm => 18
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .f32⟩
  | .hbm, ⟨3, _⟩ => ⟨S_, .f32⟩
  | .hbm, ⟨4, _⟩ => ⟨S4224, .f32⟩
  | .hbm, ⟨5, _⟩ => ⟨S4224x1, .f32⟩
  | .hbm, ⟨6, _⟩ => ⟨S_, .f32⟩
  | .hbm, ⟨7, _⟩ => ⟨S4224x1, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S4224x1, .f32⟩
  | .hbm, ⟨13, _⟩ => ⟨S4224x2048, .f32⟩
  | .hbm, ⟨14, _⟩ => ⟨S4224x2048, .f32⟩
  | .hbm, ⟨15, _⟩ => ⟨S4224x2048, .f32⟩
  | .hbm, ⟨16, _⟩ => ⟨S4224x2048, .f32⟩
  | .hbm, ⟨17, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Same.lean ====
/-
  The kernel as printed and its ideal are one program: nothing was rewritten between the two, so their bodies and their
  mains are equal.
-/
module

public import proofs.«01_k».proof.Defs
public import proofs.«01_k».proof.Proof.Gen.Kernel
public import proofs.«01_k».proof.Proof.Gen.KernelIdeal

@[expose] public section

set_option maxRecDepth 16384
set_option maxHeartbeats 4000000

noncomputable section

namespace Cert.Same

open Idealize.ShloMosaic

variable {F : FTy → Type} [FloatOps F] [Cert.Kernel.Facts] [Cert.KernelIdeal.Facts]

theorem main_eq : Cert.Kernel.main (F := F) = Cert.KernelIdeal.main (F := F) := rfl

/-- The body of the one launch. -/
theorem body_eq : Cert.Kernel.defs₀ (F := F) = Cert.KernelIdeal.defs₀ (F := F) := by
  unfold Cert.Kernel.defs₀ Cert.KernelIdeal.defs₀
  refine congrArg Defs.onTc ?_
  funext ℓ x
  obtain ⟨_ | n, h⟩ := ℓ
  · obtain ⟨t, s⟩ := x
    rfl
  · exact absurd h (Nat.not_lt.2 (Nat.le_add_left _ _))

theorem defs_eq : Cert.Kernel.defs (F := F) = Cert.KernelIdeal.defs (F := F) :=
  congrArg (Pipeline.defs (Cert.Kernel.pcfgs (F := F))) body_eq

end Cert.Same

end
-- ==== Proof.Offsets.lean ====
/-
  Where the body's accesses lie. The loop over the pairs of middle blocks takes, in trip `k`, the key blocks `2k+1`
  and `2k+2`; the odd block left over is `i - 1` and the diagonal one `i`, for the query block `i`. The second half
  of each loop, which the printed program keeps for a step that does not divide the range, has no trips.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Exec

@[expose] public section

noncomputable section

namespace Cert.KernelIdeal.Hand

open Cert.KernelIdeal Cert.KernelIdeal.Gen
open Idealize.ShloMosaic Idealize.ShloMosaic.Tactic

/-- The query block of a grid point. -/
abbrev qb (i : grid0.Coords) : ℕ := (i 1).val

theorem qb_lt (i : grid0.Coords) : qb i < 11 := (i 1).isLt

/-- A grid point made of a head and a query block. -/
abbrev pt (a : Fin 8) (b : Fin 11) : grid0.Coords := fun d => match d with | ⟨0, _⟩ => a | ⟨1, _⟩ => b

theorem pt_eta (i : grid0.Coords) : pt (i 0) (i 1) = i := by
  funext d; match d with | ⟨0, _⟩ => rfl | ⟨1, _⟩ => rfl

theorem trips1 (i : grid0.Coords) : (k0_t1_loop i).trips = (qb i - 1) / 2 := by
  have h : ∀ b : Fin 11, (k0_t1_loop (pt 0 b)).trips = (b.val - 1) / 2 := by decide +kernel
  exact h (i 1)
theorem trips2 (i : grid0.Coords) : (k0_t2_loop i).trips = 0 := by
  have h : ∀ b : Fin 11, (k0_t2_loop (pt 0 b)).trips = 0 := by decide +kernel
  exact h (i 1)
theorem trips3 (i : grid0.Coords) : (k0_t3_loop i).trips = (qb i - 1) % 2 := by
  have h : ∀ b : Fin 11, (k0_t3_loop (pt 0 b)).trips = (b.val - 1) % 2 := by decide +kernel
  exact h (i 1)
theorem trips4 (i : grid0.Coords) : (k0_t4_loop i).trips = 0 := by
  have h : ∀ b : Fin 11, (k0_t4_loop (pt 0 b)).trips = 0 := by decide +kernel
  exact h (i 1)
theorem trips5 (i : grid0.Coords) : (k0_t5_loop i).trips = min (qb i) 1 := by
  have h : ∀ b : Fin 11, (k0_t5_loop (pt 0 b)).trips = min b.val 1 := by decide +kernel
  exact h (i 1)
theorem trips6 (i : grid0.Coords) : (k0_t6_loop i).trips = 0 := by
  have h : ∀ b : Fin 11, (k0_t6_loop (pt 0 b)).trips = 0 := by decide +kernel
  exact h (i 1)

theorem off1_eq (i : grid0.Coords) (k : Fin (k0_t1_loop i).trips) (r : Fin 2) :
    k0_off1 i k (BitVec.ofNat 32 (1 + r.val)) = ![(2 * k.val + 1 + r.val) * 384, 0] := by
  have h : ∀ (b : Fin 11) (k : Fin (k0_t1_loop (pt 0 b)).trips) (r : Fin 2),
      k0_off1 (pt 0 b) k (BitVec.ofNat 32 (1 + r.val)) = ![(2 * k.val + 1 + r.val) * 384, 0] := by decide +kernel
  exact h (i 1) k r
theorem off2_eq (i : grid0.Coords) (k : Fin (k0_t1_loop i).trips) (r : Fin 2) :
    k0_off2 i k (BitVec.ofNat 32 (1 + r.val)) = ![0, 2 * k.val + 1 + r.val, 0, 0] := by
  have h : ∀ (b : Fin 11) (k : Fin (k0_t1_loop (pt 0 b)).trips) (r : Fin 2),
      k0_off2 (pt 0 b) k (BitVec.ofNat 32 (1 + r.val)) = ![0, 2 * k.val + 1 + r.val, 0, 0] := by decide +kernel
  exact h (i 1) k r

instance (i : grid0.Coords) (k : Fin (k0_t1_loop i).trips) : ClosedOff (k0_off1 i k 1#32) := ⟨![(2 * k.val + 1) * 384, 0], off1_eq i k 0⟩
instance (i : grid0.Coords) (k : Fin (k0_t1_loop i).trips) : ClosedOff (k0_off1 i k 2#32) := ⟨![(2 * k.val + 2) * 384, 0], off1_eq i k 1⟩
instance (i : grid0.Coords) (k : Fin (k0_t1_loop i).trips) : ClosedOff (k0_off2 i k 1#32) := ⟨![0, 2 * k.val + 1, 0, 0], off2_eq i k 0⟩
instance (i : grid0.Coords) (k : Fin (k0_t1_loop i).trips) : ClosedOff (k0_off2 i k 2#32) := ⟨![0, 2 * k.val + 2, 0, 0], off2_eq i k 1⟩

theorem off5_eq (i : grid0.Coords) (k : Fin (k0_t3_loop i).trips) : k0_off5 i = ![(qb i - 1) * 384, 0] := by
  have h : ∀ (b : Fin 11) (k : Fin (k0_t3_loop (pt 0 b)).trips), k0_off5 (pt 0 b) = ![(b.val - 1) * 384, 0] := by decide +kernel
  exact h (i 1) k
theorem off6_eq (i : grid0.Coords) (k : Fin (k0_t3_loop i).trips) : k0_off6 i = ![0, qb i - 1, 0, 0] := by
  have h : ∀ (b : Fin 11) (k : Fin (k0_t3_loop (pt 0 b)).trips), k0_off6 (pt 0 b) = ![0, b.val - 1, 0, 0] := by decide +kernel
  exact h (i 1) k
theorem off9_eq (i : grid0.Coords) : k0_off9 i = ![qb i * 384, 0] := by
  have h : ∀ b : Fin 11, k0_off9 (pt 0 b) = ![b.val * 384, 0] := by decide +kernel
  exact h (i 1)
theorem off10_eq (i : grid0.Coords) : k0_off10 i = ![0, qb i, 0, 0] := by
  have h : ∀ b : Fin 11, k0_off10 (pt 0 b) = ![0, b.val, 0, 0] := by decide +kernel
  exact h (i 1)

end Cert.KernelIdeal.Hand

end
-- ==== Proof.Steps.lean ====
/-
  One key block's contribution, as functions of arrays. A query block holds its carried pair (the gradient of the
  queries and the row sums of `ds`) and the three accumulators of its head: the gradients of the keys and of the
  values, and of the row gate. `upd` adds the contribution of one key block, given the block's weights `p` and
  their cotangent `ds`; `stepU` and `stepM` give those two for a block without and with a mask.
-/
module

public import proofs.«01_k».proof.Proof.Gen.KernelIdeal.Skeleton
public import Idealize.ShloMosaic.Lib.VecWindow

@[expose] public section

noncomputable section

namespace Cert.KernelIdeal.Hand

open Cert.KernelIdeal Cert.KernelIdeal.Gen
open Idealize.ShloMosaic

variable {F : FTy → Type} [FloatOps F]

/-- What the walk over the key blocks carries and accumulates. -/
structure St (F : FTy → Type) where
  acc : FVec F S384x128 .f32 × FVec F S384x1 .f32
  dk : FVec F S4224x128 .f32
  dv : FVec F S4224x128 .f32
  dr : FVec F S1x11x1x384 .f32

/-- What the walk reads: of the query block the queries, `delta`, the cotangent of the outputs, the column gate and
    the log-sum-exp; of the head the keys, the values and the row gate. -/
structure Rd (F : FTy → Type) where
  q : FVec F S384x128 .bf16
  dl : FVec F S384x1 .f32
  dob : FVec F S384x128 .bf16
  ci : FVec F S384x1 .f32
  ls : FVec F S384x1 .f32
  K : FVec F S4224x128 .bf16
  V : FVec F S4224x128 .bf16
  cr : FVec F S1x11x1x384 .f32

/-- The offsets of key block `j` among the rows of a head, and of its row of the row gate. -/
abbrev ko (j : ℕ) : Fin 2 → ℕ := ![j * 384, 0]
abbrev ro (j : ℕ) : Fin 4 → ℕ := ![0, j, 0, 0]

theorem ko_inb {j : ℕ} (h : j < 11) (a : Fin 2) : ko j a + S384x128.size a ≤ S4224x128.size a := by
  match a with
  | 0 => show j * 384 + 384 ≤ 4224; omega
  | 1 => show 0 + 128 ≤ 128; omega

theorem ro_inb {j : ℕ} (h : j < 11) (a : Fin 4) : ro j a + S1x1x1x384.size a ≤ S1x11x1x384.size a := by
  match a with
  | 0 => show 0 + 1 ≤ 1; omega
  | 1 => show j + 1 ≤ 11; omega
  | 2 => show 0 + 1 ≤ 1; omega
  | 3 => show 0 + 384 ≤ 384; omega

/-- Key block `j` of an array of a head's rows. -/
def kwin {α : Type} (X : S4224x128.Idx → α) (j : ℕ) (h : j < 11) : S384x128.Idx → α :=
  VecWindow.window X (ko j) S384x128.size (ko_inb h)

/-- Row `j` of the row gate. -/
def rwin {α : Type} (X : S1x11x1x384.Idx → α) (j : ℕ) (h : j < 11) : S1x1x1x384.Idx → α :=
  VecWindow.window X (ro j) S1x1x1x384.size (ro_inb h)

/-- One key block's contribution at its weights and their cotangent. -/
def upd (r : Rd F) (j : ℕ) (h : j < 11) (p ds : FVec F S384x384 .f32) (s : St F) : St F where
  acc := (k0_pay12 s.acc.1 (kwin r.K j h) (truncf .bf16 ds bitsLt_bf16_f32), k0_pay13 s.acc.2 ds)
  dk := VecWindow.put s.dk (ko j) S384x128.size (k0_pay9 r.q (truncf .bf16 ds bitsLt_bf16_f32) (kwin s.dk j h))
  dv := VecWindow.put s.dv (ko j) S384x128.size (k0_pay10 r.dob p (kwin s.dv j h))
  dr := VecWindow.put s.dr (ro j) S1x1x1x384.size (k0_pay11 ds (rwin s.dr j h))

/-- A key block all of whose places are seen. -/
def stepU (r : Rd F) (j : ℕ) (h : j < 11) (s : St F) : St F :=
  upd r j h (k0_pay21 r.q r.ci r.ls (kwin r.K j h) (rwin r.cr j h))
    (k0_pay22 r.q r.dl r.dob r.ci r.ls (kwin r.K j h) (kwin r.V j h) (rwin r.cr j h)) s

/-- A key block under the mask: `w` is the block's number as a word and `v48` the positions of the queries. -/
def stepM (r : Rd F) (w : BitVec 32) (v48 : IVec S384x1 32) (j : ℕ) (h : j < 11) (s : St F) : St F :=
  upd r j h (k0_pay63 w r.q r.ci r.ls v48 (kwin r.K j h) (rwin r.cr j h))
    (k0_pay64 w r.q r.dl r.dob r.ci r.ls v48 (kwin r.K j h) (kwin r.V j h) (rwin r.cr j h)) s

/-- A key block lying apart from the block just put. -/
theorem kwin_put {α : Type} (X : S4224x128.Idx → α) (j j' : ℕ) (h' : j' < 11) (w : S384x128.Idx → α) (hne : j ≠ j') :
    kwin (VecWindow.put X (ko j) S384x128.size w) j' h' = kwin X j' h' :=
  VecWindow.window_put_of_disjoint X (ko j) S384x128.size (ko j') S384x128.size (ko_inb h') w 0 (by
    show j' * 384 + 384 ≤ j * 384 ∨ j * 384 + 384 ≤ j' * 384; omega)

/-- A row of the row gate other than the one just put. -/
theorem rwin_put {α : Type} (X : S1x11x1x384.Idx → α) (j j' : ℕ) (h' : j' < 11) (w : S1x1x1x384.Idx → α) (hne : j ≠ j') :
    rwin (VecWindow.put X (ro j) S1x1x1x384.size w) j' h' = rwin X j' h' :=
  VecWindow.window_put_of_disjoint X (ro j) S1x1x1x384.size (ro j') S1x1x1x384.size (ro_inb h') w 1 (by
    show j' + 1 ≤ j ∨ j + 1 ≤ j'; omega)

section Pair

variable (r : Rd F) (j : ℕ) (h : j < 11) (h' : j + 1 < 11) (s : St F)

/-- Two steps, in the form in which the loop over pairs of blocks makes them. -/
theorem two_dk : (stepU r (j + 1) h' (stepU r j h s)).dk
    = VecWindow.put (VecWindow.put s.dk (ko j) S384x128.size (k0_pay24 r.q r.dl r.dob r.ci r.ls (kwin r.K j h) (kwin r.V j h) (rwin r.cr j h) (kwin s.dk j h)))
        (ko (j + 1)) S384x128.size
        (k0_pay34 r.q r.dl r.dob r.ls (kwin r.V (j + 1) h') (k0_pay29 r.q (kwin r.K (j + 1) h')) (k0_pay30 r.ci) (rwin r.cr (j + 1) h') (kwin s.dk (j + 1) h')) := by
  rw [← kwin_put s.dk j (j + 1) h' (k0_pay24 r.q r.dl r.dob r.ci r.ls (kwin r.K j h) (kwin r.V j h) (rwin r.cr j h) (kwin s.dk j h)) (by omega)]
  rfl

theorem two_dv : (stepU r (j + 1) h' (stepU r j h s)).dv
    = VecWindow.put (VecWindow.put s.dv (ko j) S384x128.size (k0_pay25 r.dob (k0_pay21 r.q r.ci r.ls (kwin r.K j h) (rwin r.cr j h)) (kwin s.dv j h)))
        (ko (j + 1)) S384x128.size
        (k0_pay35 r.dob r.ls (k0_pay29 r.q (kwin r.K (j + 1) h')) (k0_pay30 r.ci) (rwin r.cr (j + 1) h') (kwin s.dv (j + 1) h')) := by
  rw [← kwin_put s.dv j (j + 1) h' (k0_pay25 r.dob (k0_pay21 r.q r.ci r.ls (kwin r.K j h) (rwin r.cr j h)) (kwin s.dv j h)) (by omega)]
  rfl

theorem two_dr : (stepU r (j + 1) h' (stepU r j h s)).dr
    = VecWindow.put (VecWindow.put s.dr (ro j) S1x1x1x384.size
        (k0_pay26 (k0_pay22 r.q r.dl r.dob r.ci r.ls (kwin r.K j h) (kwin r.V j h) (rwin r.cr j h)) (rwin s.dr j h)))
        (ro (j + 1)) S1x1x1x384.size
        (k0_pay98 (k0_pay36 r.dl r.dob r.ls (kwin r.V (j + 1) h') (k0_pay29 r.q (kwin r.K (j + 1) h')) (k0_pay30 r.ci) (rwin r.cr (j + 1) h')
          (rwin s.dr (j + 1) h'))) := by
  rw [← rwin_put s.dr j (j + 1) h' (k0_pay26 (k0_pay22 r.q r.dl r.dob r.ci r.ls (kwin r.K j h) (kwin r.V j h) (rwin r.cr j h)) (rwin s.dr j h)) (by omega)]
  rfl

theorem two_acc : (stepU r (j + 1) h' (stepU r j h s)).acc
    = (k0_pay99 (k0_pay27 s.acc.1 (kwin r.K j h) (k0_pay23 r.q r.dl r.dob r.ci r.ls (kwin r.K j h) (kwin r.V j h) (rwin r.cr j h))) (kwin r.K (j + 1) h')
          (k0_pay33 r.dl r.dob r.ls (kwin r.V (j + 1) h') (k0_pay29 r.q (kwin r.K (j + 1) h')) (k0_pay30 r.ci) (rwin r.cr (j + 1) h')),
        k0_pay100 (k0_pay28 s.acc.2 (k0_pay22 r.q r.dl r.dob r.ci r.ls (kwin r.K j h) (kwin r.V j h) (rwin r.cr j h)))
          (k0_pay32 r.dl r.dob r.ls (kwin r.V (j + 1) h') (k0_pay29 r.q (kwin r.K (j + 1) h')) (k0_pay30 r.ci) (rwin r.cr (j + 1) h'))) := rfl

end Pair

end Cert.KernelIdeal.Hand

end
-- ==== Proof.Loops.lean ====
/-
  The loops over the key blocks, each by its invariant: before a trip the accumulators of the head read as the walk's
  state after the trips before it. The pairs of middle blocks are a loop of up to five trips, the middle block left
  over and the diagonal block loops of at most one; the loops for a step that does not divide the range have none.
-/
module

public import proofs.«01_k».proof.Proof.Offsets
public import proofs.«01_k».proof.Proof.Steps
public import Idealize.ShloMosaic.Lib.Tactic
public import Idealize.ShloMosaic.Lib.Pipeline.Kit

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄H" => MT nD τ sig Unit (Elt F) ℕ (UR sig nD τ) ℕ

variable (𝒱 : Variants) (c : Dev nD) (bd : Option 𝒱.V) (E : Set ℕ) (i : grid0.Coords)
  (arg2 : Memref sig .tc .vmem S384x128 .bf16) (harg2 : arg2.IsWhole)
  (arg3 : Memref sig .tc .vmem S4224x128 .bf16) (harg3 : arg3.IsWhole)
  (arg4 : Memref sig .tc .vmem S4224x128 .bf16) (harg4 : arg4.IsWhole)
  (arg5 : Memref sig .tc .vmem S384x128 .f32) (harg5 : arg5.IsWhole)
  (arg6 : Memref sig .tc .vmem S384x128 .f32) (harg6 : arg6.IsWhole)
  (arg7 : Memref sig .tc .vmem S1x128 .f32) (harg7 : arg7.IsWhole)
  (arg8 : Memref sig .tc .vmem S1x384x1 .f32) (harg8 : arg8.IsWhole)
  (arg9 : Memref sig .tc .vmem S1x384x1 .f32) (harg9 : arg9.IsWhole)
  (arg10 : Memref sig .tc .vmem S1x11x1x384 .f32) (harg10 : arg10.IsWhole)
  (arg11 : Memref sig .tc .vmem S384x128 .bf16) (harg11 : arg11.IsWhole)
  (arg12 : Memref sig .tc .vmem S4224x128 .f32) (harg12 : arg12.IsWhole)
  (arg13 : Memref sig .tc .vmem S4224x128 .f32) (harg13 : arg13.IsWhole)
  (arg14 : Memref sig .tc .vmem S1x128 .f32) (harg14 : arg14.IsWhole)
  (arg15 : Memref sig .tc .vmem S1x384x1 .f32) (harg15 : arg15.IsWhole)
  (arg16 : Memref sig .tc .vmem S1x11x1x384 .f32) (harg16 : arg16.IsWhole)
  (arg1 : BitVec 32) (v3 : FVec F S384x128 .bf16) (v39 : FVec F S384x1 .f32) (v40 : FVec F S384x128 .bf16) (v42 : FVec F S384x1 .f32) (v44 : FVec F S384x1 .f32)

/-- What the loops read, of the contents of the key, value and row-gate blocks. -/
abbrev rd (X3 : BufTy.Contents (Elt F) arg3.view.ty) (X4 : BufTy.Contents (Elt F) arg4.view.ty) (X10 : BufTy.Contents (Elt F) arg10.view.ty) : Rd F :=
  ⟨v3, v39, v40, v42, v44, arg3.view.read (Elt F) X3, arg4.view.read (Elt F) X4, arg10.view.read (Elt F) X10⟩

/-- The blocks a loop reads, at their contents, and the accumulators, reading as the state's. -/
abbrev held (X3 : BufTy.Contents (Elt F) arg3.view.ty) (X4 : BufTy.Contents (Elt F) arg4.view.ty) (X10 : BufTy.Contents (Elt F) arg10.view.ty)
    (s : St F) (acc : FVec F S384x128 .f32 × FVec F S384x1 .f32) : sProp 𝕄H :=
  iprop((arg3.view.loc (c : Thread nD τ) ↦[arg3.view.set]{fullShare} X3) ∗ (arg4.view.loc (c : Thread nD τ) ↦[arg4.view.set]{fullShare} X4)
    ∗ (arg10.view.loc (c : Thread nD τ) ↦[arg10.view.set]{fullShare} X10)
    ∗ (∃ f, (arg12.view.loc (c : Thread nD τ) ↦[arg12.view.set]{fullShare} f) ∗ ⌜arg12.view.read (Elt F) f = s.dk⌝)
    ∗ (∃ f, (arg13.view.loc (c : Thread nD τ) ↦[arg13.view.set]{fullShare} f) ∗ ⌜arg13.view.read (Elt F) f = s.dv⌝)
    ∗ (∃ f, (arg16.view.loc (c : Thread nD τ) ↦[arg16.view.set]{fullShare} f) ∗ ⌜arg16.view.read (Elt F) f = s.dr⌝)
    ∗ ⌜acc = s.acc⌝)

/-- The state a loop is entered with. -/
abbrev entry (G12 : BufTy.Contents (Elt F) arg12.view.ty) (G13 : BufTy.Contents (Elt F) arg13.view.ty) (G16 : BufTy.Contents (Elt F) arg16.view.ty)
    (init : FVec F S384x128 .f32 × FVec F S384x1 .f32) : St F :=
  ⟨init, arg12.view.read (Elt F) G12, arg13.view.read (Elt F) G13, arg16.view.read (Elt F) G16⟩

/-- The state after the first `n` pairs of middle blocks. -/
def pairs (r : Rd F) (s : St F) : ℕ → St F
  | 0 => s
  | n + 1 => if h : 2 * n + 2 < 11 then stepU r (2 * n + 2) h (stepU r (2 * n + 1) (by omega) (pairs r s n)) else pairs r s n

/-- The state after `n` trips of a loop whose trips all do the same. -/
def iter (f : St F → St F) (s : St F) : ℕ → St F
  | 0 => s
  | n + 1 => f (iter f s n)

/-- A load at key block `j`, and one at row `j` of the row gate. -/
theorem readk {e : EltTy} (v : View sig .tc .vmem S4224x128 e) (X : v.ty.Contents (Elt F)) {off : Fin 2 → ℕ} {inb : ∀ a, off a + S384x128.size a ≤ S4224x128.size a}
    {j : ℕ} (h : j < 11) (he : off = ko j) :
    v.readAt (Elt F) (Rect.unit (s := S4224x128) off S384x128.size inb).toLoadRect X = kwin (v.read (Elt F) X) j h := View.readAt_unit v X inb he (ko_inb h)

theorem readr {e : EltTy} (v : View sig .tc .vmem S1x11x1x384 e) (X : v.ty.Contents (Elt F)) {off : Fin 4 → ℕ} {inb : ∀ a, off a + S1x1x1x384.size a ≤ S1x11x1x384.size a}
    {j : ℕ} (h : j < 11) (he : off = ro j) :
    v.readAt (Elt F) (Rect.unit (s := S1x11x1x384) off S1x1x1x384.size inb).toLoadRect X = rwin (v.read (Elt F) X) j h := View.readAt_unit v X inb he (ro_inb h)

theorem k1_lt (i : grid0.Coords) (k : Fin (k0_t1_loop i).trips) : 2 * k.val + 2 < 11 := by
  have := k.isLt; have h := trips1 i; have := qb_lt i; omega

set_option warn.classDefReducibility false in
@[sl_loop] def loopInv1 (X3 : BufTy.Contents (Elt F) arg3.view.ty) (X4 : BufTy.Contents (Elt F) arg4.view.ty) (X10 : BufTy.Contents (Elt F) arg10.view.ty)
    (G12 : BufTy.Contents (Elt F) arg12.view.ty) (G13 : BufTy.Contents (Elt F) arg13.view.ty) (G16 : BufTy.Contents (Elt F) arg16.view.ty) (init : FVec F S384x128 .f32 × FVec F S384x1 .f32) (v49 : FVec F S384x128 .f32) (v50 : FVec F S384x1 .f32) (v53 : FVec F S384x128 .bf16) (v87 : FVec F S384x384 .f32) (v88 : FVec F S384x384 .bf16) (v110 : FVec F S1x384 .f32) :
    Idealize.ShloMosaic.LoopInv (M := 𝕄H) Idealize.ShloMosaic.frame (wpE defs₀ 𝒱 (c : Thread nD τ) bd) E
      (k0_t1_loop i).lb (k0_t1_loop i).ub (k0_t1_loop i).st (k0_t1_ok i) init
      (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v39 v40 v42 v44 v49 v50 v53 v87 v88 v110) where
  inv n acc := held c arg3 arg4 arg10 arg12 arg13 arg16 X3 X4 X10 (pairs (rd arg3 arg4 arg10 v3 v39 v40 v42 v44 X3 X4 X10) (entry arg12 arg13 arg16 G12 G13 G16 init) n) acc
  step k acc := by
    iintro ⟨H3, H4, H10, ⟨%f12, H12, %h12⟩, ⟨%f13, H13, %h13⟩, ⟨%f16, H16, %h16⟩, %hacc⟩
    unfold k0_t1_body
    sl_exec
    sl_step
    have hk := k1_lt i k
    have hk1 : 2 * k.val + 1 < 11 := by omega
    have e1 : k0_off1 i k 1#32 = ko (2 * k.val + 1) := off1_eq i k 0
    have e2 : k0_off1 i k 2#32 = ko (2 * k.val + 2) := off1_eq i k 1
    have g1 : k0_off2 i k 1#32 = ro (2 * k.val + 1) := off2_eq i k 0
    have g2 : k0_off2 i k 2#32 = ro (2 * k.val + 2) := off2_eq i k 1
    have hs : pairs (rd arg3 arg4 arg10 v3 v39 v40 v42 v44 X3 X4 X10) (entry arg12 arg13 arg16 G12 G13 G16 init) (k.val + 1)
        = stepU (rd arg3 arg4 arg10 v3 v39 v40 v42 v44 X3 X4 X10) (2 * k.val + 2) hk (stepU (rd arg3 arg4 arg10 v3 v39 v40 v42 v44 X3 X4 X10) (2 * k.val + 1) (by omega) (pairs (rd arg3 arg4 arg10 v3 v39 v40 v42 v44 X3 X4 X10) (entry arg12 arg13 arg16 G12 G13 G16 init) k.val)) := dif_pos hk
    rw [hs]
    isplitl [H3]; · iexact H3
    isplitl [H4]; · iexact H4
    isplitl [H10]; · iexact H10
    isplitl [H12]
    · iexists _; isplitl [H12]; · iexact H12
      ipureintro
      rw [View.read_writes_cons_put _ _ _ _ _ e2, View.read_writes_cons_put _ _ _ _ _ e1, View.writes_nil, two_dk]
      delta loopInv1.sl.v270 loopInv1.sl.r_4 loopInv1.sl.r_8 loopInv1.sl.r_9
      rw [readk arg3.view X3 hk1 e1, readk arg3.view X3 hk e2, readk arg4.view X4 hk1 e1, readk arg4.view X4 hk e2, readr arg10.view X10 hk1 g1, readr arg10.view X10 hk g2, readk arg12.view f12 hk1 e1, readk arg12.view f12 hk e2, h12]
    isplitl [H13]
    · iexists _; isplitl [H13]; · iexact H13
      ipureintro
      rw [View.read_writes_cons_put _ _ _ _ _ e2, View.read_writes_cons_put _ _ _ _ _ e1, View.writes_nil, two_dv]
      delta loopInv1.sl.v279 loopInv1.sl.r_1 loopInv1.sl.r_9
      rw [readk arg3.view X3 hk1 e1, readk arg3.view X3 hk e2, readr arg10.view X10 hk1 g1, readr arg10.view X10 hk g2, readk arg13.view f13 hk1 e1, readk arg13.view f13 hk e2, h13]
    isplitl [H16]
    · iexists _; isplitl [H16]; · iexact H16
      ipureintro
      rw [View.read_writes_cons_put _ _ _ _ _ g2, View.read_writes_cons_put _ _ _ _ _ g1, View.writes_nil, two_dr]
      delta loopInv1.sl.v287 loopInv1.sl.r_2 loopInv1.sl.r_8 loopInv1.sl.r_9 loopInv1.sl.r_12
      rw [readk arg3.view X3 hk1 e1, readk arg3.view X3 hk e2, readk arg4.view X4 hk1 e1, readk arg4.view X4 hk e2, readr arg10.view X10 hk1 g1, readr arg10.view X10 hk g2, readr arg16.view f16 hk1 g1, readr arg16.view f16 hk g2, h16]
    ipureintro
    rw [hacc, two_acc]
    delta loopInv1.sl.r_5 loopInv1.sl.r_6 loopInv1.sl.r_7 loopInv1.sl.r_10 loopInv1.sl.r_11
    delta loopInv1.sl.r loopInv1.sl.r_2 loopInv1.sl.r_3 loopInv1.sl.r_8 loopInv1.sl.r_9
    rw [readk arg3.view X3 hk1 e1, readk arg3.view X3 hk e2, readk arg4.view X4 hk1 e1, readk arg4.view X4 hk e2, readr arg10.view X10 hk1 g1, readr arg10.view X10 hk g2]

set_option warn.classDefReducibility false in
@[sl_loop] def loopInv2 (X3 : BufTy.Contents (Elt F) arg3.view.ty) (X4 : BufTy.Contents (Elt F) arg4.view.ty) (X10 : BufTy.Contents (Elt F) arg10.view.ty)
    (G12 : BufTy.Contents (Elt F) arg12.view.ty) (G13 : BufTy.Contents (Elt F) arg13.view.ty) (G16 : BufTy.Contents (Elt F) arg16.view.ty) (init : FVec F S384x128 .f32 × FVec F S384x1 .f32) (v49 : FVec F S384x128 .f32) (v50 : FVec F S384x1 .f32) (v53 : FVec F S384x128 .bf16) (v87 : FVec F S384x384 .f32) (v88 : FVec F S384x384 .bf16) (v110 : FVec F S1x384 .f32) (v142 : BitVec 32) :
    Idealize.ShloMosaic.LoopInv (M := 𝕄H) Idealize.ShloMosaic.frame (wpE defs₀ 𝒱 (c : Thread nD τ) bd) E
      (k0_t2_loop i).lb (k0_t2_loop i).ub (k0_t2_loop i).st (k0_t2_ok i) init
      (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v39 v40 v42 v44 v49 v50 v53 v87 v88 v110 v142) where
  inv n acc := held c arg3 arg4 arg10 arg12 arg13 arg16 X3 X4 X10 ((entry arg12 arg13 arg16 G12 G13 G16 init)) acc
  step k acc := by
    exact absurd k.isLt (by have h : Scf.trips (k0_t2_loop i).lb (k0_t2_loop i).ub (k0_t2_loop i).st = 0 := trips2 i; omega)

set_option warn.classDefReducibility false in
@[sl_loop] def loopInv3 (X3 : BufTy.Contents (Elt F) arg3.view.ty) (X4 : BufTy.Contents (Elt F) arg4.view.ty) (X10 : BufTy.Contents (Elt F) arg10.view.ty)
    (G12 : BufTy.Contents (Elt F) arg12.view.ty) (G13 : BufTy.Contents (Elt F) arg13.view.ty) (G16 : BufTy.Contents (Elt F) arg16.view.ty) (init : FVec F S384x128 .f32 × FVec F S384x1 .f32) :
    Idealize.ShloMosaic.LoopInv (M := 𝕄H) Idealize.ShloMosaic.frame (wpE defs₀ 𝒱 (c : Thread nD τ) bd) E
      (k0_t3_loop i).lb (k0_t3_loop i).ub (k0_t3_loop i).st (k0_t3_ok i) init
      (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v39 v40 v42 v44) where
  inv n acc := held c arg3 arg4 arg10 arg12 arg13 arg16 X3 X4 X10 (iter (stepU (rd arg3 arg4 arg10 v3 v39 v40 v42 v44 X3 X4 X10) (qb i - 1) (by have := qb_lt i; omega)) (entry arg12 arg13 arg16 G12 G13 G16 init) n) acc
  step k acc := by
    iintro ⟨H3, H4, H10, ⟨%f12, H12, %h12⟩, ⟨%f13, H13, %h13⟩, ⟨%f16, H16, %h16⟩, %hacc⟩
    unfold k0_t3_body
    sl_exec
    sl_step
    have hj : qb i - 1 < 11 := by have := qb_lt i; omega
    have e : k0_off5 i = ko (qb i - 1) := off5_eq i k
    have g : k0_off6 i = ro (qb i - 1) := off6_eq i k
    isplitl [H3]; · iexact H3
    isplitl [H4]; · iexact H4
    isplitl [H10]; · iexact H10
    isplitl [H12]
    · iexists _; isplitl [H12]; · iexact H12
      ipureintro
      rw [View.read_writes_cons_put _ _ _ _ _ e, View.writes_nil]
      rw [readk arg3.view X3 hj e, readk arg4.view X4 hj e, readr arg10.view X10 hj g, readk arg12.view f12 hj e, h12]
      rfl
    isplitl [H13]
    · iexists _; isplitl [H13]; · iexact H13
      ipureintro
      rw [View.read_writes_cons_put _ _ _ _ _ e, View.writes_nil]
      delta loopInv3.sl.r_1 loopInv3.sl.r_4
      rw [readk arg3.view X3 hj e, readr arg10.view X10 hj g, readk arg13.view f13 hj e, h13]
      rfl
    isplitl [H16]
    · iexists _; isplitl [H16]; · iexact H16
      ipureintro
      rw [View.read_writes_cons_put _ _ _ _ _ g, View.writes_nil]
      delta loopInv3.sl.r_2
      rw [readk arg3.view X3 hj e, readk arg4.view X4 hj e, readr arg10.view X10 hj g, readr arg16.view f16 hj g, h16]
      rfl
    ipureintro
    delta loopInv3.sl.r loopInv3.sl.r_2 loopInv3.sl.r_3
    rw [readk arg3.view X3 hj e, readk arg4.view X4 hj e, readr arg10.view X10 hj g, hacc]
    rfl

set_option warn.classDefReducibility false in
@[sl_loop] def loopInv4 (X3 : BufTy.Contents (Elt F) arg3.view.ty) (X4 : BufTy.Contents (Elt F) arg4.view.ty) (X10 : BufTy.Contents (Elt F) arg10.view.ty)
    (G12 : BufTy.Contents (Elt F) arg12.view.ty) (G13 : BufTy.Contents (Elt F) arg13.view.ty) (G16 : BufTy.Contents (Elt F) arg16.view.ty) (init : FVec F S384x128 .f32 × FVec F S384x1 .f32) (v159 : BitVec 32) :
    Idealize.ShloMosaic.LoopInv (M := 𝕄H) Idealize.ShloMosaic.frame (wpE defs₀ 𝒱 (c : Thread nD τ) bd) E
      (k0_t4_loop i).lb (k0_t4_loop i).ub (k0_t4_loop i).st (k0_t4_ok i) init
      (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v39 v40 v42 v44 v159) where
  inv n acc := held c arg3 arg4 arg10 arg12 arg13 arg16 X3 X4 X10 ((entry arg12 arg13 arg16 G12 G13 G16 init)) acc
  step k acc := by
    exact absurd k.isLt (by have h : Scf.trips (k0_t4_loop i).lb (k0_t4_loop i).ub (k0_t4_loop i).st = 0 := trips4 i; omega)

set_option warn.classDefReducibility false in
@[sl_loop] def loopInv5 (X3 : BufTy.Contents (Elt F) arg3.view.ty) (X4 : BufTy.Contents (Elt F) arg4.view.ty) (X10 : BufTy.Contents (Elt F) arg10.view.ty)
    (G12 : BufTy.Contents (Elt F) arg12.view.ty) (G13 : BufTy.Contents (Elt F) arg13.view.ty) (G16 : BufTy.Contents (Elt F) arg16.view.ty) (init : FVec F S384x128 .f32 × FVec F S384x1 .f32) (v48 : IVec S384x1 32) :
    Idealize.ShloMosaic.LoopInv (M := 𝕄H) Idealize.ShloMosaic.frame (wpE defs₀ 𝒱 (c : Thread nD τ) bd) E
      (k0_t5_loop i).lb (k0_t5_loop i).ub (k0_t5_loop i).st (k0_t5_ok i) init
      (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v39 v40 v42 v44 v48) where
  inv n acc := held c arg3 arg4 arg10 arg12 arg13 arg16 X3 X4 X10 (iter (stepM (rd arg3 arg4 arg10 v3 v39 v40 v42 v44 X3 X4 X10) arg1 v48 (qb i) (qb_lt i)) (entry arg12 arg13 arg16 G12 G13 G16 init) n) acc
  step k acc := by
    iintro ⟨H3, H4, H10, ⟨%f12, H12, %h12⟩, ⟨%f13, H13, %h13⟩, ⟨%f16, H16, %h16⟩, %hacc⟩
    unfold k0_t5_body
    sl_exec
    sl_step
    have hj : qb i < 11 := by have := qb_lt i; omega
    have e : k0_off9 i = ko (qb i) := off9_eq i
    have g : k0_off10 i = ro (qb i) := off10_eq i
    isplitl [H3]; · iexact H3
    isplitl [H4]; · iexact H4
    isplitl [H10]; · iexact H10
    isplitl [H12]
    · iexists _; isplitl [H12]; · iexact H12
      ipureintro
      rw [View.read_writes_cons_put _ _ _ _ _ e, View.writes_nil]
      delta loopInv5.sl.r_3 loopInv5.sl.r_4
      rw [readk arg3.view X3 hj e, readk arg4.view X4 hj e, readr arg10.view X10 hj g, readk arg12.view f12 hj e, h12]
      rfl
    isplitl [H13]
    · iexists _; isplitl [H13]; · iexact H13
      ipureintro
      rw [View.read_writes_cons_put _ _ _ _ _ e, View.writes_nil]
      delta loopInv5.sl.r_1
      rw [readk arg3.view X3 hj e, readr arg10.view X10 hj g, readk arg13.view f13 hj e, h13]
      rfl
    isplitl [H16]
    · iexists _; isplitl [H16]; · iexact H16
      ipureintro
      rw [View.read_writes_cons_put _ _ _ _ _ g, View.writes_nil]
      delta loopInv5.sl.r_2
      rw [readk arg3.view X3 hj e, readk arg4.view X4 hj e, readr arg10.view X10 hj g, readr arg16.view f16 hj g, h16]
      rfl
    ipureintro
    delta loopInv5.sl.r loopInv5.sl.r_2 loopInv5.sl.r_3
    rw [readk arg3.view X3 hj e, readk arg4.view X4 hj e, readr arg10.view X10 hj g, hacc]
    rfl

set_option warn.classDefReducibility false in
@[sl_loop] def loopInv6 (X3 : BufTy.Contents (Elt F) arg3.view.ty) (X4 : BufTy.Contents (Elt F) arg4.view.ty) (X10 : BufTy.Contents (Elt F) arg10.view.ty)
    (G12 : BufTy.Contents (Elt F) arg12.view.ty) (G13 : BufTy.Contents (Elt F) arg13.view.ty) (G16 : BufTy.Contents (Elt F) arg16.view.ty) (init : FVec F S384x128 .f32 × FVec F S384x1 .f32) (v48 : IVec S384x1 32) (v167 : BitVec 32) :
    Idealize.ShloMosaic.LoopInv (M := 𝕄H) Idealize.ShloMosaic.frame (wpE defs₀ 𝒱 (c : Thread nD τ) bd) E
      (k0_t6_loop i).lb (k0_t6_loop i).ub (k0_t6_loop i).st (k0_t6_ok i) init
      (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v39 v40 v42 v44 v48 v167) where
  inv n acc := held c arg3 arg4 arg10 arg12 arg13 arg16 X3 X4 X10 ((entry arg12 arg13 arg16 G12 G13 G16 init)) acc
  step k acc := by
    exact absurd k.isLt (by have h : Scf.trips (k0_t6_loop i).lb (k0_t6_loop i).ub (k0_t6_loop i).st = 0 := trips6 i; omega)

end Cert.KernelIdeal.Hand

end
-- ==== Proof.Point.lean ====
/-
  One point of the grid — one query block of one head — as functions of arrays. The point's walk starts from the
  head's accumulators with a zero pair, takes key block 0 under the mask, then the blocks between 0 and the query's
  own, two at a time and a last one where their number is odd, then the query's own block under the mask. What it
  leaves: the query block's gradient and row sums, and the accumulators.
-/
module

public import proofs.«01_k».proof.Proof.Loops

@[expose] public section

noncomputable section

namespace Cert.KernelIdeal.Hand

open Cert.KernelIdeal Cert.KernelIdeal.Gen
open Idealize.ShloMosaic

variable {F : FTy → Type} [FloatOps F]

/-- The number of a point's query block as a word. -/
abbrev qw (i : grid0.Coords) : BitVec 32 := BitVec.ofNat 32 (i 1).val

/-- The blocks a point reads. -/
structure In (F : FTy → Type) where
  q : FVec F S384x128 .bf16
  K : FVec F S4224x128 .bf16
  V : FVec F S4224x128 .bf16
  o : FVec F S384x128 .f32
  don : FVec F S384x128 .f32
  g : FVec F S1x128 .f32
  ls : FVec F S1x384x1 .f32
  ci : FVec F S1x384x1 .f32
  cr : FVec F S1x11x1x384 .f32

/-- The accumulators of a head. -/
structure Ac (F : FTy → Type) where
  dk : FVec F S4224x128 .f32
  dv : FVec F S4224x128 .f32
  dg : FVec F S1x128 .f32
  dr : FVec F S1x11x1x384 .f32

/-- The gradient of the attention's output before its norm. -/
def dOut (x : In F) : FVec F S384x128 .f32 := k0_pay76 x.o x.don x.g

/-- What the walk reads at a point. -/
def rdAt (x : In F) : Rd F :=
  ⟨x.q, k0_pay78 (k0_pay73 x.o) (dOut x), k0_pay79 (dOut x), k0_pay80 x.ci, k0_pay81 x.ls, x.K, x.V, x.cr⟩

/-- The accumulators at the first query block of a head. -/
def Ac.zero : Ac F := ⟨k0_pay69, k0_pay70, k0_pay71, k0_pay72⟩

/-- The walk's state before the first key block. -/
def st0 (a : Ac F) : St F := ⟨(k0_pay83, k0_pay84), a.dk, a.dv, a.dr⟩

/-- The state after key block 0, after the pairs of middle blocks, after the middle block left over, and at the end. -/
def st1 (i : grid0.Coords) (x : In F) (a : Ac F) : St F := stepM (rdAt x) 0#32 (k0_pay82 (qw i)) 0 (by omega) (st0 a)
def st2 (i : grid0.Coords) (x : In F) (a : Ac F) : St F := pairs (rdAt x) (st1 i x a) ((qb i - 1) / 2)
def st3 (i : grid0.Coords) (x : In F) (a : Ac F) : St F :=
  iter (stepU (rdAt x) (qb i - 1) (by have := qb_lt i; omega)) (st2 i x a) ((qb i - 1) % 2)
def st4 (i : grid0.Coords) (x : In F) (a : Ac F) : St F :=
  iter (stepM (rdAt x) (qw i) (k0_pay82 (qw i)) (qb i) (qb_lt i)) (st3 i x a) (min (qb i) 1)

/-- What a point leaves: in the blocks it writes, and in the accumulators. -/
def dqAt (i : grid0.Coords) (x : In F) (a : Ac F) : FVec F S384x128 .bf16 := k0_pay19 (st4 i x a).acc.1
def dcAt (i : grid0.Coords) (x : In F) (a : Ac F) : FVec F S1x384x1 .f32 := k0_pay20 (st4 i x a).acc.2
def acAt (i : grid0.Coords) (x : In F) (a : Ac F) : Ac F :=
  ⟨(st4 i x a).dk, (st4 i x a).dv, k0_pay77 x.o x.don a.dg, (st4 i x a).dr⟩

/-- The accumulators a point starts from, `a` being what the point before left. -/
def acIn (i : grid0.Coords) (a : Ac F) : Ac F := if qb i = 0 then Ac.zero else a

end Cert.KernelIdeal.Hand

end
-- ==== Proof.Body.lean ====
/-
  The body at one point of the grid, run: from the nine blocks it reads and the six buffers it writes, it leaves the
  blocks as they were and the buffers reading as the point's functions give them.
-/
module

public import proofs.«01_k».proof.Proof.Point

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄H" => MT nD τ sig Unit (Elt F) ℕ (UR sig nD τ) ℕ

variable (𝒱 : Variants) (c : Dev nD) (bd : Option 𝒱.V) (E : Set ℕ) (i : grid0.Coords)
  (arg2 : Memref sig .tc .vmem S384x128 .bf16) (harg2 : arg2.IsWhole)
  (arg3 : Memref sig .tc .vmem S4224x128 .bf16) (harg3 : arg3.IsWhole)
  (arg4 : Memref sig .tc .vmem S4224x128 .bf16) (harg4 : arg4.IsWhole)
  (arg5 : Memref sig .tc .vmem S384x128 .f32) (harg5 : arg5.IsWhole)
  (arg6 : Memref sig .tc .vmem S384x128 .f32) (harg6 : arg6.IsWhole)
  (arg7 : Memref sig .tc .vmem S1x128 .f32) (harg7 : arg7.IsWhole)
  (arg8 : Memref sig .tc .vmem S1x384x1 .f32) (harg8 : arg8.IsWhole)
  (arg9 : Memref sig .tc .vmem S1x384x1 .f32) (harg9 : arg9.IsWhole)
  (arg10 : Memref sig .tc .vmem S1x11x1x384 .f32) (harg10 : arg10.IsWhole)
  (arg11 : Memref sig .tc .vmem S384x128 .bf16) (harg11 : arg11.IsWhole)
  (arg12 : Memref sig .tc .vmem S4224x128 .f32) (harg12 : arg12.IsWhole)
  (arg13 : Memref sig .tc .vmem S4224x128 .f32) (harg13 : arg13.IsWhole)
  (arg14 : Memref sig .tc .vmem S1x128 .f32) (harg14 : arg14.IsWhole)
  (arg15 : Memref sig .tc .vmem S1x384x1 .f32) (harg15 : arg15.IsWhole)
  (arg16 : Memref sig .tc .vmem S1x11x1x384 .f32) (harg16 : arg16.IsWhole)

section

variable (X2 : BufTy.Contents (Elt F) arg2.view.ty)
    (X3 : BufTy.Contents (Elt F) arg3.view.ty)
    (X4 : BufTy.Contents (Elt F) arg4.view.ty)
    (X5 : BufTy.Contents (Elt F) arg5.view.ty)
    (X6 : BufTy.Contents (Elt F) arg6.view.ty)
    (X7 : BufTy.Contents (Elt F) arg7.view.ty)
    (X8 : BufTy.Contents (Elt F) arg8.view.ty)
    (X9 : BufTy.Contents (Elt F) arg9.view.ty)
    (X10 : BufTy.Contents (Elt F) arg10.view.ty)
    (X11 : BufTy.Contents (Elt F) arg11.view.ty)
    (X12 : BufTy.Contents (Elt F) arg12.view.ty)
    (X13 : BufTy.Contents (Elt F) arg13.view.ty)
    (X14 : BufTy.Contents (Elt F) arg14.view.ty)
    (X15 : BufTy.Contents (Elt F) arg15.view.ty)
    (X16 : BufTy.Contents (Elt F) arg16.view.ty)

/-- What the blocks and the accumulators read as. -/
abbrev inOf : In F := ⟨arg2.view.read (Elt F) X2, arg3.view.read (Elt F) X3, arg4.view.read (Elt F) X4, arg5.view.read (Elt F) X5, arg6.view.read (Elt F) X6, arg7.view.read (Elt F) X7, arg8.view.read (Elt F) X8, arg9.view.read (Elt F) X9, arg10.view.read (Elt F) X10⟩
abbrev acOf : Ac F := ⟨arg12.view.read (Elt F) X12, arg13.view.read (Elt F) X13, arg14.view.read (Elt F) X14, arg16.view.read (Elt F) X16⟩

/-- What the body owns before and after. -/
def heldBefore : sProp 𝕄H := iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16))
def heldAfter (x : In F) (a : Ac F) : sProp 𝕄H := iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (∃ f, (arg11.view.loc (c : Thread nD τ) ↦[arg11.view.set]{fullShare} f) ∗ ⌜arg11.view.read (Elt F) f = dqAt i x a⌝) ∗ (∃ f, (arg12.view.loc (c : Thread nD τ) ↦[arg12.view.set]{fullShare} f) ∗ ⌜arg12.view.read (Elt F) f = (acAt i x a).dk⌝) ∗ (∃ f, (arg13.view.loc (c : Thread nD τ) ↦[arg13.view.set]{fullShare} f) ∗ ⌜arg13.view.read (Elt F) f = (acAt i x a).dv⌝) ∗ (∃ f, (arg14.view.loc (c : Thread nD τ) ↦[arg14.view.set]{fullShare} f) ∗ ⌜arg14.view.read (Elt F) f = (acAt i x a).dg⌝) ∗ (∃ f, (arg15.view.loc (c : Thread nD τ) ↦[arg15.view.set]{fullShare} f) ∗ ⌜arg15.view.read (Elt F) f = dcAt i x a⌝) ∗ (∃ f, (arg16.view.loc (c : Thread nD τ) ↦[arg16.view.set]{fullShare} f) ∗ ⌜arg16.view.read (Elt F) f = (acAt i x a).dr⌝))

end

/-- A state is what its accumulators' buffers read as, with its own pair. -/
theorem entry_eq {s : St F} {f12 : BufTy.Contents (Elt F) arg12.view.ty} {f13 : BufTy.Contents (Elt F) arg13.view.ty} {f16 : BufTy.Contents (Elt F) arg16.view.ty}
    (h12 : arg12.view.read (Elt F) f12 = s.dk) (h13 : arg13.view.read (Elt F) f13 = s.dv) (h16 : arg16.view.read (Elt F) f16 = s.dr) :
    entry arg12 arg13 arg16 f12 f13 f16 (s.1.1, s.1.2) = s := by
  unfold entry; rw [h12, h13, h16]

/-- The state after key block 0: the accumulators' buffers, with block 0 of each stored over. -/
theorem entry_first {r : Rd F} {w : BitVec 32} {v48 : IVec S384x1 32} {s : St F} (h0 : 0 < 11)
    {f12 : BufTy.Contents (Elt F) arg12.view.ty} {f13 : BufTy.Contents (Elt F) arg13.view.ty} {f16 : BufTy.Contents (Elt F) arg16.view.ty}
    (h12 : arg12.view.read (Elt F) f12 = s.dk) (h13 : arg13.view.read (Elt F) f13 = s.dv) (h16 : arg16.view.read (Elt F) f16 = s.dr)
    {p12 : FVec F S384x128 .f32} {p13 : FVec F S384x128 .f32} {p16 : FVec F S1x1x1x384 .f32} {init : FVec F S384x128 .f32 × FVec F S384x1 .f32}
    (g12 : p12 = k0_pay9 r.q (truncf .bf16 (k0_pay64 w r.q r.dl r.dob r.ci r.ls v48 (kwin r.K 0 h0) (kwin r.V 0 h0) (rwin r.cr 0 h0)) bitsLt_bf16_f32) (kwin (arg12.view.read (Elt F) f12) 0 h0))
    (g13 : p13 = k0_pay10 r.dob (k0_pay63 w r.q r.ci r.ls v48 (kwin r.K 0 h0) (rwin r.cr 0 h0)) (kwin (arg13.view.read (Elt F) f13) 0 h0))
    (g16 : p16 = k0_pay11 (k0_pay64 w r.q r.dl r.dob r.ci r.ls v48 (kwin r.K 0 h0) (kwin r.V 0 h0) (rwin r.cr 0 h0)) (rwin (arg16.view.read (Elt F) f16) 0 h0))
    (gi : init = (stepM r w v48 0 h0 s).acc) :
    entry arg12 arg13 arg16
      (arg12.view.writes (Elt F) f12 [⟨Rect.unit (s := S4224x128) ![0, 0] S384x128.size inb_S4224x128_S384x128_0_0, p12⟩])
      (arg13.view.writes (Elt F) f13 [⟨Rect.unit (s := S4224x128) ![0, 0] S384x128.size inb_S4224x128_S384x128_0_0, p13⟩])
      (arg16.view.writes (Elt F) f16 [⟨Rect.unit (s := S1x11x1x384) ![0, 0, 0, 0] S1x1x1x384.size inb_S1x11x1x384_S1x1x1x384_0_0_0_0, p16⟩]) init
    = stepM r w v48 0 h0 s := by
  rw [h12] at g12; rw [h13] at g13; rw [h16] at g16
  subst g12 g13 g16 gi
  unfold entry
  rw [View.read_writes_cons_put _ _ _ _ _ (show ![0, 0] = ko 0 from rfl), View.read_writes_cons_put _ _ _ _ _ (show ![0, 0] = ko 0 from rfl),
    View.read_writes_cons_put _ _ _ _ _ (show ![0, 0, 0, 0] = ro 0 from rfl), View.writes_nil, View.writes_nil, View.writes_nil, h12, h13, h16]
  rfl

/-- The test of the first query block. -/
theorem first_iff (i : grid0.Coords) : (Scalar.cmpi .ne (Scalar.extui (Scalar.cmpi .eq (qw i) 0#32) : BitVec 32) 0#32 = 1#1) ↔ qb i = 0 := by
  have h := qb_lt i
  have e : qw i = BitVec.ofNat 32 (qb i) := rfl
  rw [e]
  generalize qb i = n at h ⊢
  revert n
  decide

/-- The loops' states, linked: from the state after key block 0 to the state at the end. -/
theorem walk {r : Rd F} (x : In F) (a : Ac F) (hr : r = rdAt x) {C12 : BufTy.Contents (Elt F) arg12.view.ty} {C13 : BufTy.Contents (Elt F) arg13.view.ty} {C16 : BufTy.Contents (Elt F) arg16.view.ty} {init : FVec F S384x128 .f32 × FVec F S384x1 .f32}
    (e1 : entry arg12 arg13 arg16 C12 C13 C16 init = st1 i x a) (h3 : qb i - 1 < 11) (h5 : qb i < 11)
    {f0 : BufTy.Contents (Elt F) arg12.view.ty} {f1 : BufTy.Contents (Elt F) arg13.view.ty} {f2 : BufTy.Contents (Elt F) arg16.view.ty} {f3 : BufTy.Contents (Elt F) arg12.view.ty} {f4 : BufTy.Contents (Elt F) arg13.view.ty} {f5 : BufTy.Contents (Elt F) arg16.view.ty} {f6 : BufTy.Contents (Elt F) arg12.view.ty} {f7 : BufTy.Contents (Elt F) arg13.view.ty} {f8 : BufTy.Contents (Elt F) arg16.view.ty} {f9 : BufTy.Contents (Elt F) arg12.view.ty} {f10 : BufTy.Contents (Elt F) arg13.view.ty} {f11 : BufTy.Contents (Elt F) arg16.view.ty} {f12 : BufTy.Contents (Elt F) arg12.view.ty} {f13 : BufTy.Contents (Elt F) arg13.view.ty} {f14 : BufTy.Contents (Elt F) arg16.view.ty} {f15 : BufTy.Contents (Elt F) arg12.view.ty} {f16 : BufTy.Contents (Elt F) arg13.view.ty} {f17 : BufTy.Contents (Elt F) arg16.view.ty}
    (k0 : arg12.view.read (Elt F) f0 = (pairs r (entry arg12 arg13 arg16 C12 C13 C16 init) (k0_t1_loop i).trips).dk) (k1 : arg13.view.read (Elt F) f1 = (pairs r (entry arg12 arg13 arg16 C12 C13 C16 init) (k0_t1_loop i).trips).dv) (k2 : arg16.view.read (Elt F) f2 = (pairs r (entry arg12 arg13 arg16 C12 C13 C16 init) (k0_t1_loop i).trips).dr)
    (k3 : arg12.view.read (Elt F) f3 = (entry arg12 arg13 arg16 f0 f1 f2 ((pairs r (entry arg12 arg13 arg16 C12 C13 C16 init) (k0_t1_loop i).trips).1.1, (pairs r (entry arg12 arg13 arg16 C12 C13 C16 init) (k0_t1_loop i).trips).1.2)).dk) (k4 : arg13.view.read (Elt F) f4 = (entry arg12 arg13 arg16 f0 f1 f2 ((pairs r (entry arg12 arg13 arg16 C12 C13 C16 init) (k0_t1_loop i).trips).1.1, (pairs r (entry arg12 arg13 arg16 C12 C13 C16 init) (k0_t1_loop i).trips).1.2)).dv) (k5 : arg16.view.read (Elt F) f5 = (entry arg12 arg13 arg16 f0 f1 f2 ((pairs r (entry arg12 arg13 arg16 C12 C13 C16 init) (k0_t1_loop i).trips).1.1, (pairs r (entry arg12 arg13 arg16 C12 C13 C16 init) (k0_t1_loop i).trips).1.2)).dr)
    (k6 : arg12.view.read (Elt F) f6 = (iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).dk) (k7 : arg13.view.read (Elt F) f7 = (iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).dv) (k8 : arg16.view.read (Elt F) f8 = (iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).dr)
    (k9 : arg12.view.read (Elt F) f9 = (entry arg12 arg13 arg16 f6 f7 f8 ((iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.1, (iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.2)).dk) (k10 : arg13.view.read (Elt F) f10 = (entry arg12 arg13 arg16 f6 f7 f8 ((iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.1, (iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.2)).dv) (k11 : arg16.view.read (Elt F) f11 = (entry arg12 arg13 arg16 f6 f7 f8 ((iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.1, (iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.2)).dr)
    (k12 : arg12.view.read (Elt F) f12 = (iter (stepM r (qw i) (k0_pay82 (qw i)) (qb i) h5) (entry arg12 arg13 arg16 f9 f10 f11 ((iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.1, (iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.2)) (k0_t5_loop i).trips).dk) (k13 : arg13.view.read (Elt F) f13 = (iter (stepM r (qw i) (k0_pay82 (qw i)) (qb i) h5) (entry arg12 arg13 arg16 f9 f10 f11 ((iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.1, (iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.2)) (k0_t5_loop i).trips).dv) (k14 : arg16.view.read (Elt F) f14 = (iter (stepM r (qw i) (k0_pay82 (qw i)) (qb i) h5) (entry arg12 arg13 arg16 f9 f10 f11 ((iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.1, (iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.2)) (k0_t5_loop i).trips).dr)
    (k15 : arg12.view.read (Elt F) f15 = (entry arg12 arg13 arg16 f12 f13 f14 ((iter (stepM r (qw i) (k0_pay82 (qw i)) (qb i) h5) (entry arg12 arg13 arg16 f9 f10 f11 ((iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.1, (iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.2)) (k0_t5_loop i).trips).1.1, (iter (stepM r (qw i) (k0_pay82 (qw i)) (qb i) h5) (entry arg12 arg13 arg16 f9 f10 f11 ((iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.1, (iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.2)) (k0_t5_loop i).trips).1.2)).dk) (k16 : arg13.view.read (Elt F) f16 = (entry arg12 arg13 arg16 f12 f13 f14 ((iter (stepM r (qw i) (k0_pay82 (qw i)) (qb i) h5) (entry arg12 arg13 arg16 f9 f10 f11 ((iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.1, (iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.2)) (k0_t5_loop i).trips).1.1, (iter (stepM r (qw i) (k0_pay82 (qw i)) (qb i) h5) (entry arg12 arg13 arg16 f9 f10 f11 ((iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.1, (iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.2)) (k0_t5_loop i).trips).1.2)).dv) (k17 : arg16.view.read (Elt F) f17 = (entry arg12 arg13 arg16 f12 f13 f14 ((iter (stepM r (qw i) (k0_pay82 (qw i)) (qb i) h5) (entry arg12 arg13 arg16 f9 f10 f11 ((iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.1, (iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.2)) (k0_t5_loop i).trips).1.1, (iter (stepM r (qw i) (k0_pay82 (qw i)) (qb i) h5) (entry arg12 arg13 arg16 f9 f10 f11 ((iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.1, (iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.2)) (k0_t5_loop i).trips).1.2)).dr) :
    (arg12.view.read (Elt F) f15 = (st4 i x a).dk ∧ arg13.view.read (Elt F) f16 = (st4 i x a).dv ∧ arg16.view.read (Elt F) f17 = (st4 i x a).dr)
      ∧ (iter (stepM r (qw i) (k0_pay82 (qw i)) (qb i) h5) (entry arg12 arg13 arg16 f9 f10 f11 ((iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.1, (iter (stepU r (qb i - 1) h3) (entry arg12 arg13 arg16 f3 f4 f5 ((pairs r (entry arg12 arg13 arg16 C12 C13 C16 init) (k0_t1_loop i).trips).1.1, (pairs r (entry arg12 arg13 arg16 C12 C13 C16 init) (k0_t1_loop i).trips).1.2)) (k0_t3_loop i).trips).1.2)) (k0_t5_loop i).trips).1 = (st4 i x a).acc := by
  subst hr
  have q1 : (pairs (rdAt x) (st1 i x a) ((qb i - 1) / 2)) = st2 i x a := rfl
  have q3 : (iter (stepU (rdAt x) (qb i - 1) h3) (st2 i x a) ((qb i - 1) % 2)) = st3 i x a := rfl
  have q5 : (iter (stepM (rdAt x) (qw i) (k0_pay82 (qw i)) (qb i) h5) (st3 i x a) (min (qb i) 1)) = st4 i x a := rfl
  simp only [trips1, trips3, trips5] at k0 k1 k2 k3 k4 k5 k6 k7 k8 k9 k10 k11 k12 k13 k14 k15 k16 k17 ⊢
  rw [e1, q1] at k0 k1 k2
  have a2 := entry_eq arg12 arg13 arg16 (s := st2 i x a) (k3.trans k0) (k4.trans k1) (k5.trans k2)
  simp only [e1, q1] at k6 k7 k8 k12 k13 k14 ⊢
  rw [a2, q3] at k6 k7 k8
  have a4 := entry_eq arg12 arg13 arg16 (s := st3 i x a) (k9.trans k6) (k10.trans k7) (k11.trans k8)
  rw [a2, q3, a4, q5] at k12 k13 k14 ⊢
  exact ⟨⟨k15.trans k12, k16.trans k13, k17.trans k14⟩, rfl⟩

/-- A buffer zeroed at the first query block. -/
theorem read_zeroed {sh : Shape} {e : EltTy} (v : View sig .tc .vmem sh e) (X : v.ty.Contents (Elt F)) {off : Fin sh.rank → ℕ} (inb : ∀ a, off a + sh.size a ≤ sh.size a)
    (p : sh.Idx → Elt F e) {w : BitVec 1} (hw : w = 1#1 ↔ qb i = 0) {y : sh.Idx → Elt F e} (hy : y = if qb i = 0 then p else v.read (Elt F) X) :
    v.read (Elt F) (if hc : w = 1#1 then v.writes (Elt F) X [⟨Rect.unit off sh.size inb, p⟩] else X) = y := by
  subst hy
  by_cases h : w = 1#1
  · rw [dif_pos h, if_pos (hw.mp h), View.read_writes_full]
  · rw [dif_neg h, if_neg (fun q => h (hw.mpr q))]

variable (X2 : BufTy.Contents (Elt F) arg2.view.ty)
    (X3 : BufTy.Contents (Elt F) arg3.view.ty)
    (X4 : BufTy.Contents (Elt F) arg4.view.ty)
    (X5 : BufTy.Contents (Elt F) arg5.view.ty)
    (X6 : BufTy.Contents (Elt F) arg6.view.ty)
    (X7 : BufTy.Contents (Elt F) arg7.view.ty)
    (X8 : BufTy.Contents (Elt F) arg8.view.ty)
    (X9 : BufTy.Contents (Elt F) arg9.view.ty)
    (X10 : BufTy.Contents (Elt F) arg10.view.ty)
    (X11 : BufTy.Contents (Elt F) arg11.view.ty)
    (X12 : BufTy.Contents (Elt F) arg12.view.ty)
    (X13 : BufTy.Contents (Elt F) arg13.view.ty)
    (X14 : BufTy.Contents (Elt F) arg14.view.ty)
    (X15 : BufTy.Contents (Elt F) arg15.view.ty)
    (X16 : BufTy.Contents (Elt F) arg16.view.ty)

attribute [local irreducible] View.read in
theorem run : heldBefore c arg2 arg3 arg4 arg5 arg6 arg7 arg8 arg9 arg10 arg11 arg12 arg13 arg14 arg15 arg16 X2 X3 X4 X5 X6 X7 X8 X9 X10 X11 X12 X13 X14 X15 X16
    ⊢ wp frame (wpE (defs₀ (F := F)) 𝒱 (c : Thread nD τ) bd) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16)
      (fun _ => heldAfter c i arg2 arg3 arg4 arg5 arg6 arg7 arg8 arg9 arg10 arg11 arg12 arg13 arg14 arg15 arg16 X2 X3 X4 X5 X6 X7 X8 X9 X10 (inOf arg2 arg3 arg4 arg5 arg6 arg7 arg8 arg9 arg10 X2 X3 X4 X5 X6 X7 X8 X9 X10) (acIn i (acOf arg12 arg13 arg14 arg16 X12 X13 X14 X16))) := by
  rw [cc0_fox_bwd_eq_skeleton]
  unfold heldBefore heldAfter cc0_fox_bwd_skel
  iintro ⟨H2, H3, H4, H5, H6, H7, H8, H9, H10, H11, H12, H13, H14, H15, H16⟩
  sl_exec
  sl_step
  have hr : (rd arg3 arg4 arg10 (run.sl.r arg2 X2) (run.sl.r_4 arg5 arg6 arg7 X5 X6 X7) (run.sl.r_5 arg5 arg6 arg7 X5 X6 X7) (run.sl.r_6 arg9 X9) (run.sl.r_7 arg8 X8) X3 X4 X10) = rdAt (inOf arg2 arg3 arg4 arg5 arg6 arg7 arg8 arg9 arg10 X2 X3 X4 X5 X6 X7 X8 X9 X10) := by
    delta run.sl.r run.sl.r_4 run.sl.r_5 run.sl.r_6 run.sl.r_7 run.sl.r_1 run.sl.r_2
    rw [View.readAt_full, View.readAt_full, View.readAt_full, View.readAt_full, View.readAt_full, View.readAt_full]
    rfl
  have h0 : (0:ℕ) < 11 := by omega
  obtain ⟨⟨w12, w13, w16⟩, wa⟩ := walk i arg12 arg13 arg16 (inOf arg2 arg3 arg4 arg5 arg6 arg7 arg8 arg9 arg10 X2 X3 X4 X5 X6 X7 X8 X9 X10) (acIn i (acOf arg12 arg13 arg14 arg16 X12 X13 X14 X16)) hr (by
      refine entry_first arg12 arg13 arg16 (s := st0 (acIn i (acOf arg12 arg13 arg14 arg16 X12 X13 X14 X16))) h0 ?_ ?_ ?_ ?_ ?_ ?_ ?_
      · exact read_zeroed i arg12.view X12 _ _ (first_iff i) (by unfold st0 acIn; split <;> rfl)
      · exact read_zeroed i arg13.view X13 _ _ (first_iff i) (by unfold st0 acIn; split <;> rfl)
      · exact read_zeroed i arg16.view X16 _ _ (first_iff i) (by unfold st0 acIn; split <;> rfl)
      · rw [← hr]; rfl
      · rw [← hr]; rfl
      · rw [← hr]; rfl
      · rw [← hr]; rfl) (by have := qb_lt i; omega) (qb_lt i) hL4 hL6 hL8 hL14 hL16 hL18 hL24 hL26 hL28 hL34 hL36 hL38 hL44 hL46 hL48 hL54 hL56 hL58
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; isplitl [H11]; · iexact H11
    ipureintro
    rw [View.read_writes_full]
    exact congrArg (fun z => k0_pay19 z.1) wa
  isplitl [H12]
  · iexists _; isplitl [H12]; · iexact H12
    ipureintro
    exact w12
  isplitl [H13]
  · iexists _; isplitl [H13]; · iexact H13
    ipureintro
    exact w13
  isplitl [H14]
  · iexists _; isplitl [H14]; · iexact H14
    ipureintro
    delta run.sl.H14_1
    rw [View.read_writes_full]
    delta run.sl.r_3
    exact congr (congr (congrArg k0_pay77 (View.readAt_full arg5.view X5 _)) (View.readAt_full arg6.view X6 _))
      ((View.readAt_full arg14.view _ _).trans (read_zeroed i arg14.view X14 _ _ (first_iff i) (by unfold acIn; split <;> rfl)))
  isplitl [H15]
  · iexists _; isplitl [H15]; · iexact H15
    ipureintro
    rw [View.read_writes_full]
    exact congrArg (fun z => k0_pay20 z.2) wa
  iexists _; isplitl [H16]; · iexact H16
  ipureintro
  exact w16

end Cert.KernelIdeal.Hand

end
-- ==== Proof.Run.lean ====
/-
  The kernel's run: its 88 points, eleven query blocks for each of eight heads, and what each leaves. The contents of the
  six results' blocks are followed from point to point; the accumulators start from zero at each head's first block.
-/
module

public import proofs.«01_k».proof.Proof.Body
public import proofs.«01_k».proof.Proof.Gen.KernelIdeal.Frame

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Pipeline Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄H" => MT nD τ sig Unit (Elt F) ℕ (UR sig nD τ) ℕ

variable (m : (ℓ : Loc nD τ sig) → Buf (Elt F) ℓ) (ρ : Dev nD → PrngReg)

/-! ## What each point reads and leaves -/

/-- The blocks point `t` reads. -/
def inAt (c : Dev nD) (t : Fin cfg0.N) : In F :=
  ⟨iblk m c 0 t, iblk m c 1 t, iblk m c 2 t, iblk m c 3 t, iblk m c 4 t, iblk m c 5 t, iblk m c 6 t, iblk m c 7 t, iblk m c 8 t⟩

/-- The accumulators before point `n` (after point `n - 1`). -/
def accs (c : Dev nD) : ℕ → Ac F
  | 0 => Ac.zero
  | n + 1 => if h : n < cfg0.N then
      acAt (grid0.coords ⟨n, h⟩) (inAt m c ⟨n, h⟩) (acIn (grid0.coords ⟨n, h⟩) (accs c n)) else accs c n

theorem accs_succ (c : Dev nD) (t : Fin cfg0.N) :
    accs m c (t.val + 1) = acAt (grid0.coords t) (inAt m c t) (acIn (grid0.coords t) (accs m c t.val)) := by
  show (if h : t.val < cfg0.N then _ else _) = _
  rw [dif_pos t.isLt]

/-- A point's query block is its number modulo eleven. -/
theorem qb_coords : ∀ t : Fin grid0.N, qb (grid0.coords t) = t.val % 11 := by decide +kernel

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dqAt (grid0.coords t) (inAt m c t) (acIn (grid0.coords t) (accs m c t.val))
    | ⟨10, _⟩ => (accs m c (t.val + 1)).dk
    | ⟨11, _⟩ => (accs m c (t.val + 1)).dv
    | ⟨12, _⟩ => (accs m c (t.val + 1)).dg
    | ⟨13, _⟩ => dcAt (grid0.coords t) (inAt m c t) (acIn (grid0.coords t) (accs m c t.val))
    | ⟨14, _⟩ => (accs m c (t.val + 1)).dr
  Φ _ := Pipeline.ΦA spec0 c
  q w := Pipeline.shareOf spec0 w
  owed _ := 0

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = dqAt (grid0.coords t) (inAt m c t) (acIn (grid0.coords t) (accs m c t.val)) := by dsimp only [dats]
theorem after_10 (c : Dev nD) (t : Fin cfg0.N) : (dats m 0 c).after 10 t = (accs m c (t.val + 1)).dk := by dsimp only [dats]
theorem after_11 (c : Dev nD) (t : Fin cfg0.N) : (dats m 0 c).after 11 t = (accs m c (t.val + 1)).dv := by dsimp only [dats]
theorem after_12 (c : Dev nD) (t : Fin cfg0.N) : (dats m 0 c).after 12 t = (accs m c (t.val + 1)).dg := by dsimp only [dats]
theorem after_13 (c : Dev nD) (t : Fin cfg0.N) : (dats m 0 c).after 13 t = dcAt (grid0.coords t) (inAt m c t) (acIn (grid0.coords t) (accs m c t.val)) := by dsimp only [dats]
theorem after_14 (c : Dev nD) (t : Fin cfg0.N) : (dats m 0 c).after 14 t = (accs m c (t.val + 1)).dr := by dsimp only [dats]

theorem before_0 (c : Dev nD) (t : Fin cfg0.N) (d) : (dats m 0 c).before 0 t d = iblk m c 0 t :=
  before0_0_of m (dats m 0 c) rfl (after_0 m c) t d
theorem before_1 (c : Dev nD) (t : Fin cfg0.N) (d) : (dats m 0 c).before 1 t d = iblk m c 1 t :=
  before0_1_of m (dats m 0 c) rfl (after_1 m c) t d
theorem before_2 (c : Dev nD) (t : Fin cfg0.N) (d) : (dats m 0 c).before 2 t d = iblk m c 2 t :=
  before0_2_of m (dats m 0 c) rfl (after_2 m c) t d
theorem before_3 (c : Dev nD) (t : Fin cfg0.N) (d) : (dats m 0 c).before 3 t d = iblk m c 3 t :=
  before0_3_of m (dats m 0 c) rfl (after_3 m c) t d
theorem before_4 (c : Dev nD) (t : Fin cfg0.N) (d) : (dats m 0 c).before 4 t d = iblk m c 4 t :=
  before0_4_of m (dats m 0 c) rfl (after_4 m c) t d
theorem before_5 (c : Dev nD) (t : Fin cfg0.N) (d) : (dats m 0 c).before 5 t d = iblk m c 5 t :=
  before0_5_of m (dats m 0 c) rfl (after_5 m c) t d
theorem before_6 (c : Dev nD) (t : Fin cfg0.N) (d) : (dats m 0 c).before 6 t d = iblk m c 6 t :=
  before0_6_of m (dats m 0 c) rfl (after_6 m c) t d
theorem before_7 (c : Dev nD) (t : Fin cfg0.N) (d) : (dats m 0 c).before 7 t d = iblk m c 7 t :=
  before0_7_of m (dats m 0 c) rfl (after_7 m c) t d
theorem before_8 (c : Dev nD) (t : Fin cfg0.N) (d) : (dats m 0 c).before 8 t d = iblk m c 8 t :=
  before0_8_of m (dats m 0 c) rfl (after_8 m c) t d

/-- Off a head's first point an accumulator's block holds what the point before left. -/
theorem kept_10 (c : Dev nD) (t : Fin cfg0.N) (h : t.val % 11 ≠ 0) (d) : (dats m 0 c).before 10 t d = (accs m c t.val).dk := by
  have h0 : t.val ≠ 0 := by omega
  rw [Dat.before_out_kept (dats m 0 c) 10 rfl t h0
    (by rw [Bool.eq_false_iff]; intro hf; have : (t.val - 1) % 11 = 10 := (flush0_10 _).mp hf; omega) (fun _ => rfl) (fun _ _ => rfl) d, after_10]
  exact congrArg (fun n => (accs m c n).dk) (Nat.sub_add_cancel (by omega))
theorem kept_11 (c : Dev nD) (t : Fin cfg0.N) (h : t.val % 11 ≠ 0) (d) : (dats m 0 c).before 11 t d = (accs m c t.val).dv := by
  have h0 : t.val ≠ 0 := by omega
  rw [Dat.before_out_kept (dats m 0 c) 11 rfl t h0
    (by rw [Bool.eq_false_iff]; intro hf; have : (t.val - 1) % 11 = 10 := (flush0_11 _).mp hf; omega) (fun _ => rfl) (fun _ _ => rfl) d, after_11]
  exact congrArg (fun n => (accs m c n).dv) (Nat.sub_add_cancel (by omega))
theorem kept_12 (c : Dev nD) (t : Fin cfg0.N) (h : t.val % 11 ≠ 0) (d) : (dats m 0 c).before 12 t d = (accs m c t.val).dg := by
  have h0 : t.val ≠ 0 := by omega
  rw [Dat.before_out_kept (dats m 0 c) 12 rfl t h0
    (by rw [Bool.eq_false_iff]; intro hf; have : (t.val - 1) % 11 = 10 := (flush0_12 _).mp hf; omega) (fun _ => rfl) (fun _ _ => rfl) d, after_12]
  exact congrArg (fun n => (accs m c n).dg) (Nat.sub_add_cancel (by omega))
theorem kept_14 (c : Dev nD) (t : Fin cfg0.N) (h : t.val % 11 ≠ 0) (d) : (dats m 0 c).before 14 t d = (accs m c t.val).dr := by
  have h0 : t.val ≠ 0 := by omega
  rw [Dat.before_out_kept (dats m 0 c) 14 rfl t h0
    (by rw [Bool.eq_false_iff]; intro hf; have : (t.val - 1) % 11 = 10 := (flush0_14 _).mp hf; omega) (fun _ => rfl) (fun _ _ => rfl) d, after_14]
  exact congrArg (fun n => (accs m c n).dr) (Nat.sub_add_cancel (by omega))

/-- The accumulators a point starts from, read off its blocks. -/
theorem start (c : Dev nD) (t : Fin cfg0.N) (d10 d11 d12 d14) :
    acIn (grid0.coords t) (⟨(dats m 0 c).before 10 t d10, (dats m 0 c).before 11 t d11, (dats m 0 c).before 12 t d12, (dats m 0 c).before 14 t d14⟩ : Ac F)
      = acIn (grid0.coords t) (accs m c t.val) := by
  unfold acIn
  split
  · rfl
  · next h =>
    rw [qb_coords] at h
    rw [kept_10 m c t h, kept_11 m c t h, kept_12 m c t h, kept_14 m c t h]

/-! ## The body -/

def bodyPre (c : Dev nD) (t : Fin cfg0.N) : sProp 𝕄H :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))
def bodyPost (c : Dev nD) (t : Fin cfg0.N) : sProp 𝕄H :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

/-- The run at point `t`, from contents that read as the blocks. -/
theorem run_at (c : Dev nD) (t : Fin cfg0.N)
    (X2 : BufTy.Contents (Elt F) (st0_0 t).view.ty)
    (X3 : BufTy.Contents (Elt F) (st0_1 t).view.ty)
    (X4 : BufTy.Contents (Elt F) (st0_2 t).view.ty)
    (X5 : BufTy.Contents (Elt F) (st0_3 t).view.ty)
    (X6 : BufTy.Contents (Elt F) (st0_4 t).view.ty)
    (X7 : BufTy.Contents (Elt F) (st0_5 t).view.ty)
    (X8 : BufTy.Contents (Elt F) (st0_6 t).view.ty)
    (X9 : BufTy.Contents (Elt F) (st0_7 t).view.ty)
    (X10 : BufTy.Contents (Elt F) (st0_8 t).view.ty)
    (X11 : BufTy.Contents (Elt F) (st0_9 t).view.ty)
    (X12 : BufTy.Contents (Elt F) (st0_10 t).view.ty)
    (X13 : BufTy.Contents (Elt F) (st0_11 t).view.ty)
    (X14 : BufTy.Contents (Elt F) (st0_12 t).view.ty)
    (X15 : BufTy.Contents (Elt F) (st0_13 t).view.ty)
    (X16 : BufTy.Contents (Elt F) (st0_14 t).view.ty)
    (h2 : (st0_0 t).view.read (Elt F) X2 = iblk m c 0 t)
    (h3 : (st0_1 t).view.read (Elt F) X3 = iblk m c 1 t)
    (h4 : (st0_2 t).view.read (Elt F) X4 = iblk m c 2 t)
    (h5 : (st0_3 t).view.read (Elt F) X5 = iblk m c 3 t)
    (h6 : (st0_4 t).view.read (Elt F) X6 = iblk m c 4 t)
    (h7 : (st0_5 t).view.read (Elt F) X7 = iblk m c 5 t)
    (h8 : (st0_6 t).view.read (Elt F) X8 = iblk m c 6 t)
    (h9 : (st0_7 t).view.read (Elt F) X9 = iblk m c 7 t)
    (h10 : (st0_8 t).view.read (Elt F) X10 = iblk m c 8 t)
    (d10) (h12 : (st0_10 t).view.read (Elt F) X12 = (dats m 0 c).before 10 t d10)
    (d11) (h13 : (st0_11 t).view.read (Elt F) X13 = (dats m 0 c).before 11 t d11)
    (d12) (h14 : (st0_12 t).view.read (Elt F) X14 = (dats m 0 c).before 12 t d12)
    (d14) (h16 : (st0_14 t).view.read (Elt F) X16 = (dats m 0 c).before 14 t d14)
    : heldBefore c (st0_0 t) (st0_1 t) (st0_2 t) (st0_3 t) (st0_4 t) (st0_5 t) (st0_6 t) (st0_7 t) (st0_8 t) (st0_9 t) (st0_10 t) (st0_11 t) (st0_12 t) (st0_13 t) (st0_14 t) X2 X3 X4 X5 X6 X7 X8 X9 X10 X11 X12 X13 X14 X15 X16
      ⊢ wp frame (wpE (defs₀ (F := F)) Variants.none (c : Thread nD τ) none) Set.univ (bodyAt0 t)
        (fun _ => heldAfter c (grid0.coords t) (st0_0 t) (st0_1 t) (st0_2 t) (st0_3 t) (st0_4 t) (st0_5 t) (st0_6 t) (st0_7 t) (st0_8 t) (st0_9 t) (st0_10 t) (st0_11 t) (st0_12 t) (st0_13 t) (st0_14 t) X2 X3 X4 X5 X6 X7 X8 X9 X10 (inAt m c t) (acIn (grid0.coords t) (accs m c t.val))) := by
  have H := run (F := F) Variants.none c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) X2 X3 X4 X5 X6 X7 X8 X9 X10 X11 X12 X13 X14 X15 X16
  have hi : inOf (st0_0 t) (st0_1 t) (st0_2 t) (st0_3 t) (st0_4 t) (st0_5 t) (st0_6 t) (st0_7 t) (st0_8 t) X2 X3 X4 X5 X6 X7 X8 X9 X10 = inAt m c t := by
    unfold inOf inAt; rw [h2, h3, h4, h5, h6, h7, h8, h9, h10]
  have ha : acIn (grid0.coords t) (acOf (st0_10 t) (st0_11 t) (st0_12 t) (st0_14 t) X12 X13 X14 X16) = acIn (grid0.coords t) (accs m c t.val) := by
    unfold acOf; rw [h12, h13, h14, h16]; exact start m c t d10 d11 d12 d14
  rw [hi, ha] at H
  exact H

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost owns
  rw [show (dats m 0 c).Φ t.succ = (dats m 0 c).Φ t.castSucc from rfl, show (dats m 0 c).owesAt () t.succ = (dats m 0 c).owesAt () t.castSucc from rfl]
  rw [after_0, after_1, after_2, after_3, after_4, after_5, after_6, after_7, after_8, after_9, after_10, after_11, after_12, after_13, after_14, accs_succ]
  iintro ⟨HΦ, HW, ⟨%d0, %X2, %h2, H2⟩, ⟨%d1, %X3, %h3, H3⟩, ⟨%d2, %X4, %h4, H4⟩, ⟨%d3, %X5, %h5, H5⟩, ⟨%d4, %X6, %h6, H6⟩, ⟨%d5, %X7, %h7, H7⟩, ⟨%d6, %X8, %h8, H8⟩, ⟨%d7, %X9, %h9, H9⟩, ⟨%d8, %X10, %h10, H10⟩, ⟨%d9, %X11, %h11, H11⟩, ⟨%d10, %X12, %h12, H12⟩, ⟨%d11, %X13, %h13, H13⟩, ⟨%d12, %X14, %h14, H14⟩, ⟨%d13, %X15, %h15, H15⟩, ⟨%d14, %X16, %h16, H16⟩⟩
  have R := run_at m c t X2 X3 X4 X5 X6 X7 X8 X9 X10 X11 X12 X13 X14 X15 X16 (h2.trans (before_0 m c t d0)) (h3.trans (before_1 m c t d1)) (h4.trans (before_2 m c t d2)) (h5.trans (before_3 m c t d3)) (h6.trans (before_4 m c t d4)) (h7.trans (before_5 m c t d5)) (h8.trans (before_6 m c t d6)) (h9.trans (before_7 m c t d7)) (h10.trans (before_8 m c t d8)) d10 h12 d11 h13 d12 h14 d14 h16
  iapply wp_wand_r
  isplitl [H2 H3 H4 H5 H6 H7 H8 H9 H10 H11 H12 H13 H14 H15 H16]
  · iapply R
    unfold heldBefore
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro %u
  unfold heldAfter
  iintro ⟨H2, H3, H4, H5, H6, H7, H8, H9, H10, ⟨%f11, H11, %g11⟩, ⟨%f12, H12, %g12⟩, ⟨%f13, H13, %g13⟩, ⟨%f14, H14, %g14⟩, ⟨%f15, H15, %g15⟩, ⟨%f16, H16, %g16⟩⟩
  isplitl [HΦ]; · iexact HΦ
  isplitl [HW]; · iexact HW
  isplitl [H2]
  · iexists X2; isplitr
    · ipureintro; exact h2.trans (before_0 m c t d0)
    iexact H2
  isplitl [H3]
  · iexists X3; isplitr
    · ipureintro; exact h3.trans (before_1 m c t d1)
    iexact H3
  isplitl [H4]
  · iexists X4; isplitr
    · ipureintro; exact h4.trans (before_2 m c t d2)
    iexact H4
  isplitl [H5]
  · iexists X5; isplitr
    · ipureintro; exact h5.trans (before_3 m c t d3)
    iexact H5
  isplitl [H6]
  · iexists X6; isplitr
    · ipureintro; exact h6.trans (before_4 m c t d4)
    iexact H6
  isplitl [H7]
  · iexists X7; isplitr
    · ipureintro; exact h7.trans (before_5 m c t d5)
    iexact H7
  isplitl [H8]
  · iexists X8; isplitr
    · ipureintro; exact h8.trans (before_6 m c t d6)
    iexact H8
  isplitl [H9]
  · iexists X9; isplitr
    · ipureintro; exact h9.trans (before_7 m c t d7)
    iexact H9
  isplitl [H10]
  · iexists X10; isplitr
    · ipureintro; exact h10.trans (before_8 m c t d8)
    iexact H10
  isplitl [H11]
  · iexists f11; isplitr
    · ipureintro; exact g11
    iexact H11
  isplitl [H12]
  · iexists f12; isplitr
    · ipureintro; exact g12
    iexact H12
  isplitl [H13]
  · iexists f13; isplitr
    · ipureintro; exact g13
    iexact H13
  isplitl [H14]
  · iexists f14; isplitr
    · ipureintro; exact g14
    iexact H14
  isplitl [H15]
  · iexists f15; isplitr
    · ipureintro; exact g15
    iexact H15
  iexists f16; isplitr
  · ipureintro; exact g16
  iexact H16

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The run ends, with every result's array holding what the points' blocks flushed, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := fun _ _ => rfl) (hΦ := fun _ _ => rfl)

/-- After the run the arguments hold what they held. -/
theorem kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 2).trans (((dats m 0 c).arrAt_in 2 rfl _).trans (V_main_arg0 m c)),
    ((h c).2 main_arg1 (Pipeline.mem_restRefs_of main_arg1 (by decide) (by decide))).trans (V_main_arg1 m c),
    ((h c).1 5).trans (((dats m 0 c).arrAt_in 5 rfl _).trans (V_main_arg2 m c)),
    ((h c).1 4).trans (((dats m 0 c).arrAt_in 4 rfl _).trans (V_main_arg3 m c))⟩

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨kept m h.1, h.2⟩) (run_main m ρ)

end Cert.KernelIdeal.Hand

end
-- ==== Proof.Attn.lean ====
/-
  The forgetting attention and its backward pass over the real numbers, for one head: rows and features are numbered by
  naturals, `q k v` are the queries, keys and values, `t` the cotangent of the head's normed output, `g` the norm's gain
  and `c` the gate.
-/
module

public import Mathlib.Analysis.SpecialFunctions.Log.Basic
public import Mathlib.Algebra.BigOperators.Intervals

@[expose] public section

noncomputable section

namespace Attn

open Finset

/-- One head's arrays, with the scale of the scores and the norm's small constant. -/
structure Head where
  q : ℕ → ℕ → ℝ
  k : ℕ → ℕ → ℝ
  v : ℕ → ℕ → ℝ
  t : ℕ → ℕ → ℝ
  g : ℕ → ℝ
  c : ℕ → ℝ
  σ : ℝ
  ε : ℝ

variable (D : Head)

/-- Query `a` sees key `b`. -/
abbrev ok (a b : ℕ) : Prop := b ≤ a ∧ 112 ≤ b

/-- The scores. -/
def s (a b : ℕ) : ℝ := (∑ d ∈ range 128, D.q a d * D.k b d) * D.σ + D.c a - D.c b
/-- Their exponentials where seen, the sums of these along a row, and the weights. -/
def E (a b : ℕ) : ℝ := if ok a b then Real.exp (s D a b) else 0
def L (a : ℕ) : ℝ := ∑ b ∈ range 4224, E D a b
def P (a b : ℕ) : ℝ := E D a b / L D a
/-- The attention's output, the root mean square's reciprocal, and the normed output. -/
def o (a d : ℕ) : ℝ := ∑ b ∈ range 4224, P D a b * D.v b d
def ms (a : ℕ) : ℝ := (∑ d ∈ range 128, o D a d * o D a d) / 128 + D.ε
def r (a : ℕ) : ℝ := (Real.sqrt (ms D a))⁻¹
def oh (a d : ℕ) : ℝ := o D a d * r D a
/-- The cotangent of the normed output, that of the output, and its product with the output. -/
def w (a d : ℕ) : ℝ := D.t a d * D.g d
def go (a d : ℕ) : ℝ := r D a * (w D a d - oh D a d * ((∑ e ∈ range 128, w D a e * oh D a e) / 128))
def dl (a : ℕ) : ℝ := ∑ d ∈ range 128, go D a d * o D a d
/-- The cotangent of the scores. -/
def ds (a b : ℕ) : ℝ := P D a b * ((∑ d ∈ range 128, go D a d * D.v b d) - dl D a)

/-- The gradients: of the queries, keys and values, of the gain, and of the gate at the queries and at the keys. -/
def dq (a d : ℕ) : ℝ := (∑ b ∈ range 4224, ds D a b * D.k b d) * D.σ
def dk (b d : ℕ) : ℝ := ∑ a ∈ range 4224, ds D a b * D.q a d * D.σ
def dv (b d : ℕ) : ℝ := ∑ a ∈ range 4224, P D a b * go D a d
def dg (d : ℕ) : ℝ := ∑ a ∈ range 4224, D.t a d * oh D a d
def dcq (a : ℕ) : ℝ := ∑ b ∈ range 4224, ds D a b
def dck (b : ℕ) : ℝ := -∑ a ∈ range 4224, ds D a b

variable {D}

theorem E_nonneg (a b : ℕ) : 0 ≤ E D a b := by
  unfold E; split
  · exact (Real.exp_pos _).le
  · exact le_refl _

theorem E_off {a b : ℕ} (h : ¬ ok a b) : E D a b = 0 := if_neg h
theorem P_off {a b : ℕ} (h : ¬ ok a b) : P D a b = 0 := by rw [P, E_off h, zero_div]
theorem ds_off {a b : ℕ} (h : ¬ ok a b) : ds D a b = 0 := by rw [ds, P_off h, zero_mul]

theorem L_pos {a : ℕ} (h : 112 ≤ a) (h' : a < 4224) : 0 < L D a := by
  refine sum_pos' (fun b _ => E_nonneg a b) ⟨a, mem_range.2 h', ?_⟩
  rw [E, if_pos ⟨le_refl _, h⟩]; exact Real.exp_pos _

theorem o_low {a : ℕ} (h : a < 112) (d : ℕ) : o D a d = 0 :=
  sum_eq_zero fun b _ => by rw [P_off (by unfold ok; omega), zero_mul]

theorem oh_low {a : ℕ} (h : a < 112) (d : ℕ) : oh D a d = 0 := by rw [oh, o_low h, zero_mul]

/-- The log-sum-exp that is saved of a row: zero where no key is seen. -/
def lse (D : Head) (a : ℕ) : ℝ := if 112 ≤ a then Real.log (L D a) else 0

theorem P_eq {a b : ℕ} (h : ok a b) (h' : a < 4224) : P D a b = Real.exp (s D a b - lse D a) := by
  have ha : 112 ≤ a := h.2.trans h.1
  rw [P, E, if_pos h, lse, if_pos ha, Real.exp_sub, Real.exp_log (L_pos ha h')]

/-- The weights from exponentials shifted by any `M`. -/
theorem P_shift {a : ℕ} (M : ℝ) (b : ℕ) :
    P D a b = (if ok a b then Real.exp (s D a b - M) else 0) / ∑ b ∈ range 4224, (if ok a b then Real.exp (s D a b - M) else 0) := by
  have h : ∀ b, (if ok a b then Real.exp (s D a b - M) else 0) = E D a b * Real.exp (-M) := by
    intro b; unfold E; split
    · rw [sub_eq_add_neg, Real.exp_add]
    · rw [zero_mul]
  simp only [h]
  rw [← sum_mul, mul_div_mul_right _ _ (Real.exp_pos _).ne', P, L]

/-- The sum of the shifted exponentials, and the log-sum-exp taken from it. -/
theorem shift_sum {a : ℕ} (M : ℝ) :
    ∑ b ∈ range 4224, (if ok a b then Real.exp (s D a b - M) else 0) = L D a * Real.exp (-M) := by
  rw [L, sum_mul]
  refine sum_congr rfl fun b _ => ?_
  unfold E; split
  · rw [sub_eq_add_neg, Real.exp_add]
  · rw [zero_mul]

theorem lse_shift {a : ℕ} (h : 112 ≤ a) (h' : a < 4224) (M : ℝ) :
    Real.log (∑ b ∈ range 4224, (if ok a b then Real.exp (s D a b - M) else 0)) + M = lse D a := by
  rw [shift_sum, Real.log_mul (L_pos h h').ne' (Real.exp_pos _).ne', Real.log_exp, lse, if_pos h, neg_add_cancel_right]

/-- A row's weights times their cotangents sum to the product of the output with its cotangent. -/
theorem sum_P_dp (a : ℕ) : ∑ b ∈ range 4224, P D a b * (∑ d ∈ range 128, go D a d * D.v b d) = dl D a := by
  simp only [dl, o, mul_sum]
  rw [sum_comm]
  exact sum_congr rfl fun d _ => sum_congr rfl fun b _ => by ring

end Attn

end
-- ==== Proof.Lit.lean ====
/-
  Arrays of extended reals that hold real numbers, and the constants the two programs take.
-/
module

public import Idealize.ShloMosaic.Lib.Pointwise
public import Idealize.ShloMosaic.Lib.IdealHost
public import Idealize.ShloMosaic.PureOps.Ideal.Laws

@[expose] public section

set_option maxRecDepth 16384

noncomputable section

namespace Attn

open Idealize.ShloMosaic Idealize.ShloMosaic.Pointwise

/-- The array holds the real numbers `f`. -/
def Is2 {m n : ℕ} (X : (⟨2, ![m, n]⟩ : Shape).Idx → EReal) (f : ℕ → ℕ → ℝ) : Prop :=
  ∀ (a : Fin m) (b : Fin n), X (ix2 a b) = ((f a.val b.val : ℝ) : EReal)
def Is3 {l m n : ℕ} (X : (⟨3, ![l, m, n]⟩ : Shape).Idx → EReal) (f : ℕ → ℕ → ℕ → ℝ) : Prop :=
  ∀ (h : Fin l) (a : Fin m) (b : Fin n), X (ix3 h a b) = ((f h.val a.val b.val : ℝ) : EReal)
def Is4 {k l m n : ℕ} (X : (⟨4, ![k, l, m, n]⟩ : Shape).Idx → EReal) (f : ℕ → ℕ → ℕ → ℕ → ℝ) : Prop :=
  ∀ (i : Fin k) (h : Fin l) (a : Fin m) (b : Fin n), X (ix4 i h a b) = ((f i.val h.val a.val b.val : ℝ) : EReal)

/-- A sum of real numbers taken among the extended reals. -/
theorem coe_sum {ι : Type} (S : Finset ι) (f : ι → ℝ) : ∑ i ∈ S, ((f i : ℝ) : EReal) = ((∑ i ∈ S, f i : ℝ) : EReal) := by
  classical
  induction S using Finset.induction_on with
  | empty => simp
  | insert a S h ih => rw [Finset.sum_insert h, Finset.sum_insert h, ih, EReal.coe_add]

theorem coe_sum_fin (n : ℕ) (f : ℕ → ℝ) : ∑ i : Fin n, ((f i.val : ℝ) : EReal) = ((∑ i ∈ Finset.range n, f i : ℝ) : EReal) := by
  rw [coe_sum, Fin.sum_univ_eq_sum_range]

/-- The words of the scale, of the norm's small constant, and of 128 and -1/2. -/
def sc : ℝ := (Ideal.ofBits .f32 0x3DB504F3#32).toReal
def tiny : ℝ := (Ideal.ofBits .f32 0x358637BD#32).toReal

theorem lit_sc : Ideal.ofBits .f32 0x3DB504F3#32 = ((sc : ℝ) : EReal) := by
  unfold sc; simp [Ideal.ofBits, Ideal.ieee, -EReal.coe_mul]
theorem lit_tiny : Ideal.ofBits .f32 0x358637BD#32 = ((tiny : ℝ) : EReal) := by
  unfold tiny; simp [Ideal.ofBits, Ideal.ieee, -EReal.coe_mul]
theorem tiny_pos : 0 < tiny := by
  unfold tiny; simp [Ideal.ofBits, Ideal.ieee, -EReal.coe_mul]
theorem lit_128 : Ideal.ofBits .f32 0x43000000#32 = ((128 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_bot : Ideal.ofBits .f32 0xFF800000#32 = (⊥ : EReal) := by simp [Ideal.ofBits, Ideal.ieee]
theorem lit_top : Ideal.ofBits .f32 0x7F800000#32 = (⊤ : EReal) := by simp [Ideal.ofBits, Ideal.ieee]

end Attn

end
-- ==== Proof.Heads.lean ====
/-
  The heads held by the four arguments, and the facts about extended reals that both programs' softmaxes need.
-/
module

public import proofs.«01_k».proof.Proof.Attn
public import proofs.«01_k».proof.Proof.Lit

@[expose] public section

set_option maxRecDepth 16384

noncomputable section

namespace Attn

open Idealize.ShloMosaic Idealize.ShloMosaic.Pointwise

/-- Head `h` of the fused projections `x` (queries, keys and values side by side), the gates `c`, the gain `g` and the
    cotangents `t`. -/
def head (x c g t : ℕ → ℕ → ℝ) (h : ℕ) : Head where
  q a d := x a (h * 128 + d)
  k a d := x a (1024 + (h * 128 + d))
  v a d := x a (2048 + (h * 128 + d))
  t a d := t a (h * 128 + d)
  g d := g 0 (h * 128 + d)
  c a := c h a
  σ := sc
  ε := tiny

/-- An array with finite entries holds real numbers. -/
theorem exists_is2 {m n : ℕ} {X : (⟨2, ![m, n]⟩ : Shape).Idx → EReal} (h : ∀ (a : Fin m) (b : Fin n), X (ix2 a b) ≠ ⊤ ∧ X (ix2 a b) ≠ ⊥) :
    ∃ f, Is2 X f := by
  refine ⟨fun a b => if h : a < m ∧ b < n then (X (ix2 ⟨a, h.1⟩ ⟨b, h.2⟩)).toReal else 0, fun a b => ?_⟩
  dsimp only
  rw [dif_pos ⟨a.isLt, b.isLt⟩, EReal.coe_toReal (h a b).1 (h a b).2]

/-- A maximum over entries below the top, one of them above the bottom, is finite. -/
theorem max_fin {ι : Type} {S : Finset ι} {f : ι → EReal} (h : ∀ i ∈ S, f i ≠ ⊤) {i : ι} (hi : i ∈ S) (h' : f i ≠ ⊥) :
    Finset.fold max ⊥ f S ≠ ⊤ ∧ Finset.fold max ⊥ f S ≠ ⊥ := by
  constructor
  · exact ((Finset.fold_max_lt _).2 ⟨bot_lt_top, fun i hi => lt_top_iff_ne_top.2 (h i hi)⟩).ne
  · exact ((Finset.lt_fold_max _).2 (Or.inr ⟨i, hi, bot_lt_iff_ne_bot.2 h'⟩)).ne'

/-- A number where `p` holds, minus infinity elsewhere: its difference with a number, exponentiated. -/
theorem exp_masked (p : Prop) [Decidable p] (x M : ℝ) :
    Ideal.exp ((if p then ((x : ℝ) : EReal) else ⊥) - ((M : ℝ) : EReal)) = (((if p then Real.exp (x - M) else 0 : ℝ)) : EReal) := by
  by_cases h : p
  · rw [if_pos h, if_pos h, ← EReal.coe_sub, Ideal.exp_coe]
  · rw [if_neg h, if_neg h, EReal.bot_sub, Ideal.exp_bot, EReal.coe_zero]

/-- Comparisons of positions, as words and as naturals. -/
theorem sle_word {a b : ℕ} (ha : a < 4224) (hb : b < 4224) :
    IntOp.cmpi CmpIPredicate.sle (BitVec.ofNat 32 b) (BitVec.ofNat 32 a) = if b ≤ a then 1#1 else 0#1 := by
  have hA : (BitVec.ofNat 32 a).toInt = (a : ℤ) := by
    rw [BitVec.toInt_eq_toNat_of_lt] <;> simp [BitVec.toNat_ofNat] <;> omega
  have hB : (BitVec.ofNat 32 b).toInt = (b : ℤ) := by
    rw [BitVec.toInt_eq_toNat_of_lt] <;> simp [BitVec.toNat_ofNat] <;> omega
  simp only [IntOp.cmpi, BitVec.sle_eq_decide, hA, hB]
  by_cases h : b ≤ a <;> simp [h]
theorem sge_word {b : ℕ} (hb : b < 4224) :
    IntOp.cmpi CmpIPredicate.sge (BitVec.ofNat 32 b) 112#32 = if 112 ≤ b then 1#1 else 0#1 :=
  sle_word hb (b := 112) (by omega)
theorem eq_word {a b : ℕ} (ha : a < 4224) (hb : b < 4224) :
    IntOp.cmpi CmpIPredicate.eq (BitVec.ofNat 32 b) (BitVec.ofNat 32 a) = if b = a then 1#1 else 0#1 := by
  have e : (BitVec.ofNat 32 b = BitVec.ofNat 32 a) ↔ b = a := by
    refine ⟨fun h => ?_, fun h => by rw [h]⟩
    have := congrArg BitVec.toNat h
    simp only [BitVec.toNat_ofNat] at this
    omega
  by_cases h : b = a
  · simp [IntOp.cmpi, h]
  · rw [if_neg h]; unfold IntOp.cmpi; dsimp only; rw [beq_eq_false_iff_ne.2 (mt e.1 h)]; rfl

/-- Two arrays that hold the same numbers are equal. -/
theorem Is2.ext {m n : ℕ} {X Y : (⟨2, ![m, n]⟩ : Shape).Idx → EReal} {f : ℕ → ℕ → ℝ} (hX : Is2 X f) (hY : Is2 Y f) : X = Y :=
  funext fun i => by rw [eq_ix2 i]; exact (hX _ _).trans (hY _ _).symm
theorem Is3.ext {l m n : ℕ} {X Y : (⟨3, ![l, m, n]⟩ : Shape).Idx → EReal} {f : ℕ → ℕ → ℕ → ℝ} (hX : Is3 X f) (hY : Is3 Y f) : X = Y :=
  funext fun i => by rw [eq_ix3 i]; exact (hX _ _ _).trans (hY _ _ _).symm
theorem Is4.ext {k l m n : ℕ} {X Y : (⟨4, ![k, l, m, n]⟩ : Shape).Idx → EReal} {f : ℕ → ℕ → ℕ → ℕ → ℝ} (hX : Is4 X f) (hY : Is4 Y f) : X = Y :=
  funext fun i => by rw [eq_ix4 i]; exact (hX _ _ _ _).trans (hY _ _ _ _).symm

/-- The six results hold the gradients of the heads of `x c g t`. -/
structure Results (x c g t : ℕ → ℕ → ℝ) (dqs dks dvs : (⟨2, ![4224, 1024]⟩ : Shape).Idx → EReal) (dgs : (⟨2, ![1, 1024]⟩ : Shape).Idx → EReal)
    (dcqs : (⟨3, ![8, 4224, 1]⟩ : Shape).Idx → EReal) (dcks : (⟨4, ![8, 11, 1, 384]⟩ : Shape).Idx → EReal) : Prop where
  rq : Is2 dqs fun a n => dq (head x c g t (n / 128)) a (n % 128)
  rk : Is2 dks fun b n => dk (head x c g t (n / 128)) b (n % 128)
  rv : Is2 dvs fun b n => dv (head x c g t (n / 128)) b (n % 128)
  rg : Is2 dgs fun _ n => dg (head x c g t (n / 128)) (n % 128)
  rcq : Is3 dcqs fun h a _ => dcq (head x c g t h) a
  rck : Is4 dcks fun h j _ b => dck (head x c g t h) (j * 384 + b)

end Attn

end
-- ==== Proof.Saved.lean ====
/-
  What the forward pass saves, over the real numbers: the host's lines before the kernel's launch hold the output, the
  log-sum-exp and the gates of the heads their arguments hold.
-/
module

public import proofs.«01_k».proof.Proof.Heads
public import proofs.«01_k».proof.Proof.Gen.KernelIdeal

@[expose] public section

set_option maxRecDepth 16384

noncomputable section

namespace Attn.Saved

open Cert.KernelIdeal Cert.KernelIdeal.Gen
open Idealize.ShloMosaic Idealize.ShloMosaic.Pointwise
open Finset (range)

/-! ## The lines' terms -/

def qT (X : FVec Ideal S4224x6144 .bf16) : FVec Ideal S8x4224x128 .f32 :=
  transpose S8x4224x128 [1, 0, 2] (shapeCast S4224x8x128 (extf .f32 (extractStridedSlice S4224x1024 ![0, 0] X slices_S4224x6144_S4224x1024_0_0) bitsLt_bf16_f32) shapeCasts_S4224x1024_S4224x8x128) transposes_S4224x8x128_S8x4224x128_1_0_2
def kT (X : FVec Ideal S4224x6144 .bf16) : FVec Ideal S8x4224x128 .f32 :=
  transpose S8x4224x128 [1, 0, 2] (shapeCast S4224x8x128 (extf .f32 (extractStridedSlice S4224x1024 ![0, 1024] X slices_S4224x6144_S4224x1024_0_1024) bitsLt_bf16_f32) shapeCasts_S4224x1024_S4224x8x128) transposes_S4224x8x128_S8x4224x128_1_0_2
def vT (X : FVec Ideal S4224x6144 .bf16) : FVec Ideal S8x4224x128 .f32 :=
  transpose S8x4224x128 [1, 0, 2] (shapeCast S4224x8x128 (extf .f32 (extractStridedSlice S4224x1024 ![0, 2048] X slices_S4224x6144_S4224x1024_0_2048) bitsLt_bf16_f32) shapeCasts_S4224x1024_S4224x8x128) transposes_S4224x8x128_S8x4224x128_1_0_2
def mask2T : IVec S4224x4224 1 :=
  andi (cmpi .sle (broadcastInDim S4224x4224 ![0, 1] bcast_S1x4224_S4224x4224_0_1 (broadcastInDim S1x4224 ![1] bcast_S4224_S1x4224_1 (iotaInDim S4224 32 0))) (broadcastInDim S4224x4224 ![0, 1] bcast_S4224x1_S4224x4224_0_1 (broadcastInDim S4224x1 ![0] bcast_S4224_S4224x1_0 (iotaInDim S4224 32 0)))) (broadcastInDim S4224x4224 ![0, 1] bcast_S1x4224_S4224x4224_0_1 (cmpi .sge (broadcastInDim S1x4224 ![1] bcast_S4224_S1x4224_1 (iotaInDim S4224 32 0)) (broadcastInDim S1x4224 ![] bcast_S_S1x4224 (constantI S_ 32 112#32))))
def rawT (q k : FVec Ideal S8x4224x128 .f32) (C : FVec Ideal S8x4224 .f32) : FVec Ideal S8x4224x4224 .f32 :=
  subf (addf (mulf (Host.dotGeneral dot_S8x4224x128_S8x4224x128_S8x4224x4224_2_2_1_1_0_0 none q k) (broadcastInDim S8x4224x4224 ![] bcast_S_S8x4224x4224 (constant S_ .f32 0x3DB504F3#32))) (broadcastInDim S8x4224x4224 ![0, 1, 2] bcast_S8x4224x1_S8x4224x4224_0_1_2 (broadcastInDim S8x4224x1 ![0, 1] bcast_S8x4224_S8x4224x1_0_1 C))) (broadcastInDim S8x4224x4224 ![0, 1, 2] bcast_S8x1x4224_S8x4224x4224_0_1_2 (broadcastInDim S8x1x4224 ![0, 2] bcast_S8x4224_S8x1x4224_0_2 C))
def scoreT (q k : FVec Ideal S8x4224x128 .f32) (C : FVec Ideal S8x4224 .f32) : FVec Ideal S8x4224x4224 .f32 :=
  select (broadcastInDim S8x4224x4224 ![1, 2] bcast_S4224x4224_S8x4224x4224_1_2 mask2T) (rawT q k C) (broadcastInDim S8x4224x4224 ![] bcast_S_S8x4224x4224 (constant S_ .f32 0xFF800000#32))
def topT (S : FVec Ideal S8x4224x4224 .f32) : FVec Ideal S8x4224 .f32 :=
  Host.reduce FloatOps.maximumf S (constant S_ .f32 0xFF800000#32) reducesTo_S8x4224x4224_S8x4224_d2 h_S_
def rawLseT (S : FVec Ideal S8x4224x4224 .f32) : FVec Ideal S8x4224 .f32 :=
  addf (Host.log (Host.reduceAdd (Host.exp (subf S (broadcastInDim S8x4224x4224 ![0, 1, 2] bcast_S8x4224x1_S8x4224x4224_0_1_2 (broadcastInDim S8x4224x1 ![0, 1] bcast_S8x4224_S8x4224x1_0_1 (topT S))))) (constant S_ .f32 0x00000000#32) reducesTo_S8x4224x4224_S8x4224_d2 h_S_)) (topT S)
def lseT (S : FVec Ideal S8x4224x4224 .f32) : FVec Ideal S8x4224 .f32 :=
  select (broadcastInDim S8x4224 ![1] bcast_S4224_S8x4224_1 (cmpi .sge (iotaInDim S4224 32 0) (broadcastInDim S4224 ![] bcast_S_S4224 (constantI S_ 32 112#32)))) (rawLseT S) (broadcastInDim S8x4224 ![] bcast_S_S8x4224 (constant S_ .f32 0x00000000#32))
def outT (S : FVec Ideal S8x4224x4224 .f32) (l : FVec Ideal S8x4224 .f32) (v : FVec Ideal S8x4224x128 .f32) : FVec Ideal S4224x1024 .f32 :=
  shapeCast S4224x1024 (transpose S4224x8x128 [1, 0, 2] (Host.dotGeneral dot_S8x4224x4224_S8x4224x128_S8x4224x128_2_1_1_2_0_0 none (Host.exp (subf S (broadcastInDim S8x4224x4224 ![0, 1, 2] bcast_S8x4224x1_S8x4224x4224_0_1_2 (broadcastInDim S8x4224x1 ![0, 1] bcast_S8x4224_S8x4224x1_0_1 l)))) v) transposes_S8x4224x128_S4224x8x128_1_0_2) shapeCasts_S4224x8x128_S4224x1024
def colT (C : FVec Ideal S8x4224 .f32) : FVec Ideal S8x4224x1 .f32 := broadcastInDim S8x4224x1 ![0, 1] bcast_S8x4224_S8x4224x1_0_1 C
def rowT (C : FVec Ideal S8x4224 .f32) : FVec Ideal S8x11x1x384 .f32 := shapeCast S8x11x1x384 C shapeCasts_S8x4224_S8x11x1x384

/-! ## What they hold -/

variable {x c g t : ℕ → ℕ → ℝ}

theorem qT_is {X : FVec Ideal S4224x6144 .bf16} (hX : Is2 X x) : Is3 (qT X) fun h => (head x c g t h).q := by
  intro h a d
  pointwise [qT]
  rw [hX]; rfl
theorem kT_is {X : FVec Ideal S4224x6144 .bf16} (hX : Is2 X x) : Is3 (kT X) fun h => (head x c g t h).k := by
  intro h a d
  pointwise [kT]
  rw [hX]; rfl
theorem vT_is {X : FVec Ideal S4224x6144 .bf16} (hX : Is2 X x) : Is3 (vT X) fun h => (head x c g t h).v := by
  intro h a d
  pointwise [vT]
  rw [hX]; rfl

theorem mask2T_is (a b : Fin 4224) : mask2T (ix2 a b) = if ok a.val b.val then 1#1 else 0#1 := by
  pointwise [mask2T]
  rw [sle_word a.isLt b.isLt, sge_word b.isLt]
  unfold ok
  split_ifs <;> first | rfl | (exfalso; omega)

variable {D : ℕ → Head}

theorem scoreT_is {q k : FVec Ideal S8x4224x128 .f32} {C : FVec Ideal S8x4224 .f32}
    (hσ : ∀ h, (D h).σ = sc) (hq : Is3 q fun h => (D h).q) (hk : Is3 k fun h => (D h).k) (hC : Is2 C fun h => (D h).c)
    (h : Fin 8) (a b : Fin 4224) :
    scoreT q k C (ix3 h a b) = if ok a.val b.val then ((s (D h) a b : ℝ) : EReal) else ⊥ := by
  pointwise [scoreT, rawT]
  rw [mask2T_is]
  simp only [hq _ _ _, hk _ _ _, hC _ _, lit_sc, lit_bot, ← EReal.coe_mul, coe_sum, ← EReal.coe_add, ← EReal.coe_sub, s, Finset.sum_range, hσ]
  by_cases hh : ok a.val b.val <;> simp [hh, Scalar.select]

variable {S : FVec Ideal S8x4224x4224 .f32} (hS : ∀ (h : Fin 8) (a b : Fin 4224), S (ix3 h a b) = if ok a.val b.val then ((s (D h) a b : ℝ) : EReal) else ⊥)

include hS

/-- The maximum of a row below the padding is a number. -/
theorem topT_fin (h : Fin 8) (a : Fin 4224) (ha : 112 ≤ a.val) : ∃ M : ℝ, topT S (ix2 h a) = (M : EReal) := by
  have H : topT S (ix2 h a) ≠ ⊤ ∧ topT S (ix2 h a) ≠ ⊥ := by
    pointwise [topT]
    rw [lit_bot]
    refine max_fin (i := a) (fun i _ => ?_) (Finset.mem_univ _) ?_
    · refine ne_of_eq_of_ne (hS _ _ _) ?_
      split
      · exact EReal.coe_ne_top _
      · exact bot_ne_top
    · refine ne_of_eq_of_ne (hS _ _ _) ?_
      rw [if_pos ⟨le_refl _, ha⟩]
      exact EReal.coe_ne_bot _
  exact ⟨_, (EReal.coe_toReal H.1 H.2).symm⟩

theorem lseT_is : Is2 (lseT S) fun h a => lse (D h) a := by
  intro h a
  pointwise [lseT, rawLseT]
  rw [sge_word a.isLt]
  by_cases ha : 112 ≤ a.val
  · obtain ⟨M, hM⟩ := topT_fin hS h a ha
    rw [if_pos ha, Scalar.select, if_pos (by decide)]
    simp only [hM, hS, exp_masked, coe_sum]
    have e : ∑ b : Fin 4224, (if ok a.val b.val then Real.exp (s (D h) a b - M) else 0) = L (D h) a * Real.exp (-M) := by
      rw [← shift_sum M, Finset.sum_range]
    have hp : 0 < L (D h) a * Real.exp (-M) := mul_pos (L_pos ha a.isLt) (Real.exp_pos _)
    rw [e, Ideal.log_coe, if_neg (not_le.2 hp), ← EReal.coe_add, ← lse_shift ha a.isLt M, shift_sum]
  · rw [if_neg ha, Scalar.select, if_neg (by decide), lse, if_neg ha, EReal.coe_zero]

theorem outT_is {l : FVec Ideal S8x4224 .f32} {v : FVec Ideal S8x4224x128 .f32} (hl : Is2 l fun h a => lse (D h) a) (hv : Is3 v fun h => (D h).v) :
    Is2 (outT S l v) fun a n => o (D (n / 128)) a (n % 128) := by
  intro a n
  pointwise [outT]
  simp only [hS, hl _ _, hv _ _ _, exp_masked, ← EReal.coe_mul, coe_sum, o, Finset.sum_range]
  congr 1
  refine Finset.sum_congr rfl fun b _ => ?_
  by_cases hk : ok a.val b.val
  · rw [if_pos hk, P_eq hk a.isLt]
  · rw [if_neg hk, P_off hk]

omit hS

theorem colT_is {C : FVec Ideal S8x4224 .f32} {f : ℕ → ℕ → ℝ} (hC : Is2 C f) : Is3 (colT C) fun h a _ => f h a := by
  intro h a b
  pointwise [colT]
  rw [hC]
theorem rowT_is {C : FVec Ideal S8x4224 .f32} {f : ℕ → ℕ → ℝ} (hC : Is2 C f) : Is4 (rowT C) fun h j _ b => f h (j * 384 + b) := by
  intro h j i b
  pointwise [rowT]
  rw [hC]

end Attn.Saved

end
-- ==== Proof.Entry.lean ====
/-
  The arrays the kernel's launch finds: the host's lines before it are the forward pass's saved values.
-/
module

public import proofs.«01_k».proof.Proof.Saved
public import proofs.«01_k».proof.Proof.Gen.KernelIdeal.Frame
public import Idealize.ShloMosaic.Lib.StableHlo.RunRead

@[expose] public section

set_option maxRecDepth 16384
set_option maxHeartbeats 4000000

noncomputable section

namespace Attn.Saved

open Cert.KernelIdeal Cert.KernelIdeal.Gen
open Idealize.ShloMosaic Idealize.ShloMosaic.TcCoe Idealize.ShloMosaic.StableHlo

/-! ## The lines, one list after another -/

variable (U : Valuation τ sig (Elt Ideal))

/-- The first list: the heads, the scores and the mask. -/
theorem l0_v11 : after hostOps0 U (Proc.devRef .tc main_v11) = vT (U (Proc.devRef .tc main_arg0)) := by
  unfold hostOps0
  after_results_simp
  all_goals rfl
theorem l0_v12 : after hostOps0 U (Proc.devRef .tc main_v12) = (iotaInDim S4224 32 0 : IVec S4224 32) := by
  unfold hostOps0
  after_results_simp
  all_goals rfl
theorem l0_v21 : after hostOps0 U (Proc.devRef .tc main_v21) = rawT (qT (U (Proc.devRef .tc main_arg0))) (kT (U (Proc.devRef .tc main_arg0))) (U (Proc.devRef .tc main_arg1)) := by
  unfold hostOps0
  after_results_simp
  all_goals rfl
theorem l0_v31 : after hostOps0 U (Proc.devRef .tc main_v31) = mask2T := by
  unfold hostOps0
  after_results_simp
  all_goals rfl
theorem l0_cst : after hostOps0 U (Proc.devRef .tc main_cst_0) = (constant (F := Ideal) S_ .f32 0xFF800000#32) := by
  unfold hostOps0
  after_results_simp
  all_goals rfl
theorem l0_arg1 : after hostOps0 U (Proc.devRef .tc main_arg1) = U (Proc.devRef .tc main_arg1) := by
  unfold hostOps0
  after_results_simp
  all_goals rfl

/-- The second: the masked scores. -/
theorem l1_v32 : after hostOps0_1 U (Proc.devRef .tc main_v32) = (select (broadcastInDim S8x4224x4224 ![1, 2] bcast_S4224x4224_S8x4224x4224_1_2 (U (Proc.devRef .tc main_v31) : IVec S4224x4224 1)) (U (Proc.devRef .tc main_v21)) (broadcastInDim S8x4224x4224 ![] bcast_S_S8x4224x4224 (U (Proc.devRef .tc main_cst_0))) : FVec Ideal S8x4224x4224 .f32) := by
  simp only [hostOps0_1, TRef.nullary, TRef.ternary, TRef.unary, TRef.toBuf, TRef.ofBuf, cast_eq]
  after_results_simp
  all_goals rfl
theorem l1_v11 : after hostOps0_1 U (Proc.devRef .tc main_v11) = U (Proc.devRef .tc main_v11) := by
  simp only [hostOps0_1, TRef.nullary, TRef.ternary, TRef.unary, TRef.toBuf, TRef.ofBuf, cast_eq]
  after_results_simp
  all_goals rfl
theorem l1_v12 : after hostOps0_1 U (Proc.devRef .tc main_v12) = U (Proc.devRef .tc main_v12) := by
  simp only [hostOps0_1, TRef.nullary, TRef.ternary, TRef.unary, TRef.toBuf, TRef.ofBuf, cast_eq]
  after_results_simp
  all_goals rfl
theorem l1_arg1 : after hostOps0_1 U (Proc.devRef .tc main_arg1) = U (Proc.devRef .tc main_arg1) := by
  simp only [hostOps0_1, TRef.nullary, TRef.ternary, TRef.unary, TRef.toBuf, TRef.ofBuf, cast_eq]
  after_results_simp
  all_goals rfl

/-- The third: the rows' log-sum-exp, before the padding's is set. -/
theorem l2_v42 : after hostOps0_2 U (Proc.devRef .tc main_v42) = rawLseT (U (Proc.devRef .tc main_v32)) := by
  unfold hostOps0_2
  after_results_simp
  all_goals rfl
theorem l2_v35 : after hostOps0_2 U (Proc.devRef .tc main_v35) = (cmpi .sge (U (Proc.devRef .tc main_v12) : IVec S4224 32) (broadcastInDim S4224 ![] bcast_S_S4224 (constantI S_ 32 112#32)) : IVec S4224 1) := by
  unfold hostOps0_2
  after_results_simp
  all_goals rfl
theorem l2_cst : after hostOps0_2 U (Proc.devRef .tc main_cst_4) = (constant (F := Ideal) S_ .f32 0x00000000#32) := by
  unfold hostOps0_2
  after_results_simp
  all_goals rfl
theorem l2_v11 : after hostOps0_2 U (Proc.devRef .tc main_v11) = U (Proc.devRef .tc main_v11) := by
  unfold hostOps0_2
  after_results_simp
  all_goals rfl
theorem l2_v32 : after hostOps0_2 U (Proc.devRef .tc main_v32) = U (Proc.devRef .tc main_v32) := by
  unfold hostOps0_2
  after_results_simp
  all_goals rfl
theorem l2_arg1 : after hostOps0_2 U (Proc.devRef .tc main_arg1) = U (Proc.devRef .tc main_arg1) := by
  unfold hostOps0_2
  after_results_simp
  all_goals rfl

/-- The fourth: the log-sum-exp. -/
theorem l3_v43 : after hostOps0_3 U (Proc.devRef .tc main_v43) = (select (broadcastInDim S8x4224 ![1] bcast_S4224_S8x4224_1 (U (Proc.devRef .tc main_v35) : IVec S4224 1)) (U (Proc.devRef .tc main_v42)) (broadcastInDim S8x4224 ![] bcast_S_S8x4224 (U (Proc.devRef .tc main_cst_4))) : FVec Ideal S8x4224 .f32) := by
  simp only [hostOps0_3, TRef.nullary, TRef.ternary, TRef.unary, TRef.toBuf, TRef.ofBuf, cast_eq]
  after_results_simp
  all_goals rfl
theorem l3_v11 : after hostOps0_3 U (Proc.devRef .tc main_v11) = U (Proc.devRef .tc main_v11) := by
  simp only [hostOps0_3, TRef.nullary, TRef.ternary, TRef.unary, TRef.toBuf, TRef.ofBuf, cast_eq]
  after_results_simp
  all_goals rfl
theorem l3_v32 : after hostOps0_3 U (Proc.devRef .tc main_v32) = U (Proc.devRef .tc main_v32) := by
  simp only [hostOps0_3, TRef.nullary, TRef.ternary, TRef.unary, TRef.toBuf, TRef.ofBuf, cast_eq]
  after_results_simp
  all_goals rfl
theorem l3_arg1 : after hostOps0_3 U (Proc.devRef .tc main_arg1) = U (Proc.devRef .tc main_arg1) := by
  simp only [hostOps0_3, TRef.nullary, TRef.ternary, TRef.unary, TRef.toBuf, TRef.ofBuf, cast_eq]
  after_results_simp
  all_goals rfl

/-- The last: the output, and the kernel's layouts. -/
theorem l4_v50 : after hostOps0_4 U (Proc.devRef .tc main_v50) = outT (U (Proc.devRef .tc main_v32)) (U (Proc.devRef .tc main_v43)) (U (Proc.devRef .tc main_v11)) := by
  unfold hostOps0_4
  after_results_simp
  all_goals rfl
theorem l4_v51 : after hostOps0_4 U (Proc.devRef .tc main_v51) = colT (U (Proc.devRef .tc main_v43)) := by
  unfold hostOps0_4
  after_results_simp
  all_goals rfl
theorem l4_v52 : after hostOps0_4 U (Proc.devRef .tc main_v52) = colT (U (Proc.devRef .tc main_arg1)) := by
  unfold hostOps0_4
  after_results_simp
  all_goals rfl
theorem l4_v53 : after hostOps0_4 U (Proc.devRef .tc main_v53) = rowT (U (Proc.devRef .tc main_arg1)) := by
  unfold hostOps0_4
  after_results_simp
  all_goals rfl

/-! ## All of them -/

variable (m : (ℓ : Loc nD τ sig) → Buf (Elt Ideal) ℓ) (c : Dev nD)

/-- The masked scores at the launch. -/
def scoreM : FVec Ideal S8x4224x4224 .f32 :=
  scoreT (qT (m ((c : Thread nD τ).loc main_arg0))) (kT (m ((c : Thread nD τ).loc main_arg0))) (m ((c : Thread nD τ).loc main_arg1))

theorem V_eq (b : Ref sig .tc) : V m c b = after hostOps0_4 (after hostOps0_3 (after hostOps0_2 (after hostOps0_1 (after hostOps0 fun b => m (c, b))))) (Proc.devRef .tc b) := by
  show after (List.flatten [hostOps0, hostOps0_1, hostOps0_2, hostOps0_3, hostOps0_4]) (fun b => m (c, b)) (Proc.devRef .tc b) = _
  simp only [List.flatten_cons, List.flatten_nil, List.append_nil, after_append]

theorem V_lse : V m c main_v51 = colT (lseT (scoreM m c)) := by
  rw [V_eq, l4_v51, l3_v43, l2_v42, l2_v35, l2_cst, l1_v32, l1_v12, l0_v12, l0_v31, l0_v21, l0_cst]; rfl
theorem V_out : V m c main_v50 = outT (scoreM m c) (lseT (scoreM m c)) (vT (m ((c : Thread nD τ).loc main_arg0))) := by
  rw [V_eq, l4_v50, l3_v43, l3_v32, l3_v11, l2_v42, l2_v35, l2_cst, l2_v32, l2_v11, l1_v32, l1_v12, l1_v11, l0_v12, l0_v31, l0_v21, l0_cst, l0_v11]; rfl
theorem V_col : V m c main_v52 = colT (m ((c : Thread nD τ).loc main_arg1)) := by
  rw [V_eq, l4_v52, l3_arg1, l2_arg1, l1_arg1, l0_arg1]
theorem V_row : V m c main_v53 = rowT (m ((c : Thread nD τ).loc main_arg1)) := by
  rw [V_eq, l4_v53, l3_arg1, l2_arg1, l1_arg1, l0_arg1]

end Attn.Saved

end
-- ==== Proof.Pay.lean ====
/-
  One block's arithmetic over the real numbers: the weights of a query block at a key block, without and with the mask,
  and the cotangents of its scores; and what the norm's part computes of a query block. Row `a` of query block `i` is row
  `i * 384 + a` of the head.
-/
module

public import proofs.«01_k».proof.Proof.Gen.KernelIdeal.Skeleton
public import proofs.«01_k».proof.Proof.Attn
public import proofs.«01_k».proof.Proof.Lit

@[expose] public section

set_option maxRecDepth 16384

noncomputable section

namespace Attn

open Cert.KernelIdeal Cert.KernelIdeal.Gen
open Idealize.ShloMosaic Idealize.ShloMosaic.Pointwise

variable {D : Head} {i j : ℕ}

/-- The mask's comparisons of positions, as words and as naturals. -/
theorem mask_eq {a b : ℕ} (ha : a < 4224) (hb : b < 4224) :
    IntOp.andi (IntOp.cmpi CmpIPredicate.sle (BitVec.ofNat 32 b) (BitVec.ofNat 32 a)) (IntOp.cmpi CmpIPredicate.sge (BitVec.ofNat 32 b) 112#32)
      = if ok a b then 1#1 else 0#1 := by
  have e : ∀ x y : ℕ, x < 4224 → y < 4224 → ((BitVec.ofNat 32 x).sle (BitVec.ofNat 32 y) = decide (x ≤ y)) := by
    intro x y hx hy
    have hX : (BitVec.ofNat 32 x).toInt = (x : ℤ) := by
      rw [BitVec.toInt_eq_toNat_of_lt] <;> simp [BitVec.toNat_ofNat] <;> omega
    have hY : (BitVec.ofNat 32 y).toInt = (y : ℤ) := by
      rw [BitVec.toInt_eq_toNat_of_lt] <;> simp [BitVec.toNat_ofNat] <;> omega
    rw [BitVec.sle_eq_decide, hX, hY]; simp
  have h1 : IntOp.cmpi CmpIPredicate.sle (BitVec.ofNat 32 b) (BitVec.ofNat 32 a) = if b ≤ a then 1#1 else 0#1 := by
    simp only [IntOp.cmpi, e b a hb ha]; by_cases h : b ≤ a <;> simp [h]
  have h2 : IntOp.cmpi CmpIPredicate.sge (BitVec.ofNat 32 b) 112#32 = if 112 ≤ b then 1#1 else 0#1 := by
    simp only [IntOp.cmpi, e 112 b (by omega) hb]; by_cases h : 112 ≤ b <;> simp [h]
  rw [h1, h2]
  unfold ok
  by_cases h : b ≤ a <;> by_cases h' : 112 ≤ b <;> simp [h, h', IntOp.andi]

theorem word_add {w : BitVec 32} {n a : ℕ} (hw : w = BitVec.ofNat 32 n) :
    IntOp.addi (Scalar.muli w 384#32) (BitVec.ofNat 32 a) = BitVec.ofNat 32 (n * 384 + a) := by
  subst hw
  apply BitVec.eq_of_toNat_eq
  simp [IntOp.addi, Scalar.muli, IntOp.muli, BitVec.toNat_add, BitVec.toNat_mul, BitVec.toNat_ofNat]

/-- The positions of a query block's rows. -/
theorem pay82 (w : BitVec 32) (hw : w = BitVec.ofNat 32 i) (a : Fin 384) : k0_pay82 w (ix2 a 0) = BitVec.ofNat 32 (i * 384 + a.val) := by
  pointwise [k0_pay82]
  exact word_add hw

section Block

variable (hσ : D.σ = sc)
  {q : Vec Ideal S384x128 .bf16} (hq : Is2 q fun a d => D.q (i * 384 + a) d)
  {ci : FVec Ideal S384x1 .f32} (hci : Is2 ci fun a _ => D.c (i * 384 + a))
  {ls : FVec Ideal S384x1 .f32} (hls : Is2 ls fun a _ => lse D (i * 384 + a))
  {K : Vec Ideal S384x128 .bf16} (hK : Is2 K fun b d => D.k (j * 384 + b) d)
  {cr : Vec Ideal S1x1x1x384 .f32} (hcr : Is4 cr fun _ _ _ b => D.c (j * 384 + b))

include hσ hq hci hls hK hcr

/-- The weights of a block all of whose places are seen. -/
theorem pay21 (hi : i < 11) (hok : ∀ a b : Fin 384, ok (i * 384 + a.val) (j * 384 + b.val)) :
    Is2 (k0_pay21 q ci ls K cr) fun a b => P D (i * 384 + a) (j * 384 + b) := by
  intro a b
  show _ = ((P D (i * 384 + a.val) (j * 384 + b.val) : ℝ) : EReal)
  rw [P_eq (hok a b) (by have := a.isLt; omega)]
  pointwise [k0_pay21]
  simp only [hq _ _, hK _ _, hci _ _, hls _ _, hcr _ _ _ _, lit_sc, ← EReal.coe_mul, coe_sum, ← EReal.coe_add, ← EReal.coe_sub,
    Ideal.exp_coe, s, hσ, Finset.sum_range]

/-- The weights of a block under the mask. -/
theorem pay63 (hi : i < 11) (hj : j < 11) {w : BitVec 32} (hw : w = BitVec.ofNat 32 j) {v48 : IVec S384x1 32}
    (hv : ∀ a : Fin 384, v48 (ix2 a 0) = BitVec.ofNat 32 (i * 384 + a.val)) :
    Is2 (k0_pay63 w q ci ls v48 K cr) fun a b => P D (i * 384 + a) (j * 384 + b) := by
  intro a b
  have ha : i * 384 + a.val < 4224 := by have := a.isLt; omega
  have hb : j * 384 + b.val < 4224 := by have := b.isLt; omega
  show _ = ((P D (i * 384 + a.val) (j * 384 + b.val) : ℝ) : EReal)
  pointwise [k0_pay63]
  simp only [hv, word_add hw, mask_eq ha hb]
  by_cases h : ok (i * 384 + a.val) (j * 384 + b.val)
  · rw [P_eq h ha]
    simp only [if_pos h, Scalar.select, hq _ _, hK _ _, hci _ _, hls _ _, hcr _ _ _ _, lit_sc, ← EReal.coe_mul, coe_sum, ← EReal.coe_add,
      ← EReal.coe_sub, Ideal.exp_coe, s, hσ, Finset.sum_range]
    rfl
  · simp only [P_off h, if_neg h, Scalar.select]
    rfl

end Block

section Cot

variable {dl0 : FVec Ideal S384x1 .f32} (hdl : Is2 dl0 fun a _ => dl D (i * 384 + a))
  {dob : FVec Ideal S384x128 .bf16} (hdo : Is2 dob fun a d => go D (i * 384 + a) d)
  {V : Vec Ideal S384x128 .bf16} (hV : Is2 V fun b d => D.v (j * 384 + b) d)

include hdl hdo hV

/-- The cotangents of the scores, from the weights. -/
theorem pay22 {q : Vec Ideal S384x128 .bf16} {ci ls : FVec Ideal S384x1 .f32} {K : Vec Ideal S384x128 .bf16} {cr : Vec Ideal S1x1x1x384 .f32}
    (hp : Is2 (k0_pay21 q ci ls K cr) fun a b => P D (i * 384 + a) (j * 384 + b)) :
    Is2 (k0_pay22 q dl0 dob ci ls K V cr) fun a b => ds D (i * 384 + a) (j * 384 + b) := by
  intro a b
  pointwise [k0_pay22]
  simp only [hp _ _, hdl _ _, hdo _ _, hV _ _, ← EReal.coe_mul, coe_sum, ← EReal.coe_sub, ds, Finset.sum_range]

theorem pay64 {w : BitVec 32} {v48 : IVec S384x1 32} {q : Vec Ideal S384x128 .bf16} {ci ls : FVec Ideal S384x1 .f32}
    {K : Vec Ideal S384x128 .bf16} {cr : Vec Ideal S1x1x1x384 .f32}
    (hp : Is2 (k0_pay63 w q ci ls v48 K cr) fun a b => P D (i * 384 + a) (j * 384 + b)) :
    Is2 (k0_pay64 w q dl0 dob ci ls v48 K V cr) fun a b => ds D (i * 384 + a) (j * 384 + b) := by
  intro a b
  pointwise [k0_pay64]
  simp only [hp _ _, hdl _ _, hdo _ _, hV _ _, ← EReal.coe_mul, coe_sum, ← EReal.coe_sub, ds, Finset.sum_range]

end Cot

section Norm

variable (hε : D.ε = tiny)
  {o0 : Vec Ideal S384x128 .f32} (ho : Is2 o0 fun a d => o D (i * 384 + a) d)
  {don : Vec Ideal S384x128 .f32} (hdon : Is2 don fun a d => D.t (i * 384 + a) d)
  {g : Vec Ideal S1x128 .f32} (hg : Is2 g fun _ d => D.g d)

include hε

theorem ms_pos (a : ℕ) : 0 < ms D a := by
  rw [ms, hε]
  exact add_pos_of_nonneg_of_pos (div_nonneg (Finset.sum_nonneg fun d _ => mul_self_nonneg _) (by norm_num)) tiny_pos

include ho

/-- The reciprocal of the root mean square, and the normed output. -/
theorem pay74 : Is2 (k0_pay74 o0) fun a _ => r D (i * 384 + a) := by
  intro a b
  have hp := ms_pos hε (i * 384 + a.val)
  pointwise [k0_pay74, k0_pay73]
  simp only [ho _ _, ← EReal.coe_mul, coe_sum, lit_128, lit_tiny, Ideal.div_coe (by norm_num : (128 : ℝ) ≠ 0), ← EReal.coe_add]
  have e : (∑ x : Fin 128, o D (i * 384 + a.val) x.val * o D (i * 384 + a.val) x.val) * (1 / 128) + tiny = ms D (i * 384 + a.val) := by
    rw [ms, hε, Finset.sum_range, mul_one_div]
  rw [e, Ideal.rsqrt_coe, if_neg (not_lt.2 hp.le), if_neg hp.ne', r]

theorem pay75 : Is2 (k0_pay75 o0) fun a d => oh D (i * 384 + a) d := by
  intro a b
  have h := pay74 hε ho
  pointwise [k0_pay75, k0_pay73]
  simp only [ho _ _, h _ _, ← EReal.coe_mul, oh]

include hdon

/-- The gain's gradient gains the rows of a query block. -/
theorem pay77 {dg0 : Vec Ideal S1x128 .f32} (hd : Is2 dg0 fun _ d => ∑ a ∈ Finset.range (i * 384), D.t a d * oh D a d) :
    Is2 (k0_pay77 o0 don dg0) fun _ d => ∑ a ∈ Finset.range ((i + 1) * 384), D.t a d * oh D a d := by
  intro a b
  have h := pay75 hε ho
  pointwise [k0_pay77]
  simp only [hd _ _, hdon _ _, h _ _, ← EReal.coe_mul, coe_sum, ← EReal.coe_add, add_mul, one_mul, Finset.sum_range_add]
  rw [Finset.sum_range (n := 384)]

include hg

/-- The cotangent of the output before its norm. -/
theorem pay76 : Is2 (k0_pay76 o0 don g) fun a d => go D (i * 384 + a) d := by
  intro a b
  have h := pay75 hε ho
  have h' := pay74 hε ho
  pointwise [k0_pay76]
  simp only [hdon _ _, hg _ _, h _ _, h' _ _, ← EReal.coe_mul, coe_sum, lit_128, Ideal.div_coe (by norm_num : (128 : ℝ) ≠ 0), ← EReal.coe_sub,
    go, w, Finset.sum_range, mul_one_div]

/-- Its product with the output, summed along a row. -/
theorem pay78 : Is2 (k0_pay78 (k0_pay73 o0) (k0_pay76 o0 don g)) fun a _ => dl D (i * 384 + a) := by
  intro a b
  have h := pay76 hε ho hdon hg
  pointwise [k0_pay78, k0_pay73]
  simp only [ho _ _, h _ _, ← EReal.coe_mul, coe_sum, dl, Finset.sum_range]

end Norm

end Attn

end
-- ==== Proof.Walk.lean ====
/-
  The walk of a query block over the key blocks, over the real numbers: after `n` key blocks of query block `i` the
  carried pair holds the sums over the keys of those blocks, and the accumulators hold at each key the sum over the
  queries before block `i`, or through it where the key's block is among the `n`. A point leaves at every key the sum
  over all queries through its block, a query contributing nothing to the keys after it.
-/
module

public import proofs.«01_k».proof.Proof.Pay
public import proofs.«01_k».proof.Proof.Point

@[expose] public section

set_option maxRecDepth 16384

noncomputable section

namespace Attn

open Cert.KernelIdeal Cert.KernelIdeal.Gen Cert.KernelIdeal.Hand
open Idealize.ShloMosaic Idealize.ShloMosaic.Pointwise

variable {D : Head} {i j n : ℕ}

/-- What the walk reads, over the real numbers. -/
structure RdOk (D : Head) (i : ℕ) (r : Rd Ideal) : Prop where
  hσ : D.σ = sc
  q : Is2 r.q fun a d => D.q (i * 384 + a) d
  dl : Is2 r.dl fun a _ => dl D (i * 384 + a)
  dob : Is2 r.dob fun a d => go D (i * 384 + a) d
  ci : Is2 r.ci fun a _ => D.c (i * 384 + a)
  ls : Is2 r.ls fun a _ => lse D (i * 384 + a)
  K : Is2 r.K D.k
  V : Is2 r.V D.v
  cr : Is4 r.cr fun _ j _ b => D.c (j * 384 + b)

/-- The queries whose contributions key `b` has after `n` key blocks of query block `i`: how many. -/
def upto (i n b : ℕ) : ℕ := if b < n * 384 then (i + 1) * 384 else i * 384

/-- What the walk holds, over the real numbers. -/
structure StOk (D : Head) (i n : ℕ) (s : St Ideal) : Prop where
  dq : Is2 s.acc.1 fun a d => ∑ b ∈ Finset.range (n * 384), ds D (i * 384 + a) b * D.k b d
  dc : Is2 s.acc.2 fun a _ => ∑ b ∈ Finset.range (n * 384), ds D (i * 384 + a) b
  dk : Is2 s.dk fun b d => ∑ a ∈ Finset.range (upto i n b), ds D a b * D.q a d * D.σ
  dv : Is2 s.dv fun b d => ∑ a ∈ Finset.range (upto i n b), P D a b * go D a d
  dr : Is4 s.dr fun _ j _ b => -∑ a ∈ Finset.range (upto i n (j * 384 + b)), ds D a (j * 384 + b)

/-- A key block of an array of a head's rows, and a row of the row gate. -/
theorem kwin_is {X : S4224x128.Idx → EReal} {f : ℕ → ℕ → ℝ} (h : Is2 X f) (hj : j < 11) : Is2 (kwin X j hj) fun a d => f (j * 384 + a) d := by
  intro a d
  have e : kwin X j hj (ix2 a d) = X (ix2 (⟨j * 384 + a.val, by have := a.isLt; omega⟩ : Fin 4224) d) := by
    refine congrArg X (funext fun x => ?_)
    match x with
    | 0 => exact Fin.ext (by show j * 384 + 1 * a.val = j * 384 + a.val; omega)
    | 1 => exact Fin.ext (by show 0 + 1 * d.val = d.val; omega)
  rw [e]; exact h _ _

theorem rwin_is {X : S1x11x1x384.Idx → EReal} {f : ℕ → ℕ → ℕ → ℕ → ℝ} (h : Is4 X f) (hj : j < 11) :
    Is4 (rwin X j hj) fun u _ w b => f u j w b := by
  intro u x w b
  have e : rwin X j hj (ix4 u x w b) = X (ix4 u (⟨j, hj⟩ : Fin 11) w b) := by
    refine congrArg X (funext fun y => ?_)
    match y with
    | 0 => exact Fin.ext (by show 0 + 1 * u.val = u.val; omega)
    | 1 => exact Fin.ext (by show j + 1 * x.val = j; have := x.isLt; omega)
    | 2 => exact Fin.ext (by show 0 + 1 * w.val = w.val; omega)
    | 3 => exact Fin.ext (by show 0 + 1 * b.val = b.val; omega)
  rw [e]; exact h _ _ _ _

/-- An array of a head's rows with key block `j` put in, and the row gate with row `j` put in. -/
theorem put_is {X : S4224x128.Idx → EReal} {W : S384x128.Idx → EReal} {f g : ℕ → ℕ → ℝ} (hX : Is2 X f)
    (hW : Is2 W fun a d => g (j * 384 + a) d) (hfg : ∀ b d, ¬ (j * 384 ≤ b ∧ b < j * 384 + 384) → f b d = g b d) :
    Is2 (VecWindow.put X (ko j) S384x128.size W) g := by
  intro b d
  by_cases h : j * 384 ≤ b.val ∧ b.val < j * 384 + 384
  · have h' : ∀ a : Fin 2, ko j a ≤ (ix2 b d a).val ∧ (ix2 b d a).val < ko j a + S384x128.size a := fun a => by
      match a with
      | 0 => exact h
      | 1 => exact ⟨Nat.zero_le _, by show d.val < 0 + 128; have := d.isLt; omega⟩
    have e : VecWindow.put X (ko j) S384x128.size W (ix2 b d) = W (ix2 (⟨b.val - j * 384, by omega⟩ : Fin 384) d) := by
      show (if h : _ then _ else _) = _
      rw [dif_pos h']
      refine congrArg W (funext fun x => ?_)
      match x with
      | 0 => rfl
      | 1 => rfl
    rw [e, hW]
    show ((g (j * 384 + (b.val - j * 384)) d.val : ℝ) : EReal) = _
    rw [Nat.add_sub_cancel' h.1]
  · have h' : ¬ ∀ a : Fin 2, ko j a ≤ (ix2 b d a).val ∧ (ix2 b d a).val < ko j a + S384x128.size a := fun H => h (H 0)
    have e : VecWindow.put X (ko j) S384x128.size W (ix2 b d) = X (ix2 b d) := by
      show (if h : _ then _ else _) = _
      rw [dif_neg h']
    rw [e, hX, hfg _ _ h]

theorem rput_is {X : S1x11x1x384.Idx → EReal} {W : S1x1x1x384.Idx → EReal} {f g : ℕ → ℕ → ℕ → ℕ → ℝ} (hX : Is4 X f)
    (hW : Is4 W fun u _ w b => g u j w b) (hfg : ∀ u x w b, x ≠ j → b < 384 → f u x w b = g u x w b) :
    Is4 (VecWindow.put X (ro j) S1x1x1x384.size W) g := by
  intro u x w b
  by_cases h : x.val = j
  · have h' : ∀ a : Fin 4, ro j a ≤ (ix4 u x w b a).val ∧ (ix4 u x w b a).val < ro j a + S1x1x1x384.size a := fun a => by
      match a with
      | 0 => exact ⟨Nat.zero_le _, by show u.val < 0 + 1; have := u.isLt; omega⟩
      | 1 => exact ⟨h.ge, by show x.val < j + 1; omega⟩
      | 2 => exact ⟨Nat.zero_le _, by show w.val < 0 + 1; have := w.isLt; omega⟩
      | 3 => exact ⟨Nat.zero_le _, by show b.val < 0 + 384; have := b.isLt; omega⟩
    have e : VecWindow.put X (ro j) S1x1x1x384.size W (ix4 u x w b) = W (ix4 u 0 w b) := by
      show (if h : _ then _ else _) = _
      rw [dif_pos h']
      refine congrArg W (funext fun y => ?_)
      match y with
      | 0 => rfl
      | 1 => exact Fin.ext (by show x.val - j = 0; omega)
      | 2 => rfl
      | 3 => rfl
    rw [e, hW, h]
  · have h' : ¬ ∀ a : Fin 4, ro j a ≤ (ix4 u x w b a).val ∧ (ix4 u x w b a).val < ro j a + S1x1x1x384.size a := fun H => by
      have h1 : j ≤ x.val ∧ x.val < j + 1 := H 1
      omega
    have e : VecWindow.put X (ro j) S1x1x1x384.size W (ix4 u x w b) = X (ix4 u x w b) := by
      show (if h : _ then _ else _) = _
      rw [dif_neg h']
    rw [e, hX, hfg _ _ _ _ h b.isLt]

/-- One key block's contribution. -/
theorem upd_ok {r : Rd Ideal} (R : RdOk D i r) {s : St Ideal} (S : StOk D i j s) (hj : j < 11) {p d : FVec Ideal S384x384 .f32}
    (hp : Is2 p fun a b => P D (i * 384 + a) (j * 384 + b)) (hd : Is2 d fun a b => ds D (i * 384 + a) (j * 384 + b)) :
    StOk D i (j + 1) (upd r j hj p d s) := by
  have lo : ∀ b, b < 384 → upto i j (j * 384 + b) = i * 384 := fun b _ => if_neg (by omega)
  have hi : ∀ b, b < 384 → upto i (j + 1) (j * 384 + b) = i * 384 + 384 := fun b _ => by unfold upto; rw [if_pos (by omega)]; omega
  have off : ∀ b, ¬ (j * 384 ≤ b ∧ b < j * 384 + 384) → upto i j b = upto i (j + 1) b := fun b h => by
    unfold upto
    by_cases h' : b < j * 384
    · rw [if_pos h', if_pos (by omega)]
    · rw [if_neg h', if_neg (by omega)]
  have e : (j + 1) * 384 = j * 384 + 384 := by omega
  refine ⟨?_, ?_, ?_, ?_, ?_⟩
  · intro a c
    have hK := kwin_is R.K hj
    have hS := S.dq
    show k0_pay12 _ _ _ _ = _
    pointwise [k0_pay12]
    simp only [hS _ _, hd _ _, hK _ _, ← EReal.coe_mul, coe_sum, ← EReal.coe_add, e, Finset.sum_range_add]
    rw [Finset.sum_range (n := 384)]
  · intro a c
    have hS := S.dc
    show k0_pay13 _ _ _ = _
    pointwise [k0_pay13]
    have hc : c = 0 := Subsingleton.elim _ _
    subst hc
    simp only [hS _ _, hd _ _, coe_sum, ← EReal.coe_add, e, Finset.sum_range_add]
    rw [Finset.sum_range (n := 384)]
  · refine put_is S.dk ?_ fun b c h => by rw [off b h]
    intro b c
    have hS := kwin_is S.dk hj
    have hq := R.q
    pointwise [k0_pay9]
    simp only [hS _ _, hd _ _, hq _ _, lit_sc, ← R.hσ, ← EReal.coe_mul, coe_sum, ← EReal.coe_add, lo _ b.isLt, hi _ b.isLt,
      Finset.sum_range_add, Finset.sum_mul]
    rw [Finset.sum_range (n := 384)]
  · refine put_is S.dv ?_ fun b c h => by rw [off b h]
    intro b c
    have hS := kwin_is S.dv hj
    have hg := R.dob
    pointwise [k0_pay10]
    simp only [hS _ _, hp _ _, hg _ _, ← EReal.coe_mul, coe_sum, ← EReal.coe_add, lo _ b.isLt, hi _ b.isLt, Finset.sum_range_add]
    rw [Finset.sum_range (n := 384)]
  · refine rput_is S.dr ?_ fun u x w b h hb => by rw [off _ (by omega)]
    intro u x w b
    have hS := rwin_is S.dr hj
    have hx : x = 0 := Subsingleton.elim _ _
    have hu : u = 0 := Subsingleton.elim _ _
    have hw : w = 0 := Subsingleton.elim _ _
    subst hx hu hw
    pointwise [k0_pay11]
    simp only [hS _ _ _ _, hd _ _, coe_sum, sub_eq_add_neg, ← EReal.coe_neg, ← EReal.coe_add, lo _ b.isLt, hi _ b.isLt, Finset.sum_range_add, neg_add]
    rw [Finset.sum_range (n := 384)]

/-- A key block all of whose places are seen, and one under the mask. -/
theorem stepU_ok {r : Rd Ideal} (R : RdOk D i r) {s : St Ideal} (S : StOk D i j s) (hi : i < 11) (hj : j < 11) (h1 : 1 ≤ j) (hji : j < i) :
    StOk D i (j + 1) (stepU r j hj s) := by
  have hp := pay21 R.hσ R.q R.ci R.ls (kwin_is R.K hj) (rwin_is R.cr hj) hi
    (fun a b => by have := a.isLt; have := b.isLt; exact ⟨by omega, by omega⟩)
  exact upd_ok R S hj hp (pay22 R.dl R.dob (kwin_is R.V hj) hp)

theorem stepM_ok {r : Rd Ideal} (R : RdOk D i r) {s : St Ideal} (S : StOk D i j s) (hi : i < 11) (hj : j < 11) {w : BitVec 32}
    (hw : w = BitVec.ofNat 32 j) {v48 : IVec S384x1 32} (hv : ∀ a : Fin 384, v48 (ix2 a 0) = BitVec.ofNat 32 (i * 384 + a.val)) :
    StOk D i (j + 1) (stepM r w v48 j hj s) := by
  have hp := pay63 R.hσ R.q R.ci R.ls (kwin_is R.K hj) (rwin_is R.cr hj) hi hj hw hv
  exact upd_ok R S hj hp (pay64 R.dl R.dob (kwin_is R.V hj) hp)

/-- The blocks a point reads, over the real numbers. -/
structure InOk (D : Head) (i : ℕ) (x : In Ideal) : Prop where
  hσ : D.σ = sc
  hε : D.ε = tiny
  q : Is2 x.q fun a d => D.q (i * 384 + a) d
  K : Is2 x.K D.k
  V : Is2 x.V D.v
  o : Is2 x.o fun a d => o D (i * 384 + a) d
  don : Is2 x.don fun a d => D.t (i * 384 + a) d
  g : Is2 x.g fun _ d => D.g d
  ls : Is3 x.ls fun _ a _ => lse D (i * 384 + a)
  ci : Is3 x.ci fun _ a _ => D.c (i * 384 + a)
  cr : Is4 x.cr fun _ j _ b => D.c (j * 384 + b)

/-- The accumulators after the query blocks before `i`. -/
structure AcOk (D : Head) (i : ℕ) (a : Ac Ideal) : Prop where
  dk : Is2 a.dk fun b d => ∑ a ∈ Finset.range (i * 384), ds D a b * D.q a d * D.σ
  dv : Is2 a.dv fun b d => ∑ a ∈ Finset.range (i * 384), P D a b * go D a d
  dg : Is2 a.dg fun _ d => ∑ a ∈ Finset.range (i * 384), D.t a d * oh D a d
  dr : Is4 a.dr fun _ j _ b => -∑ a ∈ Finset.range (i * 384), ds D a (j * 384 + b)

theorem rdAt_ok {x : In Ideal} (X : InOk D i x) : RdOk D i (rdAt x) := by
  have hg := pay76 X.hε X.o X.don X.g
  have hdl := pay78 X.hε X.o X.don X.g
  have hls := X.ls
  have hci := X.ci
  have e1 : Is2 (k0_pay79 (dOut x) : FVec Ideal S384x128 .bf16) fun a d => go D (i * 384 + a) d := by
    intro a d
    pointwise [k0_pay79]
    rw [dOut, hg]
  have e2 : Is2 (k0_pay80 x.ci : FVec Ideal S384x1 .f32) fun a _ => D.c (i * 384 + a) := by
    intro a d
    pointwise [k0_pay80]
    rw [hci]
  have e3 : Is2 (k0_pay81 x.ls : FVec Ideal S384x1 .f32) fun a _ => lse D (i * 384 + a) := by
    intro a d
    pointwise [k0_pay81]
    rw [hls]
  have e4 : Is2 (k0_pay78 (k0_pay73 x.o) (dOut x) : FVec Ideal S384x1 .f32) fun a _ => dl D (i * 384 + a) := by
    unfold dOut; exact hdl
  unfold rdAt
  exact ⟨X.hσ, X.q, e4, e1, e2, e3, X.K, X.V, X.cr⟩

theorem zero_ok : AcOk D 0 (Ac.zero : Ac Ideal) where
  dk := fun b d => by show (k0_pay69 : FVec Ideal S4224x128 .f32) (ix2 b d) = _; pointwise [k0_pay69]; simp
  dv := fun b d => by show (k0_pay70 : FVec Ideal S4224x128 .f32) (ix2 b d) = _; pointwise [k0_pay70]; simp
  dg := fun b d => by show (k0_pay71 : FVec Ideal S1x128 .f32) (ix2 b d) = _; pointwise [k0_pay71]; simp
  dr := fun u x w b => by show (k0_pay72 : FVec Ideal S1x11x1x384 .f32) (ix4 u x w b) = _; pointwise [k0_pay72]; simp

theorem st0_ok {a : Ac Ideal} (A : AcOk D i a) : StOk D i 0 (st0 a) where
  dq := fun a d => by show (k0_pay83 : FVec Ideal S384x128 .f32) (ix2 a d) = _; pointwise [k0_pay83]; simp
  dc := fun a d => by show (k0_pay84 : FVec Ideal S384x1 .f32) (ix2 a d) = _; pointwise [k0_pay84]; simp
  dk := fun b d => by beta_reduce; rw [show upto i 0 b.val = i * 384 from if_neg (by omega)]; exact A.dk b d
  dv := fun b d => by beta_reduce; rw [show upto i 0 b.val = i * 384 from if_neg (by omega)]; exact A.dv b d
  dr := fun u x w b => by beta_reduce; rw [show upto i 0 (x.val * 384 + b.val) = i * 384 from if_neg (by omega)]; exact A.dr u x w b

theorem pairs_ok {r : Rd Ideal} (R : RdOk D i r) {s : St Ideal} (S : StOk D i 1 s) (hi : i < 11) :
    ∀ m, m = 0 ∨ 2 * m + 1 ≤ i → StOk D i (2 * m + 1) (pairs r s m)
  | 0, _ => S
  | m + 1, h => by
    have ih := pairs_ok R S hi m (by omega)
    have hm : 2 * m + 2 < 11 := by omega
    rw [pairs, dif_pos hm]
    exact stepU_ok R (stepU_ok R ih hi (by omega) (by omega) (by omega)) hi hm (by omega) (by omega)

/-- The state a point's walk ends in. -/
theorem st4_ok {p : grid0.Coords} {x : In Ideal} {a : Ac Ideal} (X : InOk D (qb p) x) (A : AcOk D (qb p) a) :
    StOk D (qb p) (qb p + 1) (st4 p x a) := by
  have hi := qb_lt p
  have R := rdAt_ok X
  have hv := pay82 (i := qb p) (qw p) rfl
  have S1 : StOk D (qb p) 1 (st1 p x a) := stepM_ok R (st0_ok A) hi (by omega) rfl hv
  have S2 : StOk D (qb p) (2 * ((qb p - 1) / 2) + 1) (st2 p x a) := pairs_ok R S1 hi _ (by omega)
  have S3 : StOk D (qb p) (max (qb p) 1) (st3 p x a) := by
    unfold st3
    rcases Nat.mod_two_eq_zero_or_one (qb p - 1) with h | h
    · rw [h, show max (qb p) 1 = 2 * ((qb p - 1) / 2) + 1 by omega]; exact S2
    · rw [h, show max (qb p) 1 = qb p - 1 + 1 by omega]
      rw [show 2 * ((qb p - 1) / 2) + 1 = qb p - 1 by omega] at S2
      exact stepU_ok R S2 hi _ (by omega) (by omega)
  unfold st4
  rcases Nat.eq_zero_or_pos (qb p) with h | h
  · rw [show min (qb p) 1 = 0 by omega, show qb p + 1 = max (qb p) 1 by omega]; exact S3
  · rw [show min (qb p) 1 = 1 by omega]
    rw [show max (qb p) 1 = qb p by omega] at S3
    exact stepM_ok R S3 hi (qb_lt p) rfl hv

/-- A query contributes nothing to the keys after it: a sum over the queries through a key's block, or over the keys
    through a query's block. -/
theorem upto_sum {f : ℕ → ℝ} {b : ℕ} (h : ∀ a, a < b → f a = 0) :
    ∑ a ∈ Finset.range (upto i (i + 1) b), f a = ∑ a ∈ Finset.range ((i + 1) * 384), f a := by
  unfold upto
  split
  · rfl
  · refine Finset.sum_subset (fun a ha => Finset.mem_range.2 (by have := Finset.mem_range.1 ha; omega)) fun a ha _ => h a ?_
    have := Finset.mem_range.1 ha; omega

theorem keys_sum {f : ℕ → ℝ} {a : ℕ} (ha : a < 384) (hi : i < 11) (h : ∀ b, i * 384 + a < b → f b = 0) :
    ∑ b ∈ Finset.range ((i + 1) * 384), f b = ∑ b ∈ Finset.range 4224, f b := by
  refine Finset.sum_subset (fun b hb => Finset.mem_range.2 (by have := Finset.mem_range.1 hb; omega)) fun b _ hb => h b ?_
  have : ¬ b < (i + 1) * 384 := fun h => hb (Finset.mem_range.2 h)
  omega

theorem ds_after {a b : ℕ} (h : a < b) : ds D a b = 0 := ds_off (by unfold ok; omega)
theorem P_after {a b : ℕ} (h : a < b) : P D a b = 0 := P_off (by unfold ok; omega)

/-- What a point leaves. -/
theorem acAt_ok {p : grid0.Coords} {x : In Ideal} {a : Ac Ideal} (X : InOk D (qb p) x) (A : AcOk D (qb p) a) :
    AcOk D (qb p + 1) (acAt p x a) := by
  have S := st4_ok X A
  refine ⟨fun b d => ?_, fun b d => ?_, pay77 X.hε X.o X.don A.dg, fun u x w b => ?_⟩
  · refine (S.dk b d).trans ?_
    beta_reduce
    rw [upto_sum fun a h => by rw [ds_after h, zero_mul, zero_mul]]
  · refine (S.dv b d).trans ?_
    beta_reduce
    rw [upto_sum fun a h => by rw [P_after h, zero_mul]]
  · refine (S.dr u x w b).trans ?_
    beta_reduce
    rw [upto_sum fun a h => ds_after h]

theorem dqAt_ok {p : grid0.Coords} {x : In Ideal} {a : Ac Ideal} (X : InOk D (qb p) x) (A : AcOk D (qb p) a) :
    Is2 (dqAt p x a) fun a d => dq D (qb p * 384 + a) d := by
  intro b d
  have S := (st4_ok X A).dq
  show k0_pay19 (st4 p x a).acc.1 (ix2 b d) = _
  pointwise [k0_pay19]
  simp only [S _ _, lit_sc, ← EReal.coe_mul, dq, X.hσ]
  rw [keys_sum b.isLt (qb_lt p) fun c h => by rw [ds_after h, zero_mul]]

theorem dcAt_ok {p : grid0.Coords} {x : In Ideal} {a : Ac Ideal} (X : InOk D (qb p) x) (A : AcOk D (qb p) a) :
    Is3 (dcAt p x a) fun _ a _ => dcq D (qb p * 384 + a) := by
  intro u b d
  have S := (st4_ok X A).dc
  show k0_pay20 (st4 p x a).acc.2 (ix3 u b d) = _
  pointwise [k0_pay20]
  simp only [S _ _, dcq]
  rw [keys_sum b.isLt (qb_lt p) fun c h => ds_after h]

end Attn

end
-- ==== Proof.Blocks.lean ====
/-
  The blocks a point reads: point `t` is query block `t % 11` of head `t / 11`.
-/
module

public import proofs.«01_k».proof.Proof.Entry
public import proofs.«01_k».proof.Proof.Run
public import proofs.«01_k».proof.Proof.Walk
public import Idealize.ShloMosaic.Lib.Pipeline.ValueKit

@[expose] public section

set_option maxRecDepth 16384
set_option maxHeartbeats 4000000

noncomputable section

namespace Attn

open Cert.KernelIdeal Cert.KernelIdeal.Gen Cert.KernelIdeal.Hand
open Idealize.ShloMosaic Idealize.ShloMosaic.TcCoe Idealize.ShloMosaic.Pipeline Idealize.ShloMosaic.Tactic Idealize.ShloMosaic.Pointwise

theorem idx : ∀ t : Fin cfg0.N, win0_0.index t = ![t.val % 11, t.val / 11] ∧ win0_1.index t = ![0, 8 + t.val / 11] ∧ win0_2.index t = ![0, 16 + t.val / 11]
    ∧ win0_3.index t = ![t.val % 11, t.val / 11] ∧ win0_4.index t = ![t.val % 11, t.val / 11] ∧ win0_5.index t = ![0, t.val / 11]
    ∧ win0_6.index t = ![t.val / 11, t.val % 11, 0] ∧ win0_7.index t = ![t.val / 11, t.val % 11, 0] ∧ win0_8.index t = ![t.val / 11, 0, 0, 0] :=
  (by decide +kernel : ∀ t : Fin grid0.N, _)

theorem idx_out : ∀ t : Fin cfg0.N, win0_9.index t = ![t.val % 11, t.val / 11] ∧ win0_10.index t = ![0, t.val / 11] ∧ win0_11.index t = ![0, t.val / 11]
    ∧ win0_12.index t = ![0, t.val / 11] ∧ win0_13.index t = ![t.val / 11, t.val % 11, 0] ∧ win0_14.index t = ![t.val / 11, 0, 0, 0] :=
  (by decide +kernel : ∀ t : Fin grid0.N, _)

variable (m : (ℓ : Loc nD τ sig) → Buf (Elt Ideal) ℓ) (c : Dev nD) {x cc g w : ℕ → ℕ → ℝ}
  (hx : Is2 (m ((c : Thread nD τ).loc main_arg0) : FVec Ideal S4224x6144 .bf16) x)
  (hc : Is2 (m ((c : Thread nD τ).loc main_arg1) : FVec Ideal S8x4224 .f32) cc)
  (hg : Is2 (m ((c : Thread nD τ).loc main_arg2) : FVec Ideal S1x1024 .f32) g)
  (hw : Is2 (m ((c : Thread nD τ).loc main_arg3) : FVec Ideal S4224x1024 .f32) w)

include hx in
theorem blk_q (t : Fin cfg0.N) : Is2 (iblk m c 0 t : FVec Ideal S384x128 .bf16) fun a d => x (t.val % 11 * 384 + a) (t.val / 11 * 128 + d) := by
  intro a d
  have ht : t.val < 88 := t.isLt
  have e := (idx t).1
  have h := hx ⟨t.val % 11 * 384 + a.val, by omega⟩ ⟨t.val / 11 * 128 + d.val, by omega⟩
  rw [← h]
  blk_ext [iblk, V_main_arg0, e]

include hx in
theorem blk_k (t : Fin cfg0.N) : Is2 (iblk m c 1 t : FVec Ideal S4224x128 .bf16) fun a d => x a (1024 + (t.val / 11 * 128 + d)) := by
  intro a d
  have ht : t.val < 88 := t.isLt
  have e := (idx t).2.1
  rw [← hx ⟨a.val, by omega⟩ ⟨1024 + (t.val / 11 * 128 + d.val), by omega⟩]
  blk_ext [iblk, V_main_arg0, e]
include hx in
theorem blk_v (t : Fin cfg0.N) : Is2 (iblk m c 2 t : FVec Ideal S4224x128 .bf16) fun a d => x a (2048 + (t.val / 11 * 128 + d)) := by
  intro a d
  have ht : t.val < 88 := t.isLt
  have e := (idx t).2.2.1
  rw [← hx ⟨a.val, by omega⟩ ⟨2048 + (t.val / 11 * 128 + d.val), by omega⟩]
  blk_ext [iblk, V_main_arg0, e]
include hw in
theorem blk_w (t : Fin cfg0.N) : Is2 (iblk m c 4 t : FVec Ideal S384x128 .f32) fun a d => w (t.val % 11 * 384 + a) (t.val / 11 * 128 + d) := by
  intro a d
  have ht : t.val < 88 := t.isLt
  have e := (idx t).2.2.2.2.1
  rw [← hw ⟨t.val % 11 * 384 + a.val, by omega⟩ ⟨t.val / 11 * 128 + d.val, by omega⟩]
  blk_ext [iblk, V_main_arg3, e]
include hg in
theorem blk_g (t : Fin cfg0.N) : Is2 (iblk m c 5 t : FVec Ideal S1x128 .f32) fun a d => g 0 (t.val / 11 * 128 + d) := by
  intro a d
  have ht : t.val < 88 := t.isLt
  have e := (idx t).2.2.2.2.2.1
  obtain rfl : a = 0 := Subsingleton.elim _ _
  rw [← hg ⟨0, by omega⟩ ⟨t.val / 11 * 128 + d.val, by omega⟩]
  blk_ext [iblk, V_main_arg2, e]

include hx hc in
/-- The scores the host saves from. -/
theorem scoreM_is (h : Fin 8) (a b : Fin 4224) :
    Saved.scoreM m c (ix3 h a b) = if ok a.val b.val then ((s (head x cc g w h) a b : ℝ) : EReal) else ⊥ :=
  Saved.scoreT_is (D := head x cc g w) (fun _ => rfl) (Saved.qT_is hx) (Saved.kT_is hx) hc h a b
include hx hc in
theorem V_lse_is : Is3 (V m c main_v51 : FVec Ideal S8x4224x1 .f32) fun h a _ => lse (head x cc g w h) a := by
  rw [Saved.V_lse]
  exact Saved.colT_is (Saved.lseT_is (scoreM_is m c hx hc))
include hx hc in
theorem V_out_is : Is2 (V m c main_v50 : FVec Ideal S4224x1024 .f32) fun a n => o (head x cc g w (n / 128)) a (n % 128) := by
  rw [Saved.V_out]
  exact Saved.outT_is (scoreM_is m c hx hc) (Saved.lseT_is (scoreM_is m c hx hc)) (Saved.vT_is hx)
include hc in
theorem V_col_is : Is3 (V m c main_v52 : FVec Ideal S8x4224x1 .f32) fun h a _ => cc h a := by
  rw [Saved.V_col]
  exact Saved.colT_is hc
include hc in
theorem V_row_is : Is4 (V m c main_v53 : FVec Ideal S8x11x1x384 .f32) fun h j _ b => cc h (j * 384 + b) := by
  rw [Saved.V_row]
  exact Saved.rowT_is hc

theorem blk_o {f : ℕ → ℕ → ℝ} (hV : Is2 (V m c main_v50 : FVec Ideal S4224x1024 .f32) f) (t : Fin cfg0.N) :
    Is2 (iblk m c 3 t : FVec Ideal S384x128 .f32) fun a d => f (t.val % 11 * 384 + a) (t.val / 11 * 128 + d) := by
  intro a d
  have ht : t.val < 88 := t.isLt
  have e := (idx t).2.2.2.1
  refine Eq.trans ?_ (hV ⟨t.val % 11 * 384 + a.val, by omega⟩ ⟨t.val / 11 * 128 + d.val, by omega⟩)
  blk_ext [iblk, e]
theorem blk_col6 {f : ℕ → ℕ → ℕ → ℝ} (hV : Is3 (V m c main_v51 : FVec Ideal S8x4224x1 .f32) f) (t : Fin cfg0.N) :
    Is3 (iblk m c 6 t : FVec Ideal S1x384x1 .f32) fun _ a _ => f (t.val / 11) (t.val % 11 * 384 + a) 0 := by
  intro z a d
  have ht : t.val < 88 := t.isLt
  have e := (idx t).2.2.2.2.2.2.1
  obtain rfl : d = 0 := Subsingleton.elim _ _
  obtain rfl : z = 0 := Subsingleton.elim _ _
  refine Eq.trans ?_ (hV ⟨t.val / 11, by omega⟩ ⟨t.val % 11 * 384 + a.val, by omega⟩ 0)
  blk_ext [iblk, e]
theorem blk_col7 {f : ℕ → ℕ → ℕ → ℝ} (hV : Is3 (V m c main_v52 : FVec Ideal S8x4224x1 .f32) f) (t : Fin cfg0.N) :
    Is3 (iblk m c 7 t : FVec Ideal S1x384x1 .f32) fun _ a _ => f (t.val / 11) (t.val % 11 * 384 + a) 0 := by
  intro z a d
  have ht : t.val < 88 := t.isLt
  have e := (idx t).2.2.2.2.2.2.2.1
  obtain rfl : d = 0 := Subsingleton.elim _ _
  obtain rfl : z = 0 := Subsingleton.elim _ _
  refine Eq.trans ?_ (hV ⟨t.val / 11, by omega⟩ ⟨t.val % 11 * 384 + a.val, by omega⟩ 0)
  blk_ext [iblk, e]
theorem blk_row {f : ℕ → ℕ → ℕ → ℕ → ℝ} (hV : Is4 (V m c main_v53 : FVec Ideal S8x11x1x384 .f32) f) (t : Fin cfg0.N) :
    Is4 (iblk m c 8 t : FVec Ideal S1x11x1x384 .f32) fun _ j _ b => f (t.val / 11) j 0 b := by
  intro z j z' b
  have ht : t.val < 88 := t.isLt
  have e := (idx t).2.2.2.2.2.2.2.2
  obtain rfl : z' = 0 := Subsingleton.elim _ _
  obtain rfl : z = 0 := Subsingleton.elim _ _
  refine Eq.trans ?_ (hV ⟨t.val / 11, by omega⟩ j 0 b)
  blk_ext [iblk, e]

include hx hc hg hw in
/-- What a point reads is its block of its head. -/
theorem inAt_ok (t : Fin cfg0.N) : InOk (head x cc g w (t.val / 11)) (t.val % 11) (inAt m c t) where
  hσ := rfl
  hε := rfl
  q := blk_q m c hx t
  K := blk_k m c hx t
  V := blk_v m c hx t
  o := by
    intro a d
    refine (blk_o m c (V_out_is (g := g) (w := w) m c hx hc) t a d).trans ?_
    have hd : d.val < 128 := d.isLt
    beta_reduce
    rw [show (t.val / 11 * 128 + d.val) / 128 = t.val / 11 by omega, show (t.val / 11 * 128 + d.val) % 128 = d.val by omega]
  don := blk_w m c hw t
  g := blk_g m c hg t
  ls := blk_col6 m c (V_lse_is m c hx hc) t
  ci := blk_col7 m c (V_col_is m c hc) t
  cr := blk_row m c (V_row_is m c hc) t

end Attn

end
-- ==== Proof.Accs.lean ====
/-
  The accumulators along the grid: before the point of a head's query block `i` they hold the sums over the head's query
  blocks before `i`.
-/
module

public import proofs.«01_k».proof.Proof.Blocks

@[expose] public section

set_option maxRecDepth 16384
set_option maxHeartbeats 4000000

noncomputable section

namespace Attn

open Cert.KernelIdeal Cert.KernelIdeal.Gen Cert.KernelIdeal.Hand
open Idealize.ShloMosaic Idealize.ShloMosaic.TcCoe Idealize.ShloMosaic.Pipeline Idealize.ShloMosaic.Tactic Idealize.ShloMosaic.Pointwise

variable (m : (ℓ : Loc nD τ sig) → Buf (Elt Ideal) ℓ) (c : Dev nD) {x cc g w : ℕ → ℕ → ℝ}
  (hx : Is2 (m ((c : Thread nD τ).loc main_arg0) : FVec Ideal S4224x6144 .bf16) x)
  (hc : Is2 (m ((c : Thread nD τ).loc main_arg1) : FVec Ideal S8x4224 .f32) cc)
  (hg : Is2 (m ((c : Thread nD τ).loc main_arg2) : FVec Ideal S1x1024 .f32) g)
  (hw : Is2 (m ((c : Thread nD τ).loc main_arg3) : FVec Ideal S4224x1024 .f32) w)

include hx hc hg hw in
/-- One point carries the sums of the query blocks before its own to those up to its own. -/
theorem step_ok (t : Fin cfg0.N)
    (A : AcOk (head x cc g w (t.val / 11)) (t.val % 11) (acIn (grid0.coords t) (accs m c t.val))) :
    AcOk (head x cc g w (t.val / 11)) (t.val % 11 + 1) (accs m c (t.val + 1)) := by
  rw [accs_succ]
  have X := inAt_ok m c hx hc hg hw t
  rw [← qb_coords t] at X A ⊢
  exact acAt_ok X A

include hx hc hg hw in
/-- What a point's accumulators hold when it starts. -/
theorem acIn_ok : ∀ n (h : n < cfg0.N),
    AcOk (head x cc g w (n / 11)) (n % 11) (acIn (grid0.coords ⟨n, h⟩) (accs m c n))
  | 0, h => by
    rw [acIn, if_pos (show qb (grid0.coords ⟨0, h⟩) = 0 from qb_coords ⟨0, h⟩)]
    exact zero_ok
  | n + 1, h => by
    by_cases h0 : (n + 1) % 11 = 0
    · rw [acIn, if_pos ((qb_coords ⟨n + 1, h⟩).trans h0), h0]
      exact zero_ok
    · have S := step_ok m c hx hc hg hw ⟨n, by omega⟩ (acIn_ok n (by omega))
      rw [acIn, if_neg fun e => h0 ((qb_coords ⟨n + 1, h⟩).symm.trans e)]
      rw [show (n + 1) / 11 = n / 11 by omega, show (n + 1) % 11 = n % 11 + 1 by omega]
      exact S

include hx hc hg hw in
/-- What the accumulators hold after a point. -/
theorem accs_ok (t : Fin cfg0.N) :
    AcOk (head x cc g w (t.val / 11)) (t.val % 11 + 1) (accs m c (t.val + 1)) :=
  step_ok m c hx hc hg hw t (acIn_ok m c hx hc hg hw t.val t.isLt)

include hx hc hg hw in
theorem out_dq (t : Fin cfg0.N) :
    Is2 (dqAt (grid0.coords t) (inAt m c t) (acIn (grid0.coords t) (accs m c t.val)))
      fun a d => dq (head x cc g w (t.val / 11)) (t.val % 11 * 384 + a) d := by
  have A := acIn_ok m c hx hc hg hw t.val t.isLt
  have X := inAt_ok m c hx hc hg hw t
  rw [← qb_coords t] at X A ⊢
  exact dqAt_ok X A

include hx hc hg hw in
theorem out_dc (t : Fin cfg0.N) :
    Is3 (dcAt (grid0.coords t) (inAt m c t) (acIn (grid0.coords t) (accs m c t.val)))
      fun _ a _ => dcq (head x cc g w (t.val / 11)) (t.val % 11 * 384 + a) := by
  have A := acIn_ok m c hx hc hg hw t.val t.isLt
  have X := inAt_ok m c hx hc hg hw t
  rw [← qb_coords t] at X A ⊢
  exact dcAt_ok X A

end Attn

end
-- ==== Proof.Arrays.lean ====
/-
  The six arrays the run leaves, block by block.
-/
module

public import proofs.«01_k».proof.Proof.Accs

@[expose] public section

set_option maxRecDepth 16384
set_option maxHeartbeats 4000000

noncomputable section

namespace Attn

open Cert.KernelIdeal Cert.KernelIdeal.Gen Cert.KernelIdeal.Hand
open Idealize.ShloMosaic Idealize.ShloMosaic.TcCoe Idealize.ShloMosaic.Pipeline Idealize.ShloMosaic.Tactic Idealize.ShloMosaic.Pointwise

/-- Reading an array of known entries at an index. -/
theorem Is2.read {m n : ℕ} {X : (⟨2, ![m, n]⟩ : Shape).Idx → EReal} {f : ℕ → ℕ → ℝ} (h : Is2 X f) (y : (⟨2, ![m, n]⟩ : Shape).Idx) :
    X y = ((f (y 0).val (y 1).val : ℝ) : EReal) := by
  conv_lhs => rw [eq_ix2 y]
  exact h _ _
theorem Is3.read {l m n : ℕ} {X : (⟨3, ![l, m, n]⟩ : Shape).Idx → EReal} {f : ℕ → ℕ → ℕ → ℝ} (h : Is3 X f) (y : (⟨3, ![l, m, n]⟩ : Shape).Idx) :
    X y = ((f (y 0).val (y 1).val (y 2).val : ℝ) : EReal) := by
  conv_lhs => rw [eq_ix3 y]
  exact h _ _ _
theorem Is4.read {k l m n : ℕ} {X : (⟨4, ![k, l, m, n]⟩ : Shape).Idx → EReal} {f : ℕ → ℕ → ℕ → ℕ → ℝ} (h : Is4 X f) (y : (⟨4, ![k, l, m, n]⟩ : Shape).Idx) :
    X y = ((f (y 0).val (y 1).val (y 2).val (y 3).val : ℝ) : EReal) := by
  conv_lhs => rw [eq_ix4 y]
  exact h _ _ _ _

/-- A column of a head's block: which head, and which of its columns. -/
theorem head_col {h d : ℕ} (hd : d < 128) : (h * 128 + d) / 128 = h ∧ (h * 128 + d) % 128 = d := by omega

variable (m : (ℓ : Loc nD τ sig) → Buf (Elt Ideal) ℓ) (c : Dev nD) {x cc g w : ℕ → ℕ → ℝ}
  (hx : Is2 (m ((c : Thread nD τ).loc main_arg0) : FVec Ideal S4224x6144 .bf16) x)
  (hc : Is2 (m ((c : Thread nD τ).loc main_arg1) : FVec Ideal S8x4224 .f32) cc)
  (hg : Is2 (m ((c : Thread nD τ).loc main_arg2) : FVec Ideal S1x1024 .f32) g)
  (hw : Is2 (m ((c : Thread nD τ).loc main_arg3) : FVec Ideal S4224x1024 .f32) w)

include hx hc hg hw in
theorem arr_dq : Is2 ((dats m 0 c).arrAt 9 (cfgs 0).N : FVec Ideal S4224x1024 .bf16) fun a n => dq (head x cc g w (n / 128)) a (n % 128) := by
  have H : (dats m 0 c).arrAt 9 (cfgs 0).N = (fun i => ((dq (head x cc g w ((i 1).val / 128)) (i 0).val ((i 1).val % 128) : ℝ) : EReal) : FVec Ideal S4224x1024 .bf16) := by
    refine (dats m 0 c).arrAt_eq_of_covers 9 _ (by decide +kernel) fun t hf y => ?_
    have h := out_dq m c hx hc hg hw t
    have e := (idx_out t).1
    have hd : (y (1 : Fin 2)).val < 128 := (y 1).isLt
    blk_simp [e]
    rw [after_9, (head_col hd).1, (head_col hd).2]
    exact h.read y
  rw [H]
  exact fun _ _ => rfl

include hx hc hg hw in
theorem arr_dk : Is2 ((dats m 0 c).arrAt 10 (cfgs 0).N : FVec Ideal S4224x1024 .f32) fun b n => dk (head x cc g w (n / 128)) b (n % 128) := by
  have H : (dats m 0 c).arrAt 10 (cfgs 0).N = (fun i => ((dk (head x cc g w ((i 1).val / 128)) (i 0).val ((i 1).val % 128) : ℝ) : EReal) : FVec Ideal S4224x1024 .f32) := by
    refine (dats m 0 c).arrAt_eq_of_covers 10 _ (by decide +kernel) fun t hf y => ?_
    have h := (accs_ok m c hx hc hg hw t).dk
    rw [(flush0_10 t).mp hf] at h
    have e := (idx_out t).2.1
    have hd : (y (1 : Fin 2)).val < 128 := (y 1).isLt
    blk_simp [e]
    rw [after_10, (head_col hd).1, (head_col hd).2]
    exact h.read y
  rw [H]
  exact fun _ _ => rfl

include hx hc hg hw in
theorem arr_dv : Is2 ((dats m 0 c).arrAt 11 (cfgs 0).N : FVec Ideal S4224x1024 .f32) fun b n => dv (head x cc g w (n / 128)) b (n % 128) := by
  have H : (dats m 0 c).arrAt 11 (cfgs 0).N = (fun i => ((dv (head x cc g w ((i 1).val / 128)) (i 0).val ((i 1).val % 128) : ℝ) : EReal) : FVec Ideal S4224x1024 .f32) := by
    refine (dats m 0 c).arrAt_eq_of_covers 11 _ (by decide +kernel) fun t hf y => ?_
    have h := (accs_ok m c hx hc hg hw t).dv
    rw [(flush0_11 t).mp hf] at h
    have e := (idx_out t).2.2.1
    have hd : (y (1 : Fin 2)).val < 128 := (y 1).isLt
    blk_simp [e]
    rw [after_11, (head_col hd).1, (head_col hd).2]
    exact h.read y
  rw [H]
  exact fun _ _ => rfl

include hx hc hg hw in
theorem arr_dg : Is2 ((dats m 0 c).arrAt 12 (cfgs 0).N : FVec Ideal S1x1024 .f32) fun _ n => dg (head x cc g w (n / 128)) (n % 128) := by
  have H : (dats m 0 c).arrAt 12 (cfgs 0).N = (fun i => ((dg (head x cc g w ((i 1).val / 128)) ((i 1).val % 128) : ℝ) : EReal) : FVec Ideal S1x1024 .f32) := by
    refine (dats m 0 c).arrAt_eq_of_covers 12 _ (by decide +kernel) fun t hf y => ?_
    have h := (accs_ok m c hx hc hg hw t).dg
    rw [(flush0_12 t).mp hf] at h
    have e := (idx_out t).2.2.2.1
    have hd : (y (1 : Fin 2)).val < 128 := (y 1).isLt
    blk_simp [e]
    rw [after_12, (head_col hd).1, (head_col hd).2]
    exact h.read y
  rw [H]
  exact fun _ _ => rfl

include hx hc hg hw in
theorem arr_dcq : Is3 ((dats m 0 c).arrAt 13 (cfgs 0).N : FVec Ideal S8x4224x1 .f32) fun h a _ => dcq (head x cc g w h) a := by
  have H : (dats m 0 c).arrAt 13 (cfgs 0).N = (fun i => ((dcq (head x cc g w (i 0).val) (i 1).val : ℝ) : EReal) : FVec Ideal S8x4224x1 .f32) := by
    refine (dats m 0 c).arrAt_eq_of_covers 13 _ (by decide +kernel) fun t hf y => ?_
    have h := out_dc m c hx hc hg hw t
    have e := (idx_out t).2.2.2.2.1
    blk_simp [e]
    rw [after_13]
    exact h.read y
  rw [H]
  exact fun _ _ _ => rfl

include hx hc hg hw in
theorem arr_dck : Is4 ((dats m 0 c).arrAt 14 (cfgs 0).N : FVec Ideal S8x11x1x384 .f32) fun h j _ b => dck (head x cc g w h) (j * 384 + b) := by
  have H : (dats m 0 c).arrAt 14 (cfgs 0).N = (fun i => ((dck (head x cc g w (i 0).val) ((i 1).val * 384 + (i 3).val) : ℝ) : EReal) : FVec Ideal S8x11x1x384 .f32) := by
    refine (dats m 0 c).arrAt_eq_of_covers 14 _ (by decide +kernel) fun t hf y => ?_
    have h := (accs_ok m c hx hc hg hw t).dr
    rw [(flush0_14 t).mp hf] at h
    have e := (idx_out t).2.2.2.2.2
    blk_simp [e]
    rw [after_14]
    exact h.read y
  rw [H]
  exact fun _ _ _ _ => rfl

include hx hc hg hw in
/-- The arrays the run leaves hold the gradients. -/
theorem arrays_ok : Results x cc g w ((dats m 0 c).arrAt 9 (cfgs 0).N) ((dats m 0 c).arrAt 10 (cfgs 0).N) ((dats m 0 c).arrAt 11 (cfgs 0).N)
    ((dats m 0 c).arrAt 12 (cfgs 0).N) ((dats m 0 c).arrAt 13 (cfgs 0).N) ((dats m 0 c).arrAt 14 (cfgs 0).N) :=
  ⟨arr_dq m c hx hc hg hw, arr_dk m c hx hc hg hw, arr_dv m c hx hc hg hw, arr_dg m c hx hc hg hw, arr_dcq m c hx hc hg hw, arr_dck m c hx hc hg hw⟩

end Attn

end
-- ==== Proof.Finite.lean ====
/-
  The precondition: every entry of the four arguments is finite, so the arguments hold real numbers.
-/
module

public import proofs.«01_k».proof.Defs
public import proofs.«01_k».proof.Proof.Heads
public import proofs.«01_k».proof.Proof.Lit
public import Idealize.ShloMosaic.Lib.ReduceAll
public import Idealize.ShloMosaic.Lib.Affine

@[expose] public section

set_option maxRecDepth 16384
set_option maxHeartbeats 4000000

noncomputable section

namespace Attn

open Cert.Pre_finite Idealize.ShloMosaic Idealize.ShloMosaic.Tactic Idealize.ShloMosaic.Pointwise

theorem pre_facts : Cert.Pre_finite.Facts where
  bitsLt_bf16_f32 := by decide
  bcast_S_S4224x6144 := by decide
  reducesTo_S4224x6144_S_d0_1 := by decide
  h_S_ := by decide
  bcast_S_S8x4224 := by decide
  reducesTo_S8x4224_S_d0_1 := by decide
  bcast_S_S1x1024 := by decide
  reducesTo_S1x1024_S_d0_1 := by decide
  bcast_S_S4224x1024 := by decide
  reducesTo_S4224x1024_S_d0_1 := by decide

/-- A number whose size is below +∞ is neither of the two infinities. -/
theorem abs_lt_top {v : EReal} (h : max v (-v) < ⊤) : v ≠ ⊤ ∧ v ≠ ⊥ :=
  ⟨fun e => by simp [e] at h, fun e => by simp [e] at h⟩

/-- One array's test: where it holds, every entry is finite. -/
theorem all_finite {m n : ℕ} (X : FVec Ideal ⟨2, ![m, n]⟩ .f32) (hb : S_.BroadcastsInDim ⟨2, ![m, n]⟩ (![] : Fin 0 → Fin 2))
    (hr : (⟨2, ![m, n]⟩ : Shape).ReducesTo [0, 1] S_) (hs : 0 < S_.numel) (j : S_.Idx)
    (h : Host.reduce IntOp.andi (cmpf .olt (Host.absf X) (broadcastInDim ⟨2, ![m, n]⟩ ![] hb (constant S_ .f32 0x7F800000#32 : FVec Ideal S_ .f32))) (constantI S_ 1 1#1) hr hs j = 1#1)
    (a : Fin m) (b : Fin n) : X (ix2 a b) ≠ ⊤ ∧ X (ix2 a b) ≠ ⊥ := by
  have : Subsingleton S_.Idx := ⟨fun i j => funext fun k => k.elim0⟩
  have e := Host.reduce_andi_all _ _ _ _ j h (ix2 a b)
  pointwise [] at e
  rw [lit_top] at e
  refine abs_lt_top ?_
  by_contra hn
  rw [decide_eq_false (show ¬ (FloatOps.absf (X (ix2 a b)) : EReal) < ⊤ from hn)] at e
  exact absurd e (by decide)

/-- The precondition makes the four arguments arrays of real numbers. -/
theorem reals [Cert.Pre_finite.Facts] (X : FVec Ideal S4224x6144 .bf16) (C : FVec Ideal S8x4224 .f32) (G : FVec Ideal S1x1024 .f32) (W : FVec Ideal S4224x1024 .f32)
    (h : fn (F := Ideal) X C G W = fun _ => 1#1) : (∃ x, Is2 X x) ∧ (∃ c, Is2 C c) ∧ (∃ g, Is2 G g) ∧ ∃ w, Is2 W w := by
  have h0 := congrFun h (fun k => k.elim0)
  dsimp only [fn, fn_part1] at h0
  obtain ⟨h1, hW⟩ := IntOp.andi_eq_one.1 h0
  obtain ⟨h2, hG⟩ := IntOp.andi_eq_one.1 h1
  obtain ⟨hX, hC⟩ := IntOp.andi_eq_one.1 h2
  exact ⟨exists_is2 (all_finite _ _ _ _ _ hX), exists_is2 (all_finite _ _ _ _ _ hC), exists_is2 (all_finite _ _ _ _ _ hG), exists_is2 (all_finite _ _ _ _ _ hW)⟩

end Attn

end
-- ==== Proof.RefSoft.lean ====
/-
  The reference's softmax, over the real numbers: what each of its steps holds where the steps before hold real numbers.
-/
module

public import proofs.«01_k».proof.Proof.Heads
public import proofs.«01_k».proof.Proof.Gen.ReferenceIdeal

@[expose] public section

set_option maxRecDepth 16384

noncomputable section

namespace Attn.Ref

open Cert.ReferenceIdeal Cert.ReferenceIdeal.Gen
open Idealize.ShloMosaic Idealize.ShloMosaic.Pointwise
open Finset (range)

/-- The reference lets a query see itself also where no key is to be seen, so that no row is empty. -/
abbrev okR (a b : ℕ) : Prop := b ≤ a ∧ (112 ≤ b ∨ b = a)

/-- A row's exponentials shifted by `M`, their sum, and the weights. -/
def ER (D : Head) (M : ℝ) (a b : ℕ) : ℝ := if okR a b then Real.exp (s D a b - M) else 0
def LR (D : Head) (M : ℝ) (a : ℕ) : ℝ := ∑ b ∈ range 4224, ER D M a b
def PR (D : Head) (M : ℝ) (a b : ℕ) : ℝ := ER D M a b / LR D M a

theorem LR_pos (D : Head) (M : ℝ) {a : ℕ} (h : a < 4224) : 0 < LR D M a := by
  refine Finset.sum_pos' (fun b _ => ?_) ⟨a, Finset.mem_range.2 h, ?_⟩
  · unfold ER; split
    · exact (Real.exp_pos _).le
    · exact le_refl _
  · rw [ER, if_pos ⟨le_refl _, Or.inr rfl⟩]; exact Real.exp_pos _

theorem okR_iff {a : ℕ} (h : 112 ≤ a) (b : ℕ) : okR a b ↔ ok a b := by unfold okR ok; omega

theorem ER_high (D : Head) (M : ℝ) {a : ℕ} (h : 112 ≤ a) (b : ℕ) : ER D M a b = if ok a b then Real.exp (s D a b - M) else 0 := by
  unfold ER; simp only [okR_iff h]

theorem PR_high (D : Head) (M : ℝ) {a : ℕ} (h : 112 ≤ a) (b : ℕ) : PR D M a b = P D a b := by
  rw [PR, LR, P_shift M b]; simp only [ER_high D M h]

variable {x c : ℕ → ℕ → ℝ}

/-- The heads of the queries, keys and values. -/
theorem heads_q {X : FVec Ideal S4224x6144 .bf16} (hX : Is2 X x) :
    Is3 (transpose S8x4224x128 [1, 0, 2] (shapeCast S4224x8x128 (extf .f32 (extractStridedSlice S4224x1024 ![0, 0] X slices_S4224x6144_S4224x1024_0_0) bitsLt_bf16_f32) shapeCasts_S4224x1024_S4224x8x128) transposes_S4224x8x128_S8x4224x128_1_0_2 : FVec Ideal S8x4224x128 .f32)
      fun h a d => x a (h * 128 + d) := by
  intro h a d
  pointwise
  rw [hX]
theorem heads_k {X : FVec Ideal S4224x6144 .bf16} (hX : Is2 X x) :
    Is3 (transpose S8x4224x128 [1, 0, 2] (shapeCast S4224x8x128 (extf .f32 (extractStridedSlice S4224x1024 ![0, 1024] X slices_S4224x6144_S4224x1024_0_1024) bitsLt_bf16_f32) shapeCasts_S4224x1024_S4224x8x128) transposes_S4224x8x128_S8x4224x128_1_0_2 : FVec Ideal S8x4224x128 .f32)
      fun h a d => x a (1024 + (h * 128 + d)) := by
  intro h a d
  pointwise
  rw [hX]
theorem heads_v {X : FVec Ideal S4224x6144 .bf16} (hX : Is2 X x) :
    Is3 (transpose S8x4224x128 [1, 0, 2] (shapeCast S4224x8x128 (extf .f32 (extractStridedSlice S4224x1024 ![0, 2048] X slices_S4224x6144_S4224x1024_0_2048) bitsLt_bf16_f32) shapeCasts_S4224x1024_S4224x8x128) transposes_S4224x8x128_S8x4224x128_1_0_2 : FVec Ideal S8x4224x128 .f32)
      fun h a d => x a (2048 + (h * 128 + d)) := by
  intro h a d
  pointwise
  rw [hX]

/-- The mask. -/
theorem mask (h : Fin 8) (a b : Fin 4224) :
    (broadcastInDim S8x4224x4224 ![1, 2] bcast_S4224x4224_S8x4224x4224_1_2 (andi (cmpi .sle (broadcastInDim S4224x4224 ![0, 1] bcast_S1x4224_S4224x4224_0_1 (broadcastInDim S1x4224 ![1] bcast_S4224_S1x4224_1 (iotaInDim S4224 32 0))) (broadcastInDim S4224x4224 ![0, 1] bcast_S4224x1_S4224x4224_0_1 (broadcastInDim S4224x1 ![0] bcast_S4224_S4224x1_0 (iotaInDim S4224 32 0)))) (ori (broadcastInDim S4224x4224 ![0, 1] bcast_S1x4224_S4224x4224_0_1 (cmpi .sge (broadcastInDim S1x4224 ![1] bcast_S4224_S1x4224_1 (iotaInDim S4224 32 0)) (broadcastInDim S1x4224 ![] bcast_S_S1x4224 (constantI S_ 32 112#32)))) (cmpi .eq (broadcastInDim S4224x4224 ![0, 1] bcast_S1x4224_S4224x4224_0_1 (broadcastInDim S1x4224 ![1] bcast_S4224_S1x4224_1 (iotaInDim S4224 32 0))) (broadcastInDim S4224x4224 ![0, 1] bcast_S4224x1_S4224x4224_0_1 (broadcastInDim S4224x1 ![0] bcast_S4224_S4224x1_0 (iotaInDim S4224 32 0)))))) : IVec S8x4224x4224 1) (ix3 h a b)
      = if okR a.val b.val then 1#1 else 0#1 := by
  pointwise
  rw [sle_word a.isLt b.isLt, sge_word b.isLt, eq_word a.isLt b.isLt]
  unfold okR
  split_ifs <;> first | rfl | (exfalso; omega)

variable {D : ℕ → Head}

/-- The masked scores. -/
theorem scores {mk : IVec S8x4224x4224 1} {q k : FVec Ideal S8x4224x128 .f32} {C : FVec Ideal S8x4224 .f32}
    (hm : ∀ (h : Fin 8) (a b : Fin 4224), mk (ix3 h a b) = if okR a.val b.val then 1#1 else 0#1)
    (hσ : ∀ h, (D h).σ = sc) (hq : Is3 q fun h => (D h).q) (hk : Is3 k fun h => (D h).k) (hC : Is2 C fun h => (D h).c)
    (h : Fin 8) (a b : Fin 4224) :
    (select mk (subf (addf (mulf (Host.dotGeneral dot_S8x4224x128_S8x4224x128_S8x4224x4224_2_2_1_1_0_0 none q k) (broadcastInDim S8x4224x4224 ![] bcast_S_S8x4224x4224 (constant S_ .f32 0x3DB504F3#32))) (broadcastInDim S8x4224x4224 ![0, 1, 2] bcast_S8x4224x1_S8x4224x4224_0_1_2 (broadcastInDim S8x4224x1 ![0, 1] bcast_S8x4224_S8x4224x1_0_1 C))) (broadcastInDim S8x4224x4224 ![0, 1, 2] bcast_S8x1x4224_S8x4224x4224_0_1_2 (broadcastInDim S8x1x4224 ![0, 2] bcast_S8x4224_S8x1x4224_0_2 C))) (broadcastInDim S8x4224x4224 ![] bcast_S_S8x4224x4224 (id (constant S_ .f32 0xFF800000#32))) : FVec Ideal S8x4224x4224 .f32) (ix3 h a b)
      = if okR a.val b.val then ((s (D h) a b : ℝ) : EReal) else ⊥ := by
  simp only [id_eq]
  pointwise
  rw [hm]
  simp only [hq _ _ _, hk _ _ _, hC _ _, lit_sc, lit_bot, ← EReal.coe_mul, coe_sum, ← EReal.coe_add, ← EReal.coe_sub, s, Finset.sum_range, hσ]
  by_cases hh : okR a.val b.val <;> simp [hh, Scalar.select]

/-- Each row's maximum is a number. -/
theorem row_max {S : FVec Ideal S8x4224x4224 .f32} {f : ℕ → ℕ → ℕ → ℝ}
    (hS : ∀ (h : Fin 8) (a b : Fin 4224), S (ix3 h a b) = if okR a.val b.val then ((f h a b : ℝ) : EReal) else ⊥) :
    ∃ M, Is2 (Host.reduce FloatOps.maximumf S (constant S_ .f32 0xFF800000#32) reducesTo_S8x4224x4224_S8x4224_d2 h_S_ : FVec Ideal S8x4224 .f32) M := by
  refine exists_is2 fun h a => ?_
  pointwise
  rw [lit_bot]
  refine max_fin (i := a) (fun i _ => ?_) (Finset.mem_univ _) ?_
  · refine ne_of_eq_of_ne (hS _ _ _) ?_
    split
    · exact EReal.coe_ne_top _
    · exact bot_ne_top
  · refine ne_of_eq_of_ne (hS _ _ _) ?_
    rw [if_pos ⟨le_refl _, Or.inr rfl⟩]
    exact EReal.coe_ne_bot _

variable {M : ℕ → ℕ → ℝ}

/-- The shifted exponentials, their sums, and the weights. -/
theorem exps {S : FVec Ideal S8x4224x4224 .f32} {mx : FVec Ideal S8x4224 .f32}
    (hS : ∀ (h : Fin 8) (a b : Fin 4224), S (ix3 h a b) = if okR a.val b.val then ((s (D h) a b : ℝ) : EReal) else ⊥) (hM : Is2 mx M) :
    Is3 (Host.exp (subf S (broadcastInDim S8x4224x4224 ![0, 1, 2] bcast_S8x4224x1_S8x4224x4224_0_1_2 (broadcastInDim S8x4224x1 ![0, 1] bcast_S8x4224_S8x4224x1_0_1 (maximumf (broadcastInDim S8x4224 ![] bcast_S_S8x4224 (constant S_ .f32 0xFF800000#32)) mx)))) : FVec Ideal S8x4224x4224 .f32)
      fun h a b => ER (D h) (M h a) a b := by
  intro h a b
  pointwise
  rw [lit_bot, hS, hM, max_bot_left, exp_masked, ER]
theorem sums {E : FVec Ideal S8x4224x4224 .f32} (hE : Is3 E fun h a b => ER (D h) (M h a) a b) :
    Is3 (broadcastInDim S8x4224x1 ![0, 1] bcast_S8x4224_S8x4224x1_0_1 (Host.reduceAdd E (constant S_ .f32 0x00000000#32) reducesTo_S8x4224x4224_S8x4224_d2 h_S_) : FVec Ideal S8x4224x1 .f32)
      fun h a _ => LR (D h) (M h a) a := by
  intro h a b
  pointwise
  simp only [hE _ _ _, coe_sum, LR, Finset.sum_range]
theorem weights {E : FVec Ideal S8x4224x4224 .f32} {L : FVec Ideal S8x4224x1 .f32} (hE : Is3 E fun h a b => ER (D h) (M h a) a b)
    (hL : Is3 L fun h a _ => LR (D h) (M h a) a) :
    Is3 (Host.divf E (broadcastInDim S8x4224x4224 ![0, 1, 2] bcast_S8x4224x1_S8x4224x4224_0_1_2 L) : FVec Ideal S8x4224x4224 .f32)
      fun h a b => PR (D h) (M h a) a b := by
  intro h a b
  pointwise
  rw [hE, hL, Ideal.div_coe (LR_pos _ _ a.isLt).ne', ← EReal.coe_mul, mul_one_div, PR]

/-- The output's rows below the padding. -/
theorem out {p : FVec Ideal S8x4224x4224 .f32} {v : FVec Ideal S8x4224x128 .f32} (hp : Is3 p fun h a b => PR (D h) (M h a) a b)
    (hv : Is3 v fun h => (D h).v) :
    Is3 (extractStridedSlice S8x4112x128 ![0, 112, 0] (Host.dotGeneral dot_S8x4224x4224_S8x4224x128_S8x4224x128_2_1_1_2_0_0 none p v) slices_S8x4224x128_S8x4112x128_0_112_0 : FVec Ideal S8x4112x128 .f32)
      fun h a d => o (D h) (112 + a) d := by
  intro h a d
  pointwise
  simp only [hp _ _ _, hv _ _ _, ← EReal.coe_mul, coe_sum, o, Finset.sum_range, PR_high _ _ (Nat.le_add_right 112 a.val)]

end Attn.Ref

end
-- ==== Proof.RefGrad.lean ====
/-
  The reference's backward pass, over the real numbers: what each of its steps holds where the steps before hold real
  numbers. The rows of the norm's arrays are the head's rows below the padding: row `a` of theirs is row `112 + a`.
-/
module

public import proofs.«01_k».proof.Proof.RefSoft
public import proofs.«01_k».proof.Proof.Pay

@[expose] public section

set_option maxRecDepth 16384

noncomputable section

namespace Attn.Ref

open Cert.ReferenceIdeal Cert.ReferenceIdeal.Gen
open Idealize.ShloMosaic Idealize.ShloMosaic.Pointwise
open Finset (range)

variable {D : ℕ → Head}

/-- The mean square with the small constant, and the reciprocal of its root. -/
theorem meanSq {u : FVec Ideal S8x4112x128 .f32} (hε : ∀ h, (D h).ε = tiny) (hu : Is3 u fun h a d => o (D h) (112 + a) d) :
    Is3 (addf (Host.divf (broadcastInDim S8x4112x1 ![0, 1] bcast_S8x4112_S8x4112x1_0_1 (Host.reduceAdd (mulf u u) (constant S_ .f32 0x00000000#32) reducesTo_S8x4112x128_S8x4112_d2 h_S_)) (broadcastInDim S8x4112x1 ![] bcast_S_S8x4112x1 (constant S_ .f32 0x43000000#32))) (broadcastInDim S8x4112x1 ![] bcast_S_S8x4112x1 (constant S_ .f32 0x358637BD#32)) : FVec Ideal S8x4112x1 .f32)
      fun h a _ => ms (D h) (112 + a) := by
  intro h a d
  pointwise
  simp only [hu _ _ _, ← EReal.coe_mul, coe_sum, lit_128, lit_tiny, Ideal.div_coe (by norm_num : (128 : ℝ) ≠ 0), ← EReal.coe_add]
  rw [ms, hε, Finset.sum_range, mul_one_div]
theorem root {u : FVec Ideal S8x4112x1 .f32} (hε : ∀ h, (D h).ε = tiny) (hu : Is3 u fun h a _ => ms (D h) (112 + a)) :
    Is3 (Host.rsqrt u : FVec Ideal S8x4112x1 .f32) fun h a _ => r (D h) (112 + a) := by
  intro h a d
  have hp := ms_pos (hε h) (112 + a.val)
  pointwise
  rw [hu, Ideal.rsqrt_coe, if_neg (not_lt.2 hp.le), if_neg hp.ne', r]

/-- The normed output laid out as the argument is, and the gain's gradient. -/
theorem normed {u : FVec Ideal S8x4112x128 .f32} {q : FVec Ideal S8x4112x1 .f32} (hu : Is3 u fun h a d => o (D h) (112 + a) d)
    (hq : Is3 q fun h a _ => r (D h) (112 + a)) :
    Is2 (shapeCast S4112x1024 (transpose S4112x8x128 [1, 0, 2] (mulf u (broadcastInDim S8x4112x128 ![0, 1, 2] bcast_S8x4112x1_S8x4112x128_0_1_2 q)) transposes_S8x4112x128_S4112x8x128_1_0_2) shapeCasts_S4112x8x128_S4112x1024 : FVec Ideal S4112x1024 .f32)
      fun a n => oh (D (n / 128)) (112 + a) (n % 128) := by
  intro a n
  pointwise
  simp only [hu _ _ _, hq _ _ _, ← EReal.coe_mul, oh]
theorem cot {T : FVec Ideal S4224x1024 .f32} {t : ℕ → ℕ → ℝ} (hT : Is2 T t) :
    Is2 (extractStridedSlice S4112x1024 ![112, 0] T slices_S4224x1024_S4112x1024_112_0 : FVec Ideal S4112x1024 .f32) fun a n => t (112 + a) n := by
  intro a n
  pointwise
  rw [hT]
theorem gainGrad {N T : FVec Ideal S4112x1024 .f32} (hN : Is2 N fun a n => oh (D (n / 128)) (112 + a) (n % 128))
    (hT : Is2 T fun a n => (D (n / 128)).t (112 + a) (n % 128)) :
    Is2 (shapeCast S1x1024 (Host.reduceAdd (mulf N T) (constant S_ .f32 0x00000000#32) reducesTo_S4112x1024_S1024_d0 h_S_) shapeCasts_S1024_S1x1024 : FVec Ideal S1x1024 .f32)
      fun _ n => dg (D (n / 128)) (n % 128) := by
  intro a n
  pointwise
  simp only [hN _ _, hT _ _, ← EReal.coe_mul, coe_sum]
  rw [dg, show 4224 = 112 + 4112 from rfl, Finset.sum_range_add, Finset.sum_eq_zero (s := range 112), zero_add, Finset.sum_range]
  · simp only [mul_comm]
  · intro a ha
    rw [oh_low (Finset.mem_range.1 ha), mul_zero]

/-- The normed output's cotangent, by heads. -/
theorem cotHeads {T : FVec Ideal S4112x1024 .f32} {G : FVec Ideal S1x1024 .f32} {t g : ℕ → ℕ → ℝ} (hT : Is2 T fun a n => t (112 + a) n) (hG : Is2 G g) :
    Is3 (transpose S8x4112x128 [1, 0, 2] (shapeCast S4112x8x128 (mulf T (broadcastInDim S4112x1024 ![0, 1] bcast_S1x1024_S4112x1024_0_1 G)) shapeCasts_S4112x1024_S4112x8x128) transposes_S4112x8x128_S8x4112x128_1_0_2 : FVec Ideal S8x4112x128 .f32)
      fun h a d => t (112 + a) (h * 128 + d) * g 0 (h * 128 + d) := by
  intro h a d
  pointwise
  rw [hT, hG, ← EReal.coe_mul]; rfl

/-- The norm's cotangent through its mean. -/
theorem meanCot {u W : FVec Ideal S8x4112x128 .f32} {q p : FVec Ideal S8x4112x1 .f32} (hε : ∀ h, (D h).ε = tiny)
    (hu : Is3 u fun h a d => o (D h) (112 + a) d) (hW : Is3 W fun h a d => w (D h) (112 + a) d)
    (hq : Is3 q fun h a _ => r (D h) (112 + a)) (hp : Is3 p fun h a _ => ms (D h) (112 + a)) :
    Is3 (broadcastInDim S8x4112x128 ![0, 1] bcast_S8x4112_S8x4112x128_0_1 (Host.reduceAdd (Host.divf (mulf (shapeCast S8x4112x1 (Host.reduceAdd (mulf u W) (constant S_ .f32 0x00000000#32) reducesTo_S8x4112x128_S8x4112_d2 h_S_) shapeCasts_S8x4112_S8x4112x1) (mulf (broadcastInDim S8x4112x1 ![] bcast_S_S8x4112x1 (constant S_ .f32 0xBF000000#32)) (Host.divf q p))) (broadcastInDim S8x4112x1 ![] bcast_S_S8x4112x1 (constant S_ .f32 0x43000000#32))) (constant S_ .f32 0x00000000#32) reducesTo_S8x4112x1_S8x4112_d2 h_S_) : FVec Ideal S8x4112x128 .f32)
      fun h a _ => (∑ d ∈ range 128, o (D h) (112 + a) d * w (D h) (112 + a) d) * (-(1 / 2) * (r (D h) (112 + a) / ms (D h) (112 + a))) / 128 := by
  intro h a d
  have hms := ms_pos (hε h) (112 + a.val)
  pointwise
  simp only [hu _ _ _, hW _ _ _, hq _ _ _, hp _ _ _, ← EReal.coe_mul, coe_sum, lit_128, lit_neg_half, Ideal.div_coe (by norm_num : (128 : ℝ) ≠ 0),
    Ideal.div_coe hms.ne', Fin.sum_univ_one, mul_one_div, Finset.sum_range]

/-- The output's cotangent: zero in the padding. -/
theorem outCot {u W m : FVec Ideal S8x4112x128 .f32} {q : FVec Ideal S8x4112x1 .f32} (hε : ∀ h, (D h).ε = tiny)
    (hu : Is3 u fun h a d => o (D h) (112 + a) d) (hW : Is3 W fun h a d => w (D h) (112 + a) d)
    (hq : Is3 q fun h a _ => r (D h) (112 + a))
    (hm : Is3 m fun h a _ => (∑ d ∈ range 128, o (D h) (112 + a) d * w (D h) (112 + a) d) * (-(1 / 2) * (r (D h) (112 + a) / ms (D h) (112 + a))) / 128) :
    Is3 (pad S8x4224x128 ![0, 112, 0] ![0, 0, 0] ![0, 0, 0] (addf (addf (mulf W (broadcastInDim S8x4112x128 ![0, 1, 2] bcast_S8x4112x1_S8x4112x128_0_1_2 q)) (mulf u m)) (mulf m u)) (constant S_ .f32 0x00000000#32) pads_S8x4112x128_S8x4224x128_000_11200_000 h_S_ : FVec Ideal S8x4224x128 .f32)
      fun h a d => if 112 ≤ a then go (D h) a d else 0 := by
  intro h a d
  pointwise
  by_cases ha : 112 ≤ a.val
  · have e : 112 + (a.val - 112) = a.val := by omega
    rw [dif_pos, if_pos ha]
    · simp only [hu _ _ _, hW _ _ _, hq _ _ _, hm _ _ _, ← EReal.coe_mul, ← EReal.coe_add, e]
      have hms := ms_pos (hε h) a.val
      have hr : r (D h) a.val * r (D h) a.val = (ms (D h) a.val)⁻¹ := by
        rw [r, ← mul_inv, Real.mul_self_sqrt hms.le]
      have hsum : ∑ e ∈ range 128, w (D h) a.val e * oh (D h) a.val e = (∑ d ∈ range 128, o (D h) a.val d * w (D h) a.val d) * r (D h) a.val := by
        rw [Finset.sum_mul]
        exact Finset.sum_congr rfl fun e _ => by rw [oh]; ring
      rw [go, hsum, oh, div_eq_mul_inv (r (D h) a.val), ← hr]
      congr 1; ring
    · have h2 := a.isLt
      omega
  · rw [dif_neg, if_neg ha]
    · rfl
    · intro H
      exact ha H.1

variable {M : ℕ → ℕ → ℝ}

/-- The weights' cotangent. -/
theorem wtCot {y v : FVec Ideal S8x4224x128 .f32} (hy : Is3 y fun h a d => if 112 ≤ a then go (D h) a d else 0) (hv : Is3 v fun h => (D h).v) :
    Is3 (Host.dotGeneral dot_S8x4224x128_S8x4224x128_S8x4224x4224_2_2_1_1_0_0 none y v : FVec Ideal S8x4224x4224 .f32)
      fun h a b => if 112 ≤ a then ∑ d ∈ range 128, go (D h) a d * (D h).v b d else 0 := by
  intro h a b
  pointwise
  simp only [hy _ _ _, hv _ _ _, ← EReal.coe_mul, coe_sum]
  by_cases ha : 112 ≤ a.val
  · simp only [if_pos ha, Finset.sum_range]
  · simp only [if_neg ha, zero_mul, Finset.sum_const_zero]

/-- The scores' cotangent. -/
theorem scCot {mk : IVec S8x4224x4224 1} {y E : FVec Ideal S8x4224x4224 .f32} {L : FVec Ideal S8x4224x1 .f32}
    (hm : ∀ (h : Fin 8) (a b : Fin 4224), mk (ix3 h a b) = if okR a.val b.val then 1#1 else 0#1)
    (hy : Is3 y fun h a b => if 112 ≤ a then ∑ d ∈ range 128, go (D h) a d * (D h).v b d else 0)
    (hE : Is3 E fun h a b => ER (D h) (M h a) a b) (hL : Is3 L fun h a _ => LR (D h) (M h a) a) :
    Is3 (select mk (mulf (addf (Host.divf y (broadcastInDim S8x4224x4224 ![0, 1, 2] bcast_S8x4224x1_S8x4224x4224_0_1_2 L)) (broadcastInDim S8x4224x4224 ![0, 1] bcast_S8x4224_S8x4224x4224_0_1 (Host.reduceAdd (Host.negf (shapeCast S8x4224x1 (Host.reduceAdd (mulf (mulf y (broadcastInDim S8x4224x4224 ![0, 1, 2] bcast_S8x4224x1_S8x4224x4224_0_1_2 (Host.divf (broadcastInDim S8x4224x1 ![] bcast_S_S8x4224x1 (constant S_ .f32 0x3F800000#32)) (mulf L L)))) E) (constant S_ .f32 0x00000000#32) reducesTo_S8x4224x4224_S8x4224_d2 h_S_) shapeCasts_S8x4224_S8x4224x1)) (constant S_ .f32 0x00000000#32) reducesTo_S8x4224x1_S8x4224_d2 h_S_))) E) (broadcastInDim S8x4224x4224 ![] bcast_S_S8x4224x4224 (constant S_ .f32 0x00000000#32)) : FVec Ideal S8x4224x4224 .f32)
      fun h a b => ds (D h) a b := by
  intro h a b
  have hp := LR_pos (D h) (M h a) a.isLt
  pointwise
  rw [hm]
  simp only [hy _ _ _, hE _ _ _, hL _ _ _, ← EReal.coe_mul, coe_sum, ← EReal.coe_one, Ideal.div_coe hp.ne', Ideal.div_coe (mul_pos hp hp).ne',
    ← EReal.coe_neg, Fin.sum_univ_one, ← EReal.coe_add]
  by_cases ha : 112 ≤ a.val
  · simp only [if_pos ha]
    have e : ∀ z : ℕ → ℝ, ∑ x : Fin 4224, z x.val * (1 * (1 / (LR (D h) (M h a) a * LR (D h) (M h a) a))) * ER (D h) (M h a) a x.val
        = (∑ b ∈ range 4224, P (D h) a b * z b) * (1 / LR (D h) (M h a) a) := by
      intro z
      rw [Finset.sum_range, Finset.sum_mul]
      refine Finset.sum_congr rfl fun x _ => ?_
      rw [← PR_high (D h) (M h a) ha, PR]
      field_simp
    rw [e fun b => ∑ d ∈ range 128, go (D h) a d * (D h).v b d, sum_P_dp]
    by_cases hk : okR a.val b.val
    · rw [if_pos hk, Scalar.select, if_pos (by decide), ds, ← PR_high (D h) (M h a) ha, PR]
      congr 1
      field_simp
      try ring
    · rw [if_neg hk, Scalar.select, if_neg (by decide), ds_off (mt (okR_iff ha _).2 hk), EReal.coe_zero]
  · simp only [if_neg ha, zero_mul, Finset.sum_const_zero, neg_zero, add_zero]
    rw [ds_off (by unfold ok; omega), EReal.coe_zero]
    unfold Scalar.select; simp
theorem scaled {y : FVec Ideal S8x4224x4224 .f32} (hσ : ∀ h, (D h).σ = sc) (hy : Is3 y fun h => ds (D h)) :
    Is3 (mulf y (broadcastInDim S8x4224x4224 ![] bcast_S_S8x4224x4224 (constant S_ .f32 0x3DB504F3#32)) : FVec Ideal S8x4224x4224 .f32)
      fun h a b => ds (D h) a b * (D h).σ := by
  intro h a b
  pointwise
  rw [hy, lit_sc, ← EReal.coe_mul, hσ]

/-- The results. -/
theorem resQ {y : FVec Ideal S8x4224x4224 .f32} {k : FVec Ideal S8x4224x128 .f32} (hy : Is3 y fun h a b => ds (D h) a b * (D h).σ) (hk : Is3 k fun h => (D h).k) :
    Is2 (truncf .bf16 (shapeCast S4224x1024 (transpose S4224x8x128 [1, 0, 2] (Host.dotGeneral dot_S8x4224x4224_S8x4224x128_S8x4224x128_2_1_1_2_0_0 none y k) transposes_S8x4224x128_S4224x8x128_1_0_2) shapeCasts_S4224x8x128_S4224x1024) bitsLt_bf16_f32 : FVec Ideal S4224x1024 .bf16)
      fun a n => dq (D (n / 128)) a (n % 128) := by
  intro a n
  pointwise
  simp only [hy _ _ _, hk _ _ _, ← EReal.coe_mul, coe_sum, dq, Finset.sum_mul, Finset.sum_range]
  congr 1
  exact Finset.sum_congr rfl fun b _ => by ring
theorem resK {y : FVec Ideal S8x4224x4224 .f32} {q : FVec Ideal S8x4224x128 .f32} (hy : Is3 y fun h a b => ds (D h) a b * (D h).σ) (hq : Is3 q fun h => (D h).q) :
    Is2 (shapeCast S4224x1024 (transpose S4224x8x128 [1, 0, 2] (Host.dotGeneral dot_S8x4224x4224_S8x4224x128_S8x4224x128_1_1_2_2_0_0 none y q) transposes_S8x4224x128_S4224x8x128_1_0_2) shapeCasts_S4224x8x128_S4224x1024 : FVec Ideal S4224x1024 .f32)
      fun b n => dk (D (n / 128)) b (n % 128) := by
  intro a n
  pointwise
  simp only [hy _ _ _, hq _ _ _, ← EReal.coe_mul, coe_sum, dk, Finset.sum_range]
  congr 1
  exact Finset.sum_congr rfl fun b _ => by ring
theorem resV {y : FVec Ideal S8x4224x128 .f32} {p : FVec Ideal S8x4224x4224 .f32} (hy : Is3 y fun h a d => if 112 ≤ a then go (D h) a d else 0)
    (hp : Is3 p fun h a b => PR (D h) (M h a) a b) :
    Is2 (shapeCast S4224x1024 (transpose S4224x8x128 [1, 0, 2] (transpose S8x4224x128 [0, 2, 1] (Host.dotGeneral dot_S8x4224x128_S8x4224x4224_S8x128x4224_1_1_2_2_0_0 none y p) transposes_S8x128x4224_S8x4224x128_0_2_1) transposes_S8x4224x128_S4224x8x128_1_0_2) shapeCasts_S4224x8x128_S4224x1024 : FVec Ideal S4224x1024 .f32)
      fun b n => dv (D (n / 128)) b (n % 128) := by
  intro b n
  pointwise
  simp only [hy _ _ _, hp _ _ _, ← EReal.coe_mul, coe_sum, dv, Finset.sum_range]
  congr 1
  refine Finset.sum_congr rfl fun a _ => ?_
  by_cases ha : 112 ≤ a.val
  · rw [if_pos ha, PR_high _ _ ha, mul_comm]
  · rw [if_neg ha, P_off (by unfold ok; omega), zero_mul, zero_mul]
theorem resCq {y : FVec Ideal S8x4224x4224 .f32} (hy : Is3 y fun h => ds (D h)) :
    Is3 (broadcastInDim S8x4224x1 ![0, 1] bcast_S8x4224_S8x4224x1_0_1 (Host.reduceAdd (shapeCast S8x4224x1 (Host.reduceAdd y (constant S_ .f32 0x00000000#32) reducesTo_S8x4224x4224_S8x4224_d2 h_S_) shapeCasts_S8x4224_S8x4224x1) (constant S_ .f32 0x00000000#32) reducesTo_S8x4224x1_S8x4224_d2 h_S_) : FVec Ideal S8x4224x1 .f32)
      fun h a _ => dcq (D h) a := by
  intro h a b
  pointwise
  simp only [hy _ _ _, coe_sum, Fin.sum_univ_one, dcq, Finset.sum_range]
theorem resCk {y : FVec Ideal S8x4224x4224 .f32} (hy : Is3 y fun h => ds (D h)) :
    Is4 (shapeCast S8x11x1x384 (Host.reduceAdd (shapeCast S8x1x4224 (Host.reduceAdd (Host.negf y) (constant S_ .f32 0x00000000#32) reducesTo_S8x4224x4224_S8x4224_d1 h_S_) shapeCasts_S8x4224_S8x1x4224) (constant S_ .f32 0x00000000#32) reducesTo_S8x1x4224_S8x4224_d1 h_S_) shapeCasts_S8x4224_S8x11x1x384 : FVec Ideal S8x11x1x384 .f32)
      fun h j _ b => dck (D h) (j * 384 + b) := by
  intro h j i b
  pointwise
  simp only [hy _ _ _, ← EReal.coe_neg, coe_sum, Fin.sum_univ_one, dck, Finset.sum_neg_distrib, Finset.sum_range]

end Attn.Ref

end
-- ==== Proof.Ref.lean ====
/-
  What the reference computes, over the real numbers: its six results are the gradients of the heads its arguments hold.
-/
module

public import proofs.«01_k».proof.Proof.RefGrad
public import proofs.«01_k».proof.Proof.Gen.ReferenceIdeal.Run

@[expose] public section

set_option maxRecDepth 16384

noncomputable section

namespace Attn.Ref

open Cert.ReferenceIdeal Cert.ReferenceIdeal.Gen Cert.ReferenceIdeal.Value
open Idealize.ShloMosaic Idealize.ShloMosaic.TcCoe Idealize.ShloMosaic.StableHlo Idealize.ShloMosaic.Pointwise

variable {x c g t : ℕ → ℕ → ℝ} (V : Valuation τ sig (Elt Ideal))
  (hx : Is2 (V (Proc.devRef .tc main_arg0) : FVec Ideal S4224x6144 .bf16) x)
  (hc : Is2 (V (Proc.devRef .tc main_arg1) : FVec Ideal S8x4224 .f32) c)
  (hg : Is2 (V (Proc.devRef .tc main_arg2) : FVec Ideal S1x1024 .f32) g)
  (ht : Is2 (V (Proc.devRef .tc main_arg3) : FVec Ideal S4224x1024 .f32) t)

include hx hc hg ht

/-- The reference's results hold the gradients. -/
theorem results :
    Results x c g t
      (truncf .bf16 (shapeCast S4224x1024 (transpose S4224x8x128 [1, 0, 2] (Host.dotGeneral (φ₁ := .f32) (φ₂ := .f32) dot_S8x4224x4224_S8x4224x128_S8x4224x128_2_1_1_2_0_0 none (res_main_v133 V) (res_main_v9 V)) transposes_S8x4224x128_S4224x8x128_1_0_2) shapeCasts_S4224x8x128_S4224x1024) bitsLt_bf16_f32)
      (shapeCast S4224x1024 (transpose S4224x8x128 [1, 0, 2] (Host.dotGeneral (φ₁ := .f32) (φ₂ := .f32) dot_S8x4224x4224_S8x4224x128_S8x4224x128_1_1_2_2_0_0 none (res_main_v133 V) (res_main_v7 V)) transposes_S8x4224x128_S4224x8x128_1_0_2) shapeCasts_S4224x8x128_S4224x1024)
      (shapeCast S4224x1024 (transpose S4224x8x128 [1, 0, 2] (transpose S8x4224x128 [0, 2, 1] (Host.dotGeneral (φ₁ := .f32) (φ₂ := .f32) dot_S8x4224x128_S8x4224x4224_S8x128x4224_1_1_2_2_0_0 none (res_main_v108 V) (res_main_v63 V)) transposes_S8x128x4224_S8x4224x128_0_2_1) transposes_S8x4224x128_S4224x8x128_1_0_2) shapeCasts_S4224x8x128_S4224x1024)
      (shapeCast S1x1024 (Host.reduceAdd (mulf (res_main_v83 V) (res_main_v86 V)) (constant S_ .f32 0x00000000#32) reducesTo_S4112x1024_S1024_d0 h_S_) shapeCasts_S1024_S1x1024)
      (broadcastInDim S8x4224x1 ![0, 1] bcast_S8x4224_S8x4224x1_0_1 (Host.reduceAdd (shapeCast S8x4224x1 (Host.reduceAdd (res_main_v124 V) (constant S_ .f32 0x00000000#32) reducesTo_S8x4224x4224_S8x4224_d2 h_S_) shapeCasts_S8x4224_S8x4224x1) (constant S_ .f32 0x00000000#32) reducesTo_S8x4224x1_S8x4224_d2 h_S_))
      (shapeCast S8x11x1x384 (Host.reduceAdd (shapeCast S8x1x4224 (Host.reduceAdd (Host.negf (res_main_v124 V)) (constant S_ .f32 0x00000000#32) reducesTo_S8x4224x4224_S8x4224_d1 h_S_) shapeCasts_S8x4224_S8x1x4224) (constant S_ .f32 0x00000000#32) reducesTo_S8x1x4224_S8x4224_d1 h_S_) shapeCasts_S8x4224_S8x11x1x384) := by
  have hσ : ∀ h, (head x c g t h).σ = sc := fun _ => rfl
  have hε : ∀ h, (head x c g t h).ε = tiny := fun _ => rfl
  have h7 : Is3 (res_main_v7 V : FVec Ideal S8x4224x128 .f32) fun h => (head x c g t h).q := heads_q hx
  have h9 : Is3 (res_main_v9 V : FVec Ideal S8x4224x128 .f32) fun h => (head x c g t h).k := heads_k hx
  have h11 : Is3 (res_main_v11 V : FVec Ideal S8x4224x128 .f32) fun h => (head x c g t h).v := heads_v hx
  have hm : ∀ (h : Fin 8) (a b : Fin 4224), (res_main_v38_1 V : IVec S8x4224x4224 1) (ix3 h a b) = if okR a.val b.val then 1#1 else 0#1 := mask
  have h38 : ∀ (h : Fin 8) (a b : Fin 4224), (res_main_v38_0 V : FVec Ideal S8x4224x4224 .f32) (ix3 h a b)
      = if okR a.val b.val then ((s (head x c g t h) a b : ℝ) : EReal) else ⊥ := scores hm hσ h7 h9 hc
  obtain ⟨M, h39⟩ : ∃ M, Is2 (res_main_v39 V : FVec Ideal S8x4224 .f32) M := row_max (f := fun h a b => s (head x c g t h) a b) h38
  have h59 : Is3 (res_main_v59 V : FVec Ideal S8x4224x4224 .f32) fun h a b => ER (head x c g t h) (M h a) a b := exps (D := head x c g t) h38 h39
  have h61 : Is3 (res_main_v61 V : FVec Ideal S8x4224x1 .f32) fun h a _ => LR (head x c g t h) (M h a) a := sums h59
  have h63 : Is3 (res_main_v63 V : FVec Ideal S8x4224x4224 .f32) fun h a b => PR (head x c g t h) (M h a) a b := weights h59 h61
  have h68 : Is3 (res_main_v68 V : FVec Ideal S8x4112x128 .f32) fun h a d => o (head x c g t h) (112 + a) d := out h63 h11
  have h75 : Is3 (res_main_v75 V : FVec Ideal S8x4112x1 .f32) fun h a _ => ms (head x c g t h) (112 + a) := meanSq hε h68
  have h76 : Is3 (res_main_v76 V : FVec Ideal S8x4112x1 .f32) fun h a _ => r (head x c g t h) (112 + a) := root hε h75
  have h83 : Is2 (res_main_v83 V : FVec Ideal S4112x1024 .f32) fun a n => oh (head x c g t (n / 128)) (112 + a) (n % 128) := normed h68 h76
  have h86 : Is2 (res_main_v86 V : FVec Ideal S4112x1024 .f32) fun a n => t (112 + a) n := cot ht
  have h93 : Is3 (res_main_v93 V : FVec Ideal S8x4112x128 .f32) fun h a d => w (head x c g t h) (112 + a) d := cotHeads h86 hg
  have h103 : Is3 (res_main_v103 V : FVec Ideal S8x4112x128 .f32) _ := meanCot hε h68 h93 h76 h75
  have h108 : Is3 (res_main_v108 V : FVec Ideal S8x4224x128 .f32) fun h a d => if 112 ≤ a then go (head x c g t h) a d else 0 := outCot hε h68 h93 h76 h103
  have h111 : Is3 (res_main_v111 V : FVec Ideal S8x4224x4224 .f32) _ := wtCot h108 h11
  have h124 : Is3 (res_main_v124 V : FVec Ideal S8x4224x4224 .f32) fun h => ds (head x c g t h) := scCot hm h111 h59 h61
  have h133 : Is3 (res_main_v133 V : FVec Ideal S8x4224x4224 .f32) fun h a b => ds (head x c g t h) a b * (head x c g t h).σ := scaled hσ h124
  have h86' : Is2 (res_main_v86 V : FVec Ideal S4112x1024 .f32) fun a n => (head x c g t (n / 128)).t (112 + a) (n % 128) := by
    intro a n
    rw [h86 a n]
    show _ = ((t (112 + a) (n.val / 128 * 128 + n.val % 128) : ℝ) : EReal)
    rw [Nat.div_add_mod']
  exact ⟨resQ h133 h9, resK h133 h7, resV h108 h63, gainGrad h83 h86', resCq h124, resCk h124⟩

end Attn.Ref

end
-- ==== Proof.Ffn.Common.lean ====
/-
  Arrays of extended reals whose entries are named by functions of naturals, the feed-forward layer's layouts read that way,
  and sums taken in blocks.
-/
module

public import Idealize.ShloMosaic.Lib.Pointwise
public import Idealize.ShloMosaic.Lib.IdealHost
public import Idealize.ShloMosaic.PureOps.Ideal.Laws
public import Idealize.ShloMosaic.Lib.Pipeline.Value
public import Mathlib.Algebra.BigOperators.Intervals

@[expose] public section

set_option maxRecDepth 16384

noncomputable section

namespace Ffn

open Idealize.ShloMosaic Idealize.ShloMosaic.Pointwise

/-- The array's entries are `f`. -/
def Has2 {m n : ℕ} (X : (⟨2, ![m, n]⟩ : Shape).Idx → EReal) (f : ℕ → ℕ → EReal) : Prop :=
  ∀ (a : Fin m) (b : Fin n), X (ix2 a b) = f a.val b.val
def Has3 {l m n : ℕ} (X : (⟨3, ![l, m, n]⟩ : Shape).Idx → EReal) (f : ℕ → ℕ → ℕ → EReal) : Prop :=
  ∀ (h : Fin l) (a : Fin m) (b : Fin n), X (ix3 h a b) = f h.val a.val b.val

/-- Every array has such a function. -/
theorem exists_has2 {m n : ℕ} (X : (⟨2, ![m, n]⟩ : Shape).Idx → EReal) : ∃ f, Has2 X f :=
  ⟨fun i j => if h : i < m ∧ j < n then X (ix2 ⟨i, h.1⟩ ⟨j, h.2⟩) else 0, fun a b => by simp⟩

theorem Has2.read {m n : ℕ} {X : (⟨2, ![m, n]⟩ : Shape).Idx → EReal} {f : ℕ → ℕ → EReal} (h : Has2 X f) (y : (⟨2, ![m, n]⟩ : Shape).Idx) :
    X y = f (y 0).val (y 1).val := by
  conv_lhs => rw [eq_ix2 y]
  exact h _ _
theorem Has3.read {l m n : ℕ} {X : (⟨3, ![l, m, n]⟩ : Shape).Idx → EReal} {f : ℕ → ℕ → ℕ → EReal} (h : Has3 X f) (y : (⟨3, ![l, m, n]⟩ : Shape).Idx) :
    X y = f (y 0).val (y 1).val (y 2).val := by
  conv_lhs => rw [eq_ix3 y]
  exact h _ _ _

/-- Two arrays with the same entries are one. -/
theorem Has2.ext {m n : ℕ} {X Y : (⟨2, ![m, n]⟩ : Shape).Idx → EReal} {f : ℕ → ℕ → EReal} (h : Has2 X f) (k : Has2 Y f) : X = Y :=
  funext fun y => (h.read y).trans (k.read y).symm
theorem Has3.ext {l m n : ℕ} {X Y : (⟨3, ![l, m, n]⟩ : Shape).Idx → EReal} {f : ℕ → ℕ → ℕ → EReal} (h : Has3 X f) (k : Has3 Y f) : X = Y :=
  funext fun y => (h.read y).trans (k.read y).symm

/-- The offsets of a whole array's load or store. -/
theorem off2 : (![0, 0] : Fin 2 → ℕ) = fun _ => 0 := funext fun a => by fin_cases a <;> rfl
theorem off3 : (![0, 0, 0] : Fin 3 → ℕ) = fun _ => 0 := funext fun a => by fin_cases a <;> rfl

/-- A matrix's columns in eight blocks, and its rows. -/
theorem Has2.cols {X : FVec Ideal ⟨2, ![4224, 5632]⟩ .bf16} {f : ℕ → ℕ → EReal} (h : Has2 X f)
    (hs : (⟨2, ![4224, 5632]⟩ : Shape).ShapeCasts ⟨3, ![4224, 8, 704]⟩) (ht : (⟨3, ![4224, 8, 704]⟩ : Shape).Transposes [1, 0, 2] ⟨3, ![8, 4224, 704]⟩) :
    Has3 (transpose ⟨3, ![8, 4224, 704]⟩ [1, 0, 2] (shapeCast ⟨3, ![4224, 8, 704]⟩ X hs) ht : FVec Ideal ⟨3, ![8, 4224, 704]⟩ .bf16) fun d r j => f r (d * 704 + j) := by
  intro d r j
  pointwise
  rw [h]
theorem Has2.rows {X : FVec Ideal ⟨2, ![5632, 2048]⟩ .bf16} {f : ℕ → ℕ → EReal} (h : Has2 X f)
    (hs : (⟨2, ![5632, 2048]⟩ : Shape).ShapeCasts ⟨3, ![8, 704, 2048]⟩) :
    Has3 (shapeCast ⟨3, ![8, 704, 2048]⟩ X hs : FVec Ideal ⟨3, ![8, 704, 2048]⟩ .bf16) fun d j n => f (d * 704 + j) n := by
  intro d j n
  pointwise
  rw [h]

/-- A matrix turned. -/
theorem Has2.turn {X : FVec Ideal ⟨2, ![2048, 5632]⟩ .f32} {f : ℕ → ℕ → EReal} (h : Has2 X f) (ht : (⟨2, ![2048, 5632]⟩ : Shape).Transposes [1, 0] ⟨2, ![5632, 2048]⟩) :
    Has2 (transpose ⟨2, ![5632, 2048]⟩ [1, 0] X ht : FVec Ideal ⟨2, ![5632, 2048]⟩ .f32) fun b a => f a b := by
  intro b a
  pointwise
  rw [h]

/-- A load of one of an array's slabs. -/
theorem Has3.part {l m n : ℕ} {X : Vec Ideal ⟨3, ![l, m, n]⟩ .bf16} {f : ℕ → ℕ → ℕ → EReal} (h : Has3 X f) (k : ℕ)
    (inb : ∀ a, (![k, 0, 0] : Fin 3 → ℕ) a + (⟨3, ![1, m, n]⟩ : Shape).size a ≤ (⟨3, ![l, m, n]⟩ : Shape).size a) :
    Has3 (View.ld X (Rect.unit (s := ⟨3, ![l, m, n]⟩) ![k, 0, 0] (⟨3, ![1, m, n]⟩ : Shape).size inb) : Vec Ideal ⟨3, ![1, m, n]⟩ .bf16) fun _ a b => f k a b := by
  intro d a b
  have hk : k + 1 ≤ l := inb 0
  obtain rfl : d = 0 := Subsingleton.elim _ _
  refine Eq.trans ?_ (h ⟨k, by omega⟩ a b)
  rw [View.ld_unit]
  refine congrArg X (funext fun q => Fin.ext ?_)
  fin_cases q <;> simp [ix3]

/-- A sum over two consecutive blocks of `w` terms, the second block's term written out. -/
theorem sum_pair (w p : ℕ) (f : ℕ → EReal) :
    (∑ r ∈ Finset.range w, f ((p * 2 + 0) * w + r)) + ∑ r ∈ Finset.range w, f ((p * 2 + 1) * w + r) = ∑ r ∈ Finset.range (w + w), f (p * (w + w) + r) := by
  rw [Finset.sum_range_add]
  refine congrArg₂ _ (Finset.sum_congr rfl fun r _ => congrArg f (by ring)) (Finset.sum_congr rfl fun r _ => congrArg f (by ring))

/-- A sum extended by a block. -/
theorem sum_next (w k : ℕ) (f : ℕ → EReal) :
    (∑ r ∈ Finset.range (k * w), f r) + ∑ r ∈ Finset.range w, f (k * w + r) = ∑ r ∈ Finset.range ((k + 1) * w), f r := by
  rw [Nat.succ_mul, Finset.sum_range_add]

/-- The word of one half, and of one. -/
theorem lit_half : Ideal.ofBits .f32 0x3F000000#32 = ((1 / 2 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_zero : Ideal.ofBits .f32 0x00000000#32 = (0 : EReal) := by
  simp [Ideal.ofBits, Ideal.ieee]

/-- A factor that is a real number, and not negative, goes through a sum of extended reals. -/
theorem mul_sum {r : ℝ} (hr : 0 ≤ r) (n : ℕ) (f : ℕ → EReal) : (r : EReal) * ∑ i ∈ Finset.range n, f i = ∑ i ∈ Finset.range n, (r : EReal) * f i := by
  induction n with
  | zero => simp
  | succ n ih => rw [Finset.sum_range_succ, Finset.sum_range_succ, EReal.left_distrib_of_nonneg_of_ne_top (by exact_mod_cast hr) (EReal.coe_ne_top r), ih]

end Ffn

end
-- ==== Proof.Ffn.Gate.lean ====
/-
  The gradients of the feed-forward layer's two projections `g` and `u`, from the gradient `d` reaching the layer's output: the
  gradient of the gated product, a block of rows and of 704 hidden columns at a time, then through the gate. All entries
  are real numbers.
-/
module

public import proofs.«01_k».proof.Defs
public import proofs.«01_k».proof.Proof.Finite
public import proofs.«01_k».proof.Proof.Ffn.Common
public import proofs.«01_k».proof.Proof.Gen.Kernel2Ideal.Frame
public import proofs.«01_k».proof.Proof.Gen.Kernel2Ideal.Value
public import proofs.«01_k».proof.Proof.Gen.Reference2Ideal.Run
public import Idealize.ShloMosaic.Lib.Pipeline.Value
public import Idealize.ShloMosaic.Lib.Pipeline.ValueKit
public import Idealize.ShloMosaic.Lib.StableHlo.RunRead

@[expose] public section

set_option maxRecDepth 16384
set_option maxHeartbeats 4000000

noncomputable section

namespace Ffn.Gate

open Idealize.ShloMosaic Idealize.ShloMosaic.TcCoe Idealize.ShloMosaic.Pipeline Idealize.ShloMosaic.Tactic Idealize.ShloMosaic.Pointwise
open Idealize.SL.Sem
open Finset (range)

/-! ## The mathematics -/

/-- The logistic function; the gradient of the gated product; the gradients of its two factors. -/
def logistic (x : ℝ) : ℝ := 1 / (1 + Real.exp (-x))
def mid (d w : ℕ → ℕ → ℝ) (r j : ℕ) : ℝ := 1 / 2 * ∑ n ∈ range 2048, d r n * w j n
def DG (a g u : ℕ → ℕ → ℝ) (r j : ℕ) : ℝ := a r j * u r j * logistic (g r j) * (1 + g r j * (1 - logistic (g r j)))
def DU (a g : ℕ → ℕ → ℝ) (r j : ℕ) : ℝ := a r j * g r j * logistic (g r j)

theorem sig_is (x : ℝ) : Ideal.div 1 (1 + Ideal.exp (-(x : EReal))) = ((logistic x : ℝ) : EReal) := by
  have h : (1 : ℝ) + Real.exp (-x) ≠ 0 := by positivity
  rw [← EReal.coe_neg, Ideal.exp_coe, ← EReal.coe_one, ← EReal.coe_add, Ideal.div_coe h, ← EReal.coe_mul, one_mul, logistic]

/-- An array of real numbers. -/
abbrev Re2 {m n : ℕ} (X : (⟨2, ![m, n]⟩ : Shape).Idx → EReal) (f : ℕ → ℕ → ℝ) : Prop := Has2 X fun a b => ((f a b : ℝ) : EReal)

section Kernel

open Cert.Kernel2Ideal Cert.Kernel2Ideal.Gen

/-! ## What a point leaves -/

section Point

variable (x0 : Vec Ideal S1056x2048 .bf16) (x1 : Vec Ideal S1x704x2048 .bf16) (x2 x3 : Vec Ideal S1x1056x704 .bf16)

theorem out_4 : out0_4 x0 x1 x2 x3 = k0_pay1 (k0_pay6 x0 x1 x2 x3) := by
  unfold out0_4
  rw [View.canon_unit_zero off3, View.ld_unit_zero (S := S1056x2048) off2, View.ld_unit_zero (S := S1x704x2048) off3, View.ld_unit_zero (S := S1x1056x704) off3, View.ld_unit_zero (S := S1x1056x704) off3]
theorem out_5 : out0_5 x0 x1 x2 x3 = k0_pay5 x0 x1 x2 := by
  unfold out0_5
  rw [View.canon_unit_zero off3, View.ld_unit_zero (S := S1056x2048) off2, View.ld_unit_zero (S := S1x704x2048) off3, View.ld_unit_zero (S := S1x1056x704) off3]

end Point

/-! ## The arithmetic of a block -/

section Block

variable {p q : ℕ} {d w g u : ℕ → ℕ → ℝ} {v0 : Vec Ideal S1056x2048 .bf16} {v1 : Vec Ideal S1x704x2048 .bf16} {v2 v3 : Vec Ideal S1x1056x704 .bf16}
  (h0 : Has2 v0 fun r n => ((d (p * 1056 + r) n : ℝ) : EReal)) (h1 : Has3 v1 fun _ j n => ((w (q * 704 + j) n : ℝ) : EReal))
  (h2 : Has3 v2 fun _ r j => ((g (p * 1056 + r) (q * 704 + j) : ℝ) : EReal)) (h3 : Has3 v3 fun _ r j => ((u (p * 1056 + r) (q * 704 + j) : ℝ) : EReal))

include h0 h1 in
theorem mid_is : Re2 (k0_pay2 v0 v1) fun r j => mid d w (p * 1056 + r) (q * 704 + j) := by
  intro r j
  pointwise [k0_pay2]
  simp only [h0 _ _, h1 _ _ _, ← EReal.coe_mul, Attn.coe_sum, lit_half, mid, Finset.sum_range]
include h2 in
theorem gate_is : Re2 (k0_pay3 v2) fun r j => g (p * 1056 + r) (q * 704 + j) := by
  intro r j
  pointwise [k0_pay3]
  rw [h2]
include h2 in
theorem sig_block : Re2 (k0_pay4 v2) fun r j => logistic (g (p * 1056 + r) (q * 704 + j)) := by
  have G := gate_is h2
  intro r j
  pointwise [k0_pay4]
  rw [G r j, zero_sub]
  exact sig_is _
include h0 h1 h2 in
theorem up_out : Has3 (k0_pay5 v0 v1 v2) fun _ r j => ((DU (mid d w) g (p * 1056 + r) (q * 704 + j) : ℝ) : EReal) := by
  have M := mid_is h0 h1
  have G := gate_is h2
  have S := sig_block h2
  intro s r j
  pointwise [k0_pay5]
  rw [M r j, G r j, S r j]
  simp only [← EReal.coe_mul, DU]
include h0 h1 h2 h3 in
theorem gate_out : Has3 (k0_pay1 (k0_pay6 v0 v1 v2 v3)) fun _ r j => ((DG (mid d w) g u (p * 1056 + r) (q * 704 + j) : ℝ) : EReal) := by
  have M := mid_is h0 h1
  have G := gate_is h2
  have S := sig_block h2
  intro s r j
  pointwise [k0_pay1, k0_pay6]
  rw [M r j, G r j, S r j, h3]
  simp only [← EReal.coe_one, ← EReal.coe_mul, ← EReal.coe_sub, ← EReal.coe_add, DG]

end Block

/-! ## The blocks a point reads -/

theorem idx : ∀ t : Fin cfg0.N, win0_0.index t = ![t.val / 8, 0] ∧ win0_1.index t = ![t.val % 8, 0, 0] ∧ win0_2.index t = ![t.val % 8, t.val / 8, 0] ∧ win0_3.index t = ![t.val % 8, t.val / 8, 0]
    ∧ win0_4.index t = ![t.val % 8, t.val / 8, 0] ∧ win0_5.index t = ![t.val % 8, t.val / 8, 0] :=
  (by decide +kernel : ∀ t : Fin grid0.N, _)

section Reads

variable (m : (ℓ : Loc nD τ sig) → Buf (Elt Ideal) ℓ) (c : Dev nD) {d w g u : ℕ → ℕ → EReal}
  (hd : Has2 (m ((c : Thread nD τ).loc main_arg0) : FVec Ideal S4224x2048 .f32) d)
  (hw : Has2 (m ((c : Thread nD τ).loc main_arg1) : FVec Ideal S5632x2048 .f32) w)
  (hg : Has2 (m ((c : Thread nD τ).loc main_arg2) : FVec Ideal S4224x5632 .f32) g)
  (hu : Has2 (m ((c : Thread nD τ).loc main_arg3) : FVec Ideal S4224x5632 .f32) u)

include hd in
theorem V_d_is : Has2 (V m c main_v0 : FVec Ideal S4224x2048 .bf16) d := by
  have e : V m c main_v0 = (truncf .bf16 (m ((c : Thread nD τ).loc main_arg0)) bitsLt_bf16_f32 : FVec Ideal S4224x2048 .bf16) := by
    unfold V hostOps0
    after_results_simp
    all_goals rfl
  rw [e]
  exact hd
include hw in
theorem V_w_is : Has3 (V m c main_v2 : FVec Ideal S8x704x2048 .bf16) fun k j n => w (k * 704 + j) n := by
  have e : V m c main_v2 = (shapeCast S8x704x2048 (truncf .bf16 (m ((c : Thread nD τ).loc main_arg1)) bitsLt_bf16_f32) shapeCasts_S5632x2048_S8x704x2048 : FVec Ideal S8x704x2048 .bf16) := by
    unfold V hostOps0
    after_results_simp
    all_goals rfl
  rw [e]
  exact Has2.rows (X := truncf .bf16 (m ((c : Thread nD τ).loc main_arg1)) bitsLt_bf16_f32) hw _
include hg in
theorem V_g_is : Has3 (V m c main_v5 : FVec Ideal S8x4224x704 .bf16) fun d r j => g r (d * 704 + j) := by
  have e : V m c main_v5 = (transpose S8x4224x704 [1, 0, 2] (shapeCast S4224x8x704 (truncf .bf16 (m ((c : Thread nD τ).loc main_arg2)) bitsLt_bf16_f32) shapeCasts_S4224x5632_S4224x8x704) transposes_S4224x8x704_S8x4224x704_1_0_2 : FVec Ideal S8x4224x704 .bf16) := by
    unfold V hostOps0
    after_results_simp
    all_goals rfl
  rw [e]
  exact Has2.cols (X := truncf .bf16 (m ((c : Thread nD τ).loc main_arg2)) bitsLt_bf16_f32) hg _ _
include hu in
theorem V_u_is : Has3 (V m c main_v8 : FVec Ideal S8x4224x704 .bf16) fun d r j => u r (d * 704 + j) := by
  have e : V m c main_v8 = (transpose S8x4224x704 [1, 0, 2] (shapeCast S4224x8x704 (truncf .bf16 (m ((c : Thread nD τ).loc main_arg3)) bitsLt_bf16_f32) shapeCasts_S4224x5632_S4224x8x704) transposes_S4224x8x704_S8x4224x704_1_0_2 : FVec Ideal S8x4224x704 .bf16) := by
    unfold V hostOps0
    after_results_simp
    all_goals rfl
  rw [e]
  exact Has2.cols (X := truncf .bf16 (m ((c : Thread nD τ).loc main_arg3)) bitsLt_bf16_f32) hu _ _

include hd in
theorem blk_d (t : Fin cfg0.N) : Has2 (iblk m c 0 t : FVec Ideal S1056x2048 .bf16) fun r n => d (t.val / 8 * 1056 + r) n := by
  intro r n
  have ht : t.val < 32 := t.isLt
  have e := (idx t).1
  refine Eq.trans ?_ (V_d_is m c hd ⟨t.val / 8 * 1056 + r.val, by omega⟩ n)
  blk_ext [iblk, e]
include hw in
theorem blk_w (t : Fin cfg0.N) : Has3 (iblk m c 1 t : FVec Ideal S1x704x2048 .bf16) fun _ j n => w (t.val % 8 * 704 + j) n := by
  intro s j n
  have e := (idx t).2.1
  obtain rfl : s = 0 := Subsingleton.elim _ _
  refine Eq.trans ?_ (V_w_is m c hw ⟨t.val % 8, by omega⟩ j n)
  blk_ext [iblk, e]
include hg in
theorem blk_g (t : Fin cfg0.N) : Has3 (iblk m c 2 t : FVec Ideal S1x1056x704 .bf16) fun _ r j => g (t.val / 8 * 1056 + r) (t.val % 8 * 704 + j) := by
  intro s r j
  have ht : t.val < 32 := t.isLt
  have e := (idx t).2.2.1
  obtain rfl : s = 0 := Subsingleton.elim _ _
  refine Eq.trans ?_ (V_g_is m c hg ⟨t.val % 8, by omega⟩ ⟨t.val / 8 * 1056 + r.val, by omega⟩ j)
  blk_ext [iblk, e]
include hu in
theorem blk_u (t : Fin cfg0.N) : Has3 (iblk m c 3 t : FVec Ideal S1x1056x704 .bf16) fun _ r j => u (t.val / 8 * 1056 + r) (t.val % 8 * 704 + j) := by
  intro s r j
  have ht : t.val < 32 := t.isLt
  have e := (idx t).2.2.2.1
  obtain rfl : s = 0 := Subsingleton.elim _ _
  refine Eq.trans ?_ (V_u_is m c hu ⟨t.val % 8, by omega⟩ ⟨t.val / 8 * 1056 + r.val, by omega⟩ j)
  blk_ext [iblk, e]

end Reads

/-! ## The arrays -/

variable (m : (ℓ : Loc nD τ sig) → Buf (Elt Ideal) ℓ) (c : Dev nD) {d w g u : ℕ → ℕ → ℝ}
  (hd : Re2 (m ((c : Thread nD τ).loc main_arg0) : FVec Ideal S4224x2048 .f32) d)
  (hw : Re2 (m ((c : Thread nD τ).loc main_arg1) : FVec Ideal S5632x2048 .f32) w)
  (hg : Re2 (m ((c : Thread nD τ).loc main_arg2) : FVec Ideal S4224x5632 .f32) g)
  (hu : Re2 (m ((c : Thread nD τ).loc main_arg3) : FVec Ideal S4224x5632 .f32) u)

include hd hw hg hu in
theorem arr_dg : Has3 ((dats m 0 c).arrAt 4 cfg0.N : FVec Ideal S8x4224x704 .bf16) fun k r j => ((DG (mid d w) g u r (k * 704 + j) : ℝ) : EReal) := by
  have H : (dats m 0 c).arrAt 4 cfg0.N = (fun i => ((DG (mid d w) g u (i 1).val ((i 0).val * 704 + (i 2).val) : ℝ) : EReal) : FVec Ideal S8x4224x704 .bf16) := by
    refine (dats m 0 c).arrAt_eq_of_covers 4 _ (by decide +kernel) fun t hf y => ?_
    have h := gate_out (blk_d m c hd t) (blk_w m c hw t) (blk_g m c hg t) (blk_u m c hu t)
    have e := (idx t).2.2.2.2.1
    blk_simp [e]
    rw [after0_4, out_4]
    exact h.read y
  rw [H]
  exact fun _ _ _ => rfl
include hd hw hg in
theorem arr_du : Has3 ((dats m 0 c).arrAt 5 cfg0.N : FVec Ideal S8x4224x704 .bf16) fun k r j => ((DU (mid d w) g r (k * 704 + j) : ℝ) : EReal) := by
  have H : (dats m 0 c).arrAt 5 cfg0.N = (fun i => ((DU (mid d w) g (i 1).val ((i 0).val * 704 + (i 2).val) : ℝ) : EReal) : FVec Ideal S8x4224x704 .bf16) := by
    refine (dats m 0 c).arrAt_eq_of_covers 5 _ (by decide +kernel) fun t hf y => ?_
    have h := up_out (blk_d m c hd t) (blk_w m c hw t) (blk_g m c hg t)
    have e := (idx t).2.2.2.2.2
    blk_simp [e]
    rw [after0_5, out_5]
    exact h.read y
  rw [H]
  exact fun _ _ _ => rfl

end Kernel

section Reference

open Cert.Reference2Ideal Cert.Reference2Ideal.Gen

theorem ref_mid {D : FVec Ideal S4224x2048 .f32} {W : FVec Ideal S5632x2048 .f32} {d w : ℕ → ℕ → ℝ} (hd : Re2 D d) (hw : Re2 W w) :
    Re2 (Host.dotGeneral dot_S4224x2048_S5632x2048_S4224x5632_1_1_0_0_n_n none (mulf (broadcastInDim S4224x2048 ![] bcast_S_S4224x2048 (constant S_ .f32 0x3F000000#32)) D) W : FVec Ideal S4224x5632 .f32) (mid d w) := by
  intro r j
  pointwise
  simp only [hd _ _, hw _ _, lit_half, ← EReal.coe_mul, Attn.coe_sum, mid]
  rw [Finset.mul_sum, Finset.sum_range]
  exact congrArg _ (Finset.sum_congr rfl fun _ _ => mul_assoc _ _ _)

variable {A G U : FVec Ideal S4224x5632 .f32} {a g u : ℕ → ℕ → ℝ}

theorem ref_sig (hg : Re2 G g) : Re2 (Host.divf (broadcastInDim S4224x5632 ![] bcast_S_S4224x5632 (constant S_ .f32 0x3F800000#32)) (addf (broadcastInDim S4224x5632 ![] bcast_S_S4224x5632 (constant S_ .f32 0x3F800000#32)) (Host.exp (Host.negf G))) : FVec Ideal S4224x5632 .f32)
    fun r j => logistic (g r j) := by
  intro r j
  pointwise
  rw [hg]
  exact sig_is _

theorem ref_dg {S : FVec Ideal S4224x5632 .f32} (hA : Re2 A a) (hg : Re2 G g) (hu : Re2 U u) (hS : Re2 S fun r j => logistic (g r j)) :
    Re2 (addf (mulf (mulf A U) S) (mulf (mulf G (mulf A U)) (mulf S (subf (broadcastInDim S4224x5632 ![] bcast_S_S4224x5632 (constant S_ .f32 0x3F800000#32)) S))) : FVec Ideal S4224x5632 .f32) (DG a g u) := by
  intro r j
  pointwise
  rw [hA, hg, hu, hS]
  simp only [← EReal.coe_one, ← EReal.coe_mul, ← EReal.coe_sub, ← EReal.coe_add]
  exact congrArg _ (by rw [DG]; ring)

theorem ref_du {S : FVec Ideal S4224x5632 .f32} (hA : Re2 A a) (hg : Re2 G g) (hS : Re2 S fun r j => logistic (g r j)) :
    Re2 (mulf (mulf G S) A : FVec Ideal S4224x5632 .f32) (DU a g) := by
  intro r j
  pointwise
  rw [hA, hg, hS]
  simp only [← EReal.coe_mul]
  exact congrArg _ (by rw [DU]; ring)

end Reference

/-! ## The precondition, and the claim -/

theorem pre_facts : Cert.Pre_finite2.Facts where
  bcast_S_S4224x2048 := by decide
  reducesTo_S4224x2048_S_d0_1 := by decide
  h_S_ := by decide
  bcast_S_S5632x2048 := by decide
  reducesTo_S5632x2048_S_d0_1 := by decide
  bcast_S_S4224x5632 := by decide
  reducesTo_S4224x5632_S_d0_1 := by decide

open Cert.Pre_finite2 in
/-- Where the precondition holds, the arguments are arrays of real numbers. -/
theorem reals [Cert.Pre_finite2.Facts] (D : FVec Ideal S4224x2048 .f32) (W : FVec Ideal S5632x2048 .f32) (G U : FVec Ideal S4224x5632 .f32)
    (h : fn (F := Ideal) D W G U = fun _ => 1#1) : (∃ d, Re2 D d) ∧ (∃ w, Re2 W w) ∧ (∃ g, Re2 G g) ∧ ∃ u, Re2 U u := by
  have h0 := congrFun h (fun k => k.elim0)
  dsimp only [fn, fn_part1] at h0
  obtain ⟨h1, hU⟩ := IntOp.andi_eq_one.1 h0
  obtain ⟨h2, hG⟩ := IntOp.andi_eq_one.1 h1
  obtain ⟨hD, hW⟩ := IntOp.andi_eq_one.1 h2
  exact ⟨Attn.exists_is2 (Attn.all_finite _ _ _ _ _ hD), Attn.exists_is2 (Attn.all_finite _ _ _ _ _ hW), Attn.exists_is2 (Attn.all_finite _ _ _ _ _ hG), Attn.exists_is2 (Attn.all_finite _ _ _ _ _ hU)⟩

theorem algebraic : Cert.algebraic_Kernel2Ideal_Reference2Ideal_pre_finite2 (hKernel2Ideal := Cert.Kernel2Ideal.Gen.facts) (hReference2Ideal := Cert.Reference2Ideal.Gen.facts)
    (hPre_finite2 := pre_facts) := by
  intro m g m' g' hp hA
  have := pre_facts
  have hreals := fun c => reals _ _ _ _ (hp c)
  refine ⟨fun c => (Cert.Kernel2Ideal.Gen.dats m 0 c).arrAt 4 Cert.Kernel2Ideal.cfg0.N, fun c => (Cert.Kernel2Ideal.Gen.dats m 0 c).arrAt 5 Cert.Kernel2Ideal.cfg0.N,
    Cert.Kernel2Ideal.Value.run_blocks m g, ?_⟩
  refine (θ_run Cert.Reference2Ideal.defs _ _).mono (fun r h c => ?_) (Cert.Reference2Ideal.Value.run (F := Ideal) m' g')
  obtain ⟨a0, a1, a2, a3⟩ := hA c
  obtain ⟨⟨_, hd⟩, ⟨_, hw⟩, ⟨_, hg⟩, ⟨_, hu⟩⟩ := hreals c
  have KG := arr_dg m c hd hw hg hu
  have KU := arr_du m c hd hw hg
  rw [← a0] at hd
  rw [← a1] at hw
  rw [← a2] at hg
  rw [← a3] at hu
  obtain ⟨r0, r1, rA⟩ := h c
  have M := ref_mid hd hw
  have S := ref_sig hg
  exact ⟨r0.trans ((Has2.cols (ref_dg M hg hu S) _ _).ext KG), r1.trans ((Has2.cols (ref_du M hg S) _ _).ext KU), rA⟩

end Ffn.Gate

end
-- ==== Proof.Ffn.Dxn.lean ====
/-
  The gradient reaching the feed-forward layer's input, from the gradients `g` and `u` of its two projections through their
  weights: a block is summed over four points, two blocks of 704 hidden columns each, in a carried array.
-/
module

public import proofs.«01_k».proof.Defs
public import proofs.«01_k».proof.Proof.Ffn.Common
public import proofs.«01_k».proof.Proof.Gen.Kernel3Ideal.Frame
public import proofs.«01_k».proof.Proof.Gen.Kernel3Ideal.Value
public import proofs.«01_k».proof.Proof.Gen.Reference3Ideal.Run
public import Idealize.ShloMosaic.Lib.Pipeline.Value
public import Idealize.ShloMosaic.Lib.Pipeline.ValueKit
public import Idealize.ShloMosaic.Lib.StableHlo.RunRead

@[expose] public section

set_option maxRecDepth 16384
set_option maxHeartbeats 4000000

noncomputable section

namespace Ffn.Dxn

open Idealize.ShloMosaic Idealize.ShloMosaic.TcCoe Idealize.ShloMosaic.Pipeline Idealize.ShloMosaic.Tactic Idealize.ShloMosaic.Pointwise
open Idealize.SL.Sem
open Finset (range)

section Kernel

open Cert.Kernel3Ideal Cert.Kernel3Ideal.Gen

/-! ## What a point leaves -/

/-- The two halves of a block's rows or columns. -/
abbrev lo (x : Vec Ideal S2x1056x704 .bf16) : Vec Ideal S1x1056x704 .bf16 := View.ld x (Rect.unit (s := S2x1056x704) ![0, 0, 0] S1x1056x704.size inb_S2x1056x704_S1x1056x704_0_0_0)
abbrev hi (x : Vec Ideal S2x1056x704 .bf16) : Vec Ideal S1x1056x704 .bf16 := View.ld x (Rect.unit (s := S2x1056x704) ![1, 0, 0] S1x1056x704.size inb_S2x1056x704_S1x1056x704_1_0_0)
abbrev wlo (x : Vec Ideal S2x704x1024 .bf16) : Vec Ideal S1x704x1024 .bf16 := View.ld x (Rect.unit (s := S2x704x1024) ![0, 0, 0] S1x704x1024.size inb_S2x704x1024_S1x704x1024_0_0_0)
abbrev whi (x : Vec Ideal S2x704x1024 .bf16) : Vec Ideal S1x704x1024 .bf16 := View.ld x (Rect.unit (s := S2x704x1024) ![1, 0, 0] S1x704x1024.size inb_S2x704x1024_S1x704x1024_1_0_0)

section Point

variable (c : Dev nD) (i : grid0.Coords) (a3 : Memref sig .tc .vmem S2x1056x704 .bf16) (h3 : a3.IsWhole) (a4 : Memref sig .tc .vmem S2x704x1024 .bf16) (h4 : a4.IsWhole) (a5 : Memref sig .tc .vmem S2x1056x704 .bf16) (h5 : a5.IsWhole) (a6 : Memref sig .tc .vmem S2x704x1024 .bf16) (h6 : a6.IsWhole) (a7 : Memref sig .tc .vmem S1056x1024 .f32) (h7 : a7.IsWhole) (a8 : Memref sig .tc .vmem S1056x1024 .f32) (h8 : a8.IsWhole)
  (x0 : Vec Ideal S2x1056x704 .bf16) (x1 : Vec Ideal S2x704x1024 .bf16) (x2 : Vec Ideal S2x1056x704 .bf16) (x3 : Vec Ideal S2x704x1024 .bf16) (xs : Vec Ideal S1056x1024 .f32)

theorem sout_A (hc0 : cond0_0 i) (hc1 : ¬cond0_1 i) (hc2 : ¬cond0_2 i) :
    sout0_A_0 c i a3 h3 a4 h4 a5 h5 a6 h6 a7 h7 a8 h8 hc0 hc1 hc2 x0 x1 x2 x3 = k0_pay3 (lo x0) (wlo x1) (hi x0) (whi x1) (lo x2) (wlo x3) (hi x2) (whi x3) := by
  unfold sout0_A_0
  rw [View.read_writes_eq_canon _ _ _ (scover0_A_0 c i a3 h3 a4 h4 a5 h5 a6 h6 a7 h7 a8 h8 hc0 hc1 hc2 x0 x1 x2 x3)]
  unfold kernelRun0_A
  dsimp only
  rw [View.canon_unit_zero off2]
  simp only [View.readAt_eq_ld, h3.read_unread, h4.read_unread, h5.read_unread, h6.read_unread]

theorem sout_B (hc0 : ¬cond0_0 i) (hc1 : cond0_1 i) (hc2 : ¬cond0_2 i) :
    sout0_B_0 c i a3 h3 a4 h4 a5 h5 a6 h6 a7 h7 a8 h8 hc0 hc1 hc2 x0 x1 x2 x3 xs = k0_pay1 (k0_pay2 (lo x0) (wlo x1) (hi x0) (whi x1) (lo x2) (wlo x3) (hi x2) (whi x3)) xs := by
  unfold sout0_B_0
  rw [View.read_writes_eq_canon _ _ _ (scover0_B_0 c i a3 h3 a4 h4 a5 h5 a6 h6 a7 h7 a8 h8 hc0 hc1 hc2 x0 x1 x2 x3 xs)]
  unfold kernelRun0_B
  dsimp only
  sl_unfold_words
  rw [View.canon_unit_zero off2]
  simp only [View.readAt_eq_ld, h3.read_unread, h4.read_unread, h5.read_unread, h6.read_unread, h8.read_unread, View.ld_unit_zero (S := S1056x1024) off2]

theorem out_C (hc0 : ¬cond0_0 i) (hc1 : cond0_1 i) (hc2 : cond0_2 i) :
    out0_C_4 c i a3 h3 a4 h4 a5 h5 a6 h6 a7 h7 a8 h8 hc0 hc1 hc2 x0 x1 x2 x3 xs = k0_pay1 (k0_pay2 (lo x0) (wlo x1) (hi x0) (whi x1) (lo x2) (wlo x3) (hi x2) (whi x3)) xs := by
  unfold out0_C_4
  rw [View.read_writes_eq_canon _ _ _ (cover0_C_4 c i a3 h3 a4 h4 a5 h5 a6 h6 a7 h7 a8 h8 hc0 hc1 hc2 x0 x1 x2 x3 xs)]
  unfold kernelRun0_C
  dsimp only
  sl_unfold_words
  rw [View.canon_unit_zero off2, View.readCov_unit_zero (S := S1056x1024) _ off2]
  simp only [View.readAt_eq_ld, h3.read_unread, h4.read_unread, h5.read_unread, h6.read_unread, h8.read_unread, View.ld_unit_zero (S := S1056x1024) off2]

end Point

/-! ## The arithmetic of a block -/

section Block

variable {k p q : ℕ} {g u wg wu : ℕ → ℕ → EReal} {x0 x2 : Vec Ideal S2x1056x704 .bf16} {x1 x3 : Vec Ideal S2x704x1024 .bf16}
  (h0 : Has3 x0 fun s r j => g (p * 1056 + r) ((k * 2 + s) * 704 + j)) (h1 : Has3 x1 fun s j n => wg (q * 1024 + n) ((k * 2 + s) * 704 + j))
  (h2 : Has3 x2 fun s r j => u (p * 1056 + r) ((k * 2 + s) * 704 + j)) (h3 : Has3 x3 fun s j n => wu (q * 1024 + n) ((k * 2 + s) * 704 + j))

/-- Four products of halves, added. -/
theorem four_is {v0 v2 v4 v6 : Vec Ideal S1x1056x704 .bf16} {v1 v3 v5 v7 : Vec Ideal S1x704x1024 .bf16} {f0 f1 f2 f3 f4 f5 f6 f7 : ℕ → ℕ → EReal}
    (h0 : Has3 v0 fun _ => f0) (h1 : Has3 v1 fun _ => f1) (h2 : Has3 v2 fun _ => f2) (h3 : Has3 v3 fun _ => f3)
    (h4 : Has3 v4 fun _ => f4) (h5 : Has3 v5 fun _ => f5) (h6 : Has3 v6 fun _ => f6) (h7 : Has3 v7 fun _ => f7) :
    Has2 (k0_pay2 v0 v1 v2 v3 v4 v5 v6 v7) fun r n => ((∑ j ∈ range 704, f0 r j * f1 j n) + ∑ j ∈ range 704, f2 r j * f3 j n)
      + (∑ j ∈ range 704, f4 r j * f5 j n) + ∑ j ∈ range 704, f6 r j * f7 j n := by
  intro r n
  pointwise [k0_pay2]
  simp only [h0 _ _ _, h1 _ _ _, h2 _ _ _, h3 _ _ _, h4 _ _ _, h5 _ _ _, h6 _ _ _, h7 _ _ _, Finset.sum_range]

/-- A hidden column's part of an entry of the gradient. -/
abbrev Term (g wg u wu : ℕ → ℕ → EReal) (r n j : ℕ) : EReal := g r j * wg n j + u r j * wu n j

include h0 h1 h2 h3

theorem prod_is : Has2 (k0_pay2 (lo x0) (wlo x1) (hi x0) (whi x1) (lo x2) (wlo x3) (hi x2) (whi x3)) fun r n => ∑ j ∈ range 1408, Term g wg u wu (p * 1056 + r) (q * 1024 + n) (k * 1408 + j) := by
  have F := four_is (h0.part 0 inb_S2x1056x704_S1x1056x704_0_0_0) (h1.part 0 inb_S2x704x1024_S1x704x1024_0_0_0) (h0.part 1 inb_S2x1056x704_S1x1056x704_1_0_0) (h1.part 1 inb_S2x704x1024_S1x704x1024_1_0_0)
    (h2.part 0 inb_S2x1056x704_S1x1056x704_0_0_0) (h3.part 0 inb_S2x704x1024_S1x704x1024_0_0_0) (h2.part 1 inb_S2x1056x704_S1x1056x704_1_0_0) (h3.part 1 inb_S2x704x1024_S1x704x1024_1_0_0)
  intro r n
  refine (F r n).trans ?_
  have G := sum_pair 704 k fun j => g (p * 1056 + r.val) j * wg (q * 1024 + n.val) j
  have U := sum_pair 704 k fun j => u (p * 1056 + r.val) j * wu (q * 1024 + n.val) j
  dsimp only at G U ⊢
  rw [G, add_assoc, U, ← Finset.sum_add_distrib]

end Block

/-! ## The blocks a point reads -/

theorem idx : ∀ t : Fin cfg0.N, win0_0.index t = ![t.val % 4, t.val / 8, 0] ∧ win0_1.index t = ![t.val % 4, 0, t.val / 4 % 2] ∧ win0_2.index t = ![t.val % 4, t.val / 8, 0] ∧ win0_3.index t = ![t.val % 4, 0, t.val / 4 % 2]
    ∧ win0_4.index t = ![t.val / 8, t.val / 4 % 2] :=
  (by decide +kernel : ∀ t : Fin grid0.N, _)

variable (m : (ℓ : Loc nD τ sig) → Buf (Elt Ideal) ℓ) (c : Dev nD) {g u wg wu : ℕ → ℕ → EReal}
  (hg : Has2 (m ((c : Thread nD τ).loc main_arg0) : FVec Ideal S4224x5632 .f32) g)
  (hu : Has2 (m ((c : Thread nD τ).loc main_arg1) : FVec Ideal S4224x5632 .f32) u)
  (hwg : Has2 (m ((c : Thread nD τ).loc main_arg2) : FVec Ideal S2048x5632 .f32) wg)
  (hwu : Has2 (m ((c : Thread nD τ).loc main_arg3) : FVec Ideal S2048x5632 .f32) wu)

include hg in
theorem V_g_is : Has3 (V m c main_v2 : FVec Ideal S8x4224x704 .bf16) fun d r j => g r (d * 704 + j) := by
  have e : V m c main_v2 = (transpose S8x4224x704 [1, 0, 2] (shapeCast S4224x8x704 (truncf .bf16 (m ((c : Thread nD τ).loc main_arg0)) bitsLt_bf16_f32) shapeCasts_S4224x5632_S4224x8x704) transposes_S4224x8x704_S8x4224x704_1_0_2 : FVec Ideal S8x4224x704 .bf16) := by
    unfold V hostOps0
    after_results_simp
    all_goals rfl
  rw [e]
  exact Has2.cols (X := truncf .bf16 (m ((c : Thread nD τ).loc main_arg0)) bitsLt_bf16_f32) hg _ _
include hu in
theorem V_u_is : Has3 (V m c main_v8 : FVec Ideal S8x4224x704 .bf16) fun d r j => u r (d * 704 + j) := by
  have e : V m c main_v8 = (transpose S8x4224x704 [1, 0, 2] (shapeCast S4224x8x704 (truncf .bf16 (m ((c : Thread nD τ).loc main_arg1)) bitsLt_bf16_f32) shapeCasts_S4224x5632_S4224x8x704) transposes_S4224x8x704_S8x4224x704_1_0_2 : FVec Ideal S8x4224x704 .bf16) := by
    unfold V hostOps0
    after_results_simp
    all_goals rfl
  rw [e]
  exact Has2.cols (X := truncf .bf16 (m ((c : Thread nD τ).loc main_arg1)) bitsLt_bf16_f32) hu _ _
include hwg in
theorem V_wg_is : Has3 (V m c main_v5 : FVec Ideal S8x704x2048 .bf16) fun d j n => wg n (d * 704 + j) := by
  have e : V m c main_v5 = (shapeCast S8x704x2048 (truncf .bf16 (transpose S5632x2048 [1, 0] (m ((c : Thread nD τ).loc main_arg2)) transposes_S2048x5632_S5632x2048_1_0) bitsLt_bf16_f32) shapeCasts_S5632x2048_S8x704x2048 : FVec Ideal S8x704x2048 .bf16) := by
    unfold V hostOps0
    after_results_simp
    all_goals rfl
  rw [e]
  exact Has2.rows (X := truncf .bf16 (transpose S5632x2048 [1, 0] (m ((c : Thread nD τ).loc main_arg2)) transposes_S2048x5632_S5632x2048_1_0) bitsLt_bf16_f32) (hwg.turn _) _
include hwu in
theorem V_wu_is : Has3 (V m c main_v11 : FVec Ideal S8x704x2048 .bf16) fun d j n => wu n (d * 704 + j) := by
  have e : V m c main_v11 = (shapeCast S8x704x2048 (truncf .bf16 (transpose S5632x2048 [1, 0] (m ((c : Thread nD τ).loc main_arg3)) transposes_S2048x5632_S5632x2048_1_0) bitsLt_bf16_f32) shapeCasts_S5632x2048_S8x704x2048 : FVec Ideal S8x704x2048 .bf16) := by
    unfold V hostOps0
    after_results_simp
    all_goals rfl
  rw [e]
  exact Has2.rows (X := truncf .bf16 (transpose S5632x2048 [1, 0] (m ((c : Thread nD τ).loc main_arg3)) transposes_S2048x5632_S5632x2048_1_0) bitsLt_bf16_f32) (hwu.turn _) _

include hg in
theorem blk_g (t : Fin cfg0.N) : Has3 (iblk m c 0 t : FVec Ideal S2x1056x704 .bf16) fun s r j => g (t.val / 8 * 1056 + r) ((t.val % 4 * 2 + s) * 704 + j) := by
  intro s r j
  have ht : t.val < 32 := t.isLt
  have e := (idx t).1
  refine Eq.trans ?_ (V_g_is m c hg ⟨t.val % 4 * 2 + s.val, by omega⟩ ⟨t.val / 8 * 1056 + r.val, by omega⟩ j)
  blk_ext [iblk, e]
include hu in
theorem blk_u (t : Fin cfg0.N) : Has3 (iblk m c 2 t : FVec Ideal S2x1056x704 .bf16) fun s r j => u (t.val / 8 * 1056 + r) ((t.val % 4 * 2 + s) * 704 + j) := by
  intro s r j
  have ht : t.val < 32 := t.isLt
  have e := (idx t).2.2.1
  refine Eq.trans ?_ (V_u_is m c hu ⟨t.val % 4 * 2 + s.val, by omega⟩ ⟨t.val / 8 * 1056 + r.val, by omega⟩ j)
  blk_ext [iblk, e]
include hwg in
theorem blk_wg (t : Fin cfg0.N) : Has3 (iblk m c 1 t : FVec Ideal S2x704x1024 .bf16) fun s j n => wg (t.val / 4 % 2 * 1024 + n) ((t.val % 4 * 2 + s) * 704 + j) := by
  intro s j n
  have e := (idx t).2.1
  refine Eq.trans ?_ (V_wg_is m c hwg ⟨t.val % 4 * 2 + s.val, by omega⟩ j ⟨t.val / 4 % 2 * 1024 + n.val, by omega⟩)
  blk_ext [iblk, e]
include hwu in
theorem blk_wu (t : Fin cfg0.N) : Has3 (iblk m c 3 t : FVec Ideal S2x704x1024 .bf16) fun s j n => wu (t.val / 4 % 2 * 1024 + n) ((t.val % 4 * 2 + s) * 704 + j) := by
  intro s j n
  have e := (idx t).2.2.2.1
  refine Eq.trans ?_ (V_wu_is m c hwu ⟨t.val % 4 * 2 + s.val, by omega⟩ j ⟨t.val / 4 % 2 * 1024 + n.val, by omega⟩)
  blk_ext [iblk, e]

/-! ## What the points leave, and the array -/

/-- What the carried array holds after a point: the products of the hidden columns up to it. -/
abbrev Acc (g wg u wu : ℕ → ℕ → EReal) (t : ℕ) (r n : ℕ) : EReal :=
  ∑ j ∈ range ((t % 4 + 1) * 1408), Term g wg u wu (t / 8 * 1056 + r) (t / 4 % 2 * 1024 + n) j

include hg hu hwg hwu in
/-- One point's step of the carried array. -/
theorem step_is (t : Fin cfg0.N) (hp : ¬t.val % 4 = 0) {xs : Vec Ideal S1056x1024 .f32} (hs : Has2 xs (Acc g wg u wu (t.val - 1))) :
    Has2 (k0_pay1 (k0_pay2 (lo (iblk m c 0 t)) (wlo (iblk m c 1 t)) (hi (iblk m c 0 t)) (whi (iblk m c 1 t)) (lo (iblk m c 2 t)) (wlo (iblk m c 3 t)) (hi (iblk m c 2 t)) (whi (iblk m c 3 t))) xs) (Acc g wg u wu t.val) := by
  have P := prod_is (blk_g m c hg t) (blk_wg m c hwg t) (blk_u m c hu t) (blk_wu m c hwu t)
  have e1 : (t.val - 1) % 4 + 1 = t.val % 4 := by omega
  have e2 : (t.val - 1) / 8 = t.val / 8 := by omega
  have e3 : (t.val - 1) / 4 % 2 = t.val / 4 % 2 := by omega
  generalize k0_pay2 (F := Ideal) _ _ _ _ _ _ _ _ = y at P
  intro r n
  pointwise [k0_pay1]
  rw [P r n, hs r n, Acc, Acc, e1, e2, e3, sum_next 1408 (t.val % 4) fun j => Term g wg u wu (t.val / 8 * 1056 + r.val) (t.val / 4 % 2 * 1024 + n.val) j]

include hg hu hwg hwu in
theorem acc_is : ∀ (n : ℕ) (hn : n < cfg0.N), ¬n % 4 = 3 → Has2 ((outsAt0 m c n hn).2 : FVec Ideal S1056x1024 .f32) (Acc g wg u wu n) := by
  intro n
  induction n using Nat.strong_induction_on with
  | _ n ih =>
    intro hn h3
    by_cases h0 : n % 4 = 0
    · have P := prod_is (blk_g m c hg ⟨n, hn⟩) (blk_wg m c hwg ⟨n, hn⟩) (blk_u m c hu ⟨n, hn⟩) (blk_wu m c hwu ⟨n, hn⟩)
      rw [outsAt0_A m c ⟨n, hn⟩ h0 (by dsimp only; omega) h3]
      dsimp only
      rw [sout_A]
      intro r k
      pointwise [k0_pay3]
      rw [P r k, Acc]
      simp [h0]
    · have S := step_is m c hg hu hwg hwu ⟨n, hn⟩ h0 (ih (n - 1) (by omega) (by omega) (by omega))
      rw [outsAt0_B m c ⟨n, hn⟩ h0 (by dsimp only; omega) h3]
      dsimp only
      rw [sout_B]
      exact S

include hg hu hwg hwu in
theorem out_is (t : Fin cfg0.N) (h3 : t.val % 4 = 3) :
    Has2 ((outsAt0 m c t.val t.isLt).1 : FVec Ideal S1056x1024 .f32) fun r n => ∑ j ∈ range 5632, Term g wg u wu (t.val / 8 * 1056 + r) (t.val / 4 % 2 * 1024 + n) j := by
  have A := acc_is m c hg hu hwg hwu (t.val - 1) (lt_of_le_of_lt (Nat.sub_le _ _) t.isLt) (by omega)
  have S := step_is m c hg hu hwg hwu t (by omega) A
  rw [outsAt0_C m c t (by omega) (by omega) h3]
  dsimp only
  rw [out_C]
  intro r n
  refine (S r n).trans ?_
  rw [Acc, h3]

include hg hu hwg hwu in
theorem arr_is : Has2 ((dats m 0 c).arrAt 4 cfg0.N : FVec Ideal S4224x2048 .f32) fun r n => ∑ j ∈ range 5632, Term g wg u wu r n j := by
  have H : (dats m 0 c).arrAt 4 cfg0.N = (fun i => ∑ j ∈ range 5632, Term g wg u wu (i 0).val (i 1).val j : FVec Ideal S4224x2048 .f32) := by
    refine (dats m 0 c).arrAt_eq_of_covers 4 _ (by decide +kernel) fun t hf y => ?_
    have h := out_is m c hg hu hwg hwu t ((flush0_4 t).mp hf)
    have e := (idx t).2.2.2.2
    blk_simp [e]
    rw [after0_4]
    exact h.read y
  rw [H]
  exact fun _ _ => rfl

end Kernel

section Reference

open Cert.Reference3Ideal Cert.Reference3Ideal.Gen

theorem ref_is {G U : FVec Ideal S4224x5632 .f32} {WG WU : FVec Ideal S2048x5632 .f32} {g u wg wu : ℕ → ℕ → EReal} (hg : Has2 G g) (hu : Has2 U u) (hwg : Has2 WG wg) (hwu : Has2 WU wu) :
    Has2 (addf (Host.dotGeneral dot_S4224x5632_S2048x5632_S4224x2048_1_1_0_0_n_n none U WU) (Host.dotGeneral dot_S4224x5632_S2048x5632_S4224x2048_1_1_0_0_n_n none G WG) : FVec Ideal S4224x2048 .f32)
      fun r n => ∑ j ∈ range 5632, Term g wg u wu r n j := by
  intro r n
  pointwise
  rw [add_comm, Finset.sum_range, ← Finset.sum_add_distrib]
  exact Finset.sum_congr rfl fun x _ => by rw [hg, hu, hwg, hwu]

end Reference

theorem algebraic : Cert.algebraic_Kernel3Ideal_Reference3Ideal (hKernel3Ideal := Cert.Kernel3Ideal.Gen.facts) (hReference3Ideal := Cert.Reference3Ideal.Gen.facts) := by
  intro m g m' g' _ hA
  refine ⟨fun c => (Cert.Kernel3Ideal.Gen.dats m 0 c).arrAt 4 Cert.Kernel3Ideal.cfg0.N, Cert.Kernel3Ideal.Value.run_blocks m g, ?_⟩
  refine (θ_run Cert.Reference3Ideal.defs _ _).mono (fun r h c => ?_) (Cert.Reference3Ideal.Value.run (F := Ideal) m' g')
  obtain ⟨a0, a1, a2, a3⟩ := hA c
  obtain ⟨_, hg⟩ := exists_has2 (m ((c.tc : Thread Cert.Kernel3Ideal.nD Cert.Kernel3Ideal.τ).loc Cert.Kernel3Ideal.main_arg0) : FVec Ideal Cert.Kernel3Ideal.S4224x5632 .f32)
  obtain ⟨_, hu⟩ := exists_has2 (m ((c.tc : Thread Cert.Kernel3Ideal.nD Cert.Kernel3Ideal.τ).loc Cert.Kernel3Ideal.main_arg1) : FVec Ideal Cert.Kernel3Ideal.S4224x5632 .f32)
  obtain ⟨_, hwg⟩ := exists_has2 (m ((c.tc : Thread Cert.Kernel3Ideal.nD Cert.Kernel3Ideal.τ).loc Cert.Kernel3Ideal.main_arg2) : FVec Ideal Cert.Kernel3Ideal.S2048x5632 .f32)
  obtain ⟨_, hwu⟩ := exists_has2 (m ((c.tc : Thread Cert.Kernel3Ideal.nD Cert.Kernel3Ideal.τ).loc Cert.Kernel3Ideal.main_arg3) : FVec Ideal Cert.Kernel3Ideal.S2048x5632 .f32)
  have K := arr_is m c hg hu hwg hwu
  rw [← a0] at hg
  rw [← a1] at hu
  rw [← a2] at hwg
  rw [← a3] at hwu
  obtain ⟨r0, rA⟩ := h c
  exact ⟨r0.trans ((ref_is hg hu hwg hwu).ext K), rA⟩

end Ffn.Dxn

end
-- ==== Proof.Ffn.Dw4.lean ====
/-
  The gradient of a projection's weights, laid out in eight blocks of rows: the two halves of the rows of `dz` and `x` are
  taken one after another, and their products added in a carried array.
-/
module

public import proofs.«01_k».proof.Proof.Ffn.Common
public import proofs.«01_k».proof.Proof.Gen.Kernel4Ideal.Frame
public import Idealize.ShloMosaic.Lib.Pipeline.Value
public import Idealize.ShloMosaic.Lib.Pipeline.ValueKit
public import Idealize.ShloMosaic.Lib.StableHlo.RunRead

@[expose] public section

set_option maxRecDepth 16384
set_option maxHeartbeats 4000000

noncomputable section

namespace Ffn.Dw4

open Cert.Kernel4Ideal Cert.Kernel4Ideal.Gen
open Idealize.ShloMosaic Idealize.ShloMosaic.TcCoe Idealize.ShloMosaic.Pipeline Idealize.ShloMosaic.Tactic Idealize.ShloMosaic.Pointwise
open Finset (range)

/-! ## What a point leaves -/

/-- At a first half: the product of its rows. -/
theorem sout_A (c : Dev nD) (i : grid0.Coords) (a3 : Memref sig .tc .vmem S1x2112x704 .bf16) (h3 : a3.IsWhole) (a4 : Memref sig .tc .vmem S2112x2048 .bf16) (h4 : a4.IsWhole) (a5 : Memref sig .tc .vmem S1x704x2048 .bf16) (h5 : a5.IsWhole) (a6 : Memref sig .tc .vmem S704x2048 .f32) (h6 : a6.IsWhole) (hc0 : cond0_0 i) (hc1 : ¬cond0_1 i) (hc2 : ¬cond0_2 i)
    (x0 : Vec Ideal S1x2112x704 .bf16) (x1 : Vec Ideal S2112x2048 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero off2]
  simp only [View.readAt_eq_ld, h3.read_unread, h4.read_unread, View.ld_unit_zero (S := S1x2112x704) off3, View.ld_unit_zero (S := S2112x2048) off2]

/-- At a second half: what the first left, with the second's product added, rounded. -/
theorem out_B (c : Dev nD) (i : grid0.Coords) (a3 : Memref sig .tc .vmem S1x2112x704 .bf16) (h3 : a3.IsWhole) (a4 : Memref sig .tc .vmem S2112x2048 .bf16) (h4 : a4.IsWhole) (a5 : Memref sig .tc .vmem S1x704x2048 .bf16) (h5 : a5.IsWhole) (a6 : Memref sig .tc .vmem S704x2048 .f32) (h6 : a6.IsWhole) (hc0 : ¬cond0_0 i) (hc1 : cond0_1 i) (hc2 : cond0_2 i)
    (x0 : Vec Ideal S1x2112x704 .bf16) (x1 : Vec Ideal S2112x2048 .bf16) (xs : Vec Ideal S704x2048 .f32) :
    out0_B_2 c i a3 h3 a4 h4 a5 h5 a6 h6 hc0 hc1 hc2 x0 x1 xs = k0_pay4 (k0_pay3 x0 x1 xs) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero off3, View.readCov_unit_zero (S := S704x2048) _ off2]
  simp only [View.readAt_eq_ld, h3.read_unread, h4.read_unread, h6.read_unread, View.ld_unit_zero (S := S1x2112x704) off3, View.ld_unit_zero (S := S2112x2048) off2, View.ld_unit_zero (S := S704x2048) off2]

/-! ## The arithmetic of a block -/

section Block

variable {p q : ℕ} {z x : ℕ → ℕ → EReal} {v0 : Vec Ideal S1x2112x704 .bf16} {v2 : Vec Ideal S2112x2048 .bf16}
  (h0 : Has3 v0 fun _ r j => z (p * 2112 + r) (q * 704 + j)) (h2 : Has2 v2 fun r n => x (p * 2112 + r) n)

include h0 h2

theorem prod_is : Has2 (k0_pay1 v0 v2) fun j n => ∑ r ∈ range 2112, z (p * 2112 + r) (q * 704 + j) * x (p * 2112 + r) n := by
  intro j n
  pointwise [k0_pay1]
  simp only [h0 _ _ _, h2 _ _, Finset.sum_range]

end Block

/-! ## The blocks a point reads -/

theorem idx : ∀ t : Fin cfg0.N, win0_0.index t = ![t.val / 2, t.val % 2, 0] ∧ win0_1.index t = ![t.val % 2, 0] ∧ win0_2.index t = ![t.val / 2, 0, 0] :=
  (by decide +kernel : ∀ t : Fin grid0.N, _)

variable (m : (ℓ : Loc nD τ sig) → Buf (Elt Ideal) ℓ) (c : Dev nD) {z x : ℕ → ℕ → EReal}
  (hz : Has2 (m ((c : Thread nD τ).loc main_arg0) : FVec Ideal S4224x5632 .f32) z)
  (hx : Has2 (m ((c : Thread nD τ).loc main_arg1) : FVec Ideal S4224x2048 .f32) x)

theorem V_z : V m c main_v2 = (transpose S8x4224x704 [1, 0, 2] (shapeCast S4224x8x704 (truncf .bf16 (m ((c : Thread nD τ).loc main_arg0)) bitsLt_bf16_f32) shapeCasts_S4224x5632_S4224x8x704) transposes_S4224x8x704_S8x4224x704_1_0_2 : FVec Ideal S8x4224x704 .bf16) := by
  unfold V hostOps0
  after_results_simp
  all_goals rfl
theorem V_x : V m c main_v3 = (truncf .bf16 (m ((c : Thread nD τ).loc main_arg1)) bitsLt_bf16_f32 : FVec Ideal S4224x2048 .bf16) := by
  unfold V hostOps0
  after_results_simp
  all_goals rfl

include hz in
theorem V_z_is : Has3 (V m c main_v2 : FVec Ideal S8x4224x704 .bf16) fun d r j => z r (d * 704 + j) := by
  rw [V_z]
  generalize (m ((c : Thread nD τ).loc main_arg0) : FVec Ideal S4224x5632 .f32) = X at hz
  intro d r j
  pointwise
  rw [hz]
include hx in
theorem V_x_is : Has2 (V m c main_v3 : FVec Ideal S4224x2048 .bf16) x := by
  rw [V_x]
  exact hx

include hz in
theorem blk_z (t : Fin cfg0.N) : Has3 (iblk m c 0 t : FVec Ideal S1x2112x704 .bf16) fun _ r j => z (t.val % 2 * 2112 + r) (t.val / 2 * 704 + j) := by
  intro d r j
  have ht : t.val < 16 := t.isLt
  have e := (idx t).1
  obtain rfl : d = 0 := Subsingleton.elim _ _
  refine Eq.trans ?_ (V_z_is m c hz ⟨t.val / 2, by omega⟩ ⟨t.val % 2 * 2112 + r.val, by omega⟩ j)
  blk_ext [iblk, e]
include hx in
theorem blk_x (t : Fin cfg0.N) : Has2 (iblk m c 1 t : FVec Ideal S2112x2048 .bf16) fun r n => x (t.val % 2 * 2112 + r) n := by
  intro r n
  have e := (idx t).2.1
  refine Eq.trans ?_ (V_x_is m c hx ⟨t.val % 2 * 2112 + r.val, by omega⟩ n)
  blk_ext [iblk, e]

/-! ## What the points leave, and the array -/

include hz hx in
theorem out_is (t : Fin cfg0.N) (h : t.val % 2 = 1) :
    Has3 ((outsAt0 m c t.val t.isLt).1 : FVec Ideal S1x704x2048 .bf16) fun _ j n => ∑ r ∈ range 4224, z r (t.val / 2 * 704 + j) * x r n := by
  have hs : t.val - 1 < cfg0.N := lt_of_le_of_lt (Nat.sub_le _ _) t.isLt
  have e1 : (t.val - 1) / 2 = t.val / 2 := by omega
  have e2 : (t.val - 1) % 2 = 0 := by omega
  have P0 := prod_is (blk_z m c hz ⟨t.val - 1, hs⟩) (blk_x m c hx ⟨t.val - 1, hs⟩)
  have P1 := prod_is (blk_z m c hz t) (blk_x m c hx t)
  simp only [e1, e2, h, zero_mul, zero_add, one_mul] at P0 P1
  rw [outsAt0_B m c t (by omega) h h]
  dsimp only
  rw [out_B, outsAt0_A m c ⟨t.val - 1, hs⟩ e2 (by dsimp only; omega) (by dsimp only; omega)]
  dsimp only
  rw [sout_A]
  generalize iblk m c 0 t = u0 at P1
  generalize iblk m c 1 t = u1 at P1
  generalize iblk m c 0 ⟨t.val - 1, hs⟩ = w0 at P0
  generalize iblk m c 1 ⟨t.val - 1, hs⟩ = w1 at P0
  intro d j n
  pointwise [k0_pay4, k0_pay3, k0_pay2]
  rw [P0 j n, P1 j n, show 4224 = 2112 + 2112 from rfl, Finset.sum_range_add]

include hz hx in
theorem arr_is : Has3 ((dats m 0 c).arrAt 2 cfg0.N : FVec Ideal S8x704x2048 .bf16) fun d j n => ∑ r ∈ range 4224, z r (d * 704 + j) * x r n := by
  have H : (dats m 0 c).arrAt 2 cfg0.N = (fun i => ∑ r ∈ range 4224, z r ((i 0).val * 704 + (i 1).val) * x r (i 2).val : FVec Ideal S8x704x2048 .bf16) := by
    refine (dats m 0 c).arrAt_eq_of_covers 2 _ (by decide +kernel) fun t hf y => ?_
    have h := out_is m c hz hx t ((flush0_2 t).mp hf)
    have e := (idx t).2.2
    blk_simp [e]
    rw [after0_2]
    exact h.read y
  rw [H]
  exact fun _ _ _ => rfl

end Ffn.Dw4

end
-- ==== Proof.Ffn.Eq4.lean ====
/-
  The gradient of a projection's weights: the reference's result, and that the kernel's is the same.
-/
module

public import proofs.«01_k».proof.Defs
public import proofs.«01_k».proof.Proof.Ffn.Dw4
public import proofs.«01_k».proof.Proof.Gen.Kernel4Ideal.Value
public import proofs.«01_k».proof.Proof.Gen.Reference4Ideal.Run

@[expose] public section

set_option maxRecDepth 16384
set_option maxHeartbeats 4000000

noncomputable section

namespace Ffn.Dw4

open Idealize.ShloMosaic Idealize.ShloMosaic.TcCoe Idealize.ShloMosaic.Tactic Idealize.ShloMosaic.Pointwise Idealize.SL.Sem
open Finset (range)

section Reference

open Cert.Reference4Ideal Cert.Reference4Ideal.Gen

theorem ref_is {Z : FVec Ideal S4224x5632 .f32} {X : FVec Ideal S4224x2048 .f32} {z x : ℕ → ℕ → EReal} (hz : Has2 Z z) (hx : Has2 X x) :
    Has3 (truncf .bf16 (shapeCast S8x704x2048 (transpose S5632x2048 [1, 0] (transpose S2048x5632 [1, 0] (Host.dotGeneral dot_S4224x5632_S4224x2048_S5632x2048_0_0_1_1_n_n none Z X) transposes_S5632x2048_S2048x5632_1_0) transposes_S2048x5632_S5632x2048_1_0) shapeCasts_S5632x2048_S8x704x2048) bitsLt_bf16_f32 : FVec Ideal S8x704x2048 .bf16)
      fun d j n => ∑ r ∈ range 4224, z r (d * 704 + j) * x r n := by
  intro d j n
  pointwise
  simp only [hz _ _, hx _ _, Finset.sum_range]

end Reference

theorem algebraic : Cert.algebraic_Kernel4Ideal_Reference4Ideal (hKernel4Ideal := Cert.Kernel4Ideal.Gen.facts) (hReference4Ideal := Cert.Reference4Ideal.Gen.facts) := by
  intro m g m' g' _ hA
  refine ⟨fun c => (Cert.Kernel4Ideal.Gen.dats m 0 c).arrAt 2 Cert.Kernel4Ideal.cfg0.N, Cert.Kernel4Ideal.Value.run_blocks m g, ?_⟩
  refine (θ_run Cert.Reference4Ideal.defs _ _).mono (fun r h c => ?_) (Cert.Reference4Ideal.Value.run (F := Ideal) m' g')
  obtain ⟨a0, a1⟩ := hA c
  obtain ⟨z, hz⟩ := exists_has2 (m ((c.tc : Thread Cert.Kernel4Ideal.nD Cert.Kernel4Ideal.τ).loc Cert.Kernel4Ideal.main_arg0) : FVec Ideal Cert.Kernel4Ideal.S4224x5632 .f32)
  obtain ⟨x, hx⟩ := exists_has2 (m ((c.tc : Thread Cert.Kernel4Ideal.nD Cert.Kernel4Ideal.τ).loc Cert.Kernel4Ideal.main_arg1) : FVec Ideal Cert.Kernel4Ideal.S4224x2048 .f32)
  have K := arr_is m c hz hx
  rw [← a0] at hz
  rw [← a1] at hx
  obtain ⟨r0, rA⟩ := h c
  exact ⟨r0.trans ((ref_is hz hx).ext K), rA⟩

end Ffn.Dw4

end
-- ==== Proof.Ffn.Dw5.lean ====
/-
  The gradient of the last projection's weights, laid out in eight blocks of rows: the two halves of the rows of `z` and `x` are
  taken one after another, and their products added in a carried array, the whole halved at the end.
-/
module

public import proofs.«01_k».proof.Proof.Ffn.Common
public import proofs.«01_k».proof.Proof.Gen.Kernel5Ideal.Frame
public import Idealize.ShloMosaic.Lib.Pipeline.Value
public import Idealize.ShloMosaic.Lib.Pipeline.ValueKit
public import Idealize.ShloMosaic.Lib.StableHlo.RunRead

@[expose] public section

set_option maxRecDepth 16384
set_option maxHeartbeats 4000000

noncomputable section

namespace Ffn.Dw5

open Cert.Kernel5Ideal Cert.Kernel5Ideal.Gen
open Idealize.ShloMosaic Idealize.ShloMosaic.TcCoe Idealize.ShloMosaic.Pipeline Idealize.ShloMosaic.Tactic Idealize.ShloMosaic.Pointwise
open Finset (range)

/-! ## What a point leaves -/

/-- At a first half: the product of its rows. -/
theorem sout_A (c : Dev nD) (i : grid0.Coords) (a3 : Memref sig .tc .vmem S1x2112x704 .bf16) (h3 : a3.IsWhole) (a4 : Memref sig .tc .vmem S2112x2048 .bf16) (h4 : a4.IsWhole) (a5 : Memref sig .tc .vmem S1x704x2048 .bf16) (h5 : a5.IsWhole) (a6 : Memref sig .tc .vmem S704x2048 .f32) (h6 : a6.IsWhole) (hc0 : cond0_0 i) (hc1 : ¬cond0_1 i) (hc2 : ¬cond0_2 i)
    (x0 : Vec Ideal S1x2112x704 .bf16) (x1 : Vec Ideal S2112x2048 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero off2]
  simp only [View.readAt_eq_ld, h3.read_unread, h4.read_unread, View.ld_unit_zero (S := S1x2112x704) off3, View.ld_unit_zero (S := S2112x2048) off2]

/-- At a second half: what the first left, with the second's product added, halved and rounded. -/
theorem out_B (c : Dev nD) (i : grid0.Coords) (a3 : Memref sig .tc .vmem S1x2112x704 .bf16) (h3 : a3.IsWhole) (a4 : Memref sig .tc .vmem S2112x2048 .bf16) (h4 : a4.IsWhole) (a5 : Memref sig .tc .vmem S1x704x2048 .bf16) (h5 : a5.IsWhole) (a6 : Memref sig .tc .vmem S704x2048 .f32) (h6 : a6.IsWhole) (hc0 : ¬cond0_0 i) (hc1 : cond0_1 i) (hc2 : cond0_2 i)
    (x0 : Vec Ideal S1x2112x704 .bf16) (x1 : Vec Ideal S2112x2048 .bf16) (xs : Vec Ideal S704x2048 .f32) :
    out0_B_2 c i a3 h3 a4 h4 a5 h5 a6 h6 hc0 hc1 hc2 x0 x1 xs = k0_pay4 (k0_pay3 x0 x1 xs) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero off3, View.readCov_unit_zero (S := S704x2048) _ off2]
  simp only [View.readAt_eq_ld, h3.read_unread, h4.read_unread, h6.read_unread, View.ld_unit_zero (S := S1x2112x704) off3, View.ld_unit_zero (S := S2112x2048) off2, View.ld_unit_zero (S := S704x2048) off2]

/-! ## The arithmetic of a block -/

section Block

variable {p q : ℕ} {z x : ℕ → ℕ → EReal} {v0 : Vec Ideal S1x2112x704 .bf16} {v2 : Vec Ideal S2112x2048 .bf16}
  (h0 : Has3 v0 fun _ r j => z (p * 2112 + r) (q * 704 + j)) (h2 : Has2 v2 fun r n => x (p * 2112 + r) n)

include h0 h2

theorem prod_is : Has2 (k0_pay1 v0 v2) fun j n => ∑ r ∈ range 2112, z (p * 2112 + r) (q * 704 + j) * x (p * 2112 + r) n := by
  intro j n
  pointwise [k0_pay1]
  simp only [h0 _ _ _, h2 _ _, Finset.sum_range]

end Block

/-! ## The blocks a point reads -/

theorem idx : ∀ t : Fin cfg0.N, win0_0.index t = ![t.val / 2, t.val % 2, 0] ∧ win0_1.index t = ![t.val % 2, 0] ∧ win0_2.index t = ![t.val / 2, 0, 0] :=
  (by decide +kernel : ∀ t : Fin grid0.N, _)

variable (m : (ℓ : Loc nD τ sig) → Buf (Elt Ideal) ℓ) (c : Dev nD) {z x : ℕ → ℕ → EReal}
  (hz : Has2 (m ((c : Thread nD τ).loc main_arg0) : FVec Ideal S4224x5632 .f32) z)
  (hx : Has2 (m ((c : Thread nD τ).loc main_arg1) : FVec Ideal S4224x2048 .f32) x)

theorem V_z : V m c main_v2 = (transpose S8x4224x704 [1, 0, 2] (shapeCast S4224x8x704 (truncf .bf16 (m ((c : Thread nD τ).loc main_arg0)) bitsLt_bf16_f32) shapeCasts_S4224x5632_S4224x8x704) transposes_S4224x8x704_S8x4224x704_1_0_2 : FVec Ideal S8x4224x704 .bf16) := by
  unfold V hostOps0
  after_results_simp
  all_goals rfl
theorem V_x : V m c main_v3 = (truncf .bf16 (m ((c : Thread nD τ).loc main_arg1)) bitsLt_bf16_f32 : FVec Ideal S4224x2048 .bf16) := by
  unfold V hostOps0
  after_results_simp
  all_goals rfl

include hz in
theorem V_z_is : Has3 (V m c main_v2 : FVec Ideal S8x4224x704 .bf16) fun d r j => z r (d * 704 + j) := by
  rw [V_z]
  generalize (m ((c : Thread nD τ).loc main_arg0) : FVec Ideal S4224x5632 .f32) = X at hz
  intro d r j
  pointwise
  rw [hz]
include hx in
theorem V_x_is : Has2 (V m c main_v3 : FVec Ideal S4224x2048 .bf16) x := by
  rw [V_x]
  exact hx

include hz in
theorem blk_z (t : Fin cfg0.N) : Has3 (iblk m c 0 t : FVec Ideal S1x2112x704 .bf16) fun _ r j => z (t.val % 2 * 2112 + r) (t.val / 2 * 704 + j) := by
  intro d r j
  have ht : t.val < 16 := t.isLt
  have e := (idx t).1
  obtain rfl : d = 0 := Subsingleton.elim _ _
  refine Eq.trans ?_ (V_z_is m c hz ⟨t.val / 2, by omega⟩ ⟨t.val % 2 * 2112 + r.val, by omega⟩ j)
  blk_ext [iblk, e]
include hx in
theorem blk_x (t : Fin cfg0.N) : Has2 (iblk m c 1 t : FVec Ideal S2112x2048 .bf16) fun r n => x (t.val % 2 * 2112 + r) n := by
  intro r n
  have e := (idx t).2.1
  refine Eq.trans ?_ (V_x_is m c hx ⟨t.val % 2 * 2112 + r.val, by omega⟩ n)
  blk_ext [iblk, e]

/-! ## What the points leave, and the array -/

include hz hx in
theorem out_is (t : Fin cfg0.N) (h : t.val % 2 = 1) :
    Has3 ((outsAt0 m c t.val t.isLt).1 : FVec Ideal S1x704x2048 .bf16) fun _ j n => ∑ r ∈ range 4224, z r (t.val / 2 * 704 + j) * (((1 / 2 : ℝ) : EReal) * x r n) := by
  have hs : t.val - 1 < cfg0.N := lt_of_le_of_lt (Nat.sub_le _ _) t.isLt
  have e1 : (t.val - 1) / 2 = t.val / 2 := by omega
  have e2 : (t.val - 1) % 2 = 0 := by omega
  have P0 := prod_is (blk_z m c hz ⟨t.val - 1, hs⟩) (blk_x m c hx ⟨t.val - 1, hs⟩)
  have P1 := prod_is (blk_z m c hz t) (blk_x m c hx t)
  simp only [e1, e2, h, zero_mul, zero_add, one_mul] at P0 P1
  rw [outsAt0_B m c t (by omega) h h]
  dsimp only
  rw [out_B, outsAt0_A m c ⟨t.val - 1, hs⟩ e2 (by dsimp only; omega) (by dsimp only; omega)]
  dsimp only
  rw [sout_A]
  generalize iblk m c 0 t = u0 at P1
  generalize iblk m c 1 t = u1 at P1
  generalize iblk m c 0 ⟨t.val - 1, hs⟩ = w0 at P0
  generalize iblk m c 1 ⟨t.val - 1, hs⟩ = w1 at P0
  intro d j n
  pointwise [k0_pay4, k0_pay3, k0_pay2]
  rw [P0 j n, P1 j n, lit_half, mul_comm, ← Finset.sum_range_add (fun r => z r (t.val / 2 * 704 + j.val) * x r n.val) 2112 2112, mul_sum (by norm_num)]
  exact Finset.sum_congr rfl fun _ _ => mul_left_comm _ _ _

include hz hx in
theorem arr_is : Has3 ((dats m 0 c).arrAt 2 cfg0.N : FVec Ideal S8x704x2048 .bf16) fun d j n => ∑ r ∈ range 4224, z r (d * 704 + j) * (((1 / 2 : ℝ) : EReal) * x r n) := by
  have H : (dats m 0 c).arrAt 2 cfg0.N = (fun i => ∑ r ∈ range 4224, z r ((i 0).val * 704 + (i 1).val) * (((1 / 2 : ℝ) : EReal) * x r (i 2).val) : FVec Ideal S8x704x2048 .bf16) := by
    refine (dats m 0 c).arrAt_eq_of_covers 2 _ (by decide +kernel) fun t hf y => ?_
    have h := out_is m c hz hx t ((flush0_2 t).mp hf)
    have e := (idx t).2.2
    blk_simp [e]
    rw [after0_2]
    exact h.read y
  rw [H]
  exact fun _ _ _ => rfl

end Ffn.Dw5

end
-- ==== Proof.Ffn.Eq5.lean ====
/-
  The gradient of the last projection's weights: the reference's result, and that the kernel's is the same.
-/
module

public import proofs.«01_k».proof.Defs
public import proofs.«01_k».proof.Proof.Ffn.Dw5
public import proofs.«01_k».proof.Proof.Gen.Kernel5Ideal.Value
public import proofs.«01_k».proof.Proof.Gen.Reference5Ideal.Run

@[expose] public section

set_option maxRecDepth 16384
set_option maxHeartbeats 4000000

noncomputable section

namespace Ffn.Dw5

open Idealize.ShloMosaic Idealize.ShloMosaic.TcCoe Idealize.ShloMosaic.Tactic Idealize.ShloMosaic.Pointwise Idealize.SL.Sem
open Finset (range)

section Reference

open Cert.Reference5Ideal Cert.Reference5Ideal.Gen

theorem ref_is {Z : FVec Ideal S4224x5632 .f32} {X : FVec Ideal S4224x2048 .f32} {z x : ℕ → ℕ → EReal} (hz : Has2 Z z) (hx : Has2 X x) :
    Has3 (truncf .bf16 (shapeCast S8x704x2048 (transpose S5632x2048 [1, 0] (Host.dotGeneral dot_S4224x2048_S4224x5632_S2048x5632_0_0_1_1_n_n none (mulf (broadcastInDim S4224x2048 ![] bcast_S_S4224x2048 (constant S_ .f32 0x3F000000#32)) X) Z) transposes_S2048x5632_S5632x2048_1_0) shapeCasts_S5632x2048_S8x704x2048) bitsLt_bf16_f32 : FVec Ideal S8x704x2048 .bf16)
      fun d j n => ∑ r ∈ range 4224, z r (d * 704 + j) * (((1 / 2 : ℝ) : EReal) * x r n) := by
  intro d j n
  pointwise
  simp only [hz _ _, hx _ _, lit_half, Finset.sum_range]
  exact Finset.sum_congr rfl fun _ _ => mul_comm _ _

end Reference

theorem algebraic : Cert.algebraic_Kernel5Ideal_Reference5Ideal (hKernel5Ideal := Cert.Kernel5Ideal.Gen.facts) (hReference5Ideal := Cert.Reference5Ideal.Gen.facts) := by
  intro m g m' g' _ hA
  refine ⟨fun c => (Cert.Kernel5Ideal.Gen.dats m 0 c).arrAt 2 Cert.Kernel5Ideal.cfg0.N, Cert.Kernel5Ideal.Value.run_blocks m g, ?_⟩
  refine (θ_run Cert.Reference5Ideal.defs _ _).mono (fun r h c => ?_) (Cert.Reference5Ideal.Value.run (F := Ideal) m' g')
  obtain ⟨a0, a1⟩ := hA c
  obtain ⟨z, hz⟩ := exists_has2 (m ((c.tc : Thread Cert.Kernel5Ideal.nD Cert.Kernel5Ideal.τ).loc Cert.Kernel5Ideal.main_arg0) : FVec Ideal Cert.Kernel5Ideal.S4224x5632 .f32)
  obtain ⟨x, hx⟩ := exists_has2 (m ((c.tc : Thread Cert.Kernel5Ideal.nD Cert.Kernel5Ideal.τ).loc Cert.Kernel5Ideal.main_arg1) : FVec Ideal Cert.Kernel5Ideal.S4224x2048 .f32)
  have K := arr_is m c hz hx
  rw [← a0] at hz
  rw [← a1] at hx
  obtain ⟨r0, rA⟩ := h c
  exact ⟨r0.trans ((ref_is hz hx).ext K), rA⟩

end Ffn.Dw5

end
-- ==== Proof.Ffn.Up.lean ====
/-
  The feed-forward layer's first two projections and their gated product, a block of rows and of 704 hidden columns at a time.
-/
module

public import proofs.«01_k».proof.Defs
public import proofs.«01_k».proof.Proof.Ffn.Common
public import proofs.«01_k».proof.Proof.Gen.Kernel6Ideal.Frame
public import proofs.«01_k».proof.Proof.Gen.Kernel6Ideal.Value
public import proofs.«01_k».proof.Proof.Gen.Reference6Ideal.Run
public import Idealize.ShloMosaic.Lib.Pipeline.Value
public import Idealize.ShloMosaic.Lib.Pipeline.ValueKit
public import Idealize.ShloMosaic.Lib.StableHlo.RunRead

@[expose] public section

set_option maxRecDepth 16384
set_option maxHeartbeats 4000000

noncomputable section

namespace Ffn.Up

open Idealize.ShloMosaic Idealize.ShloMosaic.TcCoe Idealize.ShloMosaic.Pipeline Idealize.ShloMosaic.Tactic Idealize.ShloMosaic.Pointwise
open Idealize.SL.Sem
open Finset (range)

/-- An entry of a projection, and the gated product of two. -/
abbrev Lin (x w : ℕ → ℕ → EReal) (r j : ℕ) : EReal := ∑ n ∈ range 2048, x r n * w n j
abbrev Act (g u : EReal) : EReal := g * Ideal.div 1 (1 + Ideal.exp (-g)) * u

section Kernel

open Cert.Kernel6Ideal Cert.Kernel6Ideal.Gen

/-! ## What a point leaves -/

section Point

variable (x0 : Vec Ideal S1056x2048 .bf16) (x1 x2 : Vec Ideal S1x704x2048 .bf16)

theorem out_3 : out0_3 x0 x1 x2 = k0_pay4 x0 x1 := by
  unfold out0_3
  rw [View.canon_unit_zero off3, View.ld_unit_zero (S := S1056x2048) off2, View.ld_unit_zero (S := S1x704x2048) off3]
theorem out_4 : out0_4 x0 x1 x2 = k0_pay5 x0 x2 := by
  unfold out0_4
  rw [View.canon_unit_zero off3, View.ld_unit_zero (S := S1056x2048) off2, View.ld_unit_zero (S := S1x704x2048) off3]
theorem out_5 : out0_5 x0 x1 x2 = k0_pay6 x0 x1 x2 := by
  unfold out0_5
  rw [View.canon_unit_zero off3, View.ld_unit_zero (S := S1056x2048) off2, View.ld_unit_zero (S := S1x704x2048) off3, View.ld_unit_zero (S := S1x704x2048) off3]

end Point

/-! ## The arithmetic of a block -/

section Block

variable {p q : ℕ} {x wg wu : ℕ → ℕ → EReal} {v0 : Vec Ideal S1056x2048 .bf16} {v1 v2 : Vec Ideal S1x704x2048 .bf16}
  (h0 : Has2 v0 fun r n => x (p * 1056 + r) n) (h1 : Has3 v1 fun _ j n => wg n (q * 704 + j)) (h2 : Has3 v2 fun _ j n => wu n (q * 704 + j))

include h0 h1 in
theorem gate_is : Has2 (k0_pay2 v0 v1) fun r j => Lin x wg (p * 1056 + r) (q * 704 + j) := by
  intro r j
  pointwise [k0_pay2, k0_pay1]
  simp only [h0 _ _, h1 _ _ _, Finset.sum_range, Lin]
include h0 h2 in
theorem up_is : Has2 (k0_pay3 v0 v2) fun r j => Lin x wu (p * 1056 + r) (q * 704 + j) := by
  intro r j
  pointwise [k0_pay3, k0_pay1]
  simp only [h0 _ _, h2 _ _ _, Finset.sum_range, Lin]
include h0 h1 in
theorem gate_out : Has3 (k0_pay4 v0 v1) fun _ r j => Lin x wg (p * 1056 + r) (q * 704 + j) := by
  have G := gate_is h0 h1
  intro d r j
  pointwise [k0_pay4]
  rw [G r j]
include h0 h2 in
theorem up_out : Has3 (k0_pay5 v0 v2) fun _ r j => Lin x wu (p * 1056 + r) (q * 704 + j) := by
  have U := up_is h0 h2
  intro d r j
  pointwise [k0_pay5]
  rw [U r j]
include h0 h1 h2 in
theorem act_out : Has3 (k0_pay6 v0 v1 v2) fun _ r j => Act (Lin x wg (p * 1056 + r) (q * 704 + j)) (Lin x wu (p * 1056 + r) (q * 704 + j)) := by
  have G := gate_is h0 h1
  have U := up_is h0 h2
  intro d r j
  pointwise [k0_pay6]
  rw [G r j, U r j, zero_sub]

end Block

/-! ## The blocks a point reads -/

theorem idx : ∀ t : Fin cfg0.N, win0_0.index t = ![t.val / 8, 0] ∧ win0_1.index t = ![t.val % 8, 0, 0] ∧ win0_2.index t = ![t.val % 8, 0, 0] ∧ win0_3.index t = ![t.val % 8, t.val / 8, 0]
    ∧ win0_4.index t = ![t.val % 8, t.val / 8, 0] ∧ win0_5.index t = ![t.val % 8, t.val / 8, 0] :=
  (by decide +kernel : ∀ t : Fin grid0.N, _)

variable (m : (ℓ : Loc nD τ sig) → Buf (Elt Ideal) ℓ) (c : Dev nD) {x wg wu : ℕ → ℕ → EReal}
  (hx : Has2 (m ((c : Thread nD τ).loc main_arg0) : FVec Ideal S4224x2048 .f32) x)
  (hwg : Has2 (m ((c : Thread nD τ).loc main_arg1) : FVec Ideal S2048x5632 .f32) wg)
  (hwu : Has2 (m ((c : Thread nD τ).loc main_arg2) : FVec Ideal S2048x5632 .f32) wu)

include hx in
theorem V_x_is : Has2 (V m c main_v0 : FVec Ideal S4224x2048 .bf16) x := by
  have e : V m c main_v0 = (truncf .bf16 (m ((c : Thread nD τ).loc main_arg0)) bitsLt_bf16_f32 : FVec Ideal S4224x2048 .bf16) := by
    unfold V hostOps0
    after_results_simp
    all_goals rfl
  rw [e]
  exact hx
include hwg in
theorem V_wg_is : Has3 (V m c main_v3 : FVec Ideal S8x704x2048 .bf16) fun d j n => wg n (d * 704 + j) := by
  have e : V m c main_v3 = (shapeCast S8x704x2048 (truncf .bf16 (transpose S5632x2048 [1, 0] (m ((c : Thread nD τ).loc main_arg1)) transposes_S2048x5632_S5632x2048_1_0) bitsLt_bf16_f32) shapeCasts_S5632x2048_S8x704x2048 : FVec Ideal S8x704x2048 .bf16) := by
    unfold V hostOps0
    after_results_simp
    all_goals rfl
  rw [e]
  exact Has2.rows (X := truncf .bf16 (transpose S5632x2048 [1, 0] (m ((c : Thread nD τ).loc main_arg1)) transposes_S2048x5632_S5632x2048_1_0) bitsLt_bf16_f32) (hwg.turn _) _
include hwu in
theorem V_wu_is : Has3 (V m c main_v6 : FVec Ideal S8x704x2048 .bf16) fun d j n => wu n (d * 704 + j) := by
  have e : V m c main_v6 = (shapeCast S8x704x2048 (truncf .bf16 (transpose S5632x2048 [1, 0] (m ((c : Thread nD τ).loc main_arg2)) transposes_S2048x5632_S5632x2048_1_0) bitsLt_bf16_f32) shapeCasts_S5632x2048_S8x704x2048 : FVec Ideal S8x704x2048 .bf16) := by
    unfold V hostOps0
    after_results_simp
    all_goals rfl
  rw [e]
  exact Has2.rows (X := truncf .bf16 (transpose S5632x2048 [1, 0] (m ((c : Thread nD τ).loc main_arg2)) transposes_S2048x5632_S5632x2048_1_0) bitsLt_bf16_f32) (hwu.turn _) _

include hx in
theorem blk_x (t : Fin cfg0.N) : Has2 (iblk m c 0 t : FVec Ideal S1056x2048 .bf16) fun r n => x (t.val / 8 * 1056 + r) n := by
  intro r n
  have ht : t.val < 32 := t.isLt
  have e := (idx t).1
  refine Eq.trans ?_ (V_x_is m c hx ⟨t.val / 8 * 1056 + r.val, by omega⟩ n)
  blk_ext [iblk, e]
include hwg in
theorem blk_wg (t : Fin cfg0.N) : Has3 (iblk m c 1 t : FVec Ideal S1x704x2048 .bf16) fun _ j n => wg n (t.val % 8 * 704 + j) := by
  intro s j n
  have e := (idx t).2.1
  obtain rfl : s = 0 := Subsingleton.elim _ _
  refine Eq.trans ?_ (V_wg_is m c hwg ⟨t.val % 8, by omega⟩ j n)
  blk_ext [iblk, e]
include hwu in
theorem blk_wu (t : Fin cfg0.N) : Has3 (iblk m c 2 t : FVec Ideal S1x704x2048 .bf16) fun _ j n => wu n (t.val % 8 * 704 + j) := by
  intro s j n
  have e := (idx t).2.2.1
  obtain rfl : s = 0 := Subsingleton.elim _ _
  refine Eq.trans ?_ (V_wu_is m c hwu ⟨t.val % 8, by omega⟩ j n)
  blk_ext [iblk, e]

/-! ## The arrays -/

include hx hwg in
theorem arr_gate : Has3 ((dats m 0 c).arrAt 3 cfg0.N : FVec Ideal S8x4224x704 .bf16) fun d r j => Lin x wg r (d * 704 + j) := by
  have H : (dats m 0 c).arrAt 3 cfg0.N = (fun i => Lin x wg (i 1).val ((i 0).val * 704 + (i 2).val) : FVec Ideal S8x4224x704 .bf16) := by
    refine (dats m 0 c).arrAt_eq_of_covers 3 _ (by decide +kernel) fun t hf y => ?_
    have h := gate_out (blk_x m c hx t) (blk_wg m c hwg t)
    have e := (idx t).2.2.2.1
    blk_simp [e]
    rw [after0_3, out_3]
    exact h.read y
  rw [H]
  exact fun _ _ _ => rfl
include hx hwu in
theorem arr_up : Has3 ((dats m 0 c).arrAt 4 cfg0.N : FVec Ideal S8x4224x704 .bf16) fun d r j => Lin x wu r (d * 704 + j) := by
  have H : (dats m 0 c).arrAt 4 cfg0.N = (fun i => Lin x wu (i 1).val ((i 0).val * 704 + (i 2).val) : FVec Ideal S8x4224x704 .bf16) := by
    refine (dats m 0 c).arrAt_eq_of_covers 4 _ (by decide +kernel) fun t hf y => ?_
    have h := up_out (blk_x m c hx t) (blk_wu m c hwu t)
    have e := (idx t).2.2.2.2.1
    blk_simp [e]
    rw [after0_4, out_4]
    exact h.read y
  rw [H]
  exact fun _ _ _ => rfl
include hx hwg hwu in
theorem arr_act : Has3 ((dats m 0 c).arrAt 5 cfg0.N : FVec Ideal S8x4224x704 .bf16) fun d r j => Act (Lin x wg r (d * 704 + j)) (Lin x wu r (d * 704 + j)) := by
  have H : (dats m 0 c).arrAt 5 cfg0.N = (fun i => Act (Lin x wg (i 1).val ((i 0).val * 704 + (i 2).val)) (Lin x wu (i 1).val ((i 0).val * 704 + (i 2).val)) : FVec Ideal S8x4224x704 .bf16) := by
    refine (dats m 0 c).arrAt_eq_of_covers 5 _ (by decide +kernel) fun t hf y => ?_
    have h := act_out (blk_x m c hx t) (blk_wg m c hwg t) (blk_wu m c hwu t)
    have e := (idx t).2.2.2.2.2
    blk_simp [e]
    rw [after0_5, out_5]
    exact h.read y
  rw [H]
  exact fun _ _ _ => rfl

end Kernel

section Reference

open Cert.Reference6Ideal Cert.Reference6Ideal.Gen

variable {X : FVec Ideal S4224x2048 .f32} {WG WU : FVec Ideal S2048x5632 .f32} {x wg wu : ℕ → ℕ → EReal} (hx : Has2 X x) (hwg : Has2 WG wg) (hwu : Has2 WU wu)

include hx hwg in
theorem ref_lin : Has2 (Host.dotGeneral dot_S4224x2048_S2048x5632_S4224x5632_1_0_0_1_n_n none X WG : FVec Ideal S4224x5632 .f32) (Lin x wg) := by
  intro r j
  pointwise
  simp only [hx _ _, hwg _ _, Finset.sum_range, Lin]

/-- The gate's activation times the other projection. -/
theorem ref_act {G U : FVec Ideal S4224x5632 .f32} {g u : ℕ → ℕ → EReal} (hg : Has2 G g) (hu : Has2 U u) :
    Has2 (mulf (mulf G (Host.divf (broadcastInDim S4224x5632 ![] bcast_S_S4224x5632 (constant S_ .f32 0x3F800000#32)) (addf (broadcastInDim S4224x5632 ![] bcast_S_S4224x5632 (constant S_ .f32 0x3F800000#32)) (Host.exp (Host.negf G))))) U : FVec Ideal S4224x5632 .f32)
      fun r j => Act (g r j) (u r j) := by
  intro r j
  pointwise
  rw [hg r j, hu r j]

end Reference

theorem algebraic : Cert.algebraic_Kernel6Ideal_Reference6Ideal (hKernel6Ideal := Cert.Kernel6Ideal.Gen.facts) (hReference6Ideal := Cert.Reference6Ideal.Gen.facts) := by
  intro m g m' g' _ hA
  refine ⟨fun c => (Cert.Kernel6Ideal.Gen.dats m 0 c).arrAt 3 Cert.Kernel6Ideal.cfg0.N, fun c => (Cert.Kernel6Ideal.Gen.dats m 0 c).arrAt 4 Cert.Kernel6Ideal.cfg0.N,
    fun c => (Cert.Kernel6Ideal.Gen.dats m 0 c).arrAt 5 Cert.Kernel6Ideal.cfg0.N, Cert.Kernel6Ideal.Value.run_blocks m g, ?_⟩
  refine (θ_run Cert.Reference6Ideal.defs _ _).mono (fun r h c => ?_) (Cert.Reference6Ideal.Value.run (F := Ideal) m' g')
  obtain ⟨a0, a1, a2⟩ := hA c
  obtain ⟨x, hx⟩ := exists_has2 (m ((c.tc : Thread Cert.Kernel6Ideal.nD Cert.Kernel6Ideal.τ).loc Cert.Kernel6Ideal.main_arg0) : FVec Ideal Cert.Kernel6Ideal.S4224x2048 .f32)
  obtain ⟨wg, hwg⟩ := exists_has2 (m ((c.tc : Thread Cert.Kernel6Ideal.nD Cert.Kernel6Ideal.τ).loc Cert.Kernel6Ideal.main_arg1) : FVec Ideal Cert.Kernel6Ideal.S2048x5632 .f32)
  obtain ⟨wu, hwu⟩ := exists_has2 (m ((c.tc : Thread Cert.Kernel6Ideal.nD Cert.Kernel6Ideal.τ).loc Cert.Kernel6Ideal.main_arg2) : FVec Ideal Cert.Kernel6Ideal.S2048x5632 .f32)
  have KG := arr_gate m c hx hwg
  have KU := arr_up m c hx hwu
  have KA := arr_act m c hx hwg hwu
  rw [← a0] at hx
  rw [← a1] at hwg
  rw [← a2] at hwu
  obtain ⟨r0, r1, r2, rA⟩ := h c
  have G := ref_lin hx hwg
  have U := ref_lin hx hwu
  exact ⟨r0.trans ((Has2.cols G _ _).ext KG), r1.trans ((Has2.cols U _ _).ext KU), r2.trans ((Has2.cols (ref_act G U) _ _).ext KA), rA⟩

end Ffn.Up

end
-- ==== Proof.Ffn.Down.lean ====
/-
  The feed-forward layer's last projection, added to its residual: a block of the product is summed over four points, two
  blocks of 704 hidden columns each, in a carried array.
-/
module

public import proofs.«01_k».proof.Defs
public import proofs.«01_k».proof.Proof.Ffn.Common
public import proofs.«01_k».proof.Proof.Gen.Kernel7Ideal.Frame
public import proofs.«01_k».proof.Proof.Gen.Kernel7Ideal.Value
public import proofs.«01_k».proof.Proof.Gen.Reference7Ideal.Run
public import Idealize.ShloMosaic.Lib.Pipeline.Value
public import Idealize.ShloMosaic.Lib.Pipeline.ValueKit
public import Idealize.ShloMosaic.Lib.StableHlo.RunRead

@[expose] public section

set_option maxRecDepth 16384
set_option maxHeartbeats 4000000

noncomputable section

namespace Ffn.Down

open Idealize.ShloMosaic Idealize.ShloMosaic.TcCoe Idealize.ShloMosaic.Pipeline Idealize.ShloMosaic.Tactic Idealize.ShloMosaic.Pointwise
open Idealize.SL.Sem
open Finset (range)

section Kernel

open Cert.Kernel7Ideal Cert.Kernel7Ideal.Gen

/-! ## What a point leaves -/

/-- The two halves of a block's rows or columns. -/
abbrev lo (x : Vec Ideal S2x1056x704 .bf16) : Vec Ideal S1x1056x704 .bf16 := View.ld x (Rect.unit (s := S2x1056x704) ![0, 0, 0] S1x1056x704.size inb_S2x1056x704_S1x1056x704_0_0_0)
abbrev hi (x : Vec Ideal S2x1056x704 .bf16) : Vec Ideal S1x1056x704 .bf16 := View.ld x (Rect.unit (s := S2x1056x704) ![1, 0, 0] S1x1056x704.size inb_S2x1056x704_S1x1056x704_1_0_0)
abbrev wlo (x : Vec Ideal S2x704x1024 .bf16) : Vec Ideal S1x704x1024 .bf16 := View.ld x (Rect.unit (s := S2x704x1024) ![0, 0, 0] S1x704x1024.size inb_S2x704x1024_S1x704x1024_0_0_0)
abbrev whi (x : Vec Ideal S2x704x1024 .bf16) : Vec Ideal S1x704x1024 .bf16 := View.ld x (Rect.unit (s := S2x704x1024) ![1, 0, 0] S1x704x1024.size inb_S2x704x1024_S1x704x1024_1_0_0)

section Point

variable (c : Dev nD) (i : grid0.Coords) (a3 : Memref sig .tc .vmem S2x1056x704 .bf16) (h3 : a3.IsWhole) (a4 : Memref sig .tc .vmem S2x704x1024 .bf16) (h4 : a4.IsWhole) (a5 : Memref sig .tc .vmem S1056x1024 .f32) (h5 : a5.IsWhole) (a6 : Memref sig .tc .vmem S1056x1024 .f32) (h6 : a6.IsWhole) (a7 : Memref sig .tc .vmem S1056x1024 .f32) (h7 : a7.IsWhole)
  (x0 : Vec Ideal S2x1056x704 .bf16) (x1 : Vec Ideal S2x704x1024 .bf16) (x2 xs : Vec Ideal S1056x1024 .f32)

theorem sout_A (hc0 : cond0_0 i) (hc1 : ¬cond0_1 i) (hc2 : ¬cond0_2 i) :
    sout0_A_0 c i a3 h3 a4 h4 a5 h5 a6 h6 a7 h7 hc0 hc1 hc2 x0 x1 x2 = k0_pay2 (lo x0) (wlo x1) (hi x0) (whi x1) := by
  unfold sout0_A_0
  rw [View.read_writes_eq_canon _ _ _ (scover0_A_0 c i a3 h3 a4 h4 a5 h5 a6 h6 a7 h7 hc0 hc1 hc2 x0 x1 x2)]
  unfold kernelRun0_A
  dsimp only
  rw [View.canon_unit_zero off2]
  simp only [View.readAt_eq_ld, h3.read_unread, h4.read_unread]

theorem sout_B (hc0 : ¬cond0_0 i) (hc1 : cond0_1 i) (hc2 : ¬cond0_2 i) :
    sout0_B_0 c i a3 h3 a4 h4 a5 h5 a6 h6 a7 h7 hc0 hc1 hc2 x0 x1 x2 xs = k0_pay3 (lo x0) (wlo x1) (hi x0) (whi x1) xs := by
  unfold sout0_B_0
  rw [View.read_writes_eq_canon _ _ _ (scover0_B_0 c i a3 h3 a4 h4 a5 h5 a6 h6 a7 h7 hc0 hc1 hc2 x0 x1 x2 xs)]
  unfold kernelRun0_B
  dsimp only
  rw [View.canon_unit_zero off2]
  simp only [View.readAt_eq_ld, h3.read_unread, h4.read_unread, h7.read_unread, View.ld_unit_zero (S := S1056x1024) off2]

theorem out_C (hc0 : ¬cond0_0 i) (hc1 : cond0_1 i) (hc2 : cond0_2 i) :
    out0_C_3 c i a3 h3 a4 h4 a5 h5 a6 h6 a7 h7 hc0 hc1 hc2 x0 x1 x2 xs = k0_pay4 (k0_pay3 (lo x0) (wlo x1) (hi x0) (whi x1) xs) x2 := by
  unfold out0_C_3
  rw [View.read_writes_eq_canon _ _ _ (cover0_C_3 c i a3 h3 a4 h4 a5 h5 a6 h6 a7 h7 hc0 hc1 hc2 x0 x1 x2 xs)]
  unfold kernelRun0_C
  dsimp only
  sl_unfold_words
  rw [View.canon_unit_zero off2, View.readCov_unit_zero (S := S1056x1024) _ off2]
  simp only [View.readAt_eq_ld, h3.read_unread, h4.read_unread, h5.read_unread, h7.read_unread, View.ld_unit_zero (S := S1056x1024) off2]

end Point

/-! ## The arithmetic of a block -/

section Block

variable {k p q : ℕ} {a w : ℕ → ℕ → EReal} {x0 : Vec Ideal S2x1056x704 .bf16} {x1 : Vec Ideal S2x704x1024 .bf16}
  (h0 : Has3 x0 fun s r j => a (p * 1056 + r) ((k * 2 + s) * 704 + j)) (h1 : Has3 x1 fun s j n => w ((k * 2 + s) * 704 + j) (q * 1024 + n))

include h0 h1

theorem prod_is : Has2 (k0_pay1 (lo x0) (wlo x1) (hi x0) (whi x1)) fun r n => ∑ j ∈ range 1408, a (p * 1056 + r) (k * 1408 + j) * w (k * 1408 + j) (q * 1024 + n) := by
  have l0 := h0.part 0 inb_S2x1056x704_S1x1056x704_0_0_0
  have l1 := h1.part 0 inb_S2x704x1024_S1x704x1024_0_0_0
  have u0 := h0.part 1 inb_S2x1056x704_S1x1056x704_1_0_0
  have u1 := h1.part 1 inb_S2x704x1024_S1x704x1024_1_0_0
  change Has3 (lo x0) _ at l0
  change Has3 (wlo x1) _ at l1
  change Has3 (hi x0) _ at u0
  change Has3 (whi x1) _ at u1
  generalize lo x0 = v0 at l0
  generalize wlo x1 = v1 at l1
  generalize hi x0 = v2 at u0
  generalize whi x1 = v3 at u1
  intro r n
  pointwise [k0_pay1]
  simp only [l0 _ _ _, l1 _ _ _, u0 _ _ _, u1 _ _ _]
  rw [← sum_pair 704 k fun j => a (p * 1056 + r.val) j * w j (q * 1024 + n.val), Finset.sum_range, Finset.sum_range]

end Block

/-! ## The blocks a point reads -/

theorem idx : ∀ t : Fin cfg0.N, win0_0.index t = ![t.val % 4, t.val / 8, 0] ∧ win0_1.index t = ![t.val % 4, 0, t.val / 4 % 2] ∧ win0_2.index t = ![t.val / 8, t.val / 4 % 2] ∧ win0_3.index t = ![t.val / 8, t.val / 4 % 2] :=
  (by decide +kernel : ∀ t : Fin grid0.N, _)

variable (m : (ℓ : Loc nD τ sig) → Buf (Elt Ideal) ℓ) (c : Dev nD) {h a w : ℕ → ℕ → EReal}
  (hh : Has2 (m ((c : Thread nD τ).loc main_arg0) : FVec Ideal S4224x2048 .f32) h)
  (ha : Has2 (m ((c : Thread nD τ).loc main_arg1) : FVec Ideal S4224x5632 .f32) a)
  (hw : Has2 (m ((c : Thread nD τ).loc main_arg2) : FVec Ideal S5632x2048 .f32) w)

theorem V_h : V m c main_arg0 = m ((c : Thread nD τ).loc main_arg0) := by
  unfold V hostOps0
  after_results_simp
  all_goals rfl
theorem V_a : V m c main_v2 = (transpose S8x4224x704 [1, 0, 2] (shapeCast S4224x8x704 (truncf .bf16 (m ((c : Thread nD τ).loc main_arg1)) bitsLt_bf16_f32) shapeCasts_S4224x5632_S4224x8x704) transposes_S4224x8x704_S8x4224x704_1_0_2 : FVec Ideal S8x4224x704 .bf16) := by
  unfold V hostOps0
  after_results_simp
  all_goals rfl
theorem V_w : V m c main_v4 = (shapeCast S8x704x2048 (truncf .bf16 (m ((c : Thread nD τ).loc main_arg2)) bitsLt_bf16_f32) shapeCasts_S5632x2048_S8x704x2048 : FVec Ideal S8x704x2048 .bf16) := by
  unfold V hostOps0
  after_results_simp
  all_goals rfl

include ha in
theorem V_a_is : Has3 (V m c main_v2 : FVec Ideal S8x4224x704 .bf16) fun d r j => a r (d * 704 + j) := by
  rw [V_a]
  exact Has2.cols (X := truncf .bf16 (m ((c : Thread nD τ).loc main_arg1)) bitsLt_bf16_f32) ha _ _
include hw in
theorem V_w_is : Has3 (V m c main_v4 : FVec Ideal S8x704x2048 .bf16) fun d j n => w (d * 704 + j) n := by
  rw [V_w]
  exact Has2.rows (X := truncf .bf16 (m ((c : Thread nD τ).loc main_arg2)) bitsLt_bf16_f32) hw _

include ha in
theorem blk_a (t : Fin cfg0.N) : Has3 (iblk m c 0 t : FVec Ideal S2x1056x704 .bf16) fun s r j => a (t.val / 8 * 1056 + r) ((t.val % 4 * 2 + s) * 704 + j) := by
  intro s r j
  have ht : t.val < 32 := t.isLt
  have e := (idx t).1
  refine Eq.trans ?_ (V_a_is m c ha ⟨t.val % 4 * 2 + s.val, by omega⟩ ⟨t.val / 8 * 1056 + r.val, by omega⟩ j)
  blk_ext [iblk, e]
include hw in
theorem blk_w (t : Fin cfg0.N) : Has3 (iblk m c 1 t : FVec Ideal S2x704x1024 .bf16) fun s j n => w ((t.val % 4 * 2 + s) * 704 + j) (t.val / 4 % 2 * 1024 + n) := by
  intro s j n
  have e := (idx t).2.1
  refine Eq.trans ?_ (V_w_is m c hw ⟨t.val % 4 * 2 + s.val, by omega⟩ j ⟨t.val / 4 % 2 * 1024 + n.val, by omega⟩)
  blk_ext [iblk, e]
include hh in
theorem blk_h (t : Fin cfg0.N) : Has2 (iblk m c 2 t : FVec Ideal S1056x1024 .f32) fun r n => h (t.val / 8 * 1056 + r) (t.val / 4 % 2 * 1024 + n) := by
  intro r n
  have ht : t.val < 32 := t.isLt
  have e := (idx t).2.2.1
  refine Eq.trans ?_ (((congrArg (fun X : FVec Ideal S4224x2048 .f32 => X _) (V_h m c)).trans (hh ⟨t.val / 8 * 1056 + r.val, by omega⟩ ⟨t.val / 4 % 2 * 1024 + n.val, by omega⟩)))
  blk_ext [iblk, e]

/-! ## What the points leave, and the array -/

/-- What the carried array holds after a point: the products of the hidden columns up to it. -/
abbrev Acc (a w : ℕ → ℕ → EReal) (t : ℕ) (r n : ℕ) : EReal :=
  ∑ j ∈ range ((t % 4 + 1) * 1408), a (t / 8 * 1056 + r) j * w j (t / 4 % 2 * 1024 + n)

include ha hw in
/-- One point's step of the carried array. -/
theorem step_is (t : Fin cfg0.N) (hp : ¬t.val % 4 = 0) {xs : Vec Ideal S1056x1024 .f32} (hs : Has2 xs (Acc a w (t.val - 1))) :
    Has2 (k0_pay3 (lo (iblk m c 0 t)) (wlo (iblk m c 1 t)) (hi (iblk m c 0 t)) (whi (iblk m c 1 t)) xs) (Acc a w t.val) := by
  have P := prod_is (blk_a m c ha t) (blk_w m c hw t)
  have e1 : (t.val - 1) % 4 + 1 = t.val % 4 := by omega
  have e2 : (t.val - 1) / 8 = t.val / 8 := by omega
  have e3 : (t.val - 1) / 4 % 2 = t.val / 4 % 2 := by omega
  intro r n
  pointwise [k0_pay3]
  rw [P r n, hs r n, Acc, Acc, e1, e2, e3, sum_next 1408 (t.val % 4) fun j => a (t.val / 8 * 1056 + r.val) j * w j (t.val / 4 % 2 * 1024 + n.val)]

include ha hw in
theorem acc_is : ∀ (n : ℕ) (hn : n < cfg0.N), ¬n % 4 = 3 → Has2 ((outsAt0 m c n hn).2 : FVec Ideal S1056x1024 .f32) (Acc a w n) := by
  intro n
  induction n using Nat.strong_induction_on with
  | _ n ih =>
    intro hn h3
    by_cases h0 : n % 4 = 0
    · have P := prod_is (blk_a m c ha ⟨n, hn⟩) (blk_w m c hw ⟨n, hn⟩)
      rw [outsAt0_A m c ⟨n, hn⟩ h0 (by dsimp only; omega) h3]
      dsimp only
      rw [sout_A]
      intro r k
      pointwise [k0_pay2]
      rw [P r k, Acc]
      simp [h0]
    · have S := step_is m c ha hw ⟨n, hn⟩ h0 (ih (n - 1) (by omega) (by omega) (by omega))
      rw [outsAt0_B m c ⟨n, hn⟩ h0 (by dsimp only; omega) h3]
      dsimp only
      rw [sout_B]
      exact S

include hh ha hw in
theorem out_is (t : Fin cfg0.N) (h3 : t.val % 4 = 3) :
    Has2 ((outsAt0 m c t.val t.isLt).1 : FVec Ideal S1056x1024 .f32) fun r n => h (t.val / 8 * 1056 + r) (t.val / 4 % 2 * 1024 + n)
      + ((1 / 2 : ℝ) : EReal) * ∑ j ∈ range 5632, a (t.val / 8 * 1056 + r) j * w j (t.val / 4 % 2 * 1024 + n) := by
  have A := acc_is m c ha hw (t.val - 1) (lt_of_le_of_lt (Nat.sub_le _ _) t.isLt) (by omega)
  have S := step_is m c ha hw t (by omega) A
  have H := blk_h m c hh t
  rw [outsAt0_C m c t (by omega) (by omega) h3]
  dsimp only
  rw [out_C]
  generalize (outsAt0 m c (t.val - 1) _).2 = xs at S
  generalize k0_pay3 _ _ _ _ xs = y at S
  generalize iblk m c 2 t = x2 at H
  intro r n
  pointwise [k0_pay4]
  rw [S r n, H r n, lit_half, Acc, h3]
  exact congrArg (h (t.val / 8 * 1056 + r.val) (t.val / 4 % 2 * 1024 + n.val) + ·) (mul_comm _ _)

include hh ha hw in
theorem arr_is : Has2 ((dats m 0 c).arrAt 3 cfg0.N : FVec Ideal S4224x2048 .f32) fun r n => h r n + ((1 / 2 : ℝ) : EReal) * ∑ j ∈ range 5632, a r j * w j n := by
  have H : (dats m 0 c).arrAt 3 cfg0.N = (fun i => h (i 0).val (i 1).val + ((1 / 2 : ℝ) : EReal) * ∑ j ∈ range 5632, a (i 0).val j * w j (i 1).val : FVec Ideal S4224x2048 .f32) := by
    refine (dats m 0 c).arrAt_eq_of_covers 3 _ (by decide +kernel) fun t hf y => ?_
    have h := out_is m c hh ha hw t ((flush0_3 t).mp hf)
    have e := (idx t).2.2.2
    blk_simp [e]
    rw [after0_3]
    exact h.read y
  rw [H]
  exact fun _ _ => rfl

end Kernel

section Reference

open Cert.Reference7Ideal Cert.Reference7Ideal.Gen

theorem ref_is {H : FVec Ideal S4224x2048 .f32} {A : FVec Ideal S4224x5632 .f32} {W : FVec Ideal S5632x2048 .f32} {h a w : ℕ → ℕ → EReal} (hh : Has2 H h) (ha : Has2 A a) (hw : Has2 W w) :
    Has2 (addf H (mulf (broadcastInDim S4224x2048 ![] bcast_S_S4224x2048 (constant S_ .f32 0x3F000000#32)) (Host.dotGeneral dot_S4224x5632_S5632x2048_S4224x2048_1_0_0_1_n_n none A W)) : FVec Ideal S4224x2048 .f32)
      fun r n => h r n + ((1 / 2 : ℝ) : EReal) * ∑ j ∈ range 5632, a r j * w j n := by
  intro r n
  pointwise
  simp only [hh _ _, ha _ _, hw _ _, lit_half, Finset.sum_range]

end Reference

theorem algebraic : Cert.algebraic_Kernel7Ideal_Reference7Ideal (hKernel7Ideal := Cert.Kernel7Ideal.Gen.facts) (hReference7Ideal := Cert.Reference7Ideal.Gen.facts) := by
  intro m g m' g' _ hA
  refine ⟨fun c => (Cert.Kernel7Ideal.Gen.dats m 0 c).arrAt 3 Cert.Kernel7Ideal.cfg0.N, Cert.Kernel7Ideal.Value.run_blocks m g, ?_⟩
  refine (θ_run Cert.Reference7Ideal.defs _ _).mono (fun r h c => ?_) (Cert.Reference7Ideal.Value.run (F := Ideal) m' g')
  obtain ⟨a0, a1, a2⟩ := hA c
  obtain ⟨_, hh⟩ := exists_has2 (m ((c.tc : Thread Cert.Kernel7Ideal.nD Cert.Kernel7Ideal.τ).loc Cert.Kernel7Ideal.main_arg0) : FVec Ideal Cert.Kernel7Ideal.S4224x2048 .f32)
  obtain ⟨_, ha⟩ := exists_has2 (m ((c.tc : Thread Cert.Kernel7Ideal.nD Cert.Kernel7Ideal.τ).loc Cert.Kernel7Ideal.main_arg1) : FVec Ideal Cert.Kernel7Ideal.S4224x5632 .f32)
  obtain ⟨_, hw⟩ := exists_has2 (m ((c.tc : Thread Cert.Kernel7Ideal.nD Cert.Kernel7Ideal.τ).loc Cert.Kernel7Ideal.main_arg2) : FVec Ideal Cert.Kernel7Ideal.S5632x2048 .f32)
  have K := arr_is m c hh ha hw
  rw [← a0] at hh
  rw [← a1] at ha
  rw [← a2] at hw
  obtain ⟨r0, rA⟩ := h c
  exact ⟨r0.trans ((ref_is hh ha hw).ext K), rA⟩

end Ffn.Down

end
-- ==== Proof.Mix.Common.lean ====
/-
  The mixer's projections: arrays padded with zeros, read by functions of naturals, and sums over padded entries.
-/
module

public import proofs.«01_k».proof.Proof.Ffn.Common

@[expose] public section

set_option maxRecDepth 16384

noncomputable section

namespace Mix

open Idealize.ShloMosaic Idealize.ShloMosaic.Pointwise Ffn
open Finset (range)

/-- Zero from row `n` on; zero from column `n` on. -/
def rowsTo (n : ℕ) (f : ℕ → ℕ → EReal) (a b : ℕ) : EReal := if a < n then f a b else 0
def colsTo (n : ℕ) (f : ℕ → ℕ → EReal) (a b : ℕ) : EReal := if b < n then f a b else 0

theorem zero_word : (FloatOps.sitofp .bf16 (0#32 : BitVec 32) : Ideal .bf16) = (0 : EReal) := by
  show (((0#32 : BitVec 32).toInt : ℝ) : EReal) = 0
  simp

/-- 120 rows of zeros below a matrix, and 120 columns of zeros beside one. -/
theorem padRows {X : FVec Ideal ⟨2, ![6152, 2048]⟩ .bf16} {f : ℕ → ℕ → EReal} (h : Has2 X f)
    (hp : (⟨2, ![6152, 2048]⟩ : Shape).Pads ![0, 0] ![120, 0] ![0, 0] ⟨2, ![6272, 2048]⟩) (h1 : 0 < (⟨0, ![]⟩ : Shape).numel) :
    Has2 (pad ⟨2, ![6272, 2048]⟩ ![0, 0] ![120, 0] ![0, 0] X (sitofp .bf16 (constantI ⟨0, ![]⟩ 32 0#32) : FVec Ideal ⟨0, ![]⟩ .bf16) hp h1 : FVec Ideal ⟨2, ![6272, 2048]⟩ .bf16) (rowsTo 6152 f) := by
  intro a b
  pointwise
  rw [zero_word, rowsTo]
  split
  · exact h _ _
  · rfl
theorem padCols {X : FVec Ideal ⟨2, ![4224, 6152]⟩ .bf16} {f : ℕ → ℕ → EReal} (h : Has2 X f)
    (hp : (⟨2, ![4224, 6152]⟩ : Shape).Pads ![0, 0] ![0, 120] ![0, 0] ⟨2, ![4224, 6272]⟩) (h1 : 0 < (⟨0, ![]⟩ : Shape).numel) :
    Has2 (pad ⟨2, ![4224, 6272]⟩ ![0, 0] ![0, 120] ![0, 0] X (sitofp .bf16 (constantI ⟨0, ![]⟩ 32 0#32) : FVec Ideal ⟨0, ![]⟩ .bf16) hp h1 : FVec Ideal ⟨2, ![4224, 6272]⟩ .bf16) (colsTo 6152 f) := by
  intro a b
  pointwise
  rw [zero_word, colsTo]
  split
  · exact h _ _
  · rfl

/-- A matrix turned. -/
theorem turn {X : FVec Ideal ⟨2, ![2048, 6152]⟩ .f32} {f : ℕ → ℕ → EReal} (h : Has2 X f) (ht : (⟨2, ![2048, 6152]⟩ : Shape).Transposes [1, 0] ⟨2, ![6152, 2048]⟩) :
    Has2 (transpose ⟨2, ![6152, 2048]⟩ [1, 0] X ht : FVec Ideal ⟨2, ![6152, 2048]⟩ .f32) fun b a => f a b := by
  intro b a
  pointwise
  rw [h]

/-- The padding adds nothing to a product. -/
theorem sum_padded (n k : ℕ) (f g : ℕ → ℕ → EReal) (r j : ℕ) :
    ∑ i ∈ range (n + k), colsTo n f r i * rowsTo n g i j = ∑ i ∈ range n, f r i * g i j := by
  rw [Finset.sum_range_add, Finset.sum_congr rfl fun i hi => by rw [colsTo, rowsTo, if_pos (Finset.mem_range.1 hi), if_pos (Finset.mem_range.1 hi)],
    Finset.sum_eq_zero (s := range k) fun i _ => by rw [colsTo, if_neg (by omega), zero_mul], add_zero]

/-- Padding columns of a product's first factor, read turned, are rows of zeros of the product. -/
theorem rows_padded (n m : ℕ) (f g : ℕ → ℕ → EReal) (j l : ℕ) :
    ∑ r ∈ range m, colsTo n f r j * g r l = rowsTo n (fun j l => ∑ r ∈ range m, f r j * g r l) j l := by
  by_cases h : j < n
  · simp [colsTo, rowsTo, h]
  · simp [colsTo, rowsTo, h]

end Mix

end
-- ==== Proof.Mix.Dwin.lean ====
/-
  The gradient of the input projection, with zero rows after its own: the two halves of the rows are taken one after another, and their products added in a carried array.
-/
module

public import proofs.«01_k».proof.Defs
public import proofs.«01_k».proof.Proof.Mix.Common
public import proofs.«01_k».proof.Proof.Gen.Kernel8Ideal.Frame
public import proofs.«01_k».proof.Proof.Gen.Kernel8Ideal.Value
public import proofs.«01_k».proof.Proof.Gen.Reference8Ideal.Run
public import Idealize.ShloMosaic.Lib.Pipeline.Value
public import Idealize.ShloMosaic.Lib.Pipeline.ValueKit
public import Idealize.ShloMosaic.Lib.StableHlo.RunRead

@[expose] public section

set_option maxRecDepth 16384
set_option maxHeartbeats 4000000

noncomputable section

namespace Mix.Dwin

open Idealize.ShloMosaic Idealize.ShloMosaic.TcCoe Idealize.ShloMosaic.Pipeline Idealize.ShloMosaic.Tactic Idealize.ShloMosaic.Pointwise
open Idealize.SL.Sem Ffn
open Finset (range)

/-- An entry of the result. -/
abbrev Out (d x : ℕ → ℕ → EReal) : ℕ → ℕ → EReal := rowsTo 6152 fun j n => ∑ r ∈ range 4224, d r j * x r n

section Kernel

open Cert.Kernel8Ideal Cert.Kernel8Ideal.Gen

/-! ## What a point leaves -/

/-- At a first half: the product of its rows. -/
theorem sout_A (c : Dev nD) (i : grid0.Coords) (a3 : Memref sig .tc .vmem S2112x896 .bf16) (h3 : a3.IsWhole) (a4 : Memref sig .tc .vmem S2112x1024 .bf16) (h4 : a4.IsWhole) (a5 : Memref sig .tc .vmem S896x1024 .bf16) (h5 : a5.IsWhole) (a6 : Memref sig .tc .vmem S896x1024 .f32) (h6 : a6.IsWhole) (hc0 : cond0_0 i) (hc1 : ¬cond0_1 i) (hc2 : ¬cond0_2 i)
    (x0 : Vec Ideal S2112x896 .bf16) (x1 : Vec Ideal S2112x1024 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero off2]
  simp only [View.readAt_eq_ld, h3.read_unread, h4.read_unread, View.ld_unit_zero (S := S2112x896) off2, View.ld_unit_zero (S := S2112x1024) off2]

/-- At a second half: what the first left, with the second's product added, rounded. -/
theorem out_B (c : Dev nD) (i : grid0.Coords) (a3 : Memref sig .tc .vmem S2112x896 .bf16) (h3 : a3.IsWhole) (a4 : Memref sig .tc .vmem S2112x1024 .bf16) (h4 : a4.IsWhole) (a5 : Memref sig .tc .vmem S896x1024 .bf16) (h5 : a5.IsWhole) (a6 : Memref sig .tc .vmem S896x1024 .f32) (h6 : a6.IsWhole) (hc0 : ¬cond0_0 i) (hc1 : cond0_1 i) (hc2 : cond0_2 i)
    (x0 : Vec Ideal S2112x896 .bf16) (x1 : Vec Ideal S2112x1024 .bf16) (xs : Vec Ideal S896x1024 .f32) :
    out0_B_2 c i a3 h3 a4 h4 a5 h5 a6 h6 hc0 hc1 hc2 x0 x1 xs = k0_pay4 (k0_pay3 x0 x1 xs) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero off2, View.readCov_unit_zero (S := S896x1024) _ off2]
  simp only [View.readAt_eq_ld, h3.read_unread, h4.read_unread, h6.read_unread, View.ld_unit_zero (S := S2112x896) off2, View.ld_unit_zero (S := S2112x1024) off2, View.ld_unit_zero (S := S896x1024) off2]

/-! ## The arithmetic of a block -/

section Block

variable {p o o' : ℕ} {z x : ℕ → ℕ → EReal} {v0 : Vec Ideal S2112x896 .bf16} {v2 : Vec Ideal S2112x1024 .bf16}
  (h0 : Has2 v0 fun r j => z (p * 2112 + r) (o + j)) (h2 : Has2 v2 fun r n => x (p * 2112 + r) (o' + n))

include h0 h2 in
theorem prod_is : Has2 (k0_pay1 v0 v2) fun j n => ∑ r ∈ range 2112, z (p * 2112 + r) (o + j) * x (p * 2112 + r) (o' + n) := by
  intro j n
  pointwise [k0_pay1]
  simp only [h0 _ _, h2 _ _, Finset.sum_range]

end Block

/-! ## The blocks a point reads -/

theorem idx : ∀ t : Fin cfg0.N, win0_0.index t = ![t.val % 2, t.val / 4] ∧ win0_1.index t = ![t.val % 2, t.val / 2 % 2] ∧ win0_2.index t = ![t.val / 4, t.val / 2 % 2] :=
  (by decide +kernel : ∀ t : Fin grid0.N, _)

variable (m : (ℓ : Loc nD τ sig) → Buf (Elt Ideal) ℓ) (c : Dev nD) {d x : ℕ → ℕ → EReal}
  (hd : Has2 (m ((c : Thread nD τ).loc main_arg0) : FVec Ideal S4224x6152 .f32) d)
  (hx : Has2 (m ((c : Thread nD τ).loc main_arg1) : FVec Ideal S4224x2048 .f32) x)

include hd in
theorem V_d_is : Has2 (V m c main_v1 : FVec Ideal S4224x6272 .bf16) (colsTo 6152 d) := by
  have e : V m c main_v1 = (pad S4224x6272 ![0, 0] ![0, 120] ![0, 0] (truncf .bf16 (m ((c : Thread nD τ).loc main_arg0)) bitsLt_bf16_f32) (sitofp .bf16 (constantI S_ 32 0#32)) pads_S4224x6152_S4224x6272_000_01200 h_S_ : FVec Ideal S4224x6272 .bf16) := by
    simp only [V, List.flatten_cons, List.flatten_nil, List.append_nil, List.cons_append, List.nil_append, StableHlo.TRef.binary, StableHlo.TRef.unary, StableHlo.TRef.toBuf, StableHlo.TRef.ofBuf, cast_eq]
    after_results_simp
    all_goals rfl
  rw [e]
  exact padCols (X := truncf .bf16 (m ((c : Thread nD τ).loc main_arg0)) bitsLt_bf16_f32) hd _ _
include hx in
theorem V_x_is : Has2 (V m c main_v2 : FVec Ideal S4224x2048 .bf16) x := by
  have e : V m c main_v2 = (truncf .bf16 (m ((c : Thread nD τ).loc main_arg1)) bitsLt_bf16_f32 : FVec Ideal S4224x2048 .bf16) := by
    simp only [V, List.flatten_cons, List.flatten_nil, List.append_nil, List.cons_append, List.nil_append, StableHlo.TRef.binary, StableHlo.TRef.unary, StableHlo.TRef.toBuf, StableHlo.TRef.ofBuf, cast_eq]
    after_results_simp
    all_goals rfl
  rw [e]
  exact hx
include hd in
theorem blk_d (t : Fin cfg0.N) : Has2 (iblk m c 0 t : FVec Ideal S2112x896 .bf16) fun a b => colsTo 6152 d (t.val % 2 * 2112 + a) (t.val / 4 * 896 + b) := by
  intro a b
  have ht : t.val < 28 := t.isLt
  have e := (idx t).1
  refine Eq.trans ?_ (V_d_is m c hd ⟨t.val % 2 * 2112 + a.val, by omega⟩ ⟨t.val / 4 * 896 + b.val, by omega⟩)
  blk_ext [iblk, e]
include hx in
theorem blk_x (t : Fin cfg0.N) : Has2 (iblk m c 1 t : FVec Ideal S2112x1024 .bf16) fun a b => x (t.val % 2 * 2112 + a) (t.val / 2 % 2 * 1024 + b) := by
  intro a b
  have ht : t.val < 28 := t.isLt
  have e := (idx t).2.1
  refine Eq.trans ?_ (V_x_is m c hx ⟨t.val % 2 * 2112 + a.val, by omega⟩ ⟨t.val / 2 % 2 * 1024 + b.val, by omega⟩)
  blk_ext [iblk, e]
include hd hx in
theorem out_is (t : Fin cfg0.N) (h : t.val % 2 = 1) :
    Has2 ((outsAt0 m c t.val t.isLt).1 : FVec Ideal S896x1024 .bf16) fun j n => Out d x (t.val / 4 * 896 + j) (t.val / 2 % 2 * 1024 + n) := by
  have hl : t.val - 1 < cfg0.N := lt_of_le_of_lt (Nat.sub_le _ _) t.isLt
  have e0 : (t.val - 1) / 2 = t.val / 2 := by omega
  have e1 : (t.val - 1) % 2 = 0 := by omega
  have e2 : (t.val - 1) / 4 = t.val / 4 := by omega
  have P0 := prod_is (blk_d m c hd ⟨t.val - 1, hl⟩) (blk_x m c hx ⟨t.val - 1, hl⟩)
  have P1 := prod_is (blk_d m c hd t) (blk_x m c hx t)
  simp only [e0, e1, e2, h, Nat.zero_mul, Nat.zero_add, Nat.one_mul] at P0 P1
  rw [outsAt0_B m c t (by omega) h h]
  dsimp only
  rw [out_B, outsAt0_A m c ⟨t.val - 1, hl⟩ (by dsimp only; omega) (by dsimp only; omega) (by dsimp only; omega)]
  dsimp only
  rw [sout_A]
  generalize iblk m c 0 t = u0 at P1
  generalize iblk m c 1 t = u1 at P1
  generalize iblk m c 0 ⟨t.val - 1, hl⟩ = w0 at P0
  generalize iblk m c 1 ⟨t.val - 1, hl⟩ = w1 at P0
  intro j n
  pointwise [k0_pay4, k0_pay3, k0_pay2]
  rw [Out, ← rows_padded, P0 j n, P1 j n, show 4224 = 2112 + 2112 from rfl, Finset.sum_range_add]

/-! ## The array -/

include hd hx in
theorem arr_is : Has2 ((dats m 0 c).arrAt 2 cfg0.N : FVec Ideal S6272x2048 .bf16) (Out d x) := by
  have H : (dats m 0 c).arrAt 2 cfg0.N = (fun i => Out d x (i 0).val (i 1).val : FVec Ideal S6272x2048 .bf16) := by
    refine (dats m 0 c).arrAt_eq_of_covers 2 _ (by decide +kernel) fun t hl y => ?_
    have h := out_is m c hd hx t ((flush0_2 t).mp hl)
    have e := (idx t).2.2
    blk_simp [e]
    rw [after0_2]
    exact h.read y
  rw [H]
  exact fun _ _ => rfl

end Kernel

section Reference

open Cert.Reference8Ideal Cert.Reference8Ideal.Gen

theorem ref_is {D : FVec Ideal S4224x6152 .f32} {X : FVec Ideal S4224x2048 .f32} {d x : ℕ → ℕ → EReal} (hd : Has2 D d) (hx : Has2 X x) :
    Has2 (pad S6272x2048 ![0, 0] ![120, 0] ![0, 0] (truncf .bf16 (transpose S6152x2048 [1, 0] (transpose S2048x6152 [1, 0] (Host.dotGeneral dot_S4224x6152_S4224x2048_S6152x2048_0_0_1_1_n_n none D X) transposes_S6152x2048_S2048x6152_1_0) transposes_S2048x6152_S6152x2048_1_0) bitsLt_bf16_f32) (sitofp .bf16 (constantI S_ 32 0#32)) pads_S6152x2048_S6272x2048_01200_000 h_S_ : FVec Ideal S6272x2048 .bf16) (Out d x) := by
  refine padRows (f := fun j n => ∑ r ∈ range 4224, d r j * x r n) ?_ _ _
  intro j n
  pointwise
  simp only [hd _ _, hx _ _, Finset.sum_range]

end Reference

theorem algebraic : Cert.algebraic_Kernel8Ideal_Reference8Ideal (hKernel8Ideal := Cert.Kernel8Ideal.Gen.facts) (hReference8Ideal := Cert.Reference8Ideal.Gen.facts) := by
  intro m g m' g' _ hA
  refine ⟨fun c => (Cert.Kernel8Ideal.Gen.dats m 0 c).arrAt 2 Cert.Kernel8Ideal.cfg0.N, Cert.Kernel8Ideal.Value.run_blocks m g, ?_⟩
  refine (θ_run Cert.Reference8Ideal.defs _ _).mono (fun r h c => ?_) (Cert.Reference8Ideal.Value.run (F := Ideal) m' g')
  obtain ⟨a0, a1⟩ := hA c
  obtain ⟨d, hd⟩ := exists_has2 (m ((c.tc : Thread Cert.Kernel8Ideal.nD Cert.Kernel8Ideal.τ).loc Cert.Kernel8Ideal.main_arg0) : FVec Ideal Cert.Kernel8Ideal.S4224x6152 .f32)
  obtain ⟨x, hx⟩ := exists_has2 (m ((c.tc : Thread Cert.Kernel8Ideal.nD Cert.Kernel8Ideal.τ).loc Cert.Kernel8Ideal.main_arg1) : FVec Ideal Cert.Kernel8Ideal.S4224x2048 .f32)
  have K := arr_is m c hd hx
  rw [← a0] at hd
  rw [← a1] at hx
  obtain ⟨r0, rA⟩ := h c
  exact ⟨r0.trans ((ref_is hd hx).ext K), rA⟩

end Mix.Dwin

end
-- ==== Proof.Mix.Dxn.lean ====
/-
  The gradient of the normed input, from the gradient of the projected array; both padded with zeros along the sum.
-/
module

public import proofs.«01_k».proof.Defs
public import proofs.«01_k».proof.Proof.Mix.Common
public import proofs.«01_k».proof.Proof.Gen.Kernel9Ideal.Frame
public import proofs.«01_k».proof.Proof.Gen.Kernel9Ideal.Value
public import proofs.«01_k».proof.Proof.Gen.Reference9Ideal.Run
public import Idealize.ShloMosaic.Lib.Pipeline.Value
public import Idealize.ShloMosaic.Lib.Pipeline.ValueKit
public import Idealize.ShloMosaic.Lib.StableHlo.RunRead

@[expose] public section

set_option maxRecDepth 16384
set_option maxHeartbeats 4000000

noncomputable section

namespace Mix.Dxn

open Idealize.ShloMosaic Idealize.ShloMosaic.TcCoe Idealize.ShloMosaic.Pipeline Idealize.ShloMosaic.Tactic Idealize.ShloMosaic.Pointwise
open Idealize.SL.Sem Ffn
open Finset (range)

/-- An entry of the result. -/
abbrev Out (d w : ℕ → ℕ → EReal) (r n : ℕ) : EReal := ∑ j ∈ range 6152, d r j * w n j

section Kernel

open Cert.Kernel9Ideal Cert.Kernel9Ideal.Gen

/-! ## What a point leaves -/

theorem out_2 (x0 : Vec Ideal S528x6272 .bf16) (x1 : Vec Ideal S6272x512 .bf16) : out0_2 x0 x1 = k0_pay1 x0 x1 := by
  unfold out0_2
  rw [View.canon_unit_zero off2, View.ld_unit_zero (S := S528x6272) off2, View.ld_unit_zero (S := S6272x512) off2]

/-! ## The arithmetic of a block -/

section Block

variable {p q : ℕ} {d w : ℕ → ℕ → EReal} {v0 : Vec Ideal S528x6272 .bf16} {v2 : Vec Ideal S6272x512 .bf16}
  (h0 : Has2 v0 fun r j => colsTo 6152 d (p * 528 + r) j) (h2 : Has2 v2 fun j n => rowsTo 6152 (fun j n => w n j) j (q * 512 + n))

include h0 h2 in
theorem prod_is : Has2 (k0_pay1 v0 v2) fun r n => Out d w (p * 528 + r) (q * 512 + n) := by
  intro r n
  have e := sum_padded 6152 120 d (fun j n => w n j) (p * 528 + r.val) (q * 512 + n.val)
  pointwise [k0_pay1]
  simp only [h0 _ _, h2 _ _]
  rw [Out, ← e]
  exact (Finset.sum_range fun j => colsTo 6152 d (p * 528 + r.val) j * rowsTo 6152 (fun j n => w n j) j (q * 512 + n.val)).symm

end Block

/-! ## The blocks a point reads -/

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

variable (m : (ℓ : Loc nD τ sig) → Buf (Elt Ideal) ℓ) (c : Dev nD) {d w : ℕ → ℕ → EReal}
  (hd : Has2 (m ((c : Thread nD τ).loc main_arg0) : FVec Ideal S4224x6152 .f32) d)
  (hw : Has2 (m ((c : Thread nD τ).loc main_arg1) : FVec Ideal S2048x6152 .f32) w)

include hd in
theorem V_d_is : Has2 (V m c main_v1 : FVec Ideal S4224x6272 .bf16) (colsTo 6152 d) := by
  have e : V m c main_v1 = (pad S4224x6272 ![0, 0] ![0, 120] ![0, 0] (truncf .bf16 (m ((c : Thread nD τ).loc main_arg0)) bitsLt_bf16_f32) (sitofp .bf16 (constantI S_ 32 0#32)) pads_S4224x6152_S4224x6272_000_01200 h_S_ : FVec Ideal S4224x6272 .bf16) := by
    simp only [V, List.flatten_cons, List.flatten_nil, List.append_nil, List.cons_append, List.nil_append, StableHlo.TRef.binary, StableHlo.TRef.unary, StableHlo.TRef.toBuf, StableHlo.TRef.ofBuf, cast_eq]
    after_results_simp
    all_goals rfl
  rw [e]
  exact padCols (X := truncf .bf16 (m ((c : Thread nD τ).loc main_arg0)) bitsLt_bf16_f32) hd _ _
include hw in
theorem V_w_is : Has2 (V m c main_v4 : FVec Ideal S6272x2048 .bf16) (rowsTo 6152 fun j n => w n j) := by
  have e : V m c main_v4 = (pad S6272x2048 ![0, 0] ![120, 0] ![0, 0] (truncf .bf16 (transpose S6152x2048 [1, 0] (m ((c : Thread nD τ).loc main_arg1)) transposes_S2048x6152_S6152x2048_1_0) bitsLt_bf16_f32) (sitofp .bf16 (constantI S_ 32 0#32)) pads_S6152x2048_S6272x2048_01200_000 h_S_ : FVec Ideal S6272x2048 .bf16) := by
    simp only [V, List.flatten_cons, List.flatten_nil, List.append_nil, List.cons_append, List.nil_append, StableHlo.TRef.binary, StableHlo.TRef.unary, StableHlo.TRef.toBuf, StableHlo.TRef.ofBuf, cast_eq]
    after_results_simp
    all_goals rfl
  rw [e]
  exact padRows (X := truncf .bf16 (transpose S6152x2048 [1, 0] (m ((c : Thread nD τ).loc main_arg1)) transposes_S2048x6152_S6152x2048_1_0) bitsLt_bf16_f32) (turn hw _) _ _
include hd in
theorem blk_d (t : Fin cfg0.N) : Has2 (iblk m c 0 t : FVec Ideal S528x6272 .bf16) fun a b => colsTo 6152 d (t.val / 4 * 528 + a) b := by
  intro a b
  have ht : t.val < 32 := t.isLt
  have e := (idx t).1
  refine Eq.trans ?_ (V_d_is m c hd ⟨t.val / 4 * 528 + a.val, by omega⟩ b)
  blk_ext [iblk, e]
include hw in
theorem blk_w (t : Fin cfg0.N) : Has2 (iblk m c 1 t : FVec Ideal S6272x512 .bf16) fun a b => rowsTo 6152 (fun j n => w n j) a (t.val % 4 * 512 + b) := by
  intro a b
  have ht : t.val < 32 := t.isLt
  have e := (idx t).2.1
  refine Eq.trans ?_ (V_w_is m c hw a ⟨t.val % 4 * 512 + b.val, by omega⟩)
  blk_ext [iblk, e]

/-! ## The array -/

include hd hw in
theorem arr_is : Has2 ((dats m 0 c).arrAt 2 cfg0.N : FVec Ideal S4224x2048 .f32) (Out d w) := by
  have H : (dats m 0 c).arrAt 2 cfg0.N = (fun i => Out d w (i 0).val (i 1).val : FVec Ideal S4224x2048 .f32) := by
    refine (dats m 0 c).arrAt_eq_of_covers 2 _ (by decide +kernel) fun t hf y => ?_
    have h := prod_is (blk_d m c hd t) (blk_w m c hw t)
    have e := (idx t).2.2
    blk_simp [e]
    rw [after0_2, out_2]
    exact h.read y
  rw [H]
  exact fun _ _ => rfl

end Kernel

section Reference

open Cert.Reference9Ideal Cert.Reference9Ideal.Gen

theorem ref_is {D : FVec Ideal S4224x6152 .f32} {W : FVec Ideal S2048x6152 .f32} {d w : ℕ → ℕ → EReal} (hd : Has2 D d) (hw : Has2 W w) :
    Has2 (Host.dotGeneral dot_S4224x6152_S2048x6152_S4224x2048_1_1_0_0_n_n none D W : FVec Ideal S4224x2048 .f32) (Out d w) := by
  intro r n
  pointwise
  simp only [hd _ _, hw _ _, Finset.sum_range, Out]

end Reference

theorem algebraic : Cert.algebraic_Kernel9Ideal_Reference9Ideal (hKernel9Ideal := Cert.Kernel9Ideal.Gen.facts) (hReference9Ideal := Cert.Reference9Ideal.Gen.facts) := by
  intro m g m' g' _ hA
  refine ⟨fun c => (Cert.Kernel9Ideal.Gen.dats m 0 c).arrAt 2 Cert.Kernel9Ideal.cfg0.N, Cert.Kernel9Ideal.Value.run_blocks m g, ?_⟩
  refine (θ_run Cert.Reference9Ideal.defs _ _).mono (fun r h c => ?_) (Cert.Reference9Ideal.Value.run (F := Ideal) m' g')
  obtain ⟨a0, a1⟩ := hA c
  obtain ⟨d, hd⟩ := exists_has2 (m ((c.tc : Thread Cert.Kernel9Ideal.nD Cert.Kernel9Ideal.τ).loc Cert.Kernel9Ideal.main_arg0) : FVec Ideal Cert.Kernel9Ideal.S4224x6152 .f32)
  obtain ⟨w, hw⟩ := exists_has2 (m ((c.tc : Thread Cert.Kernel9Ideal.nD Cert.Kernel9Ideal.τ).loc Cert.Kernel9Ideal.main_arg1) : FVec Ideal Cert.Kernel9Ideal.S2048x6152 .f32)
  have K := arr_is m c hd hw
  rw [← a0] at hd
  rw [← a1] at hw
  obtain ⟨r0, rA⟩ := h c
  exact ⟨r0.trans ((ref_is hd hw).ext K), rA⟩

end Mix.Dxn

end
-- ==== Proof.Mix.Don.lean ====
/-
  The gradient of one group of heads' normed output, from the gradient reaching the output projection.
-/
module

public import proofs.«01_k».proof.Defs
public import proofs.«01_k».proof.Proof.Mix.Common
public import proofs.«01_k».proof.Proof.Gen.Kernel10Ideal.Frame
public import proofs.«01_k».proof.Proof.Gen.Kernel10Ideal.Value
public import proofs.«01_k».proof.Proof.Gen.Reference10Ideal.Run
public import Idealize.ShloMosaic.Lib.Pipeline.Value
public import Idealize.ShloMosaic.Lib.Pipeline.ValueKit
public import Idealize.ShloMosaic.Lib.StableHlo.RunRead

@[expose] public section

set_option maxRecDepth 16384
set_option maxHeartbeats 4000000

noncomputable section

namespace Mix.Don

open Idealize.ShloMosaic Idealize.ShloMosaic.TcCoe Idealize.ShloMosaic.Pipeline Idealize.ShloMosaic.Tactic Idealize.ShloMosaic.Pointwise
open Idealize.SL.Sem Ffn
open Finset (range)

/-- An entry of the result. -/
abbrev Out (d w : ℕ → ℕ → EReal) (r j : ℕ) : EReal := ∑ n ∈ range 2048, d r n * w j n

section Kernel

open Cert.Kernel10Ideal Cert.Kernel10Ideal.Gen

/-! ## What a point leaves -/

theorem out_2 (x0 : Vec Ideal S1056x2048 .bf16) (x1 : Vec Ideal S1024x2048 .bf16) : out0_2 x0 x1 = k0_pay1 x0 x1 := by
  unfold out0_2
  rw [View.canon_unit_zero off2, View.ld_unit_zero (S := S1056x2048) off2, View.ld_unit_zero (S := S1024x2048) off2]

/-! ## The arithmetic of a block -/

section Block

variable {p : ℕ} {d w : ℕ → ℕ → EReal} {v0 : Vec Ideal S1056x2048 .bf16} {v2 : Vec Ideal S1024x2048 .bf16}
  (h0 : Has2 v0 fun r n => d (p * 1056 + r) n) (h2 : Has2 v2 fun j n => w j n)

include h0 h2 in
theorem prod_is : Has2 (k0_pay1 v0 v2) fun r j => Out d w (p * 1056 + r) j := by
  intro r j
  pointwise [k0_pay1]
  simp only [h0 _ _, h2 _ _, Finset.sum_range, Out]

end Block

/-! ## The blocks a point reads -/

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD) {d w : ℕ → ℕ → EReal}
  (hd : Has2 (m ((c : Thread nD τ).loc main_arg0) : FVec Ideal S4224x2048 .f32) d)
  (hw : Has2 (m ((c : Thread nD τ).loc main_arg1) : FVec Ideal S1024x2048 .f32) w)

include hd in
theorem V_d_is : Has2 (V m c main_v0 : FVec Ideal S4224x2048 .bf16) d := by
  have e : V m c main_v0 = (truncf .bf16 (m ((c : Thread nD τ).loc main_arg0)) bitsLt_bf16_f32 : FVec Ideal S4224x2048 .bf16) := by
    unfold V hostOps0
    after_results_simp
    all_goals rfl
  rw [e]
  exact hd
include hw in
theorem V_w_is : Has2 (V m c main_v1 : FVec Ideal S1024x2048 .bf16) w := by
  have e : V m c main_v1 = (truncf .bf16 (m ((c : Thread nD τ).loc main_arg1)) bitsLt_bf16_f32 : FVec Ideal S1024x2048 .bf16) := by
    unfold V hostOps0
    after_results_simp
    all_goals rfl
  rw [e]
  exact hw
include hd in
theorem blk_d (t : Fin cfg0.N) : Has2 (iblk m c 0 t : FVec Ideal S1056x2048 .bf16) fun a b => d (t.val * 1056 + a) b := by
  intro a b
  have ht : t.val < 4 := t.isLt
  have e := (idx t).1
  refine Eq.trans ?_ (V_d_is m c hd ⟨t.val * 1056 + a.val, by omega⟩ b)
  blk_ext [iblk, e]
include hw in
theorem blk_w (t : Fin cfg0.N) : Has2 (iblk m c 1 t : FVec Ideal S1024x2048 .bf16) fun a b => w a b := by
  intro a b
  have ht : t.val < 4 := t.isLt
  have e := (idx t).2.1
  refine Eq.trans ?_ (V_w_is m c hw a b)
  blk_ext [iblk, e]

/-! ## The array -/

include hd hw in
theorem arr_is : Has2 ((dats m 0 c).arrAt 2 cfg0.N : FVec Ideal S4224x1024 .f32) (Out d w) := by
  have H : (dats m 0 c).arrAt 2 cfg0.N = (fun i => Out d w (i 0).val (i 1).val : FVec Ideal S4224x1024 .f32) := by
    refine (dats m 0 c).arrAt_eq_of_covers 2 _ (by decide +kernel) fun t hf y => ?_
    have h := prod_is (blk_d m c hd t) (blk_w m c hw t)
    have e := (idx t).2.2
    blk_simp [e]
    rw [after0_2, out_2]
    exact h.read y
  rw [H]
  exact fun _ _ => rfl

end Kernel

section Reference

open Cert.Reference10Ideal Cert.Reference10Ideal.Gen

theorem ref_is {D : FVec Ideal S4224x2048 .f32} {W : FVec Ideal S1024x2048 .f32} {d w : ℕ → ℕ → EReal} (hd : Has2 D d) (hw : Has2 W w) :
    Has2 (Host.dotGeneral dot_S4224x2048_S1024x2048_S4224x1024_1_1_0_0_n_n none D W : FVec Ideal S4224x1024 .f32) (Out d w) := by
  intro r j
  pointwise
  simp only [hd _ _, hw _ _, Finset.sum_range, Out]

end Reference

theorem algebraic : Cert.algebraic_Kernel10Ideal_Reference10Ideal (hKernel10Ideal := Cert.Kernel10Ideal.Gen.facts) (hReference10Ideal := Cert.Reference10Ideal.Gen.facts) := by
  intro m g m' g' _ hA
  refine ⟨fun c => (Cert.Kernel10Ideal.Gen.dats m 0 c).arrAt 2 Cert.Kernel10Ideal.cfg0.N, Cert.Kernel10Ideal.Value.run_blocks m g, ?_⟩
  refine (θ_run Cert.Reference10Ideal.defs _ _).mono (fun r h c => ?_) (Cert.Reference10Ideal.Value.run (F := Ideal) m' g')
  obtain ⟨a0, a1⟩ := hA c
  obtain ⟨d, hd⟩ := exists_has2 (m ((c.tc : Thread Cert.Kernel10Ideal.nD Cert.Kernel10Ideal.τ).loc Cert.Kernel10Ideal.main_arg0) : FVec Ideal Cert.Kernel10Ideal.S4224x2048 .f32)
  obtain ⟨w, hw⟩ := exists_has2 (m ((c.tc : Thread Cert.Kernel10Ideal.nD Cert.Kernel10Ideal.τ).loc Cert.Kernel10Ideal.main_arg1) : FVec Ideal Cert.Kernel10Ideal.S1024x2048 .f32)
  have K := arr_is m c hd hw
  rw [← a0] at hd
  rw [← a1] at hw
  obtain ⟨r0, rA⟩ := h c
  exact ⟨r0.trans ((ref_is hd hw).ext K), rA⟩

end Mix.Don

end
-- ==== Proof.Mix.Dwout.lean ====
/-
  The gradient of one group of heads' half of the output projection: the two halves of the rows are taken one after another, and their products added in a carried array.
-/
module

public import proofs.«01_k».proof.Defs
public import proofs.«01_k».proof.Proof.Mix.Common
public import proofs.«01_k».proof.Proof.Gen.Kernel11Ideal.Frame
public import proofs.«01_k».proof.Proof.Gen.Kernel11Ideal.Value
public import proofs.«01_k».proof.Proof.Gen.Reference11Ideal.Run
public import Idealize.ShloMosaic.Lib.Pipeline.Value
public import Idealize.ShloMosaic.Lib.Pipeline.ValueKit
public import Idealize.ShloMosaic.Lib.StableHlo.RunRead

@[expose] public section

set_option maxRecDepth 16384
set_option maxHeartbeats 4000000

noncomputable section

namespace Mix.Dwout

open Idealize.ShloMosaic Idealize.ShloMosaic.TcCoe Idealize.ShloMosaic.Pipeline Idealize.ShloMosaic.Tactic Idealize.ShloMosaic.Pointwise
open Idealize.SL.Sem Ffn
open Finset (range)

/-- An entry of the result. -/
abbrev Out (f d : ℕ → ℕ → EReal) (j n : ℕ) : EReal := ∑ r ∈ range 4224, f r j * d r n

section Kernel

open Cert.Kernel11Ideal Cert.Kernel11Ideal.Gen

/-! ## What a point leaves -/

/-- At a first half: the product of its rows. -/
theorem sout_A (c : Dev nD) (i : grid0.Coords) (a3 : Memref sig .tc .vmem S2112x1024 .bf16) (h3 : a3.IsWhole) (a4 : Memref sig .tc .vmem S2112x1024 .bf16) (h4 : a4.IsWhole) (a5 : Memref sig .tc .vmem S1024x1024 .bf16) (h5 : a5.IsWhole) (a6 : Memref sig .tc .vmem S1024x1024 .f32) (h6 : a6.IsWhole) (hc0 : cond0_0 i) (hc1 : ¬cond0_1 i) (hc2 : ¬cond0_2 i)
    (x0 : Vec Ideal S2112x1024 .bf16) (x1 : Vec Ideal S2112x1024 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero off2]
  simp only [View.readAt_eq_ld, h3.read_unread, h4.read_unread, View.ld_unit_zero (S := S2112x1024) off2]

/-- At a second half: what the first left, with the second's product added, rounded. -/
theorem out_B (c : Dev nD) (i : grid0.Coords) (a3 : Memref sig .tc .vmem S2112x1024 .bf16) (h3 : a3.IsWhole) (a4 : Memref sig .tc .vmem S2112x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : cond0_1 i) (hc2 : cond0_2 i)
    (x0 : Vec Ideal S2112x1024 .bf16) (x1 : Vec Ideal S2112x1024 .bf16) (xs : Vec Ideal S1024x1024 .f32) :
    out0_B_2 c i a3 h3 a4 h4 a5 h5 a6 h6 hc0 hc1 hc2 x0 x1 xs = k0_pay4 (k0_pay3 x0 x1 xs) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero off2, View.readCov_unit_zero (S := S1024x1024) _ off2]
  simp only [View.readAt_eq_ld, h3.read_unread, h4.read_unread, h6.read_unread, View.ld_unit_zero (S := S2112x1024) off2, View.ld_unit_zero (S := S1024x1024) off2]

/-! ## The arithmetic of a block -/

section Block

variable {p o o' : ℕ} {z x : ℕ → ℕ → EReal} {v0 : Vec Ideal S2112x1024 .bf16} {v2 : Vec Ideal S2112x1024 .bf16}
  (h0 : Has2 v0 fun r j => z (p * 2112 + r) (o + j)) (h2 : Has2 v2 fun r n => x (p * 2112 + r) (o' + n))

include h0 h2 in
theorem prod_is : Has2 (k0_pay1 v0 v2) fun j n => ∑ r ∈ range 2112, z (p * 2112 + r) (o + j) * x (p * 2112 + r) (o' + n) := by
  intro j n
  pointwise [k0_pay1]
  simp only [h0 _ _, h2 _ _, Finset.sum_range]

end Block

/-! ## The blocks a point reads -/

theorem idx : ∀ t : Fin cfg0.N, win0_0.index t = ![t.val % 2, 0] ∧ win0_1.index t = ![t.val % 2, t.val / 2] ∧ win0_2.index t = ![0, t.val / 2] :=
  (by decide +kernel : ∀ t : Fin grid0.N, _)

variable (m : (ℓ : Loc nD τ sig) → Buf (Elt Ideal) ℓ) (c : Dev nD) {f d : ℕ → ℕ → EReal}
  (hf : Has2 (m ((c : Thread nD τ).loc main_arg0) : FVec Ideal S4224x1024 .f32) f)
  (hd : Has2 (m ((c : Thread nD τ).loc main_arg1) : FVec Ideal S4224x2048 .f32) d)

include hf in
theorem V_f_is : Has2 (V m c main_v0 : FVec Ideal S4224x1024 .bf16) f := by
  have e : V m c main_v0 = (truncf .bf16 (m ((c : Thread nD τ).loc main_arg0)) bitsLt_bf16_f32 : FVec Ideal S4224x1024 .bf16) := by
    unfold V hostOps0
    after_results_simp
    all_goals rfl
  rw [e]
  exact hf
include hd in
theorem V_d_is : Has2 (V m c main_v1 : FVec Ideal S4224x2048 .bf16) d := by
  have e : V m c main_v1 = (truncf .bf16 (m ((c : Thread nD τ).loc main_arg1)) bitsLt_bf16_f32 : FVec Ideal S4224x2048 .bf16) := by
    unfold V hostOps0
    after_results_simp
    all_goals rfl
  rw [e]
  exact hd
include hf in
theorem blk_f (t : Fin cfg0.N) : Has2 (iblk m c 0 t : FVec Ideal S2112x1024 .bf16) fun a b => f (t.val % 2 * 2112 + a) (0 + b) := by
  intro a b
  have ht : t.val < 4 := t.isLt
  have e := (idx t).1
  refine Eq.trans ?_ (V_f_is m c hf ⟨t.val % 2 * 2112 + a.val, by omega⟩ ⟨0 + b.val, by omega⟩)
  blk_ext [iblk, e]
include hd in
theorem blk_d (t : Fin cfg0.N) : Has2 (iblk m c 1 t : FVec Ideal S2112x1024 .bf16) fun a b => d (t.val % 2 * 2112 + a) (t.val / 2 * 1024 + b) := by
  intro a b
  have ht : t.val < 4 := t.isLt
  have e := (idx t).2.1
  refine Eq.trans ?_ (V_d_is m c hd ⟨t.val % 2 * 2112 + a.val, by omega⟩ ⟨t.val / 2 * 1024 + b.val, by omega⟩)
  blk_ext [iblk, e]
include hf hd in
theorem out_is (t : Fin cfg0.N) (h : t.val % 2 = 1) :
    Has2 ((outsAt0 m c t.val t.isLt).1 : FVec Ideal S1024x1024 .bf16) fun j n => ∑ r ∈ range 4224, f r (0 + j) * d r (t.val / 2 * 1024 + n) := by
  have hl : t.val - 1 < cfg0.N := lt_of_le_of_lt (Nat.sub_le _ _) t.isLt
  have e0 : (t.val - 1) / 2 = t.val / 2 := by omega
  have e1 : (t.val - 1) % 2 = 0 := by omega
  have P0 := prod_is (blk_f m c hf ⟨t.val - 1, hl⟩) (blk_d m c hd ⟨t.val - 1, hl⟩)
  have P1 := prod_is (blk_f m c hf t) (blk_d m c hd t)
  simp only [e0, e1, h, Nat.zero_mul, Nat.zero_add, Nat.one_mul] at P0 P1
  rw [outsAt0_B m c t (by omega) h h]
  dsimp only
  rw [out_B, outsAt0_A m c ⟨t.val - 1, hl⟩ (by dsimp only; omega) (by dsimp only; omega) (by dsimp only; omega)]
  dsimp only
  rw [sout_A]
  generalize iblk m c 0 t = u0 at P1
  generalize iblk m c 1 t = u1 at P1
  generalize iblk m c 0 ⟨t.val - 1, hl⟩ = w0 at P0
  generalize iblk m c 1 ⟨t.val - 1, hl⟩ = w1 at P0
  intro j n
  pointwise [k0_pay4, k0_pay3, k0_pay2]
  rw [P0 j n, P1 j n, show 4224 = 2112 + 2112 from rfl, Finset.sum_range_add]

/-! ## The array -/

include hf hd in
theorem arr_is : Has2 ((dats m 0 c).arrAt 2 cfg0.N : FVec Ideal S1024x2048 .bf16) (Out f d) := by
  have H : (dats m 0 c).arrAt 2 cfg0.N = (fun i => Out f d (i 0).val (i 1).val : FVec Ideal S1024x2048 .bf16) := by
    refine (dats m 0 c).arrAt_eq_of_covers 2 _ (by decide +kernel) fun t hl y => ?_
    have h := out_is m c hf hd t ((flush0_2 t).mp hl)
    have e := (idx t).2.2
    simp only [Nat.zero_add] at h
    blk_simp [e]
    rw [after0_2]
    exact h.read y
  rw [H]
  exact fun _ _ => rfl

end Kernel

section Reference

open Cert.Reference11Ideal Cert.Reference11Ideal.Gen

theorem ref_is {F : FVec Ideal S4224x1024 .f32} {D : FVec Ideal S4224x2048 .f32} {f d : ℕ → ℕ → EReal} (hf : Has2 F f) (hd : Has2 D d) :
    Has2 (truncf .bf16 (transpose S1024x2048 [1, 0] (Host.dotGeneral dot_S4224x2048_S4224x1024_S2048x1024_0_0_1_1_n_n none D F) transposes_S2048x1024_S1024x2048_1_0) bitsLt_bf16_f32 : FVec Ideal S1024x2048 .bf16) (Out f d) := by
  intro j n
  pointwise
  simp only [hf _ _, hd _ _, Finset.sum_range, Out]
  exact Finset.sum_congr rfl fun _ _ => mul_comm _ _

end Reference

theorem algebraic : Cert.algebraic_Kernel11Ideal_Reference11Ideal (hKernel11Ideal := Cert.Kernel11Ideal.Gen.facts) (hReference11Ideal := Cert.Reference11Ideal.Gen.facts) := by
  intro m g m' g' _ hA
  refine ⟨fun c => (Cert.Kernel11Ideal.Gen.dats m 0 c).arrAt 2 Cert.Kernel11Ideal.cfg0.N, Cert.Kernel11Ideal.Value.run_blocks m g, ?_⟩
  refine (θ_run Cert.Reference11Ideal.defs _ _).mono (fun r h c => ?_) (Cert.Reference11Ideal.Value.run (F := Ideal) m' g')
  obtain ⟨a0, a1⟩ := hA c
  obtain ⟨f, hf⟩ := exists_has2 (m ((c.tc : Thread Cert.Kernel11Ideal.nD Cert.Kernel11Ideal.τ).loc Cert.Kernel11Ideal.main_arg0) : FVec Ideal Cert.Kernel11Ideal.S4224x1024 .f32)
  obtain ⟨d, hd⟩ := exists_has2 (m ((c.tc : Thread Cert.Kernel11Ideal.nD Cert.Kernel11Ideal.τ).loc Cert.Kernel11Ideal.main_arg1) : FVec Ideal Cert.Kernel11Ideal.S4224x2048 .f32)
  have K := arr_is m c hf hd
  rw [← a0] at hf
  rw [← a1] at hd
  obtain ⟨r0, rA⟩ := h c
  exact ⟨r0.trans ((ref_is hf hd).ext K), rA⟩

end Mix.Dwout

end
-- ==== Proof.Mix.Qkv.lean ====
/-
  The projection to queries, keys and values of both groups of heads.
-/
module

public import proofs.«01_k».proof.Defs
public import proofs.«01_k».proof.Proof.Mix.Common
public import proofs.«01_k».proof.Proof.Gen.Kernel12Ideal.Frame
public import proofs.«01_k».proof.Proof.Gen.Kernel12Ideal.Value
public import proofs.«01_k».proof.Proof.Gen.Reference12Ideal.Run
public import Idealize.ShloMosaic.Lib.Pipeline.Value
public import Idealize.ShloMosaic.Lib.Pipeline.ValueKit
public import Idealize.ShloMosaic.Lib.StableHlo.RunRead

@[expose] public section

set_option maxRecDepth 16384
set_option maxHeartbeats 4000000

noncomputable section

namespace Mix.Qkv

open Idealize.ShloMosaic Idealize.ShloMosaic.TcCoe Idealize.ShloMosaic.Pipeline Idealize.ShloMosaic.Tactic Idealize.ShloMosaic.Pointwise
open Idealize.SL.Sem Ffn
open Finset (range)

/-- An entry of the result. -/
abbrev Out (x w : ℕ → ℕ → EReal) (r j : ℕ) : EReal := ∑ n ∈ range 2048, x r n * w n j

section Kernel

open Cert.Kernel12Ideal Cert.Kernel12Ideal.Gen

/-! ## What a point leaves -/

theorem out_2 (x0 : Vec Ideal S1056x2048 .bf16) (x1 : Vec Ideal S1024x2048 .bf16) : out0_2 x0 x1 = k0_pay1 x0 x1 := by
  unfold out0_2
  rw [View.canon_unit_zero off2, View.ld_unit_zero (S := S1056x2048) off2, View.ld_unit_zero (S := S1024x2048) off2]

/-! ## The arithmetic of a block -/

section Block

variable {p q : ℕ} {x w : ℕ → ℕ → EReal} {v0 : Vec Ideal S1056x2048 .bf16} {v2 : Vec Ideal S1024x2048 .bf16}
  (h0 : Has2 v0 fun r n => x (p * 1056 + r) n) (h2 : Has2 v2 fun j n => w n (q * 1024 + j))

include h0 h2 in
theorem prod_is : Has2 (k0_pay1 v0 v2) fun r j => Out x w (p * 1056 + r) (q * 1024 + j) := by
  intro r j
  pointwise [k0_pay1]
  simp only [h0 _ _, h2 _ _, Finset.sum_range, Out]

end Block

/-! ## The blocks a point reads -/

theorem idx : ∀ t : Fin cfg0.N, win0_0.index t = ![t.val / 6, 0] ∧ win0_1.index t = ![t.val % 6, 0] ∧ win0_2.index t = ![t.val / 6, t.val % 6] :=
  (by decide +kernel : ∀ t : Fin grid0.N, _)

variable (m : (ℓ : Loc nD τ sig) → Buf (Elt Ideal) ℓ) (c : Dev nD) {x w : ℕ → ℕ → EReal}
  (hx : Has2 (m ((c : Thread nD τ).loc main_arg0) : FVec Ideal S4224x2048 .f32) x)
  (hw : Has2 (m ((c : Thread nD τ).loc main_arg1) : FVec Ideal S2048x6152 .f32) w)

include hx in
theorem V_x_is : Has2 (V m c main_v0 : FVec Ideal S4224x2048 .bf16) x := by
  have e : V m c main_v0 = (truncf .bf16 (m ((c : Thread nD τ).loc main_arg0)) bitsLt_bf16_f32 : FVec Ideal S4224x2048 .bf16) := by
    simp only [V, List.flatten_cons, List.flatten_nil, List.append_nil, List.cons_append, List.nil_append, StableHlo.TRef.binary, StableHlo.TRef.unary, StableHlo.TRef.toBuf, StableHlo.TRef.ofBuf, cast_eq]
    after_results_simp
    all_goals rfl
  rw [e]
  exact hx
include hw in
theorem V_w_is : Has2 (V m c main_v4 : FVec Ideal S6144x2048 .bf16) fun j n => w n j := by
  have e : V m c main_v4 = (extractStridedSlice S6144x2048 ![0, 0] (pad S6272x2048 ![0, 0] ![120, 0] ![0, 0] (truncf .bf16 (transpose S6152x2048 [1, 0] (m ((c : Thread nD τ).loc main_arg1)) transposes_S2048x6152_S6152x2048_1_0) bitsLt_bf16_f32) (sitofp .bf16 (constantI S_ 32 0#32)) pads_S6152x2048_S6272x2048_01200_000 h_S_) slices_S6272x2048_S6144x2048_0_0 : FVec Ideal S6144x2048 .bf16) := by
    simp only [V, List.flatten_cons, List.flatten_nil, List.append_nil, List.cons_append, List.nil_append, StableHlo.TRef.binary, StableHlo.TRef.unary, StableHlo.TRef.toBuf, StableHlo.TRef.ofBuf, cast_eq]
    after_results_simp
    all_goals rfl
  rw [e]
  have h := (padRows (X := truncf .bf16 (transpose S6152x2048 [1, 0] (m ((c : Thread nD τ).loc main_arg1)) transposes_S2048x6152_S6152x2048_1_0) bitsLt_bf16_f32) (turn hw _) pads_S6152x2048_S6272x2048_01200_000 h_S_)
  generalize (pad S6272x2048 _ _ _ _ _ _ _ : FVec Ideal S6272x2048 .bf16) = X at h ⊢
  intro j n
  pointwise
  rw [h, rowsTo, if_pos (show j.val < 6152 by omega)]
include hx in
theorem blk_x (t : Fin cfg0.N) : Has2 (iblk m c 0 t : FVec Ideal S1056x2048 .bf16) fun a b => x (t.val / 6 * 1056 + a) b := by
  intro a b
  have ht : t.val < 24 := t.isLt
  have e := (idx t).1
  refine Eq.trans ?_ (V_x_is m c hx ⟨t.val / 6 * 1056 + a.val, by omega⟩ b)
  blk_ext [iblk, e]
include hw in
theorem blk_w (t : Fin cfg0.N) : Has2 (iblk m c 1 t : FVec Ideal S1024x2048 .bf16) fun a b => w b (t.val % 6 * 1024 + a) := by
  intro a b
  have ht : t.val < 24 := t.isLt
  have e := (idx t).2.1
  refine Eq.trans ?_ (V_w_is m c hw ⟨t.val % 6 * 1024 + a.val, by omega⟩ b)
  blk_ext [iblk, e]

/-! ## The array -/

include hx hw in
theorem arr_is : Has2 ((dats m 0 c).arrAt 2 cfg0.N : FVec Ideal S4224x6144 .bf16) (Out x w) := by
  have H : (dats m 0 c).arrAt 2 cfg0.N = (fun i => Out x w (i 0).val (i 1).val : FVec Ideal S4224x6144 .bf16) := by
    refine (dats m 0 c).arrAt_eq_of_covers 2 _ (by decide +kernel) fun t hf y => ?_
    have h := prod_is (blk_x m c hx t) (blk_w m c hw t)
    have e := (idx t).2.2
    blk_simp [e]
    rw [after0_2, out_2]
    exact h.read y
  rw [H]
  exact fun _ _ => rfl

end Kernel

section Reference

open Cert.Reference12Ideal Cert.Reference12Ideal.Gen

theorem ref_is {X : FVec Ideal S4224x2048 .f32} {W : FVec Ideal S2048x6152 .f32} {x w : ℕ → ℕ → EReal} (hx : Has2 X x) (hw : Has2 W w) :
    Has2 (truncf .bf16 (extractStridedSlice S4224x6144 ![0, 0] (Host.dotGeneral dot_S4224x2048_S2048x6152_S4224x6152_1_0_0_1_n_n none X W) slices_S4224x6152_S4224x6144_0_0) bitsLt_bf16_f32 : FVec Ideal S4224x6144 .bf16) (Out x w) := by
  intro r j
  pointwise
  simp only [hx _ _, hw _ _, Finset.sum_range, Out]

end Reference

theorem algebraic : Cert.algebraic_Kernel12Ideal_Reference12Ideal (hKernel12Ideal := Cert.Kernel12Ideal.Gen.facts) (hReference12Ideal := Cert.Reference12Ideal.Gen.facts) := by
  intro m g m' g' _ hA
  refine ⟨fun c => (Cert.Kernel12Ideal.Gen.dats m 0 c).arrAt 2 Cert.Kernel12Ideal.cfg0.N, Cert.Kernel12Ideal.Value.run_blocks m g, ?_⟩
  refine (θ_run Cert.Reference12Ideal.defs _ _).mono (fun r h c => ?_) (Cert.Reference12Ideal.Value.run (F := Ideal) m' g')
  obtain ⟨a0, a1⟩ := hA c
  obtain ⟨x, hx⟩ := exists_has2 (m ((c.tc : Thread Cert.Kernel12Ideal.nD Cert.Kernel12Ideal.τ).loc Cert.Kernel12Ideal.main_arg0) : FVec Ideal Cert.Kernel12Ideal.S4224x2048 .f32)
  obtain ⟨w, hw⟩ := exists_has2 (m ((c.tc : Thread Cert.Kernel12Ideal.nD Cert.Kernel12Ideal.τ).loc Cert.Kernel12Ideal.main_arg1) : FVec Ideal Cert.Kernel12Ideal.S2048x6152 .f32)
  have K := arr_is m c hx hw
  rw [← a0] at hx
  rw [← a1] at hw
  obtain ⟨r0, rA⟩ := h c
  exact ⟨r0.trans ((ref_is hx hw).ext K), rA⟩

end Mix.Qkv

end
-- ==== Proof.Mix.Out.lean ====
/-
  The output projection of both groups of heads, added to the layer's input.
-/
module

public import proofs.«01_k».proof.Defs
public import proofs.«01_k».proof.Proof.Mix.Common
public import proofs.«01_k».proof.Proof.Gen.Kernel13Ideal.Frame
public import proofs.«01_k».proof.Proof.Gen.Kernel13Ideal.Value
public import proofs.«01_k».proof.Proof.Gen.Reference13Ideal.Run
public import Idealize.ShloMosaic.Lib.Pipeline.Value
public import Idealize.ShloMosaic.Lib.Pipeline.ValueKit
public import Idealize.ShloMosaic.Lib.StableHlo.RunRead

@[expose] public section

set_option maxRecDepth 16384
set_option maxHeartbeats 4000000

noncomputable section

namespace Mix.Out

open Idealize.ShloMosaic Idealize.ShloMosaic.TcCoe Idealize.ShloMosaic.Pipeline Idealize.ShloMosaic.Tactic Idealize.ShloMosaic.Pointwise
open Idealize.SL.Sem Ffn
open Finset (range)

/-- An entry of the result. -/
abbrev Out (u f s w : ℕ → ℕ → EReal) (r n : ℕ) : EReal := u r n + ((∑ j ∈ range 1024, f r j * w j n) + ∑ j ∈ range 1024, s r j * w (1024 + j) n)

section Kernel

open Cert.Kernel13Ideal Cert.Kernel13Ideal.Gen

/-! ## What a point leaves -/

theorem out_5 (x0 : Vec Ideal S1056x1024 .bf16) (x1 : Vec Ideal S1024x1024 .bf16) (x2 : Vec Ideal S1056x1024 .bf16) (x3 : Vec Ideal S1024x1024 .bf16) (x4 : Vec Ideal S1056x1024 .f32) : out0_5 x0 x1 x2 x3 x4 = k0_pay1 x0 x1 x2 x3 x4 := by
  unfold out0_5
  rw [View.canon_unit_zero off2]
  simp only [View.ld_unit_zero (S := S1056x1024) off2, View.ld_unit_zero (S := S1024x1024) off2]

/-! ## The arithmetic of a block -/

section Block

variable {p q : ℕ} {u f s w : ℕ → ℕ → EReal} {v0 v5 : Vec Ideal S1056x1024 .bf16} {v2 v7 : Vec Ideal S1024x1024 .bf16} {v11 : Vec Ideal S1056x1024 .f32}
  (h0 : Has2 v0 fun r j => f (p * 1056 + r) j) (h2 : Has2 v2 fun j n => w j (q * 1024 + n)) (h5 : Has2 v5 fun r j => s (p * 1056 + r) j)
  (h7 : Has2 v7 fun j n => w (1024 + j) (q * 1024 + n)) (h11 : Has2 v11 fun r n => u (p * 1056 + r) (q * 1024 + n))

include h0 h2 h5 h7 h11 in
theorem prod_is : Has2 (k0_pay1 v0 v2 v5 v7 v11) fun r n => Out u f s w (p * 1056 + r) (q * 1024 + n) := by
  intro r n
  pointwise [k0_pay1]
  simp only [h0 _ _, h2 _ _, h5 _ _, h7 _ _, h11 _ _, Finset.sum_range, Out]

end Block

/-! ## The blocks a point reads -/

theorem idx : ∀ t : Fin cfg0.N, win0_0.index t = ![t.val / 2, 0] ∧ win0_1.index t = ![0, t.val % 2] ∧ win0_2.index t = ![t.val / 2, 0] ∧ win0_3.index t = ![0, t.val % 2]
    ∧ win0_4.index t = ![t.val / 2, t.val % 2] ∧ win0_5.index t = ![t.val / 2, t.val % 2] :=
  (by decide +kernel : ∀ t : Fin grid0.N, _)

variable (m : (ℓ : Loc nD τ sig) → Buf (Elt Ideal) ℓ) (c : Dev nD) {u f s w : ℕ → ℕ → EReal}
  (hu : Has2 (m ((c : Thread nD τ).loc main_arg0) : FVec Ideal S4224x2048 .f32) u)
  (hf : Has2 (m ((c : Thread nD τ).loc main_arg1) : FVec Ideal S4224x1024 .f32) f)
  (hs : Has2 (m ((c : Thread nD τ).loc main_arg2) : FVec Ideal S4224x1024 .f32) s)
  (hw : Has2 (m ((c : Thread nD τ).loc main_arg3) : FVec Ideal S2048x2048 .f32) w)

include hf in
theorem V_f_is : Has2 (V m c main_v1 : FVec Ideal S4224x1024 .bf16) f := by
  have e : V m c main_v1 = (truncf .bf16 (m ((c : Thread nD τ).loc main_arg1)) bitsLt_bf16_f32 : FVec Ideal S4224x1024 .bf16) := by
    unfold V hostOps0
    after_results_simp
    all_goals rfl
  rw [e]
  exact hf
include hs in
theorem V_s_is : Has2 (V m c main_v3 : FVec Ideal S4224x1024 .bf16) s := by
  have e : V m c main_v3 = (truncf .bf16 (m ((c : Thread nD τ).loc main_arg2)) bitsLt_bf16_f32 : FVec Ideal S4224x1024 .bf16) := by
    unfold V hostOps0
    after_results_simp
    all_goals rfl
  rw [e]
  exact hs
include hw in
theorem V_w_is : Has2 (V m c main_v2 : FVec Ideal S1024x2048 .bf16) w := by
  have e : V m c main_v2 = (extractStridedSlice S1024x2048 ![0, 0] (truncf .bf16 (m ((c : Thread nD τ).loc main_arg3)) bitsLt_bf16_f32) slices_S2048x2048_S1024x2048_0_0 : FVec Ideal S1024x2048 .bf16) := by
    unfold V hostOps0
    after_results_simp
    all_goals rfl
  rw [e]
  generalize (m ((c : Thread nD τ).loc main_arg3) : FVec Ideal S2048x2048 .f32) = X at hw
  intro j n
  pointwise
  rw [hw]
include hw in
theorem V_w2_is : Has2 (V m c main_v4 : FVec Ideal S1024x2048 .bf16) fun j n => w (1024 + j) n := by
  have e : V m c main_v4 = (extractStridedSlice S1024x2048 ![1024, 0] (truncf .bf16 (m ((c : Thread nD τ).loc main_arg3)) bitsLt_bf16_f32) slices_S2048x2048_S1024x2048_1024_0 : FVec Ideal S1024x2048 .bf16) := by
    unfold V hostOps0
    after_results_simp
    all_goals rfl
  rw [e]
  generalize (m ((c : Thread nD τ).loc main_arg3) : FVec Ideal S2048x2048 .f32) = X at hw
  intro j n
  pointwise
  rw [hw]
include hf in
theorem blk_f (t : Fin cfg0.N) : Has2 (iblk m c 0 t : FVec Ideal S1056x1024 .bf16) fun a b => f (t.val / 2 * 1056 + a) b := by
  intro a b
  have ht : t.val < 8 := t.isLt
  have e := (idx t).1
  refine Eq.trans ?_ (V_f_is m c hf ⟨t.val / 2 * 1056 + a.val, by omega⟩ b)
  blk_ext [iblk, e]
include hw in
theorem blk_w (t : Fin cfg0.N) : Has2 (iblk m c 1 t : FVec Ideal S1024x1024 .bf16) fun a b => w a (t.val % 2 * 1024 + b) := by
  intro a b
  have ht : t.val < 8 := t.isLt
  have e := (idx t).2.1
  refine Eq.trans ?_ (V_w_is m c hw a ⟨t.val % 2 * 1024 + b.val, by omega⟩)
  blk_ext [iblk, e]
include hs in
theorem blk_s (t : Fin cfg0.N) : Has2 (iblk m c 2 t : FVec Ideal S1056x1024 .bf16) fun a b => s (t.val / 2 * 1056 + a) b := by
  intro a b
  have ht : t.val < 8 := t.isLt
  have e := (idx t).2.2.1
  refine Eq.trans ?_ (V_s_is m c hs ⟨t.val / 2 * 1056 + a.val, by omega⟩ b)
  blk_ext [iblk, e]
include hw in
theorem blk_w2 (t : Fin cfg0.N) : Has2 (iblk m c 3 t : FVec Ideal S1024x1024 .bf16) fun a b => w (1024 + a) (t.val % 2 * 1024 + b) := by
  intro a b
  have ht : t.val < 8 := t.isLt
  have e := (idx t).2.2.2.1
  refine Eq.trans ?_ (V_w2_is m c hw a ⟨t.val % 2 * 1024 + b.val, by omega⟩)
  blk_ext [iblk, e]
include hu in
theorem blk_u (t : Fin cfg0.N) : Has2 (iblk m c 4 t : FVec Ideal S1056x1024 .f32) fun a b => u (t.val / 2 * 1056 + a) (t.val % 2 * 1024 + b) := by
  intro a b
  have ht : t.val < 8 := t.isLt
  have e := (idx t).2.2.2.2.1
  refine Eq.trans ?_ (hu ⟨t.val / 2 * 1056 + a.val, by omega⟩ ⟨t.val % 2 * 1024 + b.val, by omega⟩)
  rw [← V_main_arg0 m c]
  blk_ext [iblk, e]

/-! ## The array -/

include hu hf hs hw in
theorem arr_is : Has2 ((dats m 0 c).arrAt 5 cfg0.N : FVec Ideal S4224x2048 .f32) (Out u f s w) := by
  have H : (dats m 0 c).arrAt 5 cfg0.N = (fun i => Out u f s w (i 0).val (i 1).val : FVec Ideal S4224x2048 .f32) := by
    refine (dats m 0 c).arrAt_eq_of_covers 5 _ (by decide +kernel) fun t hl y => ?_
    have h := prod_is (blk_f m c hf t) (blk_w m c hw t) (blk_s m c hs t) (blk_w2 m c hw t) (blk_u m c hu t)
    have e := (idx t).2.2.2.2.2
    blk_simp [e]
    rw [after0_5, out_5]
    exact h.read y
  rw [H]
  exact fun _ _ => rfl

end Kernel

section Reference

open Cert.Reference13Ideal Cert.Reference13Ideal.Gen

theorem ref_is {H : FVec Ideal S4224x2048 .f32} {F S : FVec Ideal S4224x1024 .f32} {W : FVec Ideal S2048x2048 .f32} {u f s w : ℕ → ℕ → EReal} (hu : Has2 H u) (hf : Has2 F f) (hs : Has2 S s) (hw : Has2 W w) :
    Has2 (addf H (Host.dotGeneral dot_S4224x2048_S2048x2048_S4224x2048_1_0_0_1_n_n none (concatenate S4224x2048 1 [⟨S4224x1024, F⟩, ⟨S4224x1024, S⟩] concatenates_S4224x1024_S4224x1024_S4224x2048_d1) W) : FVec Ideal S4224x2048 .f32) (Out u f s w) := by
  intro r n
  pointwise
  simp only [hu _ _, hf _ _, hs _ _, hw _ _, Finset.sum_range, Out]

end Reference

theorem algebraic : Cert.algebraic_Kernel13Ideal_Reference13Ideal (hKernel13Ideal := Cert.Kernel13Ideal.Gen.facts) (hReference13Ideal := Cert.Reference13Ideal.Gen.facts) := by
  intro m g m' g' _ hA
  refine ⟨fun c => (Cert.Kernel13Ideal.Gen.dats m 0 c).arrAt 5 Cert.Kernel13Ideal.cfg0.N, Cert.Kernel13Ideal.Value.run_blocks m g, ?_⟩
  refine (θ_run Cert.Reference13Ideal.defs _ _).mono (fun r h c => ?_) (Cert.Reference13Ideal.Value.run (F := Ideal) m' g')
  obtain ⟨a0, a1, a2, a3⟩ := hA c
  obtain ⟨u, hu⟩ := exists_has2 (m ((c.tc : Thread Cert.Kernel13Ideal.nD Cert.Kernel13Ideal.τ).loc Cert.Kernel13Ideal.main_arg0) : FVec Ideal Cert.Kernel13Ideal.S4224x2048 .f32)
  obtain ⟨f, hf⟩ := exists_has2 (m ((c.tc : Thread Cert.Kernel13Ideal.nD Cert.Kernel13Ideal.τ).loc Cert.Kernel13Ideal.main_arg1) : FVec Ideal Cert.Kernel13Ideal.S4224x1024 .f32)
  obtain ⟨s, hs⟩ := exists_has2 (m ((c.tc : Thread Cert.Kernel13Ideal.nD Cert.Kernel13Ideal.τ).loc Cert.Kernel13Ideal.main_arg2) : FVec Ideal Cert.Kernel13Ideal.S4224x1024 .f32)
  obtain ⟨w, hw⟩ := exists_has2 (m ((c.tc : Thread Cert.Kernel13Ideal.nD Cert.Kernel13Ideal.τ).loc Cert.Kernel13Ideal.main_arg3) : FVec Ideal Cert.Kernel13Ideal.S2048x2048 .f32)
  have K := arr_is m c hu hf hs hw
  rw [← a0] at hu
  rw [← a1] at hf
  rw [← a2] at hs
  rw [← a3] at hw
  obtain ⟨r0, rA⟩ := h c
  exact ⟨r0.trans ((ref_is hu hf hs hw).ext K), rA⟩

end Mix.Out

end
-- ==== Proof.Mix.Forget.lean ====
/-
  The forget gates' product: the last eight columns of the projection, and columns of zeros after them.
-/
module

public import proofs.«01_k».proof.Defs
public import proofs.«01_k».proof.Proof.Mix.Common
public import proofs.«01_k».proof.Proof.Gen.Kernel14Ideal.Frame
public import proofs.«01_k».proof.Proof.Gen.Kernel14Ideal.Value
public import proofs.«01_k».proof.Proof.Gen.Reference14Ideal.Run
public import Idealize.ShloMosaic.Lib.Pipeline.Value
public import Idealize.ShloMosaic.Lib.Pipeline.ValueKit
public import Idealize.ShloMosaic.Lib.StableHlo.RunRead

@[expose] public section

set_option maxRecDepth 16384
set_option maxHeartbeats 4000000

noncomputable section

namespace Mix.Forget

open Idealize.ShloMosaic Idealize.ShloMosaic.TcCoe Idealize.ShloMosaic.Pipeline Idealize.ShloMosaic.Tactic Idealize.ShloMosaic.Pointwise
open Idealize.SL.Sem Ffn
open Finset (range)

/-- An entry of the result. -/
abbrev Out (x w : ℕ → ℕ → EReal) : ℕ → ℕ → EReal := colsTo 8 fun r j => ∑ n ∈ range 2048, x r n * w n (6144 + j)

section Kernel

open Cert.Kernel14Ideal Cert.Kernel14Ideal.Gen

/-! ## What a point leaves -/

theorem out_2 (x0 : Vec Ideal S1056x2048 .bf16) (x1 : Vec Ideal S128x2048 .bf16) : out0_2 x0 x1 = k0_pay1 x0 x1 := by
  unfold out0_2
  rw [View.canon_unit_zero off2, View.ld_unit_zero (S := S1056x2048) off2, View.ld_unit_zero (S := S128x2048) off2]

/-! ## The arithmetic of a block -/

section Block

variable {p : ℕ} {x w : ℕ → ℕ → EReal} {v0 : Vec Ideal S1056x2048 .bf16} {v2 : Vec Ideal S128x2048 .bf16}
  (h0 : Has2 v0 fun r n => x (p * 1056 + r) n) (h2 : Has2 v2 fun j n => rowsTo 8 (fun j n => w n (6144 + j)) j n)

include h0 h2 in
theorem prod_is : Has2 (k0_pay1 v0 v2) fun r j => Out x w (p * 1056 + r) j := by
  intro r j
  pointwise [k0_pay1]
  simp only [h0 _ _, h2 _ _, Finset.sum_range, Out, colsTo, rowsTo]
  split
  · rfl
  · simp only [mul_zero, Finset.sum_const_zero]

end Block

/-! ## The blocks a point reads -/

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD) {x w : ℕ → ℕ → EReal}
  (hx : Has2 (m ((c : Thread nD τ).loc main_arg0) : FVec Ideal S4224x2048 .f32) x)
  (hw : Has2 (m ((c : Thread nD τ).loc main_arg1) : FVec Ideal S2048x6152 .f32) w)

include hx in
theorem V_x_is : Has2 (V m c main_v0 : FVec Ideal S4224x2048 .bf16) x := by
  have e : V m c main_v0 = (truncf .bf16 (m ((c : Thread nD τ).loc main_arg0)) bitsLt_bf16_f32 : FVec Ideal S4224x2048 .bf16) := by
    simp only [V, List.flatten_cons, List.flatten_nil, List.append_nil, List.cons_append, List.nil_append, StableHlo.TRef.binary, StableHlo.TRef.unary, StableHlo.TRef.toBuf, StableHlo.TRef.ofBuf, cast_eq]
    after_results_simp
    all_goals rfl
  rw [e]
  exact hx
include hw in
theorem V_w_is : Has2 (V m c main_v4 : FVec Ideal S128x2048 .bf16) (rowsTo 8 fun j n => w n (6144 + j)) := by
  have e : V m c main_v4 = (extractStridedSlice S128x2048 ![6144, 0] (pad S6272x2048 ![0, 0] ![120, 0] ![0, 0] (truncf .bf16 (transpose S6152x2048 [1, 0] (m ((c : Thread nD τ).loc main_arg1)) transposes_S2048x6152_S6152x2048_1_0) bitsLt_bf16_f32) (sitofp .bf16 (constantI S_ 32 0#32)) pads_S6152x2048_S6272x2048_01200_000 h_S_) slices_S6272x2048_S128x2048_6144_0 : FVec Ideal S128x2048 .bf16) := by
    simp only [V, List.flatten_cons, List.flatten_nil, List.append_nil, List.cons_append, List.nil_append, StableHlo.TRef.binary, StableHlo.TRef.unary, StableHlo.TRef.toBuf, StableHlo.TRef.ofBuf, cast_eq]
    after_results_simp
    all_goals rfl
  rw [e]
  have h := padRows (X := truncf .bf16 (transpose S6152x2048 [1, 0] (m ((c : Thread nD τ).loc main_arg1)) transposes_S2048x6152_S6152x2048_1_0) bitsLt_bf16_f32) (turn hw _) pads_S6152x2048_S6272x2048_01200_000 h_S_
  generalize (pad S6272x2048 _ _ _ _ _ _ _ : FVec Ideal S6272x2048 .bf16) = X at h ⊢
  intro j n
  pointwise
  rw [h]
  simp only [rowsTo]
  exact if_congr (by omega) rfl rfl
include hx in
theorem blk_x (t : Fin cfg0.N) : Has2 (iblk m c 0 t : FVec Ideal S1056x2048 .bf16) fun a b => x (t.val * 1056 + a) b := by
  intro a b
  have ht : t.val < 4 := t.isLt
  have e := (idx t).1
  refine Eq.trans ?_ (V_x_is m c hx ⟨t.val * 1056 + a.val, by omega⟩ b)
  blk_ext [iblk, e]
include hw in
theorem blk_w (t : Fin cfg0.N) : Has2 (iblk m c 1 t : FVec Ideal S128x2048 .bf16) fun a b => rowsTo 8 (fun j n => w n (6144 + j)) a b := by
  intro a b
  have ht : t.val < 4 := t.isLt
  have e := (idx t).2.1
  refine Eq.trans ?_ (V_w_is m c hw a b)
  blk_ext [iblk, e]

/-! ## The array -/

include hx hw in
theorem arr_is : Has2 ((dats m 0 c).arrAt 2 cfg0.N : FVec Ideal S4224x128 .f32) (Out x w) := by
  have H : (dats m 0 c).arrAt 2 cfg0.N = (fun i => Out x w (i 0).val (i 1).val : FVec Ideal S4224x128 .f32) := by
    refine (dats m 0 c).arrAt_eq_of_covers 2 _ (by decide +kernel) fun t hf y => ?_
    have h := prod_is (blk_x m c hx t) (blk_w m c hw t)
    have e := (idx t).2.2
    blk_simp [e]
    rw [after0_2, out_2]
    exact h.read y
  rw [H]
  exact fun _ _ => rfl

end Kernel

section Reference

open Cert.Reference14Ideal Cert.Reference14Ideal.Gen

theorem ref_is {X : FVec Ideal S4224x2048 .f32} {W : FVec Ideal S2048x6152 .f32} {x w : ℕ → ℕ → EReal} (hx : Has2 X x) (hw : Has2 W w) :
    Has2 (pad S4224x128 ![0, 0] ![0, 120] ![0, 0] (extractStridedSlice S4224x8 ![0, 6144] (Host.dotGeneral dot_S4224x2048_S2048x6152_S4224x6152_1_0_0_1_n_n none X W) slices_S4224x6152_S4224x8_0_6144) (sitofp .f32 (constantI S_ 32 0#32)) pads_S4224x8_S4224x128_000_01200 h_S_ : FVec Ideal S4224x128 .f32) (Out x w) := by
  have h : Has2 (extractStridedSlice S4224x8 ![0, 6144] (Host.dotGeneral dot_S4224x2048_S2048x6152_S4224x6152_1_0_0_1_n_n none X W) slices_S4224x6152_S4224x8_0_6144 : FVec Ideal S4224x8 .f32) fun r j => ∑ n ∈ range 2048, x r n * w n (6144 + j) := by
    intro r j
    pointwise
    simp only [hx _ _, hw _ _, Finset.sum_range]
  generalize (extractStridedSlice S4224x8 _ _ _ : FVec Ideal S4224x8 .f32) = Y at h ⊢
  intro r j
  pointwise
  rw [Out, colsTo]
  split
  · exact h _ _
  · simp [FloatOps.sitofp]

end Reference

theorem algebraic : Cert.algebraic_Kernel14Ideal_Reference14Ideal (hKernel14Ideal := Cert.Kernel14Ideal.Gen.facts) (hReference14Ideal := Cert.Reference14Ideal.Gen.facts) := by
  intro m g m' g' _ hA
  refine ⟨fun c => (Cert.Kernel14Ideal.Gen.dats m 0 c).arrAt 2 Cert.Kernel14Ideal.cfg0.N, Cert.Kernel14Ideal.Value.run_blocks m g, ?_⟩
  refine (θ_run Cert.Reference14Ideal.defs _ _).mono (fun r h c => ?_) (Cert.Reference14Ideal.Value.run (F := Ideal) m' g')
  obtain ⟨a0, a1⟩ := hA c
  obtain ⟨x, hx⟩ := exists_has2 (m ((c.tc : Thread Cert.Kernel14Ideal.nD Cert.Kernel14Ideal.τ).loc Cert.Kernel14Ideal.main_arg0) : FVec Ideal Cert.Kernel14Ideal.S4224x2048 .f32)
  obtain ⟨w, hw⟩ := exists_has2 (m ((c.tc : Thread Cert.Kernel14Ideal.nD Cert.Kernel14Ideal.τ).loc Cert.Kernel14Ideal.main_arg1) : FVec Ideal Cert.Kernel14Ideal.S2048x6152 .f32)
  have K := arr_is m c hx hw
  rw [← a0] at hx
  rw [← a1] at hw
  obtain ⟨r0, rA⟩ := h c
  exact ⟨r0.trans ((ref_is hx hw).ext K), rA⟩

end Mix.Forget

end
-- ==== Proof.Norm.Common.lean ====
/-
  The norm of a matrix's rows, and two ways of writing its gradient.

  With `q` the mean of the squares of a row `h` plus a small constant, the norm multiplies the row by `1/√q`. The gradient at a
  cotangent `t` is written by the kernel as `(t - ĥ * mean (t * ĥ)) / √q` with `ĥ = h / √q`, and by differentiating line after line as
  `t / √q + h * e + e * h` with `e` the cotangent of the sum of squares. The two agree whatever the row holds: `q` is a positive number or
  `⊤`, and where it is `⊤` both are zero.
-/
module

public import proofs.«01_k».proof.Proof.Lit
public import proofs.«01_k».proof.Proof.Ffn.Common

@[expose] public section

set_option maxRecDepth 16384

noncomputable section

namespace Norm

open Idealize.ShloMosaic Idealize.ShloMosaic.Pointwise Ffn
open Finset (range)

theorem lit_2048 : Ideal.ofBits .f32 0x45000000#32 = ((2048 : ℝ) : EReal) := by
  simp [Ideal.ofBits, Ideal.ieee, -EReal.coe_mul]; norm_num

/-- A row's mean square with the small constant, and the factor the row is multiplied by. -/
def level (h : ℕ → EReal) : EReal :=
  Ideal.div (∑ n ∈ range 2048, h n * h n) (Ideal.ofBits .f32 0x45000000#32) + Ideal.ofBits .f32 0x358637BD#32
def factor (h : ℕ → EReal) : EReal := Ideal.rsqrt (level h)

theorem square_nonneg (x : EReal) : 0 ≤ x * x := by
  rcases le_total 0 x with hx | hx
  · exact mul_nonneg hx hx
  · rw [← neg_mul_neg]
    exact mul_nonneg (EReal.neg_nonneg.2 hx) (EReal.neg_nonneg.2 hx)

theorem level_cases (h : ℕ → EReal) : (∃ a : ℝ, 0 < a ∧ level h = (a : EReal)) ∨ level h = ⊤ := by
  have hp : 0 < level h := by
    rw [level, lit_2048, Attn.lit_tiny, Ideal.div_coe (by norm_num : (2048 : ℝ) ≠ 0)]
    refine lt_of_lt_of_le (EReal.coe_pos.2 Attn.tiny_pos) (le_add_of_nonneg_left (mul_nonneg (Finset.sum_nonneg fun n _ => square_nonneg _) ?_))
    exact EReal.coe_nonneg.2 (by norm_num)
  generalize level h = q at hp
  induction q using EReal.rec with
  | bot => exact absurd hp (by simp)
  | top => exact .inr rfl
  | coe a => exact .inl ⟨a, EReal.coe_pos.1 hp, rfl⟩

/-- The two ways of writing the gradient at one entry. -/
theorem grad_eq (h t : ℕ → EReal) (d : EReal) (n : ℕ) :
    d + t n * factor h + h n * Ideal.div ((∑ i ∈ range 2048, h i * t i) * (Ideal.ofBits .f32 0xBF000000#32 * Ideal.div (factor h) (level h))) (Ideal.ofBits .f32 0x45000000#32)
      + Ideal.div ((∑ i ∈ range 2048, h i * t i) * (Ideal.ofBits .f32 0xBF000000#32 * Ideal.div (factor h) (level h))) (Ideal.ofBits .f32 0x45000000#32) * h n
      = d + factor h * (t n - h n * factor h * Ideal.div (∑ i ∈ range 2048, t i * (h i * factor h)) (Ideal.ofBits .f32 0x45000000#32)) := by
  rw [lit_2048, Attn.lit_neg_half, Ideal.div_coe (by norm_num : (2048 : ℝ) ≠ 0), Ideal.div_coe (by norm_num : (2048 : ℝ) ≠ 0), factor]
  rcases level_cases h with ⟨a, ha, e⟩ | e
  · rw [e, Ideal.rsqrt_coe, if_neg (not_lt.2 ha.le), if_neg ha.ne', Ideal.div_coe ha.ne']
    have hρ : 0 ≤ (Real.sqrt a)⁻¹ := inv_nonneg.2 (Real.sqrt_nonneg a)
    have hs : (Real.sqrt a)⁻¹ * (Real.sqrt a)⁻¹ = 1 / a := by rw [← mul_inv, Real.mul_self_sqrt ha.le, one_div]
    generalize (Real.sqrt a)⁻¹ = ρ at hρ hs
    have hρ' : (0 : EReal) ≤ (ρ : EReal) := EReal.coe_nonneg.2 hρ
    have hm : (∑ i ∈ range 2048, t i * (h i * (ρ : EReal))) = (∑ i ∈ range 2048, h i * t i) * (ρ : EReal) := by
      rw [mul_comm, mul_sum hρ]
      exact Finset.sum_congr rfl fun i _ => by rw [← mul_assoc, mul_comm, mul_comm (h i)]
    rw [hm]
    generalize (∑ i ∈ range 2048, h i * t i) = S
    have hE : S * (((-(1 / 2) : ℝ) : EReal) * ((ρ : EReal) * ((1 / a : ℝ) : EReal))) * ((1 / 2048 : ℝ) : EReal) = S * ((-(1 / 2) * (ρ * (ρ * ρ)) * (1 / 2048) : ℝ) : EReal) := by
      rw [← hs, mul_assoc]
      simp only [← EReal.coe_mul]
    rw [hE, mul_comm _ (h n), add_assoc]
    have hB : ∀ B : EReal, B + B = B * ((2 : ℝ) : EReal) := fun B => by
      rw [show ((2 : ℝ) : EReal) = 1 + 1 from by norm_cast, EReal.left_distrib_of_nonneg zero_le_one zero_le_one, mul_one]
    rw [add_assoc d, hB, sub_eq_add_neg, EReal.left_distrib_of_nonneg_of_ne_top hρ' (EReal.coe_ne_top ρ), mul_comm (ρ : EReal) (t n)]
    congr 2
    rw [mul_neg, ← neg_mul]
    have hk : S * ((-(1 / 2) * (ρ * (ρ * ρ)) * (1 / 2048) : ℝ) : EReal) * ((2 : ℝ) : EReal) = S * ((-ρ * (ρ * (ρ * (1 / 2048))) : ℝ) : EReal) := by
      rw [mul_assoc, ← EReal.coe_mul]
      congr 2
      ring
    rw [mul_assoc, hk, show (-ρ * (ρ * (ρ * (1 / 2048))) : ℝ) = ρ * (ρ * ((1 / 2048) * -ρ)) from by ring]
    simp only [EReal.coe_mul, EReal.coe_neg]
    ac_rfl
  · rw [e]
    have h0 : Ideal.rsqrt ⊤ = 0 := rfl
    simp [h0, Ideal.div]

end Norm

end
-- ==== Proof.Norm.Bwd.lean ====
/-
  The gradient of the norm before the layer: the residual stream's cotangent, the same rounded, and the gain's gradient, which every
  point adds its rows to.
-/
module

public import proofs.«01_k».proof.Defs
public import proofs.«01_k».proof.Proof.Norm.Common
public import proofs.«01_k».proof.Proof.Gen.Kernel15Ideal.Frame
public import proofs.«01_k».proof.Proof.Gen.Kernel15Ideal.Value
public import proofs.«01_k».proof.Proof.Gen.Reference15Ideal.Run
public import Idealize.ShloMosaic.Lib.Pipeline.Value
public import Idealize.ShloMosaic.Lib.Pipeline.ValueKit
public import Idealize.ShloMosaic.Lib.StableHlo.RunRead

@[expose] public section

set_option maxRecDepth 16384
set_option maxHeartbeats 400000

noncomputable section

namespace Norm.Bwd

open Idealize.ShloMosaic Idealize.ShloMosaic.TcCoe Idealize.ShloMosaic.Pipeline Idealize.ShloMosaic.Tactic Idealize.ShloMosaic.Pointwise
open Idealize.SL.Sem Ffn
open Finset (range)

/-- An entry of the residual stream's cotangent, and of the gain's gradient over the first `k` rows. -/
abbrev Out (x u w d : ℕ → ℕ → EReal) (r n : ℕ) : EReal :=
  d r n + factor (u r) * (x r n * w 0 n - u r n * factor (u r) * Ideal.div (∑ i ∈ range 2048, x r i * w 0 i * (u r i * factor (u r))) (Ideal.ofBits .f32 0x45000000#32))
abbrev Gain (x u : ℕ → ℕ → EReal) (k n : ℕ) : EReal := ∑ r ∈ range k, x r n * (u r n * factor (u r))

section Kernel

open Cert.Kernel15Ideal Cert.Kernel15Ideal.Gen

/-! ## What a point leaves -/

section Point

variable (c : Dev nD) (i : grid0.Coords) (a1 : Memref sig .tc .vmem S192x2048 .f32) (h1 : a1.IsWhole) (a2 : Memref sig .tc .vmem S192x2048 .f32) (h2 : a2.IsWhole) (a3 : Memref sig .tc .vmem S1x2048 .f32) (h3 : a3.IsWhole) (a4 : Memref sig .tc .vmem S192x2048 .f32) (h4 : a4.IsWhole) (a5 : Memref sig .tc .vmem S192x2048 .f32) (h5 : a5.IsWhole) (a6 : Memref sig .tc .vmem S192x2048 .bf16) (h6 : a6.IsWhole) (a7 : Memref sig .tc .vmem S1x2048 .f32) (h7 : a7.IsWhole)
  (x0 x1 : Vec Ideal S192x2048 .f32) (x2 : Vec Ideal S1x2048 .f32) (x3 : Vec Ideal S192x2048 .f32) (xs : Vec Ideal S1x2048 .f32)

theorem out_A_4 (hc0 : cond0_0 i) (hc1 : ¬cond0_1 i) : out0_A_4 c i a1 h1 a2 h2 a3 h3 a4 h4 a5 h5 a6 h6 a7 h7 hc0 hc1 x0 x1 x2 x3 = k0_pay4 x1 x0 x2 x3 := by
  unfold out0_A_4
  rw [View.read_writes_eq_canon _ _ _ (cover0_A_4 c i a1 h1 a2 h2 a3 h3 a4 h4 a5 h5 a6 h6 a7 h7 hc0 hc1 x0 x1 x2 x3)]
  unfold kernelRun0_A
  dsimp only
  sl_unfold_words
  rw [View.canon_unit_zero off2]
  simp only [View.readAt_eq_ld, h1.read_unread, h2.read_unread, h3.read_unread, h4.read_unread, h7.read_unread, View.ld_unit_zero (S := S192x2048) off2, View.ld_unit_zero (S := S1x2048) off2]
theorem out_A_5 (hc0 : cond0_0 i) (hc1 : ¬cond0_1 i) : out0_A_5 c i a1 h1 a2 h2 a3 h3 a4 h4 a5 h5 a6 h6 a7 h7 hc0 hc1 x0 x1 x2 x3 = k0_pay5 x1 x0 x2 x3 := by
  unfold out0_A_5
  rw [View.read_writes_eq_canon _ _ _ (cover0_A_5 c i a1 h1 a2 h2 a3 h3 a4 h4 a5 h5 a6 h6 a7 h7 hc0 hc1 x0 x1 x2 x3)]
  unfold kernelRun0_A
  dsimp only
  sl_unfold_words
  rw [View.canon_unit_zero off2]
  simp only [View.readAt_eq_ld, h1.read_unread, h2.read_unread, h3.read_unread, h4.read_unread, h7.read_unread, View.ld_unit_zero (S := S192x2048) off2, View.ld_unit_zero (S := S1x2048) off2]
theorem out_A_6 (hc0 : cond0_0 i) (hc1 : ¬cond0_1 i) : out0_A_6 c i a1 h1 a2 h2 a3 h3 a4 h4 a5 h5 a6 h6 a7 h7 hc0 hc1 x0 x1 x2 x3 = k0_pay6 x1 x0 := by
  unfold out0_A_6
  rw [View.read_writes_eq_canon _ _ _ (cover0_A_6 c i a1 h1 a2 h2 a3 h3 a4 h4 a5 h5 a6 h6 a7 h7 hc0 hc1 x0 x1 x2 x3)]
  unfold kernelRun0_A
  dsimp only
  sl_unfold_words
  rw [View.canon_unit_zero off2]
  simp only [View.readAt_eq_ld, h1.read_unread, h2.read_unread, h3.read_unread, h4.read_unread, h7.read_unread, View.ld_unit_zero (S := S192x2048) off2, View.ld_unit_zero (S := S1x2048) off2]
theorem out_B_4 (hc0 : ¬cond0_0 i) (hc1 : cond0_1 i) : out0_B_4 c i a1 h1 a2 h2 a3 h3 a4 h4 a5 h5 a6 h6 a7 h7 hc0 hc1 x0 x1 x2 x3 xs = k0_pay4 x1 x0 x2 x3 := by
  unfold out0_B_4
  rw [View.read_writes_eq_canon _ _ _ (cover0_B_4 c i a1 h1 a2 h2 a3 h3 a4 h4 a5 h5 a6 h6 a7 h7 hc0 hc1 x0 x1 x2 x3 xs)]
  unfold kernelRun0_B
  dsimp only
  sl_unfold_words
  rw [View.canon_unit_zero off2]
  simp only [View.readAt_eq_ld, h1.read_unread, h2.read_unread, h3.read_unread, h4.read_unread, h7.read_unread, View.ld_unit_zero (S := S192x2048) off2, View.ld_unit_zero (S := S1x2048) off2]
theorem out_B_5 (hc0 : ¬cond0_0 i) (hc1 : cond0_1 i) : out0_B_5 c i a1 h1 a2 h2 a3 h3 a4 h4 a5 h5 a6 h6 a7 h7 hc0 hc1 x0 x1 x2 x3 xs = k0_pay5 x1 x0 x2 x3 := by
  unfold out0_B_5
  rw [View.read_writes_eq_canon _ _ _ (cover0_B_5 c i a1 h1 a2 h2 a3 h3 a4 h4 a5 h5 a6 h6 a7 h7 hc0 hc1 x0 x1 x2 x3 xs)]
  unfold kernelRun0_B
  dsimp only
  sl_unfold_words
  rw [View.canon_unit_zero off2]
  simp only [View.readAt_eq_ld, h1.read_unread, h2.read_unread, h3.read_unread, h4.read_unread, h7.read_unread, View.ld_unit_zero (S := S192x2048) off2, View.ld_unit_zero (S := S1x2048) off2]
theorem out_B_6 (hc0 : ¬cond0_0 i) (hc1 : cond0_1 i) : out0_B_6 c i a1 h1 a2 h2 a3 h3 a4 h4 a5 h5 a6 h6 a7 h7 hc0 hc1 x0 x1 x2 x3 xs = k0_pay1 (k0_pay6 x1 x0) xs := by
  unfold out0_B_6
  rw [View.read_writes_eq_canon _ _ _ (cover0_B_6 c i a1 h1 a2 h2 a3 h3 a4 h4 a5 h5 a6 h6 a7 h7 hc0 hc1 x0 x1 x2 x3 xs)]
  unfold kernelRun0_B
  dsimp only
  sl_unfold_words
  rw [View.canon_unit_zero off2]
  simp only [View.readAt_eq_ld, h1.read_unread, h2.read_unread, h3.read_unread, h4.read_unread, h7.read_unread, View.ld_unit_zero (S := S192x2048) off2, View.ld_unit_zero (S := S1x2048) off2]

end Point

section Pay

variable {p : ℕ} {x u w d : ℕ → ℕ → EReal} {x0 x1 : Vec Ideal S192x2048 .f32} {x2 : Vec Ideal S1x2048 .f32} {x3 : Vec Ideal S192x2048 .f32}
  (h0 : Has2 x0 fun r n => x (p * 192 + r) n) (h1 : Has2 x1 fun r n => u (p * 192 + r) n) (h2 : Has2 x2 w) (h3 : Has2 x3 fun r n => d (p * 192 + r) n)

include h0 h1 h2 h3 in
theorem pay_is : Has2 (k0_pay4 x1 x0 x2 x3) fun r n => Out x u w d (p * 192 + r) n := by
  intro r n
  pointwise [k0_pay4, k0_pay3, k0_pay2]
  simp only [h0 _ _, h1 _ _, h2 _ _, h3 _ _, Out, factor, level, Finset.sum_range]
  rfl
include h0 h1 in
theorem gain_is : Has2 (k0_pay6 x1 x0) fun _ n => ∑ r ∈ range 192, x (p * 192 + r) n * (u (p * 192 + r) n * factor (u (p * 192 + r))) := by
  intro r n
  pointwise [k0_pay6, k0_pay3, k0_pay2]
  simp only [h0 _ _, h1 _ _, factor, level, Finset.sum_range]

end Pay

theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0] :=
  (by decide +kernel : ∀ t : Fin grid0.N, _)

variable (m : (ℓ : Loc nD τ sig) → Buf (Elt Ideal) ℓ) (c : Dev nD) {x u w d : ℕ → ℕ → EReal}
  (hx : Has2 (m ((c : Thread nD τ).loc main_arg0) : FVec Ideal S4224x2048 .f32) x)
  (hu : Has2 (m ((c : Thread nD τ).loc main_arg1) : FVec Ideal S4224x2048 .f32) u)
  (hw : Has2 (m ((c : Thread nD τ).loc main_arg2) : FVec Ideal S1x2048 .f32) w)
  (hd : Has2 (m ((c : Thread nD τ).loc main_arg3) : FVec Ideal S4224x2048 .f32) d)

include hx in
theorem blk_x (t : Fin cfg0.N) : Has2 (iblk m c 0 t : FVec Ideal S192x2048 .f32) fun a b => x (t.val * 192 + a) b := by
  intro a b
  have ht : t.val < 22 := t.isLt
  have e := (idx t).1
  rw [← V_main_arg0 m c] at hx
  refine Eq.trans ?_ (hx ⟨t.val * 192 + a.val, by omega⟩ b)
  blk_ext [iblk, e]
include hu in
theorem blk_u (t : Fin cfg0.N) : Has2 (iblk m c 1 t : FVec Ideal S192x2048 .f32) fun a b => u (t.val * 192 + a) b := by
  intro a b
  have ht : t.val < 22 := t.isLt
  have e := (idx t).2.1
  rw [← V_main_arg1 m c] at hu
  refine Eq.trans ?_ (hu ⟨t.val * 192 + a.val, by omega⟩ b)
  blk_ext [iblk, e]
include hd in
theorem blk_d (t : Fin cfg0.N) : Has2 (iblk m c 3 t : FVec Ideal S192x2048 .f32) fun a b => d (t.val * 192 + a) b := by
  intro a b
  have ht : t.val < 22 := t.isLt
  have e := (idx t).2.2.2.1
  rw [← V_main_arg3 m c] at hd
  refine Eq.trans ?_ (hd ⟨t.val * 192 + a.val, by omega⟩ b)
  blk_ext [iblk, e]
include hw in
theorem blk_w (t : Fin cfg0.N) : Has2 (iblk m c 2 t : FVec Ideal S1x2048 .f32) w := by
  intro a b
  have e := (idx t).2.2.1
  rw [← V_main_arg2 m c] at hw
  refine Eq.trans ?_ (hw a b)
  blk_ext [iblk, e]

theorem outs_4 (t : Fin cfg0.N) : (outsAt0 m c t.val t.isLt).1 = k0_pay4 (F := Ideal) (iblk m c 1 t) (iblk m c 0 t) (iblk m c 2 t) (iblk m c 3 t) := by
  have ht : t.val < 22 := t.isLt
  by_cases h0 : t.val % 22 = 0
  · rw [outsAt0_A m c t h0 (by omega)]
    dsimp only
    rw [out_A_4]
  · rw [outsAt0_B m c t h0 (by omega)]
    dsimp only
    rw [out_B_4]
theorem outs_5 (t : Fin cfg0.N) : (outsAt0 m c t.val t.isLt).2.1 = k0_pay5 (F := Ideal) (iblk m c 1 t) (iblk m c 0 t) (iblk m c 2 t) (iblk m c 3 t) := by
  have ht : t.val < 22 := t.isLt
  by_cases h0 : t.val % 22 = 0
  · rw [outsAt0_A m c t h0 (by omega)]
    dsimp only
    rw [out_A_5]
  · rw [outsAt0_B m c t h0 (by omega)]
    dsimp only
    rw [out_B_5]

include hx hu in
theorem outs_6 : ∀ (n : ℕ) (hn : n < cfg0.N), Has2 ((outsAt0 m c n hn).2.2 : FVec Ideal S1x2048 .f32) fun _ j => Gain x u ((n + 1) * 192) j := by
  intro n
  induction n with
  | zero =>
    intro hn
    have P := gain_is (blk_x m c hx ⟨0, hn⟩) (blk_u m c hu ⟨0, hn⟩)
    rw [outsAt0_A m c ⟨0, hn⟩ rfl (by dsimp only; omega)]
    dsimp only
    rw [out_A_6]
    intro a j
    rw [P a j]
    simp only [Gain, zero_mul, zero_add, one_mul]
  | succ n ih =>
    intro hn
    have hs : n < cfg0.N := lt_of_le_of_lt (Nat.le_succ n) hn
    have hN : n + 1 < 22 := hn
    have P := gain_is (blk_x m c hx ⟨n + 1, hn⟩) (blk_u m c hu ⟨n + 1, hn⟩)
    have S := ih hs
    rw [outsAt0_B m c ⟨n + 1, hn⟩ (by dsimp only; omega) (by dsimp only; omega)]
    dsimp only
    rw [out_B_6]
    simp only [Nat.add_sub_cancel]
    generalize k0_pay6 (F := Ideal) _ _ = y at P
    generalize (outsAt0 m c n hs).2.2 = z at S
    intro a j
    refine Eq.trans ?_ (sum_next 192 (n + 1) fun r => x r j * (u r j * factor (u r)))
    refine Eq.trans ?_ (congrArg₂ (· + ·) (S a j) (P a j))
    pointwise [k0_pay1]

/-! ## The arrays -/

include hx hu hw hd in
theorem arr_4 : Has2 ((dats m 0 c).arrAt 4 cfg0.N : FVec Ideal S4224x2048 .f32) (Out x u w d) := by
  have H : (dats m 0 c).arrAt 4 cfg0.N = (fun i => Out x u w d (i 0).val (i 1).val : FVec Ideal S4224x2048 .f32) := by
    refine (dats m 0 c).arrAt_eq_of_covers 4 _ (by decide +kernel) fun t hf y => ?_
    have h := pay_is (blk_x m c hx t) (blk_u m c hu t) (blk_w m c hw t) (blk_d m c hd t)
    have e := (idx t).2.2.2.2.1
    blk_simp [e]
    rw [after0_4, outs_4]
    exact h.read y
  rw [H]
  exact fun _ _ => rfl
include hx hu hw hd in
theorem arr_5 : Has2 ((dats m 0 c).arrAt 5 cfg0.N : FVec Ideal S4224x2048 .bf16) (Out x u w d) := by
  have H : (dats m 0 c).arrAt 5 cfg0.N = (fun i => Out x u w d (i 0).val (i 1).val : FVec Ideal S4224x2048 .bf16) := by
    refine (dats m 0 c).arrAt_eq_of_covers 5 _ (by decide +kernel) fun t hf y => ?_
    have h := pay_is (blk_x m c hx t) (blk_u m c hu t) (blk_w m c hw t) (blk_d m c hd t)
    have e := (idx t).2.2.2.2.2.1
    blk_simp [e]
    rw [after0_5, outs_5]
    exact h.read y
  rw [H]
  exact fun _ _ => rfl
include hx hu in
theorem arr_6 : Has2 ((dats m 0 c).arrAt 6 cfg0.N : FVec Ideal S1x2048 .f32) fun _ n => Gain x u 4224 n := by
  have H : (dats m 0 c).arrAt 6 cfg0.N = (fun i => Gain x u 4224 (i 1).val : FVec Ideal S1x2048 .f32) := by
    refine (dats m 0 c).arrAt_eq_of_covers 6 _ (by decide +kernel) fun t hf y => ?_
    have h := outs_6 m c hx hu t.val t.isLt
    have ht : t.val < 22 := t.isLt
    have h21 := (flush0_6 t).mp hf
    rw [show t.val + 1 = 22 from by omega] at h
    have e := (idx t).2.2.2.2.2.2
    blk_simp [e]
    rw [after0_6]
    exact h.read y
  rw [H]
  exact fun _ _ => rfl

end Kernel

section Reference

open Cert.Reference15Ideal Cert.Reference15Ideal.Gen

variable {X U : FVec Ideal S4224x2048 .f32} {W : FVec Ideal S1x2048 .f32} {D : FVec Ideal S4224x2048 .f32} {x u w d : ℕ → ℕ → EReal}
  (hx : Has2 X x) (hu : Has2 U u) (hw : Has2 W w) (hd : Has2 D d)

include hx hu hw hd in
theorem ref_4 : Has2 (addf (addf (addf D (mulf (mulf X (broadcastInDim S4224x2048 ![0, 1] bcast_S1x2048_S4224x2048_0_1 W)) (broadcastInDim S4224x2048 ![0, 1] bcast_S4224x1_S4224x2048_0_1 (Host.rsqrt (addf (Host.divf (broadcastInDim S4224x1 ![0] bcast_S4224_S4224x1_0 (Host.reduceAdd (mulf U U) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32))))))) (mulf U (broadcastInDim S4224x2048 ![0] bcast_S4224_S4224x2048_0 (Host.reduceAdd (Host.divf (mulf (shapeCast _ (Host.reduceAdd (mulf U (mulf X (broadcastInDim S4224x2048 ![0, 1] bcast_S1x2048_S4224x2048_0_1 W))) (constant S_ .f32 0x00000000#32) reducesTo_S4224x2048_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf U U) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))) (addf (Host.divf (broadcastInDim S4224x1 ![0] bcast_S4224_S4224x1_0 (Host.reduceAdd (mulf U U) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x1 ![] bcast_S_S4224x1 (constant S_ .f32 0x45000000#32))) (constant S_ .f32 0x00000000#32) reducesTo_S4224x1_S4224_d1 h_S_)))) (mulf (broadcastInDim S4224x2048 ![0] bcast_S4224_S4224x2048_0 (Host.reduceAdd (Host.divf (mulf (shapeCast _ (Host.reduceAdd (mulf U (mulf X (broadcastInDim S4224x2048 ![0, 1] bcast_S1x2048_S4224x2048_0_1 W))) (constant S_ .f32 0x00000000#32) reducesTo_S4224x2048_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf U U) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))) (addf (Host.divf (broadcastInDim S4224x1 ![0] bcast_S4224_S4224x1_0 (Host.reduceAdd (mulf U U) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x1 ![] bcast_S_S4224x1 (constant S_ .f32 0x45000000#32))) (constant S_ .f32 0x00000000#32) reducesTo_S4224x1_S4224_d1 h_S_)) U) : FVec Ideal S4224x2048 .f32) (Out x u w d) := by
  intro r n
  refine Eq.trans ?_ (grad_eq (u r) (fun i => x r i * w 0 i) (d r n) n)
  pointwise
  simp only [hx _ _, hu _ _, hw _ _, hd _ _, factor, level, Finset.sum_range, Finset.univ_unique, Finset.sum_singleton]
  rfl
include hx hu hw hd in
theorem ref_5 : Has2 (truncf .bf16 (addf (addf (addf D (mulf (mulf X (broadcastInDim S4224x2048 ![0, 1] bcast_S1x2048_S4224x2048_0_1 W)) (broadcastInDim S4224x2048 ![0, 1] bcast_S4224x1_S4224x2048_0_1 (Host.rsqrt (addf (Host.divf (broadcastInDim S4224x1 ![0] bcast_S4224_S4224x1_0 (Host.reduceAdd (mulf U U) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32))))))) (mulf U (broadcastInDim S4224x2048 ![0] bcast_S4224_S4224x2048_0 (Host.reduceAdd (Host.divf (mulf (shapeCast _ (Host.reduceAdd (mulf U (mulf X (broadcastInDim S4224x2048 ![0, 1] bcast_S1x2048_S4224x2048_0_1 W))) (constant S_ .f32 0x00000000#32) reducesTo_S4224x2048_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf U U) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))) (addf (Host.divf (broadcastInDim S4224x1 ![0] bcast_S4224_S4224x1_0 (Host.reduceAdd (mulf U U) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x1 ![] bcast_S_S4224x1 (constant S_ .f32 0x45000000#32))) (constant S_ .f32 0x00000000#32) reducesTo_S4224x1_S4224_d1 h_S_)))) (mulf (broadcastInDim S4224x2048 ![0] bcast_S4224_S4224x2048_0 (Host.reduceAdd (Host.divf (mulf (shapeCast _ (Host.reduceAdd (mulf U (mulf X (broadcastInDim S4224x2048 ![0, 1] bcast_S1x2048_S4224x2048_0_1 W))) (constant S_ .f32 0x00000000#32) reducesTo_S4224x2048_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf U U) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))) (addf (Host.divf (broadcastInDim S4224x1 ![0] bcast_S4224_S4224x1_0 (Host.reduceAdd (mulf U U) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x1 ![] bcast_S_S4224x1 (constant S_ .f32 0x45000000#32))) (constant S_ .f32 0x00000000#32) reducesTo_S4224x1_S4224_d1 h_S_)) U)) bitsLt_bf16_f32 : FVec Ideal S4224x2048 .bf16) (Out x u w d) := ref_4 hx hu hw hd
include hx hu in
theorem ref_6 : Has2 (shapeCast _ (Host.reduceAdd (mulf (mulf U (broadcastInDim S4224x2048 ![0, 1] bcast_S4224x1_S4224x2048_0_1 (Host.rsqrt (addf (Host.divf (broadcastInDim S4224x1 ![0] bcast_S4224_S4224x1_0 (Host.reduceAdd (mulf U U) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) X) (constant S_ .f32 0x00000000#32) reducesTo_S4224x2048_S2048_d0 h_S_) shapeCasts_S2048_S1x2048 : FVec Ideal S1x2048 .f32) fun _ n => Gain x u 4224 n := by
  intro r n
  pointwise
  simp only [hx _ _, hu _ _, Gain, factor, level, Finset.sum_range]
  exact Finset.sum_congr rfl fun _ _ => mul_comm _ _

end Reference

theorem algebraic : Cert.algebraic_Kernel15Ideal_Reference15Ideal (hKernel15Ideal := Cert.Kernel15Ideal.Gen.facts) (hReference15Ideal := Cert.Reference15Ideal.Gen.facts) := by
  intro m g m' g' _ hA
  refine ⟨fun c => (Cert.Kernel15Ideal.Gen.dats m 0 c).arrAt 4 Cert.Kernel15Ideal.cfg0.N, fun c => (Cert.Kernel15Ideal.Gen.dats m 0 c).arrAt 5 Cert.Kernel15Ideal.cfg0.N,
    fun c => (Cert.Kernel15Ideal.Gen.dats m 0 c).arrAt 6 Cert.Kernel15Ideal.cfg0.N, Cert.Kernel15Ideal.Value.run_blocks m g, ?_⟩
  refine (θ_run Cert.Reference15Ideal.defs _ _).mono (fun r h c => ?_) (Cert.Reference15Ideal.Value.run (F := Ideal) m' g')
  obtain ⟨a0, a1, a2, a3⟩ := hA c
  obtain ⟨x, hx⟩ := exists_has2 (m ((c.tc : Thread Cert.Kernel15Ideal.nD Cert.Kernel15Ideal.τ).loc Cert.Kernel15Ideal.main_arg0) : FVec Ideal Cert.Kernel15Ideal.S4224x2048 .f32)
  obtain ⟨u, hu⟩ := exists_has2 (m ((c.tc : Thread Cert.Kernel15Ideal.nD Cert.Kernel15Ideal.τ).loc Cert.Kernel15Ideal.main_arg1) : FVec Ideal Cert.Kernel15Ideal.S4224x2048 .f32)
  obtain ⟨w, hw⟩ := exists_has2 (m ((c.tc : Thread Cert.Kernel15Ideal.nD Cert.Kernel15Ideal.τ).loc Cert.Kernel15Ideal.main_arg2) : FVec Ideal Cert.Kernel15Ideal.S1x2048 .f32)
  obtain ⟨d, hd⟩ := exists_has2 (m ((c.tc : Thread Cert.Kernel15Ideal.nD Cert.Kernel15Ideal.τ).loc Cert.Kernel15Ideal.main_arg3) : FVec Ideal Cert.Kernel15Ideal.S4224x2048 .f32)
  have K4 := arr_4 m c hx hu hw hd
  have K5 := arr_5 m c hx hu hw hd
  have K6 := arr_6 m c hx hu
  rw [← a0] at hx
  rw [← a1] at hu
  rw [← a2] at hw
  rw [← a3] at hd
  obtain ⟨r4, r5, r6, rA⟩ := h c
  exact ⟨r4.trans ((ref_4 hx hu hw hd).ext K4), r5.trans ((ref_5 hx hu hw hd).ext K5), r6.trans ((ref_6 hx hu).ext K6), rA⟩

end Norm.Bwd

end
-- ==== Proof.Norm.Fwd.lean ====
/-
  The norm before the layer: every row of the residual stream over the root of its mean square, times the gain.
-/
module

public import proofs.«01_k».proof.Defs
public import proofs.«01_k».proof.Proof.Norm.Common
public import proofs.«01_k».proof.Proof.Gen.Kernel16Ideal.Frame
public import proofs.«01_k».proof.Proof.Gen.Kernel16Ideal.Value
public import proofs.«01_k».proof.Proof.Gen.Reference16Ideal.Run
public import Idealize.ShloMosaic.Lib.Pipeline.Value
public import Idealize.ShloMosaic.Lib.Pipeline.ValueKit
public import Idealize.ShloMosaic.Lib.StableHlo.RunRead

@[expose] public section

set_option maxRecDepth 16384
set_option maxHeartbeats 4000000

noncomputable section

namespace Norm.Fwd

open Idealize.ShloMosaic Idealize.ShloMosaic.TcCoe Idealize.ShloMosaic.Pipeline Idealize.ShloMosaic.Tactic Idealize.ShloMosaic.Pointwise
open Idealize.SL.Sem Ffn
open Finset (range)

/-- An entry of the result. -/
abbrev Out (u w : ℕ → ℕ → EReal) (r n : ℕ) : EReal := u r n * factor (u r) * w 0 n

section Kernel

open Cert.Kernel16Ideal Cert.Kernel16Ideal.Gen

theorem out_2 (x0 : Vec Ideal S528x2048 .f32) (x1 : Vec Ideal S1x2048 .f32) : out0_2 x0 x1 = k0_pay1 x0 x1 := by
  unfold out0_2
  rw [View.canon_unit_zero off2, View.ld_unit_zero (S := S528x2048) off2, View.ld_unit_zero (S := S1x2048) off2]

theorem pay_is {p : ℕ} {u w : ℕ → ℕ → EReal} {v0 : Vec Ideal S528x2048 .f32} {v1 : Vec Ideal S1x2048 .f32}
    (h0 : Has2 v0 fun r n => u (p * 528 + r) n) (h1 : Has2 v1 w) : Has2 (k0_pay1 v0 v1) fun r n => Out u w (p * 528 + r) n := by
  intro r n
  pointwise [k0_pay1]
  simp only [h0 _ _, h1 _ _, Out, factor, level, Finset.sum_range]
  rfl

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD) {u w : ℕ → ℕ → EReal}
  (hu : Has2 (m ((c : Thread nD τ).loc main_arg0) : FVec Ideal S4224x2048 .f32) u)
  (hw : Has2 (m ((c : Thread nD τ).loc main_arg1) : FVec Ideal S1x2048 .f32) w)

include hu in
theorem blk_u (t : Fin cfg0.N) : Has2 (iblk m c 0 t : FVec Ideal S528x2048 .f32) fun a b => u (t.val * 528 + a) b := by
  intro a b
  have ht : t.val < 8 := t.isLt
  have e := (idx t).1
  rw [← V_main_arg0 m c] at hu
  refine Eq.trans ?_ (hu ⟨t.val * 528 + a.val, by omega⟩ b)
  blk_ext [iblk, e]
include hw in
theorem blk_w (t : Fin cfg0.N) : Has2 (iblk m c 1 t : FVec Ideal S1x2048 .f32) w := by
  intro a b
  have e := (idx t).2.1
  rw [← V_main_arg1 m c] at hw
  refine Eq.trans ?_ (hw a b)
  blk_ext [iblk, e]

include hu hw in
theorem arr_is : Has2 ((dats m 0 c).arrAt 2 cfg0.N : FVec Ideal S4224x2048 .bf16) (Out u w) := by
  have H : (dats m 0 c).arrAt 2 cfg0.N = (fun i => Out u w (i 0).val (i 1).val : FVec Ideal S4224x2048 .bf16) := by
    refine (dats m 0 c).arrAt_eq_of_covers 2 _ (by decide +kernel) fun t hf y => ?_
    have h := pay_is (blk_u m c hu t) (blk_w m c hw t)
    have e := (idx t).2.2
    blk_simp [e]
    rw [after0_2, out_2]
    exact h.read y
  rw [H]
  exact fun _ _ => rfl

end Kernel

section Reference

open Cert.Reference16Ideal Cert.Reference16Ideal.Gen

theorem ref_is {U : FVec Ideal S4224x2048 .f32} {W : FVec Ideal S1x2048 .f32} {u w : ℕ → ℕ → EReal} (hu : Has2 U u) (hw : Has2 W w) :
    Has2 (truncf .bf16 (mulf (mulf U (broadcastInDim S4224x2048 ![0, 1] bcast_S4224x1_S4224x2048_0_1 (Host.rsqrt (addf (Host.divf (broadcastInDim S4224x1 ![0] bcast_S4224_S4224x1_0 (Host.reduceAdd (mulf U U) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x2048 ![0, 1] bcast_S1x2048_S4224x2048_0_1 W)) bitsLt_bf16_f32 : FVec Ideal S4224x2048 .bf16) (Out u w) := by
  intro r n
  pointwise
  simp only [hu _ _, hw _ _, Out, factor, level, Finset.sum_range]
  rfl

end Reference

theorem algebraic : Cert.algebraic_Kernel16Ideal_Reference16Ideal (hKernel16Ideal := Cert.Kernel16Ideal.Gen.facts) (hReference16Ideal := Cert.Reference16Ideal.Gen.facts) := by
  intro m g m' g' _ hA
  refine ⟨fun c => (Cert.Kernel16Ideal.Gen.dats m 0 c).arrAt 2 Cert.Kernel16Ideal.cfg0.N, Cert.Kernel16Ideal.Value.run_blocks m g, ?_⟩
  refine (θ_run Cert.Reference16Ideal.defs _ _).mono (fun r h c => ?_) (Cert.Reference16Ideal.Value.run (F := Ideal) m' g')
  obtain ⟨a0, a1⟩ := hA c
  obtain ⟨u, hu⟩ := exists_has2 (m ((c.tc : Thread Cert.Kernel16Ideal.nD Cert.Kernel16Ideal.τ).loc Cert.Kernel16Ideal.main_arg0) : FVec Ideal Cert.Kernel16Ideal.S4224x2048 .f32)
  obtain ⟨w, hw⟩ := exists_has2 (m ((c.tc : Thread Cert.Kernel16Ideal.nD Cert.Kernel16Ideal.τ).loc Cert.Kernel16Ideal.main_arg1) : FVec Ideal Cert.Kernel16Ideal.S1x2048 .f32)
  have K := arr_is m c hu hw
  rw [← a0] at hu
  rw [← a1] at hw
  obtain ⟨r0, rA⟩ := h c
  exact ⟨r0.trans ((ref_is hu hw).ext K), rA⟩

end Norm.Fwd

end
-- ==== Proof.lean ====
/-
  The certificate of sixteen calls: the forgetting attention's backward pass, then the six product calls of the feed-forward
  layer, the seven of the mixer's projections, and the norm before a layer, backward and forward. For each: the frames of the kernel, of its ideal and of the reference; that
  nothing was rewritten between the kernel and its ideal; and that the ideal's results are the reference's, for the attention
  and for the gate on finite arguments, for the other fourteen on all.
-/
module

public import proofs.«01_k».proof.Defs
public import proofs.«01_k».proof.Proof.Gen.Kernel
public import proofs.«01_k».proof.Proof.Same
public import proofs.«01_k».proof.Proof.Run
public import proofs.«01_k».proof.Proof.Arrays
public import proofs.«01_k».proof.Proof.Finite
public import proofs.«01_k».proof.Proof.Ref
public import proofs.«01_k».proof.Proof.Ffn.Gate
public import proofs.«01_k».proof.Proof.Ffn.Dxn
public import proofs.«01_k».proof.Proof.Ffn.Eq4
public import proofs.«01_k».proof.Proof.Ffn.Eq5
public import proofs.«01_k».proof.Proof.Ffn.Up
public import proofs.«01_k».proof.Proof.Ffn.Down
public import proofs.«01_k».proof.Proof.Mix.Dwin
public import proofs.«01_k».proof.Proof.Mix.Dxn
public import proofs.«01_k».proof.Proof.Mix.Don
public import proofs.«01_k».proof.Proof.Mix.Dwout
public import proofs.«01_k».proof.Proof.Mix.Qkv
public import proofs.«01_k».proof.Proof.Mix.Out
public import proofs.«01_k».proof.Proof.Mix.Forget
public import proofs.«01_k».proof.Proof.Norm.Bwd
public import proofs.«01_k».proof.Proof.Norm.Fwd
public import proofs.«01_k».proof.Proof.Gen.Kernel2
public import proofs.«01_k».proof.Proof.Gen.Kernel2.Frame
public import proofs.«01_k».proof.Proof.Gen.Kernel3
public import proofs.«01_k».proof.Proof.Gen.Kernel3.Frame
public import proofs.«01_k».proof.Proof.Gen.Kernel4
public import proofs.«01_k».proof.Proof.Gen.Kernel4.Frame
public import proofs.«01_k».proof.Proof.Gen.Kernel5
public import proofs.«01_k».proof.Proof.Gen.Kernel5.Frame
public import proofs.«01_k».proof.Proof.Gen.Kernel6
public import proofs.«01_k».proof.Proof.Gen.Kernel6.Frame
public import proofs.«01_k».proof.Proof.Gen.Kernel7
public import proofs.«01_k».proof.Proof.Gen.Kernel7.Frame
public import proofs.«01_k».proof.Proof.Gen.Kernel8
public import proofs.«01_k».proof.Proof.Gen.Kernel8.Frame
public import proofs.«01_k».proof.Proof.Gen.Kernel9
public import proofs.«01_k».proof.Proof.Gen.Kernel9.Frame
public import proofs.«01_k».proof.Proof.Gen.Kernel10
public import proofs.«01_k».proof.Proof.Gen.Kernel10.Frame
public import proofs.«01_k».proof.Proof.Gen.Kernel11
public import proofs.«01_k».proof.Proof.Gen.Kernel11.Frame
public import proofs.«01_k».proof.Proof.Gen.Kernel12
public import proofs.«01_k».proof.Proof.Gen.Kernel12.Frame
public import proofs.«01_k».proof.Proof.Gen.Kernel13
public import proofs.«01_k».proof.Proof.Gen.Kernel13.Frame
public import proofs.«01_k».proof.Proof.Gen.Kernel14
public import proofs.«01_k».proof.Proof.Gen.Kernel14.Frame
public import proofs.«01_k».proof.Proof.Gen.Kernel15
public import proofs.«01_k».proof.Proof.Gen.Kernel15.Frame
public import proofs.«01_k».proof.Proof.Gen.Kernel16
public import proofs.«01_k».proof.Proof.Gen.Kernel16.Frame
public import proofs.«01_k».proof.Proof.Gen.ReferenceIdeal
public import proofs.«01_k».proof.Proof.Gen.ReferenceIdeal.Run
public import Idealize.ShloMosaic.Adequacy
public import Idealize.ShloMosaic.Init

@[expose] public section

set_option maxRecDepth 16384
set_option maxHeartbeats 4000000

noncomputable section

namespace Cert.Proof

open Idealize.ShloMosaic Idealize.ShloMosaic.TcCoe Idealize.SL.Sem

/-- The kernel's frame: the printed kernel and its ideal are one program. -/
theorem frame_kernel : Cert.quiescent_Kernel (hKernel := Cert.Kernel.Gen.facts) :=
  fun m g _ => by
    have h := Cert.KernelIdeal.Hand.frame (F := Bits) m g
    have e := congrArg θ_run (Cert.Same.defs_eq (F := Bits))
    rw [e]
    exact h

theorem frame_kernelIdeal : Cert.quiescent_KernelIdeal (hKernelIdeal := Cert.KernelIdeal.Gen.facts) :=
  fun m g _ => Cert.KernelIdeal.Hand.frame (F := Ideal) m g

theorem frame_reference : Cert.quiescent_ReferenceIdeal (hReferenceIdeal := Cert.ReferenceIdeal.Gen.facts) :=
  fun m g _ => (θ_run Cert.ReferenceIdeal.defs _ _).mono
    (fun r h => ⟨fun c => (h c).2.2.2.2.2.2, sem_eq_zero_of_no_sems (by decide) r.2⟩)
    (Cert.ReferenceIdeal.Value.run (F := Ideal) m g)

/-- The kernel's arrays and the reference's results hold the same gradients. -/
theorem algebraic : Cert.algebraic_KernelIdeal_ReferenceIdeal_pre_finite (hKernelIdeal := Cert.KernelIdeal.Gen.facts)
    (hReferenceIdeal := Cert.ReferenceIdeal.Gen.facts) (hPre_finite := Attn.pre_facts) := by
  intro m g m' g' hp hA
  have := Attn.pre_facts
  have hreals := fun c => Attn.reals _ _ _ _ (hp c)
  refine ⟨fun c => (Cert.KernelIdeal.Hand.dats m 0 c).arrAt 9 (Cert.KernelIdeal.cfgs 0).N, fun c => (Cert.KernelIdeal.Hand.dats m 0 c).arrAt 10 (Cert.KernelIdeal.cfgs 0).N,
    fun c => (Cert.KernelIdeal.Hand.dats m 0 c).arrAt 11 (Cert.KernelIdeal.cfgs 0).N, fun c => (Cert.KernelIdeal.Hand.dats m 0 c).arrAt 12 (Cert.KernelIdeal.cfgs 0).N,
    fun c => (Cert.KernelIdeal.Hand.dats m 0 c).arrAt 13 (Cert.KernelIdeal.cfgs 0).N, fun c => (Cert.KernelIdeal.Hand.dats m 0 c).arrAt 14 (Cert.KernelIdeal.cfgs 0).N, ?_, ?_⟩
  · refine (θ_run Cert.KernelIdeal.defs _ _).mono (fun r h => ?_) (Cert.KernelIdeal.Hand.run_main m g)
    obtain ⟨hF, _⟩ := h
    exact fun c => ⟨hF.out_eq c 9, hF.out_eq c 10, hF.out_eq c 11, hF.out_eq c 12, hF.out_eq c 13, hF.out_eq c 14, Cert.KernelIdeal.Hand.kept m hF c⟩
  · refine (θ_run Cert.ReferenceIdeal.defs _ _).mono (fun r h c => ?_) (Cert.ReferenceIdeal.Value.run (F := Ideal) m' g')
    obtain ⟨a0, a1, a2, a3⟩ := hA c
    obtain ⟨⟨x, hx⟩, ⟨cc, hc⟩, ⟨gg, hg⟩, ⟨w, hw⟩⟩ := hreals c
    have K := Attn.arrays_ok m c hx hc hg hw
    rw [← a0] at hx
    rw [← a1] at hc
    rw [← a2] at hg
    rw [← a3] at hw
    have R := Attn.Ref.results (StableHlo.launchContents m' c) hx hc hg hw
    obtain ⟨r0, r1, r2, r3, r4, r5, rA⟩ := h c
    exact ⟨r0.trans (R.rq.ext K.rq), r1.trans (R.rk.ext K.rk), r2.trans (R.rv.ext K.rv), r3.trans (R.rg.ext K.rg), r4.trans (R.rcq.ext K.rcq), r5.trans (R.rck.ext K.rck), rA⟩

/-! ## The frames of the other references -/

theorem frame_reference2 : Cert.quiescent_Reference2Ideal (hReference2Ideal := Cert.Reference2Ideal.Gen.facts) :=
  fun m g _ => (θ_run Cert.Reference2Ideal.defs _ _).mono (fun r h => ⟨fun c => (h c).2.2, sem_eq_zero_of_no_sems (by decide) r.2⟩)
    (Cert.Reference2Ideal.Value.run (F := Ideal) m g)

theorem frame_reference3 : Cert.quiescent_Reference3Ideal (hReference3Ideal := Cert.Reference3Ideal.Gen.facts) :=
  fun m g _ => (θ_run Cert.Reference3Ideal.defs _ _).mono (fun r h => ⟨fun c => (h c).2, sem_eq_zero_of_no_sems (by decide) r.2⟩)
    (Cert.Reference3Ideal.Value.run (F := Ideal) m g)

theorem frame_reference4 : Cert.quiescent_Reference4Ideal (hReference4Ideal := Cert.Reference4Ideal.Gen.facts) :=
  fun m g _ => (θ_run Cert.Reference4Ideal.defs _ _).mono (fun r h => ⟨fun c => (h c).2, sem_eq_zero_of_no_sems (by decide) r.2⟩)
    (Cert.Reference4Ideal.Value.run (F := Ideal) m g)

theorem frame_reference5 : Cert.quiescent_Reference5Ideal (hReference5Ideal := Cert.Reference5Ideal.Gen.facts) :=
  fun m g _ => (θ_run Cert.Reference5Ideal.defs _ _).mono (fun r h => ⟨fun c => (h c).2, sem_eq_zero_of_no_sems (by decide) r.2⟩)
    (Cert.Reference5Ideal.Value.run (F := Ideal) m g)

theorem frame_reference6 : Cert.quiescent_Reference6Ideal (hReference6Ideal := Cert.Reference6Ideal.Gen.facts) :=
  fun m g _ => (θ_run Cert.Reference6Ideal.defs _ _).mono (fun r h => ⟨fun c => (h c).2.2.2, sem_eq_zero_of_no_sems (by decide) r.2⟩)
    (Cert.Reference6Ideal.Value.run (F := Ideal) m g)

theorem frame_reference7 : Cert.quiescent_Reference7Ideal (hReference7Ideal := Cert.Reference7Ideal.Gen.facts) :=
  fun m g _ => (θ_run Cert.Reference7Ideal.defs _ _).mono (fun r h => ⟨fun c => (h c).2, sem_eq_zero_of_no_sems (by decide) r.2⟩)
    (Cert.Reference7Ideal.Value.run (F := Ideal) m g)

theorem frame_reference8 : Cert.quiescent_Reference8Ideal (hReference8Ideal := Cert.Reference8Ideal.Gen.facts) :=
  fun m g _ => (θ_run Cert.Reference8Ideal.defs _ _).mono (fun r h => ⟨fun c => (h c).2, sem_eq_zero_of_no_sems (by decide) r.2⟩)
    (Cert.Reference8Ideal.Value.run (F := Ideal) m g)

theorem frame_reference9 : Cert.quiescent_Reference9Ideal (hReference9Ideal := Cert.Reference9Ideal.Gen.facts) :=
  fun m g _ => (θ_run Cert.Reference9Ideal.defs _ _).mono (fun r h => ⟨fun c => (h c).2, sem_eq_zero_of_no_sems (by decide) r.2⟩)
    (Cert.Reference9Ideal.Value.run (F := Ideal) m g)

theorem frame_reference10 : Cert.quiescent_Reference10Ideal (hReference10Ideal := Cert.Reference10Ideal.Gen.facts) :=
  fun m g _ => (θ_run Cert.Reference10Ideal.defs _ _).mono (fun r h => ⟨fun c => (h c).2, sem_eq_zero_of_no_sems (by decide) r.2⟩)
    (Cert.Reference10Ideal.Value.run (F := Ideal) m g)

theorem frame_reference11 : Cert.quiescent_Reference11Ideal (hReference11Ideal := Cert.Reference11Ideal.Gen.facts) :=
  fun m g _ => (θ_run Cert.Reference11Ideal.defs _ _).mono (fun r h => ⟨fun c => (h c).2, sem_eq_zero_of_no_sems (by decide) r.2⟩)
    (Cert.Reference11Ideal.Value.run (F := Ideal) m g)

theorem frame_reference12 : Cert.quiescent_Reference12Ideal (hReference12Ideal := Cert.Reference12Ideal.Gen.facts) :=
  fun m g _ => (θ_run Cert.Reference12Ideal.defs _ _).mono (fun r h => ⟨fun c => (h c).2, sem_eq_zero_of_no_sems (by decide) r.2⟩)
    (Cert.Reference12Ideal.Value.run (F := Ideal) m g)

theorem frame_reference13 : Cert.quiescent_Reference13Ideal (hReference13Ideal := Cert.Reference13Ideal.Gen.facts) :=
  fun m g _ => (θ_run Cert.Reference13Ideal.defs _ _).mono (fun r h => ⟨fun c => (h c).2, sem_eq_zero_of_no_sems (by decide) r.2⟩)
    (Cert.Reference13Ideal.Value.run (F := Ideal) m g)

theorem frame_reference14 : Cert.quiescent_Reference14Ideal (hReference14Ideal := Cert.Reference14Ideal.Gen.facts) :=
  fun m g _ => (θ_run Cert.Reference14Ideal.defs _ _).mono (fun r h => ⟨fun c => (h c).2, sem_eq_zero_of_no_sems (by decide) r.2⟩)
    (Cert.Reference14Ideal.Value.run (F := Ideal) m g)

theorem frame_reference15 : Cert.quiescent_Reference15Ideal (hReference15Ideal := Cert.Reference15Ideal.Gen.facts) :=
  fun m g _ => (θ_run Cert.Reference15Ideal.defs _ _).mono (fun r h => ⟨fun c => (h c).2.2.2, sem_eq_zero_of_no_sems (by decide) r.2⟩)
    (Cert.Reference15Ideal.Value.run (F := Ideal) m g)

theorem frame_reference16 : Cert.quiescent_Reference16Ideal (hReference16Ideal := Cert.Reference16Ideal.Gen.facts) :=
  fun m g _ => (θ_run Cert.Reference16Ideal.defs _ _).mono (fun r h => ⟨fun c => (h c).2, sem_eq_zero_of_no_sems (by decide) r.2⟩)
    (Cert.Reference16Ideal.Value.run (F := Ideal) m g)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts,
    Attn.pre_facts, Ffn.Gate.pre_facts,
    frame_kernel, frame_kernelIdeal, fun m g _ => frame_kernelIdeal m g trivial, frame_reference, fun m g _ => frame_reference m g trivial,
    fun m g _ => Cert.Kernel2.Gen.frame m g, fun m g _ => Cert.Kernel2Ideal.Gen.frame m g, fun m g _ => Cert.Kernel2Ideal.Gen.frame m g, frame_reference2, fun m g _ => frame_reference2 m g trivial,
    fun m g _ => Cert.Kernel3.Gen.frame m g, fun m g _ => Cert.Kernel3Ideal.Gen.frame m g, frame_reference3,
    fun m g _ => Cert.Kernel4.Gen.frame m g, fun m g _ => Cert.Kernel4Ideal.Gen.frame m g, frame_reference4,
    fun m g _ => Cert.Kernel5.Gen.frame m g, fun m g _ => Cert.Kernel5Ideal.Gen.frame m g, frame_reference5,
    fun m g _ => Cert.Kernel6.Gen.frame m g, fun m g _ => Cert.Kernel6Ideal.Gen.frame m g, frame_reference6,
    fun m g _ => Cert.Kernel7.Gen.frame m g, fun m g _ => Cert.Kernel7Ideal.Gen.frame m g, frame_reference7,
    fun m g _ => Cert.Kernel8.Gen.frame m g, fun m g _ => Cert.Kernel8Ideal.Gen.frame m g, frame_reference8,
    fun m g _ => Cert.Kernel9.Gen.frame m g, fun m g _ => Cert.Kernel9Ideal.Gen.frame m g, frame_reference9,
    fun m g _ => Cert.Kernel10.Gen.frame m g, fun m g _ => Cert.Kernel10Ideal.Gen.frame m g, frame_reference10,
    fun m g _ => Cert.Kernel11.Gen.frame m g, fun m g _ => Cert.Kernel11Ideal.Gen.frame m g, frame_reference11,
    fun m g _ => Cert.Kernel12.Gen.frame m g, fun m g _ => Cert.Kernel12Ideal.Gen.frame m g, frame_reference12,
    fun m g _ => Cert.Kernel13.Gen.frame m g, fun m g _ => Cert.Kernel13Ideal.Gen.frame m g, frame_reference13,
    fun m g _ => Cert.Kernel14.Gen.frame m g, fun m g _ => Cert.Kernel14Ideal.Gen.frame m g, frame_reference14,
    fun m g _ => Cert.Kernel15.Gen.frame m g, fun m g _ => Cert.Kernel15Ideal.Gen.frame m g, frame_reference15,
    fun m g _ => Cert.Kernel16.Gen.frame m g, fun m g _ => Cert.Kernel16Ideal.Gen.frame m g, frame_reference16,
    trivial, algebraic, trivial, Ffn.Gate.algebraic, trivial, Ffn.Dxn.algebraic, trivial, Ffn.Dw4.algebraic, trivial, Ffn.Dw5.algebraic, trivial, Ffn.Up.algebraic, trivial, Ffn.Down.algebraic,
    trivial, Mix.Dwin.algebraic, trivial, Mix.Dxn.algebraic, trivial, Mix.Don.algebraic, trivial, Mix.Dwout.algebraic, trivial, Mix.Qkv.algebraic, trivial, Mix.Out.algebraic, trivial, Mix.Forget.algebraic,
    trivial, Norm.Bwd.algebraic, trivial, Norm.Fwd.algebraic⟩

end Cert.Proof

end
